-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_gate [hPre_finite_gate : Cert.Pre_finite_gate.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_gate.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_gate [hPre_finite_gate : Cert.Pre_finite_gate.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_gate.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Kernel22Ideal_pre_finite_gate [hKernel22Ideal : Cert.Kernel22Ideal.Facts] [hPre_finite_gate : Cert.Pre_finite_gate.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_gate m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Reference22Ideal_pre_finite_gate [hReference22Ideal : Cert.Reference22Ideal.Facts] [hPre_finite_gate : Cert.Pre_finite_gate.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_gate m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v34) = v0 c
          ∧ r.2.mem ((c.tc : Thread Cert.Reference19Ideal.nD Cert.Reference19Ideal.τ).loc Cert.Reference19Ideal.main_v36) = v1 c
          ∧ r.2.mem ((c.tc : Thread Cert.Reference19Ideal.nD Cert.Reference19Ideal.τ).loc Cert.Reference19Ideal.main_v17) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_2)) (v1 : (c : Dev Cert.Kernel20Ideal.nD) → Buf (Elt Ideal) ((c.tc : Thread Cert.Kernel20Ideal.nD Cert.Kernel20Ideal.τ).loc Cert.Kernel20Ideal.main_v0_0)) (v2 : (c : Dev Cert.Kernel20Ideal.nD) → Buf (Elt Ideal) ((c.tc : Thread Cert.Kernel20Ideal.nD Cert.Kernel20Ideal.τ).loc Cert.Kernel20Ideal.main_v0_1)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_2) = v0 c
          ∧ r.2.mem ((c.tc : Thread Cert.Kernel20Ideal.nD Cert.Kernel20Ideal.τ).loc Cert.Kernel20Ideal.main_v0_0) = v1 c
          ∧ r.2.mem ((c.tc : Thread Cert.Kernel20Ideal.nD Cert.Kernel20Ideal.τ).loc Cert.Kernel20Ideal.main_v0_1) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v50) = v0 c
          ∧ r.2.mem ((c.tc : Thread Cert.Reference20Ideal.nD Cert.Reference20Ideal.τ).loc Cert.Reference20Ideal.main_v48) = v1 c
          ∧ r.2.mem ((c.tc : Thread Cert.Reference20Ideal.nD Cert.Reference20Ideal.τ).loc Cert.Reference20Ideal.main_v51) = v2 c
          ∧ r.2.mem ((c.tc : Thread Cert.Reference20Ideal.nD Cert.Reference20Ideal.τ).loc Cert.Reference20Ideal.main_v32) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v28) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal_pre_finite_gate [hKernel22Ideal : Cert.Kernel22Ideal.Facts] [hReference22Ideal : Cert.Reference22Ideal.Facts] [hPre_finite_gate : Cert.Pre_finite_gate.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_gate m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)) (v4 : (c : Dev Cert.Kernel22Ideal.nD) → Buf (Elt Ideal) ((c.tc : Thread Cert.Kernel22Ideal.nD Cert.Kernel22Ideal.τ).loc Cert.Kernel22Ideal.main_v0_4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_v0_4) = v4 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v75) = v0 c
          ∧ r.2.mem ((c.tc : Thread Cert.Reference22Ideal.nD Cert.Reference22Ideal.τ).loc Cert.Reference22Ideal.main_v77) = v1 c
          ∧ r.2.mem ((c.tc : Thread Cert.Reference22Ideal.nD Cert.Reference22Ideal.τ).loc Cert.Reference22Ideal.main_v54) = v2 c
          ∧ r.2.mem ((c.tc : Thread Cert.Reference22Ideal.nD Cert.Reference22Ideal.τ).loc Cert.Reference22Ideal.main_v57) = v3 c
          ∧ r.2.mem ((c.tc : Thread Cert.Reference22Ideal.nD Cert.Reference22Ideal.τ).loc Cert.Reference22Ideal.main_v38) = v4 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v37) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v9) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v9) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v10) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v10) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v9) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v9) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite_gate (hKernel22Ideal := hKernel22Ideal) (hPre_finite_gate := hPre_finite_gate)
    ∧ quiescent_Reference22Ideal (hReference22Ideal := hReference22Ideal)
    ∧ quiescent_Reference22Ideal_pre_finite_gate (hReference22Ideal := hReference22Ideal) (hPre_finite_gate := hPre_finite_gate)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite_gate (hKernel22Ideal := hKernel22Ideal) (hReference22Ideal := hReference22Ideal) (hPre_finite_gate := hPre_finite_gate)
    ∧ preserves_Kernel23_Kernel23Ideal
    ∧ algebraic_Kernel23Ideal_Reference23Ideal (hKernel23Ideal := hKernel23Ideal) (hReference23Ideal := hReference23Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
-- ==== Pre_finite.lean ====
abbrev S8192x6144 : Shape := ⟨2, ![8192, 6144]⟩
abbrev S8192x1024 : Shape := ⟨2, ![8192, 1024]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x6144 .f32) (main_arg1 : FVec F S8192x1024 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Pre_finite_gate.lean ====
abbrev S8192x1024 : Shape := ⟨2, ![8192, 1024]⟩
abbrev S8192x6144 : Shape := ⟨2, ![8192, 6144]⟩
abbrev S1x1024 : Shape := ⟨2, ![1, 1024]⟩
abbrev S8192x2048 : Shape := ⟨2, ![8192, 2048]⟩
abbrev S_ : Shape := ⟨0, ![]⟩

class Facts : Prop where
  slices_S8192x2048_S8192x1024_0_0 : S8192x2048.Slices ![0, 0] S8192x1024
  bcast_S_S1x1024 : S_.BroadcastsInDim S1x1024 (![] : Fin 0 → Fin S1x1024.rank)
  reducesTo_S1x1024_S_d0_1 : S1x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1024 .f32) (main_arg1 : FVec F S8192x6144 .f32) (main_arg2 : FVec F S8192x1024 .f32) (main_arg3 : FVec F S1x1024 .f32) (main_arg4 : FVec F S1x1024 .f32) (main_arg5 : FVec F S8192x2048 .f32) : IVec S_ 1 :=
  let main_v0 : FVec F S8192x1024 .f32 := (extractStridedSlice S8192x1024 ![0, 0] · slices_S8192x2048_S8192x1024_0_0) main_arg5
  let main_v1 : FVec F S1x1024 .f32 := Host.absf main_arg3
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_c : IVec S_ 1 := constantI S_ 1 1#1
  let main_v4 : IVec S_ 1 := (fun x v => Host.reduce IntOp.andi x v reducesTo_S1x1024_S_d0_1 h_S_) main_v3 main_c
  let main_v5 : FVec F S8192x1024 .f32 := Host.absf main_v0
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  main_v9
-- ==== Kernel.lean ====
abbrev S8192x6144 : Shape := ⟨2, ![8192, 6144]⟩
abbrev S8192x1024 : Shape := ⟨2, ![8192, 1024]⟩
abbrev S4x2048x16x64 : Shape := ⟨4, ![4, 2048, 16, 64]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x2048x16 : Shape := ⟨3, ![4, 2048, 16]⟩
abbrev S4x2048x16x1 : Shape := ⟨4, ![4, 2048, 16, 1]⟩
abbrev S256x256 : Shape := ⟨2, ![256, 256]⟩
abbrev S2048x256 : Shape := ⟨2, ![2048, 256]⟩
abbrev S128x128 : Shape := ⟨2, ![128, 128]⟩
abbrev S512x128 : Shape := ⟨2, ![512, 128]⟩
abbrev S128x1 : Shape := ⟨2, ![128, 1]⟩
abbrev S512x1 : Shape := ⟨2, ![512, 1]⟩
abbrev S256x128 : Shape := ⟨2, ![256, 128]⟩
abbrev S512x256 : Shape := ⟨2, ![512, 256]⟩
abbrev S512 : Shape := ⟨1, ![512]⟩

abbrev nBuf : Space → Nat
  | .hbm => 47
  | .vmem => 18
  | .smem => 0
  | _ => 0

abbrev bufTy : (tb : Table) → Fin (tcTables nBuf tb) → BufTy
  | .hbm, ⟨0, _⟩ => ⟨S8192x6144, .f32⟩
  | .hbm, ⟨1, _⟩ => ⟨S8192x1024, .f32⟩
  | .hbm, ⟨2, _⟩ => ⟨S8192x1024, .f32⟩
  | .hbm, ⟨3, _⟩ => ⟨S4x2048x16x64, .f32⟩
  | .hbm, ⟨4, _⟩ => ⟨S8192x1024, .f32⟩
  | .hbm, ⟨5, _⟩ => ⟨S4x2048x16x64, .f32⟩
  | .hbm, ⟨6, _⟩ => ⟨S4x16x2048x2048, .f32⟩
  | .hbm, ⟨7, _⟩ => ⟨S_, .f32⟩
  | .hbm, ⟨8, _⟩ => ⟨S4x16x2048x2048, .f32⟩
  | .hbm, ⟨9, _⟩ => ⟨S4x16x2048x2048, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048x2048, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .i1⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S_, .f32⟩
  | .hbm, ⟨35, _⟩ => ⟨S4x16x2048x2048, .i1⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S4x16x2048, .f32⟩
  | .hbm, ⟨40, _⟩ => ⟨S4x2048x16, .f32⟩
  | .hbm, ⟨41, _⟩ => ⟨S4x2048x16x1, .f32⟩
  | .hbm, ⟨42, _⟩ => ⟨S4x2048x16x64, .f32⟩
  | .hbm, ⟨43, _⟩ => ⟨S8192x1024, .f32⟩
  | .hbm, ⟨44, _⟩ => ⟨S8192x1024, .bf16⟩
  | .hbm, ⟨45, _⟩ => ⟨S8192x1024, .bf16⟩
  | .hbm, ⟨46, _⟩ => ⟨S8192x1024, .bf16⟩
  | .local _ .vmem, ⟨0, _⟩ => ⟨S256x256, .f32⟩
  | .local _ .vmem, ⟨1, _⟩ => ⟨S256x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .f32⟩
  | .local _ .vmem, ⟨17, _⟩ => ⟨S2048x256, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v14 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_v21_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 8], ![false, false, false]⟩

def k0_mult1 : BitVec 32 :=
  let c0_i32_53 : BitVec 32 := 0#32
  c0_i32_53
@[reducible] def k0_t1_loop (i : grid0.Coords) : Scf.Loop 32 :=
  let c0_i32_70 : BitVec 32 := 0#32
  let arg2 : BitVec 32 := BitVec.ofNat 32 (i 2).val
  let v138 : BitVec 32 := Scalar.subi arg2 c0_i32_70
  let c1_i32 : BitVec 32 := 1#32
  let v140 : BitVec 32 := Scalar.divsi v138 c1_i32
  let v141 : BitVec 32 := Scalar.muli v140 c1_i32
  let v142 : BitVec 32 := Scalar.addi c0_i32_70 v141
  let c1_i32_71 : BitVec 32 := 1#32
  ⟨c0_i32_70, v142, c1_i32_71⟩
def k0_mult2 (i : grid0.Coords) (k0_t1 : Fin (k0_t1_loop i).trips) : BitVec 32 :=
  let c0_i32_70 : BitVec 32 := 0#32
  let c1_i32_71 : BitVec 32 := 1#32
  let arg13 : BitVec 32 := Scf.iv c0_i32_70 c1_i32_71 k0_t1
  let c1_i32_125 : BitVec 32 := 1#32
  let v322 : BitVec 32 := Scalar.addi arg13 c1_i32_125
  let c256_i32_126 : BitVec 32 := 256#32
  let v323 : BitVec 32 := Scalar.muli v322 c256_i32_126
  v323
def k0_off1 (i : grid0.Coords) (k0_t1 : Fin (k0_t1_loop i).trips) : Fin 2 → Nat :=
  let c0_i32_70 : BitVec 32 := 0#32
  let c1_i32_71 : BitVec 32 := 1#32
  let arg13 : BitVec 32 := Scf.iv c0_i32_70 c1_i32_71 k0_t1
  let c1_i32_125 : BitVec 32 := 1#32
  let v322 : BitVec 32 := Scalar.addi arg13 c1_i32_125
  let c256_i32_126 : BitVec 32 := 256#32
  let v323 : BitVec 32 := Scalar.muli v322 c256_i32_126
  let v324 : BitVec 32 := v323
  let v325 : Index := Scalar.indexCast v324
  let c0_127 : Index := 0#32
  ![v325.toNat, 0]
def k0_off2 (i : grid0.Coords) (k0_t1 : Fin (k0_t1_loop i).trips) : Fin 2 → Nat :=
  let c0_i32_70 : BitVec 32 := 0#32
  let c1_i32_71 : BitVec 32 := 1#32
  let arg13 : BitVec 32 := Scf.iv c0_i32_70 c1_i32_71 k0_t1
  let c1_i32_125 : BitVec 32 := 1#32
  let v322 : BitVec 32 := Scalar.addi arg13 c1_i32_125
  let c256_i32_126 : BitVec 32 := 256#32
  let v323 : BitVec 32 := Scalar.muli v322 c256_i32_126
  let v324 : BitVec 32 := v323
  let v333 : Index := Scalar.indexCast v324
  let c128_131 : Index := 128#32
  ![v333.toNat, 128]
def k0_mult3 (i : grid0.Coords) (k0_t1 : Fin (k0_t1_loop i).trips) : BitVec 32 :=
  let c0_i32_70 : BitVec 32 := 0#32
  let c1_i32_71 : BitVec 32 := 1#32
  let arg13 : BitVec 32 := Scf.iv c0_i32_70 c1_i32_71 k0_t1
  let c256_i32_135 : BitVec 32 := 256#32
  let v341 : BitVec 32 := Scalar.muli arg13 c256_i32_135
  v341
def k0_off3 (i : grid0.Coords) (k0_t1 : Fin (k0_t1_loop i).trips) : Fin 2 → Nat :=
  let c0_i32_70 : BitVec 32 := 0#32
  let c1_i32_71 : BitVec 32 := 1#32
  let arg13 : BitVec 32 := Scf.iv c0_i32_70 c1_i32_71 k0_t1
  let c256_i32_135 : BitVec 32 := 256#32
  let v341 : BitVec 32 := Scalar.muli arg13 c256_i32_135
  let v342 : BitVec 32 := v341
  let v343 : Index := Scalar.indexCast v342
  let c0_136 : Index := 0#32
  ![v343.toNat, 0]
def k0_off4 (i : grid0.Coords) (k0_t1 : Fin (k0_t1_loop i).trips) : Fin 2 → Nat :=
  let c0_i32_70 : BitVec 32 := 0#32
  let c1_i32_71 : BitVec 32 := 1#32
  let arg13 : BitVec 32 := Scf.iv c0_i32_70 c1_i32_71 k0_t1
  let c256_i32_135 : BitVec 32 := 256#32
  let v341 : BitVec 32 := Scalar.muli arg13 c256_i32_135
  let v342 : BitVec 32 := v341
  let v409 : Index := Scalar.indexCast v342
  let c128_152 : Index := 128#32
  ![v409.toNat, 128]
@[reducible] def k0_t2_loop (i : grid0.Coords) : Scf.Loop 32 :=
  let c0_i32_70 : BitVec 32 := 0#32
  let arg2 : BitVec 32 := BitVec.ofNat 32 (i 2).val
  let v138 : BitVec 32 := Scalar.subi arg2 c0_i32_70
  let c1_i32 : BitVec 32 := 1#32
  let v140 : BitVec 32 := Scalar.divsi v138 c1_i32
  let v141 : BitVec 32 := Scalar.muli v140 c1_i32
  let v142 : BitVec 32 := Scalar.addi c0_i32_70 v141
  let v139 : BitVec 32 := Scalar.addi c0_i32_70 v138
  let c1_i32_72 : BitVec 32 := 1#32
  ⟨v142, v139, c1_i32_72⟩
def k0_mult4 (i : grid0.Coords) (k0_t2 : Fin (k0_t2_loop i).trips) : BitVec 32 :=
  let c0_i32_70 : BitVec 32 := 0#32
  let arg2 : BitVec 32 := BitVec.ofNat 32 (i 2).val
  let v138 : BitVec 32 := Scalar.subi arg2 c0_i32_70
  let c1_i32 : BitVec 32 := 1#32
  let v140 : BitVec 32 := Scalar.divsi v138 c1_i32
  let v141 : BitVec 32 := Scalar.muli v140 c1_i32
  let v142 : BitVec 32 := Scalar.addi c0_i32_70 v141
  let c1_i32_72 : BitVec 32 := 1#32
  let arg13 : BitVec 32 := Scf.iv v142 c1_i32_72 k0_t2
  let c1_i32_125 : BitVec 32 := 1#32
  let v322 : BitVec 32 := Scalar.addi arg13 c1_i32_125
  let c256_i32_126 : BitVec 32 := 256#32
  let v323 : BitVec 32 := Scalar.muli v322 c256_i32_126
  v323
def k0_off5 (i : grid0.Coords) (k0_t2 : Fin (k0_t2_loop i).trips) : Fin 2 → Nat :=
  let c0_i32_70 : BitVec 32 := 0#32
  let arg2 : BitVec 32 := BitVec.ofNat 32 (i 2).val
  let v138 : BitVec 32 := Scalar.subi arg2 c0_i32_70
  let c1_i32 : BitVec 32 := 1#32
  let v140 : BitVec 32 := Scalar.divsi v138 c1_i32
  let v141 : BitVec 32 := Scalar.muli v140 c1_i32
  let v142 : BitVec 32 := Scalar.addi c0_i32_70 v141
  let c1_i32_72 : BitVec 32 := 1#32
  let arg13 : BitVec 32 := Scf.iv v142 c1_i32_72 k0_t2
  let c1_i32_125 : BitVec 32 := 1#32
  let v322 : BitVec 32 := Scalar.addi arg13 c1_i32_125
  let c256_i32_126 : BitVec 32 := 256#32
  let v323 : BitVec 32 := Scalar.muli v322 c256_i32_126
  let v324 : BitVec 32 := v323
  let v325 : Index := Scalar.indexCast v324
  let c0_127 : Index := 0#32
  ![v325.toNat, 0]
def k0_off6 (i : grid0.Coords) (k0_t2 : Fin (k0_t2_loop i).trips) : Fin 2 → Nat :=
  let c0_i32_70 : BitVec 32 := 0#32
  let arg2 : BitVec 32 := BitVec.ofNat 32 (i 2).val
  let v138 : BitVec 32 := Scalar.subi arg2 c0_i32_70
  let c1_i32 : BitVec 32 := 1#32
  let v140 : BitVec 32 := Scalar.divsi v138 c1_i32
  let v141 : BitVec 32 := Scalar.muli v140 c1_i32
  let v142 : BitVec 32 := Scalar.addi c0_i32_70 v141
  let c1_i32_72 : BitVec 32 := 1#32
  let arg13 : BitVec 32 := Scf.iv v142 c1_i32_72 k0_t2
  let c1_i32_125 : BitVec 32 := 1#32
  let v322 : BitVec 32 := Scalar.addi arg13 c1_i32_125
  let c256_i32_126 : BitVec 32 := 256#32
  let v323 : BitVec 32 := Scalar.muli v322 c256_i32_126
  let v324 : BitVec 32 := v323
  let v333 : Index := Scalar.indexCast v324
  let c128_131 : Index := 128#32
  ![v333.toNat, 128]
def k0_mult5 (i : grid0.Coords) (k0_t2 : Fin (k0_t2_loop i).trips) : BitVec 32 :=
  let c0_i32_70 : BitVec 32 := 0#32
  let arg2 : BitVec 32 := BitVec.ofNat 32 (i 2).val
  let v138 : BitVec 32 := Scalar.subi arg2 c0_i32_70
  let c1_i32 : BitVec 32 := 1#32
  let v140 : BitVec 32 := Scalar.divsi v138 c1_i32
  let v141 : BitVec 32 := Scalar.muli v140 c1_i32
  let v142 : BitVec 32 := Scalar.addi c0_i32_70 v141
  let c1_i32_72 : BitVec 32 := 1#32
  let arg13 : BitVec 32 := Scf.iv v142 c1_i32_72 k0_t2
  let c256_i32_135 : BitVec 32 := 256#32
  let v341 : BitVec 32 := Scalar.muli arg13 c256_i32_135
  v341
def k0_off7 (i : grid0.Coords) (k0_t2 : Fin (k0_t2_loop i).trips) : Fin 2 → Nat :=
  let c0_i32_70 : BitVec 32 := 0#32
  let arg2 : BitVec 32 := BitVec.ofNat 32 (i 2).val
  let v138 : BitVec 32 := Scalar.subi arg2 c0_i32_70
  let c1_i32 : BitVec 32 := 1#32
  let v140 : BitVec 32 := Scalar.divsi v138 c1_i32
  let v141 : BitVec 32 := Scalar.muli v140 c1_i32
  let v142 : BitVec 32 := Scalar.addi c0_i32_70 v141
  let c1_i32_72 : BitVec 32 := 1#32
  let arg13 : BitVec 32 := Scf.iv v142 c1_i32_72 k0_t2
  let c256_i32_135 : BitVec 32 := 256#32
  let v341 : BitVec 32 := Scalar.muli arg13 c256_i32_135
  let v342 : BitVec 32 := v341
  let v343 : Index := Scalar.indexCast v342
  let c0_136 : Index := 0#32
  ![v343.toNat, 0]
def k0_off8 (i : grid0.Coords) (k0_t2 : Fin (k0_t2_loop i).trips) : Fin 2 → Nat :=
  let c0_i32_70 : BitVec 32 := 0#32
  let arg2 : BitVec 32 := BitVec.ofNat 32 (i 2).val
  let v138 : BitVec 32 := Scalar.subi arg2 c0_i32_70
  let c1_i32 : BitVec 32 := 1#32
  let v140 : BitVec 32 := Scalar.divsi v138 c1_i32
  let v141 : BitVec 32 := Scalar.muli v140 c1_i32
  let v142 : BitVec 32 := Scalar.addi c0_i32_70 v141
  let c1_i32_72 : BitVec 32 := 1#32
  let arg13 : BitVec 32 := Scf.iv v142 c1_i32_72 k0_t2
  let c256_i32_135 : BitVec 32 := 256#32
  let v341 : BitVec 32 := Scalar.muli arg13 c256_i32_135
  let v342 : BitVec 32 := v341
  let v409 : Index := Scalar.indexCast v342
  let c128_152 : Index := 128#32
  ![v409.toNat, 128]
def k0_mult6 (i : grid0.Coords) : BitVec 32 :=
  let arg2 : BitVec 32 := BitVec.ofNat 32 (i 2).val
  let c256_i32 : BitVec 32 := 256#32
  let v145 : BitVec 32 := Scalar.muli arg2 c256_i32
  v145
def k0_off9 (i : grid0.Coords) : Fin 2 → Nat :=
  let arg2 : BitVec 32 := BitVec.ofNat 32 (i 2).val
  let c256_i32 : BitVec 32 := 256#32
  let v145 : BitVec 32 := Scalar.muli arg2 c256_i32
  let v146 : BitVec 32 := v145
  let v147 : Index := Scalar.indexCast v146
  let c0_73 : Index := 0#32
  ![v147.toNat, 0]
def k0_off10 (i : grid0.Coords) : Fin 2 → Nat :=
  let arg2 : BitVec 32 := BitVec.ofNat 32 (i 2).val
  let c256_i32 : BitVec 32 := 256#32
  let v145 : BitVec 32 := Scalar.muli arg2 c256_i32
  let v146 : BitVec 32 := v145
  let v225 : Index := Scalar.indexCast v146
  let c128_91 : Index := 128#32
  ![v225.toNat, 128]
def k0_cond2 (i : grid0.Coords) : BitVec 1 :=
  let arg2 : BitVec 32 := BitVec.ofNat 32 (i 2).val
  let c7_i32 : BitVec 32 := 7#32
  let v319 : BitVec 1 := Scalar.cmpi .eq arg2 c7_i32
  let v320 : BitVec 32 := Scalar.extui v319
  let c0_i32_124 : BitVec 32 := 0#32
  let v321 : BitVec 1 := Scalar.cmpi .ne v320 c0_i32_124
  v321

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S8192x6144 : Shape := ⟨2, ![8192, 6144]⟩
abbrev S8192x1024 : Shape := ⟨2, ![8192, 1024]⟩
abbrev S4x2048x16x64 : Shape := ⟨4, ![4, 2048, 16, 64]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x64x2048 : Shape := ⟨4, ![4, 16, 64, 2048]⟩
abbrev S4x16x2048x64 : Shape := ⟨4, ![4, 16, 2048, 64]⟩

abbrev nBuf : Space → Nat
  | .hbm => 175
  | .vmem => 0
  | .smem => 0
  | _ => 0

abbrev hbmTy0_0 (i : Nat) : BufTy := match i % 128 with
  | 0 => ⟨S8192x6144, .f32⟩
  | 1 => ⟨S8192x1024, .f32⟩
  | 2 => ⟨S8192x1024, .f32⟩
  | 3 => ⟨S4x2048x16x64, .f32⟩
  | 4 => ⟨S8192x1024, .f32⟩
  | 5 => ⟨S4x2048x16x64, .f32⟩
  | 6 => ⟨S8192x1024, .f32⟩
  | 7 => ⟨S4x2048x16x64, .f32⟩
  | 8 => ⟨S4x16x2048x2048, .f32⟩
  | 9 => ⟨S_, .f32⟩
  | 10 => ⟨S4x16x2048x2048, .f32⟩
  | 11 => ⟨S4x16x2048x2048, .f32⟩
  | 12 => ⟨S2048, .i32⟩
  | 13 => ⟨S1x2048, .i32⟩
  | 14 => ⟨S2048x1, .i32⟩
  | 15 => ⟨S2048x2048, .i32⟩
  | 16 => ⟨S2048x2048, .i32⟩
  | 17 => ⟨S2048x2048, .i1⟩
  | 18 => ⟨S4x16x2048x2048, .f32⟩
  | 19 => ⟨S_, .f32⟩
  | 20 => ⟨S4x16x2048x2048, .f32⟩
  | 21 => ⟨S4x16x2048x2048, .f32⟩
  | 22 => ⟨S4x16x2048x2048, .f32⟩
  | 23 => ⟨S4x16x2048x2048, .f32⟩
  | 24 => ⟨S4x16x2048x2048, .i1⟩
  | 25 => ⟨S4x16x2048x2048, .f32⟩
  | 26 => ⟨S4x16x2048x2048, .f32⟩
  | 27 => ⟨S4x16x2048x2048, .f32⟩
  | 28 => ⟨S4x16x2048x2048, .f32⟩
  | 29 => ⟨S4x16x2048x2048, .f32⟩
  | 30 => ⟨S4x16x2048x2048, .f32⟩
  | 31 => ⟨S4x16x2048x2048, .f32⟩
  | 32 => ⟨S4x16x2048x2048, .f32⟩
  | 33 => ⟨S_, .f32⟩
  | 34 => ⟨S4x16x2048x2048, .f32⟩
  | 35 => ⟨S4x16x2048x2048, .i1⟩
  | 36 => ⟨S_, .f32⟩
  | 37 => ⟨S4x16x2048x2048, .f32⟩
  | 38 => ⟨S4x16x2048x2048, .f32⟩
  | 39 => ⟨S_, .f32⟩
  | 40 => ⟨S4x16x2048x2048, .f32⟩
  | 41 => ⟨S4x16x2048x2048, .i1⟩
  | 42 => ⟨S_, .f32⟩
  | 43 => ⟨S4x16x2048x2048, .f32⟩
  | 44 => ⟨S4x16x2048x2048, .f32⟩
  | 45 => ⟨S4x16x2048x2048, .f32⟩
  | 46 => ⟨S4x16x2048x2048, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S4x16x2048x2048, .f32⟩
  | 55 => ⟨S4x16x2048x2048, .i1⟩
  | 56 => ⟨S_, .f32⟩
  | 57 => ⟨S4x16x2048x2048, .f32⟩
  | 58 => ⟨S4x16x2048x2048, .f32⟩
  | 59 => ⟨S4x16x2048x2048, .f32⟩
  | 60 => ⟨S4x16x2048x2048, .f32⟩
  | 61 => ⟨S4x16x2048x2048, .f32⟩
  | 62 => ⟨S_, .f32⟩
  | 63 => ⟨S4x16x2048x2048, .f32⟩
  | 64 => ⟨S4x16x2048x2048, .f32⟩
  | 65 => ⟨S4x16x2048x2048, .f32⟩
  | 66 => ⟨S4x16x2048x2048, .f32⟩
  | 67 => ⟨S4x16x2048x2048, .f32⟩
  | 68 => ⟨S_, .f32⟩
  | 69 => ⟨S4x16x2048x2048, .f32⟩
  | 70 => ⟨S4x16x2048x2048, .f32⟩
  | 71 => ⟨S4x16x2048x2048, .f32⟩
  | 72 => ⟨S4x16x2048x2048, .f32⟩
  | 73 => ⟨S4x16x2048x2048, .i1⟩
  | 74 => ⟨S4x16x2048x2048, .f32⟩
  | 75 => ⟨S4x16x2048x2048, .f32⟩
  | 76 => ⟨S4x16x2048x2048, .f32⟩
  | 77 => ⟨S4x16x2048x2048, .f32⟩
  | 78 => ⟨S4x16x2048x2048, .f32⟩
  | 79 => ⟨S4x16x2048x2048, .f32⟩
  | 80 => ⟨S4x16x2048x2048, .f32⟩
  | 81 => ⟨S4x16x2048x2048, .f32⟩
  | 82 => ⟨S_, .f32⟩
  | 83 => ⟨S4x16x2048x2048, .f32⟩
  | 84 => ⟨S4x16x2048x2048, .i1⟩
  | 85 => ⟨S_, .f32⟩
  | 86 => ⟨S4x16x2048x2048, .f32⟩
  | 87 => ⟨S4x16x2048x2048, .f32⟩
  | 88 => ⟨S_, .f32⟩
  | 89 => ⟨S4x16x2048x2048, .f32⟩
  | 90 => ⟨S4x16x2048x2048, .i1⟩
  | 91 => ⟨S_, .f32⟩
  | 92 => ⟨S4x16x2048x2048, .f32⟩
  | 93 => ⟨S4x16x2048x2048, .f32⟩
  | 94 => ⟨S4x16x2048x2048, .f32⟩
  | 95 => ⟨S4x16x2048x2048, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S4x16x2048x2048, .f32⟩
  | 104 => ⟨S4x16x2048x2048, .i1⟩
  | 105 => ⟨S_, .f32⟩
  | 106 => ⟨S4x16x2048x2048, .f32⟩
  | 107 => ⟨S4x16x2048x2048, .f32⟩
  | 108 => ⟨S4x16x2048x2048, .f32⟩
  | 109 => ⟨S4x16x2048x2048, .f32⟩
  | 110 => ⟨S4x16x2048x2048, .f32⟩
  | 111 => ⟨S_, .f32⟩
  | 112 => ⟨S4x16x2048x2048, .f32⟩
  | 113 => ⟨S4x16x2048x2048, .f32⟩
  | 114 => ⟨S4x16x2048x2048, .f32⟩
  | 115 => ⟨S_, .f32⟩
  | 116 => ⟨S_, .f32⟩
  | 117 => ⟨S4x16x2048x2048, .i1⟩
  | 118 => ⟨S4x16x2048x2048, .f32⟩
  | 119 => ⟨S4x16x2048x2048, .f32⟩
  | 120 => ⟨S_, .f32⟩
  | 121 => ⟨S4x16x2048x2048, .f32⟩
  | 122 => ⟨S_, .f32⟩
  | 123 => ⟨S_, .f32⟩
  | 124 => ⟨S4x16x2048x2048, .f32⟩
  | 125 => ⟨S4x16x2048x2048, .f32⟩
  | 126 => ⟨S4x16x2048x2048, .f32⟩
  | 127 => ⟨S4x16x2048x2048, .f32⟩
  | _ => ⟨S8192x6144, .f32⟩

abbrev hbmTy0_1 (i : Nat) : BufTy := match i % 128 with
  | 0 => ⟨S_, .f32⟩
  | 1 => ⟨S_, .f32⟩
  | 2 => ⟨S4x16x2048x2048, .i1⟩
  | 3 => ⟨S4x16x2048x2048, .f32⟩
  | 4 => ⟨S4x16x2048x2048, .f32⟩
  | 5 => ⟨S_, .f32⟩
  | 6 => ⟨S4x16x2048x2048, .f32⟩
  | 7 => ⟨S4x16x64x2048, .f32⟩
  | 8 => ⟨S4x2048x16x64, .f32⟩
  | 9 => ⟨S4x2048x16x64, .f32⟩
  | 10 => ⟨S4x16x64x2048, .f32⟩
  | 11 => ⟨S4x16x2048x2048, .f32⟩
  | 12 => ⟨S4x16x64x2048, .f32⟩
  | 13 => ⟨S4x2048x16x64, .f32⟩
  | 14 => ⟨S_, .f32⟩
  | 15 => ⟨S4x16x2048x2048, .f32⟩
  | 16 => ⟨S4x16x2048x2048, .f32⟩
  | 17 => ⟨S4x16x2048x2048, .f32⟩
  | 18 => ⟨S4x16x2048x2048, .f32⟩
  | 19 => ⟨S_, .f32⟩
  | 20 => ⟨S_, .f32⟩
  | 21 => ⟨S4x16x2048x2048, .f32⟩
  | 22 => ⟨S4x16x2048x2048, .f32⟩
  | 23 => ⟨S_, .f32⟩
  | 24 => ⟨S4x16x2048x2048, .f32⟩
  | 25 => ⟨S4x16x2048x2048, .f32⟩
  | 26 => ⟨S4x16x2048x2048, .f32⟩
  | 27 => ⟨S4x16x2048x2048, .f32⟩
  | 28 => ⟨S4x16x2048x2048, .f32⟩
  | 29 => ⟨S4x16x2048x2048, .f32⟩
  | 30 => ⟨S4x16x2048x2048, .f32⟩
  | 31 => ⟨S4x16x2048x2048, .f32⟩
  | 32 => ⟨S4x16x2048x2048, .f32⟩
  | 33 => ⟨S4x16x2048x2048, .f32⟩
  | 34 => ⟨S_, .f32⟩
  | 35 => ⟨S4x16x2048x2048, .f32⟩
  | 36 => ⟨S4x16x2048x2048, .f32⟩
  | 37 => ⟨S4x16x2048x64, .f32⟩
  | 38 => ⟨S4x2048x16x64, .f32⟩
  | 39 => ⟨S4x16x2048x64, .f32⟩
  | 40 => ⟨S4x2048x16x64, .f32⟩
  | 41 => ⟨S8192x1024, .f32⟩
  | 42 => ⟨S8192x1024, .bf16⟩
  | 43 => ⟨S8192x1024, .f32⟩
  | 44 => ⟨S8192x1024, .bf16⟩
  | 45 => ⟨S8192x1024, .f32⟩
  | 46 => ⟨S8192x1024, .bf16⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v15_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v15_2 : Ref sig .tc := ⟨.hbm, 64, rfl⟩
abbrev main_v15_0 : Ref sig .tc := ⟨.hbm, 65, rfl⟩
abbrev main_v16 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1_0 : Ref sig .tc := ⟨.hbm, 81, rfl⟩
abbrev main_call1_call0_cst_0 : Ref sig .tc := ⟨.hbm, 82, rfl⟩
abbrev main_call1_call0_v13 : Ref sig .tc := ⟨.hbm, 83, rfl⟩
abbrev main_call1_call0_v14 : Ref sig .tc := ⟨.hbm, 84, rfl⟩
abbrev main_call1_call0_cst_1 : Ref sig .tc := ⟨.hbm, 85, rfl⟩
abbrev main_call1_call0_v15 : Ref sig .tc := ⟨.hbm, 86, rfl⟩
abbrev main_call1_call0_v16 : Ref sig .tc := ⟨.hbm, 87, rfl⟩
abbrev main_call1_call0_cst_2 : Ref sig .tc := ⟨.hbm, 88, rfl⟩
abbrev main_call1_call0_v17 : Ref sig .tc := ⟨.hbm, 89, rfl⟩
abbrev main_call1_call0_v18 : Ref sig .tc := ⟨.hbm, 90, rfl⟩
abbrev main_call1_call0_cst_3 : Ref sig .tc := ⟨.hbm, 91, rfl⟩
abbrev main_call1_call0_v19 : Ref sig .tc := ⟨.hbm, 92, rfl⟩
abbrev main_call1_call0_v20 : Ref sig .tc := ⟨.hbm, 93, rfl⟩
abbrev main_call1_call0_v21 : Ref sig .tc := ⟨.hbm, 94, rfl⟩
abbrev main_v17_1 : Ref sig .tc := ⟨.hbm, 95, rfl⟩
abbrev main_call1_call0_cst_4 : Ref sig .tc := ⟨.hbm, 96, rfl⟩
abbrev main_call1_call0_cst_5 : Ref sig .tc := ⟨.hbm, 97, rfl⟩
abbrev main_call1_call0_v23 : Ref sig .tc := ⟨.hbm, 98, rfl⟩
abbrev main_call1_call0_cst_6 : Ref sig .tc := ⟨.hbm, 99, rfl⟩
abbrev main_call1_call0_cst_7 : Ref sig .tc := ⟨.hbm, 100, rfl⟩
abbrev main_call1_call0_v24 : Ref sig .tc := ⟨.hbm, 101, rfl⟩
abbrev main_call1_call0_cst_8 : Ref sig .tc := ⟨.hbm, 102, rfl⟩
abbrev main_call1_call0_v25 : Ref sig .tc := ⟨.hbm, 103, rfl⟩
abbrev main_call1_call0_v26 : Ref sig .tc := ⟨.hbm, 104, rfl⟩
abbrev main_call1_call0_cst_9 : Ref sig .tc := ⟨.hbm, 105, rfl⟩
abbrev main_call1_call0_v27 : Ref sig .tc := ⟨.hbm, 106, rfl⟩
abbrev main_call1_call0_v28 : Ref sig .tc := ⟨.hbm, 107, rfl⟩
abbrev main_call1_call0_v29 : Ref sig .tc := ⟨.hbm, 108, rfl⟩
abbrev main_call1_call0_v30 : Ref sig .tc := ⟨.hbm, 109, rfl⟩
abbrev main_call1_call0_v31 : Ref sig .tc := ⟨.hbm, 110, rfl⟩
abbrev main_call1_call0_cst_10 : Ref sig .tc := ⟨.hbm, 111, rfl⟩
abbrev main_call1_call0_v32 : Ref sig .tc := ⟨.hbm, 112, rfl⟩
abbrev main_v17_2 : Ref sig .tc := ⟨.hbm, 113, rfl⟩
abbrev main_v17_0 : Ref sig .tc := ⟨.hbm, 114, rfl⟩
abbrev main_cst_0 : Ref sig .tc := ⟨.hbm, 115, rfl⟩
abbrev main_call2_v0 : Ref sig .tc := ⟨.hbm, 116, rfl⟩
abbrev main_v18_1 : Ref sig .tc := ⟨.hbm, 117, rfl⟩
abbrev main_call2_v2 : Ref sig .tc := ⟨.hbm, 118, rfl⟩
abbrev main_v18_0 : Ref sig .tc := ⟨.hbm, 119, rfl⟩
abbrev main_call2_cst : Ref sig .tc := ⟨.hbm, 120, rfl⟩
abbrev main_v18_2 : Ref sig .tc := ⟨.hbm, 121, rfl⟩
abbrev main_call3_cst : Ref sig .tc := ⟨.hbm, 122, rfl⟩
abbrev main_call3_v0 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_call5_cst : Ref sig .tc := ⟨.hbm, 142, rfl⟩
abbrev main_call5_v0 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_call6_cst : Ref sig .tc := ⟨.hbm, 147, rfl⟩
abbrev main_call6_v0 : Ref sig .tc := ⟨.hbm, 148, rfl⟩
abbrev main_v34 : Ref sig .tc := ⟨.hbm, 149, rfl⟩
abbrev main_v35 : Ref sig .tc := ⟨.hbm, 150, rfl⟩
abbrev main_call7_cst : Ref sig .tc := ⟨.hbm, 151, rfl⟩
abbrev main_call7_v0 : Ref sig .tc := ⟨.hbm, 152, rfl⟩
abbrev main_v36 : Ref sig .tc := ⟨.hbm, 153, rfl⟩
abbrev main_call8_v0 : Ref sig .tc := ⟨.hbm, 154, rfl⟩
abbrev main_call8_v1 : Ref sig .tc := ⟨.hbm, 155, rfl⟩
abbrev main_v37 : Ref sig .tc := ⟨.hbm, 156, rfl⟩
abbrev main_v38 : Ref sig .tc := ⟨.hbm, 157, rfl⟩
abbrev main_call9_v0 : Ref sig .tc := ⟨.hbm, 158, rfl⟩
abbrev main_call9_v1 : Ref sig .tc := ⟨.hbm, 159, rfl⟩
abbrev main_v39 : Ref sig .tc := ⟨.hbm, 160, rfl⟩
abbrev main_v40 : Ref sig .tc := ⟨.hbm, 161, rfl⟩
abbrev main_cst_2 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩

abbrev nD : Nat := 1
abbrev τ : Topo := Topo.v7x

variable {F : FTy → Type} [FloatOps F]
-- ==== Kernel2.lean ====
abbrev S8192x6144 : Shape := ⟨2, ![8192, 6144]⟩
abbrev S1024x6144 : Shape := ⟨2, ![1024, 6144]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x6144 : Shape := ⟨2, ![8192, 6144]⟩
abbrev S1024x6144 : Shape := ⟨2, ![1024, 6144]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x6144, .f32⟩
  | .hbm, ⟨6, _⟩ => ⟨S8192x6144, .f32⟩
  | .hbm, ⟨7, _⟩ => ⟨S8192x6144, .f32⟩
  | .hbm, ⟨8, _⟩ => ⟨S8192x1024, .f32⟩
  | .hbm, ⟨9, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel3.lean ====
abbrev S8192x1024 : Shape := ⟨2, ![8192, 1024]⟩
abbrev S8192x6144 : Shape := ⟨2, ![8192, 6144]⟩
abbrev S1024x6144 : Shape := ⟨2, ![1024, 6144]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S1024x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S_, .f32⟩
  | .hbm, ⟨3, _⟩ => ⟨S1024x6144, .f32⟩
  | .hbm, ⟨4, _⟩ => ⟨S8192x1024, .f32⟩
  | .hbm, ⟨5, _⟩ => ⟨S8192x6144, .f32⟩
  | .hbm, ⟨6, _⟩ => ⟨S8192x6144, .f32⟩
  | .hbm, ⟨7, _⟩ => ⟨S6144x1024, .f32⟩
  | .hbm, ⟨8, _⟩ => ⟨S1024x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S1024x6144 : Shape := ⟨2, ![1024, 6144]⟩
abbrev S8192x6144 : Shape := ⟨2, ![8192, 6144]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x6144 : Shape := ⟨2, ![1024, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x1024, .f32⟩
  | .hbm, ⟨3, _⟩ => ⟨S1024x6144, .f32⟩
  | .hbm, ⟨4, _⟩ => ⟨S8192x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x4096, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel8.lean ====
abbrev S8192x4096 : Shape := ⟨2, ![8192, 4096]⟩
abbrev S1024x4096 : Shape := ⟨2, ![1024, 4096]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference9Ideal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x2048, .f32⟩
  | .hbm, ⟨5, _⟩ => ⟨S2048x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x4096 : Shape := ⟨2, ![8192, 4096]⟩
abbrev S8192x1024 : Shape := ⟨2, ![8192, 1024]⟩
abbrev S4x4096x1024 : Shape := ⟨3, ![4, 4096, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x4096x1024, .f32⟩
  | .hbm, ⟨3, _⟩ => ⟨S4x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference11Ideal.lean ====
abbrev S8192x4096 : Shape := ⟨2, ![8192, 4096]⟩
abbrev S8192x1024 : Shape := ⟨2, ![8192, 1024]⟩
abbrev S4x4096x1024 : Shape := ⟨3, ![4, 4096, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩
abbrev S4x2048x1024 : Shape := ⟨3, ![4, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x4096x1024, .f32⟩
  | .hbm, ⟨3, _⟩ => ⟨S_, .f32⟩
  | .hbm, ⟨4, _⟩ => ⟨S4096x1024, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4x1024x1024, .f32⟩
  | .hbm, ⟨11, _⟩ => ⟨S4x1024x1024, .f32⟩
  | .hbm, ⟨12, _⟩ => ⟨S4x2048x1024, .f32⟩
  | .hbm, ⟨13, _⟩ => ⟨S4x4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel12.lean ====
abbrev S8192x1024 : Shape := ⟨2, ![8192, 1024]⟩
abbrev S8192x4096 : Shape := ⟨2, ![8192, 4096]⟩
abbrev S4x4096x1024 : Shape := ⟨3, ![4, 4096, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x4096x1024, .f32⟩
  | .hbm, ⟨3, _⟩ => ⟨S4x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference12Ideal.lean ====
abbrev S8192x1024 : Shape := ⟨2, ![8192, 1024]⟩
abbrev S8192x4096 : Shape := ⟨2, ![8192, 4096]⟩
abbrev S4x4096x1024 : Shape := ⟨3, ![4, 4096, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x2048x1024 : Shape := ⟨3, ![4, 2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x4096x1024, .f32⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x1024x1024, .f32⟩
  | .hbm, ⟨13, _⟩ => ⟨S4x2048x1024, .f32⟩
  | .hbm, ⟨14, _⟩ => ⟨S4x4096x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel13.lean ====
abbrev S8192x2048 : Shape := ⟨2, ![8192, 2048]⟩
abbrev S8192x1024 : Shape := ⟨2, ![8192, 1024]⟩
abbrev S4x2048x1024 : Shape := ⟨3, ![4, 2048, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S4x2048x1024, .f32⟩
  | .hbm, ⟨3, _⟩ => ⟨S4x2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference13Ideal.lean ====
abbrev S8192x2048 : Shape := ⟨2, ![8192, 2048]⟩
abbrev S8192x1024 : Shape := ⟨2, ![8192, 1024]⟩
abbrev S4x2048x1024 : Shape := ⟨3, ![4, 2048, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S4x2048x1024, .f32⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S4x512x1024, .f32⟩
  | .hbm, ⟨11, _⟩ => ⟨S4x512x1024, .f32⟩
  | .hbm, ⟨12, _⟩ => ⟨S4x1024x1024, .f32⟩
  | .hbm, ⟨13, _⟩ => ⟨S4x2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel14.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .f32⟩
  | .hbm, ⟨4, _⟩ => ⟨S4096x1024, .f32⟩
  | .hbm, ⟨5, _⟩ => ⟨S8192x1024, .f32⟩
  | .hbm, ⟨6, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x128 : Shape := ⟨2, ![8192, 128]⟩
abbrev S1024x128 : Shape := ⟨2, ![1024, 128]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S_, .f32⟩
  | .hbm, ⟨3, _⟩ => ⟨S8192x1024, .f32⟩
  | .hbm, ⟨4, _⟩ => ⟨S1024x128, .f32⟩
  | .hbm, ⟨5, _⟩ => ⟨S8192x128, .f32⟩
  | .hbm, ⟨6, _⟩ => ⟨S8192x128, .f32⟩
  | .hbm, ⟨7, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel19.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel20.lean ====
abbrev S8192x1024 : Shape := ⟨2, ![8192, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1x128, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S1x128, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x1, .f32⟩
  | .hbm, ⟨69, _⟩ => ⟨S1x128, .f32⟩
  | .hbm, ⟨70, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel21.lean ====
abbrev S8192x1024 : Shape := ⟨2, ![8192, 1024]⟩
abbrev S8192x6144 : Shape := ⟨2, ![8192, 6144]⟩
abbrev S1x1024 : Shape := ⟨2, ![1, 1024]⟩
abbrev S8192x2048 : Shape := ⟨2, ![8192, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x2048, .bf16⟩
  | .local _ .vmem, ⟨9, _⟩ => ⟨S256x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S8192x1024 : Shape := ⟨2, ![8192, 1024]⟩
abbrev S8192x6144 : Shape := ⟨2, ![8192, 6144]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x2048, .f32⟩
  | .hbm, ⟨47, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel22.lean ====
abbrev S8192x1024 : Shape := ⟨2, ![8192, 1024]⟩
abbrev S8192x6144 : Shape := ⟨2, ![8192, 6144]⟩
abbrev S1x1024 : Shape := ⟨2, ![1, 1024]⟩
abbrev S8192x2048 : Shape := ⟨2, ![8192, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x2048, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S1x1024, .f32⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference22Ideal.lean ====
abbrev S8192x1024 : Shape := ⟨2, ![8192, 1024]⟩
abbrev S8192x6144 : Shape := ⟨2, ![8192, 6144]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x2048, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v1_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v1_1 : Ref sig .tc := ⟨.hbm, 18, rfl⟩
abbrev main_v1_0 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v76 : Ref sig .tc := ⟨.hbm, 113, rfl⟩
abbrev main_v77 : Ref sig .tc := ⟨.hbm, 114, rfl⟩

abbrev nD : Nat := 1
abbrev τ : Topo := Topo.v7x

variable {F : FTy → Type} [FloatOps F]
-- ==== Kernel23.lean ====
abbrev S8192x6144 : Shape := ⟨2, ![8192, 6144]⟩
abbrev S4x2048 : Shape := ⟨2, ![4, 2048]⟩
abbrev S1x2048 : Shape := ⟨2, ![1, 2048]⟩
abbrev S8192x2048 : Shape := ⟨2, ![8192, 2048]⟩
abbrev S2048x512 : Shape := ⟨2, ![2048, 512]⟩
abbrev S4x512 : Shape := ⟨2, ![4, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x6144, .f32⟩
  | .hbm, ⟨1, _⟩ => ⟨S4x2048, .f32⟩
  | .hbm, ⟨2, _⟩ => ⟨S1x2048, .f32⟩
  | .hbm, ⟨3, _⟩ => ⟨S8192x2048, .f32⟩
  | .local _ .vmem, ⟨0, _⟩ => ⟨S2048x512, .f32⟩
  | .local _ .vmem, ⟨1, _⟩ => ⟨S2048x512, .f32⟩
  | .local _ .vmem, ⟨2, _⟩ => ⟨S4x512, .f32⟩
  | .local _ .vmem, ⟨3, _⟩ => ⟨S4x512, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference23Ideal.lean ====
abbrev S8192x6144 : Shape := ⟨2, ![8192, 6144]⟩
abbrev S4x2048 : Shape := ⟨2, ![4, 2048]⟩
abbrev S1x2048 : Shape := ⟨2, ![1, 2048]⟩
abbrev S8192x2048 : Shape := ⟨2, ![8192, 2048]⟩
abbrev S4x2048x2048 : Shape := ⟨3, ![4, 2048, 2048]⟩
abbrev S_ : Shape := ⟨0, ![]⟩
abbrev S4x3x2048 : Shape := ⟨3, ![4, 3, 2048]⟩
abbrev S4x2051x2048 : Shape := ⟨3, ![4, 2051, 2048]⟩
abbrev S2048 : Shape := ⟨1, ![2048]⟩
abbrev S1x1x2048 : Shape := ⟨3, ![1, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S4x2048, .f32⟩
  | .hbm, ⟨2, _⟩ => ⟨S1x2048, .f32⟩
  | .hbm, ⟨3, _⟩ => ⟨S8192x2048, .f32⟩
  | .hbm, ⟨4, _⟩ => ⟨S4x2048x2048, .f32⟩
  | .hbm, ⟨5, _⟩ => ⟨S_, .f32⟩
  | .hbm, ⟨6, _⟩ => ⟨S4x3x2048, .f32⟩
  | .hbm, ⟨7, _⟩ => ⟨S4x2051x2048, .f32⟩
  | .hbm, ⟨8, _⟩ => ⟨S1x2048, .f32⟩
  | .hbm, ⟨9, _⟩ => ⟨S2048, .f32⟩
  | .hbm, ⟨10, _⟩ => ⟨S4x2048x2048, .f32⟩
  | .hbm, ⟨11, _⟩ => ⟨S1x1x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S1x2048, .f32⟩
  | .hbm, ⟨18, _⟩ => ⟨S2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S1x2048, .f32⟩
  | .hbm, ⟨25, _⟩ => ⟨S2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S1x2048, .f32⟩
  | .hbm, ⟨32, _⟩ => ⟨S2048, .f32⟩
  | .hbm, ⟨33, _⟩ => ⟨S4x2048x2048, .f32⟩
  | .hbm, ⟨34, _⟩ => ⟨S1x1x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S1x1x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S8192x2048, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel25.lean ====
abbrev S4096x1540 : Shape := ⟨2, ![4096, 1540]⟩
abbrev S256x1540 : Shape := ⟨2, ![256, 1540]⟩

abbrev nBuf : Space → Nat
  | .hbm => 7
  | .vmem => 14
  | .smem => 0
  | _ => 0

abbrev bufTy : (tb : Table) → Fin (tcTables nBuf tb) → BufTy
  | .hbm, ⟨0, _⟩ => ⟨S4096x1540, .f32⟩
  | .hbm, ⟨1, _⟩ => ⟨S4096x1540, .f32⟩
  | .hbm, ⟨2, _⟩ => ⟨S4096x1540, .f32⟩
  | .hbm, ⟨3, _⟩ => ⟨S4096x1540, .f32⟩
  | .hbm, ⟨4, _⟩ => ⟨S4096x1540, .f32⟩
  | .hbm, ⟨5, _⟩ => ⟨S4096x1540, .f32⟩
  | .hbm, ⟨6, _⟩ => ⟨S4096x1540, .f32⟩
  | .local _ .vmem, ⟨0, _⟩ => ⟨S256x1540, .f32⟩
  | .local _ .vmem, ⟨1, _⟩ => ⟨S256x1540, .f32⟩
  | .local _ .vmem, ⟨2, _⟩ => ⟨S256x1540, .f32⟩
  | .local _ .vmem, ⟨3, _⟩ => ⟨S256x1540, .f32⟩
  | .local _ .vmem, ⟨4, _⟩ => ⟨S256x1540, .f32⟩
  | .local _ .vmem, ⟨5, _⟩ => ⟨S256x1540, .f32⟩
  | .local _ .vmem, ⟨6, _⟩ => ⟨S256x1540, .f32⟩
  | .local _ .vmem, ⟨7, _⟩ => ⟨S256x1540, .f32⟩
  | .local _ .vmem, ⟨8, _⟩ => ⟨S256x1540, .f32⟩
  | .local _ .vmem, ⟨9, _⟩ => ⟨S256x1540, .f32⟩
  | .local _ .vmem, ⟨10, _⟩ => ⟨S256x1540, .f32⟩
  | .local _ .vmem, ⟨11, _⟩ => ⟨S256x1540, .f32⟩
  | .local _ .vmem, ⟨12, _⟩ => ⟨S256x1540, .f32⟩
  | .local _ .vmem, ⟨13, _⟩ => ⟨S256x1540, .f32⟩
  | _, _ => ⟨S4096x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel25Ideal.lean ====
abbrev S4096x1540 : Shape := ⟨2, ![4096, 1540]⟩
abbrev S256x1540 : Shape := ⟨2, ![256, 1540]⟩

abbrev nBuf : Space → Nat
  | .hbm => 7
  | .vmem => 14
  | .smem => 0
  | _ => 0

abbrev bufTy : (tb : Table) → Fin (tcTables nBuf tb) → BufTy
  | .hbm, ⟨0, _⟩ => ⟨S4096x1540, .f32⟩
  | .hbm, ⟨1, _⟩ => ⟨S4096x1540, .f32⟩
  | .hbm, ⟨2, _⟩ => ⟨S4096x1540, .f32⟩
  | .hbm, ⟨3, _⟩ => ⟨S4096x1540, .f32⟩
  | .hbm, ⟨4, _⟩ => ⟨S4096x1540, .f32⟩
  | .hbm, ⟨5, _⟩ => ⟨S4096x1540, .f32⟩
  | .hbm, ⟨6, _⟩ => ⟨S4096x1540, .f32⟩
  | .local _ .vmem, ⟨0, _⟩ => ⟨S256x1540, .f32⟩
  | .local _ .vmem, ⟨1, _⟩ => ⟨S256x1540, .f32⟩
  | .local _ .vmem, ⟨2, _⟩ => ⟨S256x1540, .f32⟩
  | .local _ .vmem, ⟨3, _⟩ => ⟨S256x1540, .f32⟩
  | .local _ .vmem, ⟨4, _⟩ => ⟨S256x1540, .f32⟩
  | .local _ .vmem, ⟨5, _⟩ => ⟨S256x1540, .f32⟩
  | .local _ .vmem, ⟨6, _⟩ => ⟨S256x1540, .f32⟩
  | .local _ .vmem, ⟨7, _⟩ => ⟨S256x1540, .f32⟩
  | .local _ .vmem, ⟨8, _⟩ => ⟨S256x1540, .f32⟩
  | .local _ .vmem, ⟨9, _⟩ => ⟨S256x1540, .f32⟩
  | .local _ .vmem, ⟨10, _⟩ => ⟨S256x1540, .f32⟩
  | .local _ .vmem, ⟨11, _⟩ => ⟨S256x1540, .f32⟩
  | .local _ .vmem, ⟨12, _⟩ => ⟨S256x1540, .f32⟩
  | .local _ .vmem, ⟨13, _⟩ => ⟨S256x1540, .f32⟩
  | _, _ => ⟨S4096x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S4096x1540 : Shape := ⟨2, ![4096, 1540]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1540, .f32⟩
  | .hbm, ⟨1, _⟩ => ⟨S4096x1540, .f32⟩
  | .hbm, ⟨2, _⟩ => ⟨S4096x1540, .f32⟩
  | .hbm, ⟨3, _⟩ => ⟨S4096x1540, .f32⟩
  | .hbm, ⟨4, _⟩ => ⟨S_, .f32⟩
  | .hbm, ⟨5, _⟩ => ⟨S4096x1540, .f32⟩
  | .hbm, ⟨6, _⟩ => ⟨S4096x1540, .f32⟩
  | .hbm, ⟨7, _⟩ => ⟨S_, .f32⟩
  | .hbm, ⟨8, _⟩ => ⟨S4096x1540, .f32⟩
  | .hbm, ⟨9, _⟩ => ⟨S4096x1540, .f32⟩
  | .hbm, ⟨10, _⟩ => ⟨S4096x1540, .f32⟩
  | .hbm, ⟨11, _⟩ => ⟨S_, .f32⟩
  | .hbm, ⟨12, _⟩ => ⟨S4096x1540, .f32⟩
  | .hbm, ⟨13, _⟩ => ⟨S4096x1540, .f32⟩
  | .hbm, ⟨14, _⟩ => ⟨S4096x1540, .f32⟩
  | .hbm, ⟨15, _⟩ => ⟨S_, .f32⟩
  | .hbm, ⟨16, _⟩ => ⟨S4096x1540, .f32⟩
  | .hbm, ⟨17, _⟩ => ⟨S4096x1540, .f32⟩
  | .hbm, ⟨18, _⟩ => ⟨S4096x1540, .f32⟩
  | .hbm, ⟨19, _⟩ => ⟨S_, .f32⟩
  | .hbm, ⟨20, _⟩ => ⟨S4096x1540, .f32⟩
  | .hbm, ⟨21, _⟩ => ⟨S4096x1540, .f32⟩
  | .hbm, ⟨22, _⟩ => ⟨S_, .f32⟩
  | .hbm, ⟨23, _⟩ => ⟨S4096x1540, .f32⟩
  | .hbm, ⟨24, _⟩ => ⟨S4096x1540, .f32⟩
  | .hbm, ⟨25, _⟩ => ⟨S4096x1540, .f32⟩
  | .hbm, ⟨26, _⟩ => ⟨S_, .f32⟩
  | .hbm, ⟨27, _⟩ => ⟨S4096x1540, .f32⟩
  | .hbm, ⟨28, _⟩ => ⟨S4096x1540, .f32⟩
  | .hbm, ⟨29, _⟩ => ⟨S4096x1540, .f32⟩
  | .hbm, ⟨30, _⟩ => ⟨S_, .f32⟩
  | .hbm, ⟨31, _⟩ => ⟨S4096x1540, .f32⟩
  | .hbm, ⟨32, _⟩ => ⟨S4096x1540, .f32⟩
  | .hbm, ⟨33, _⟩ => ⟨S4096x1540, .f32⟩
  | .hbm, ⟨34, _⟩ => ⟨S_, .f32⟩
  | .hbm, ⟨35, _⟩ => ⟨S4096x1540, .f32⟩
  | .hbm, ⟨36, _⟩ => ⟨S4096x1540, .f32⟩
  | _, _ => ⟨S4096x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel26Ideal.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S4096x1024 : Shape := ⟨2, ![4096, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel27Ideal.lean ====
abbrev S4096x1024 : Shape := ⟨2, ![4096, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S272x128 : Shape := ⟨2, ![272, 128]⟩
abbrev S16x128 : Shape := ⟨2, ![16, 128]⟩

abbrev nBuf : Space → Nat
  | .hbm => 7
  | .vmem => 14
  | .smem => 0
  | _ => 0

abbrev bufTy : (tb : Table) → Fin (tcTables nBuf tb) → BufTy
  | .hbm, ⟨0, _⟩ => ⟨S272x128, .f32⟩
  | .hbm, ⟨1, _⟩ => ⟨S272x128, .f32⟩
  | .hbm, ⟨2, _⟩ => ⟨S272x128, .f32⟩
  | .hbm, ⟨3, _⟩ => ⟨S272x128, .f32⟩
  | .hbm, ⟨4, _⟩ => ⟨S272x128, .f32⟩
  | .hbm, ⟨5, _⟩ => ⟨S272x128, .f32⟩
  | .hbm, ⟨6, _⟩ => ⟨S272x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S272x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S272x128 : Shape := ⟨2, ![272, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S272x128, .f32⟩
  | .hbm, ⟨1, _⟩ => ⟨S272x128, .f32⟩
  | .hbm, ⟨2, _⟩ => ⟨S272x128, .f32⟩
  | .hbm, ⟨3, _⟩ => ⟨S272x128, .f32⟩
  | .hbm, ⟨4, _⟩ => ⟨S_, .f32⟩
  | .hbm, ⟨5, _⟩ => ⟨S272x128, .f32⟩
  | .hbm, ⟨6, _⟩ => ⟨S272x128, .f32⟩
  | .hbm, ⟨7, _⟩ => ⟨S_, .f32⟩
  | .hbm, ⟨8, _⟩ => ⟨S272x128, .f32⟩
  | .hbm, ⟨9, _⟩ => ⟨S272x128, .f32⟩
  | .hbm, ⟨10, _⟩ => ⟨S272x128, .f32⟩
  | .hbm, ⟨11, _⟩ => ⟨S_, .f32⟩
  | .hbm, ⟨12, _⟩ => ⟨S272x128, .f32⟩
  | .hbm, ⟨13, _⟩ => ⟨S272x128, .f32⟩
  | .hbm, ⟨14, _⟩ => ⟨S272x128, .f32⟩
  | .hbm, ⟨15, _⟩ => ⟨S_, .f32⟩
  | .hbm, ⟨16, _⟩ => ⟨S272x128, .f32⟩
  | .hbm, ⟨17, _⟩ => ⟨S272x128, .f32⟩
  | .hbm, ⟨18, _⟩ => ⟨S272x128, .f32⟩
  | .hbm, ⟨19, _⟩ => ⟨S_, .f32⟩
  | .hbm, ⟨20, _⟩ => ⟨S272x128, .f32⟩
  | .hbm, ⟨21, _⟩ => ⟨S272x128, .f32⟩
  | .hbm, ⟨22, _⟩ => ⟨S_, .f32⟩
  | .hbm, ⟨23, _⟩ => ⟨S272x128, .f32⟩
  | .hbm, ⟨24, _⟩ => ⟨S272x128, .f32⟩
  | .hbm, ⟨25, _⟩ => ⟨S272x128, .f32⟩
  | .hbm, ⟨26, _⟩ => ⟨S_, .f32⟩
  | .hbm, ⟨27, _⟩ => ⟨S272x128, .f32⟩
  | .hbm, ⟨28, _⟩ => ⟨S272x128, .f32⟩
  | .hbm, ⟨29, _⟩ => ⟨S272x128, .f32⟩
  | .hbm, ⟨30, _⟩ => ⟨S_, .f32⟩
  | .hbm, ⟨31, _⟩ => ⟨S272x128, .f32⟩
  | .hbm, ⟨32, _⟩ => ⟨S272x128, .f32⟩
  | .hbm, ⟨33, _⟩ => ⟨S272x128, .f32⟩
  | .hbm, ⟨34, _⟩ => ⟨S_, .f32⟩
  | .hbm, ⟨35, _⟩ => ⟨S272x128, .f32⟩
  | .hbm, ⟨36, _⟩ => ⟨S272x128, .f32⟩
  | _, _ => ⟨S272x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S8192x4096 : Shape := ⟨2, ![8192, 4096]⟩
abbrev S8192x1024 : Shape := ⟨2, ![8192, 1024]⟩
abbrev S4x4096x1024 : Shape := ⟨3, ![4, 4096, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x4096x1024, .f32⟩
  | .hbm, ⟨3, _⟩ => ⟨S4x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference30Ideal.lean ====
abbrev S8192x4096 : Shape := ⟨2, ![8192, 4096]⟩
abbrev S8192x1024 : Shape := ⟨2, ![8192, 1024]⟩
abbrev S4x4096x1024 : Shape := ⟨3, ![4, 4096, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩
abbrev S4x0x1024 : Shape := ⟨3, ![4, 0, 1024]⟩
abbrev S4x3072x1024 : Shape := ⟨3, ![4, 3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x4096x1024, .f32⟩
  | .hbm, ⟨3, _⟩ => ⟨S_, .f32⟩
  | .hbm, ⟨4, _⟩ => ⟨S4096x1024, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4x1024x1024, .f32⟩
  | .hbm, ⟨11, _⟩ => ⟨S4x0x1024, .f32⟩
  | .hbm, ⟨12, _⟩ => ⟨S4x3072x1024, .f32⟩
  | .hbm, ⟨13, _⟩ => ⟨S4x4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel31.lean ====
abbrev S8192x4096 : Shape := ⟨2, ![8192, 4096]⟩
abbrev S8192x1024 : Shape := ⟨2, ![8192, 1024]⟩
abbrev S4x4096x1024 : Shape := ⟨3, ![4, 4096, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x4096x1024, .f32⟩
  | .hbm, ⟨3, _⟩ => ⟨S4x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg0.toNat, c2_i32.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference31Ideal.lean ====
abbrev S8192x4096 : Shape := ⟨2, ![8192, 4096]⟩
abbrev S8192x1024 : Shape := ⟨2, ![8192, 1024]⟩
abbrev S4x4096x1024 : Shape := ⟨3, ![4, 4096, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩
abbrev S4x2048x1024 : Shape := ⟨3, ![4, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x4096x1024, .f32⟩
  | .hbm, ⟨3, _⟩ => ⟨S_, .f32⟩
  | .hbm, ⟨4, _⟩ => ⟨S4096x1024, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4x1024x1024, .f32⟩
  | .hbm, ⟨11, _⟩ => ⟨S4x2048x1024, .f32⟩
  | .hbm, ⟨12, _⟩ => ⟨S4x1024x1024, .f32⟩
  | .hbm, ⟨13, _⟩ => ⟨S4x4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel32.lean ====
abbrev S8192x1024 : Shape := ⟨2, ![8192, 1024]⟩
abbrev S8192x4096 : Shape := ⟨2, ![8192, 4096]⟩
abbrev S4x4096x1024 : Shape := ⟨3, ![4, 4096, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x4096x1024, .f32⟩
  | .hbm, ⟨3, _⟩ => ⟨S4x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference32Ideal.lean ====
abbrev S8192x1024 : Shape := ⟨2, ![8192, 1024]⟩
abbrev S8192x4096 : Shape := ⟨2, ![8192, 4096]⟩
abbrev S4x4096x1024 : Shape := ⟨3, ![4, 4096, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x0x1024 : Shape := ⟨3, ![4, 0, 1024]⟩
abbrev S4x3072x1024 : Shape := ⟨3, ![4, 3072, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x4096x1024, .f32⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x0x1024, .f32⟩
  | .hbm, ⟨13, _⟩ => ⟨S4x3072x1024, .f32⟩
  | .hbm, ⟨14, _⟩ => ⟨S4x4096x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel33.lean ====
abbrev S8192x1024 : Shape := ⟨2, ![8192, 1024]⟩
abbrev S8192x4096 : Shape := ⟨2, ![8192, 4096]⟩
abbrev S4x4096x1024 : Shape := ⟨3, ![4, 4096, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x4096x1024, .f32⟩
  | .hbm, ⟨3, _⟩ => ⟨S4x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg1.toNat, c2_i32.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference33Ideal.lean ====
abbrev S8192x1024 : Shape := ⟨2, ![8192, 1024]⟩
abbrev S8192x4096 : Shape := ⟨2, ![8192, 4096]⟩
abbrev S4x4096x1024 : Shape := ⟨3, ![4, 4096, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x2048x1024 : Shape := ⟨3, ![4, 2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x4096x1024, .f32⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x2048x1024, .f32⟩
  | .hbm, ⟨13, _⟩ => ⟨S4x1024x1024, .f32⟩
  | .hbm, ⟨14, _⟩ => ⟨S4x4096x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel34.lean ====
abbrev S8192x2048 : Shape := ⟨2, ![8192, 2048]⟩
abbrev S8192x1024 : Shape := ⟨2, ![8192, 1024]⟩
abbrev S4x2048x1024 : Shape := ⟨3, ![4, 2048, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S4x2048x1024, .f32⟩
  | .hbm, ⟨3, _⟩ => ⟨S4x2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference34Ideal.lean ====
abbrev S8192x2048 : Shape := ⟨2, ![8192, 2048]⟩
abbrev S8192x1024 : Shape := ⟨2, ![8192, 1024]⟩
abbrev S4x2048x1024 : Shape := ⟨3, ![4, 2048, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩
abbrev S4x0x1024 : Shape := ⟨3, ![4, 0, 1024]⟩
abbrev S4x1536x1024 : Shape := ⟨3, ![4, 1536, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S4x2048x1024, .f32⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S4x512x1024, .f32⟩
  | .hbm, ⟨11, _⟩ => ⟨S4x0x1024, .f32⟩
  | .hbm, ⟨12, _⟩ => ⟨S4x1536x1024, .f32⟩
  | .hbm, ⟨13, _⟩ => ⟨S4x2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel35.lean ====
abbrev S8192x2048 : Shape := ⟨2, ![8192, 2048]⟩
abbrev S8192x1024 : Shape := ⟨2, ![8192, 1024]⟩
abbrev S4x2048x1024 : Shape := ⟨3, ![4, 2048, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S4x2048x1024, .f32⟩
  | .hbm, ⟨3, _⟩ => ⟨S4x2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg0.toNat, c2_i32.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference35Ideal.lean ====
abbrev S8192x2048 : Shape := ⟨2, ![8192, 2048]⟩
abbrev S8192x1024 : Shape := ⟨2, ![8192, 1024]⟩
abbrev S4x2048x1024 : Shape := ⟨3, ![4, 2048, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S4x2048x1024, .f32⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S4x512x1024, .f32⟩
  | .hbm, ⟨11, _⟩ => ⟨S4x1024x1024, .f32⟩
  | .hbm, ⟨12, _⟩ => ⟨S4x512x1024, .f32⟩
  | .hbm, ⟨13, _⟩ => ⟨S4x2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Up.lean ====
module
public import proofs.«01_k».proof.Proof.Gen.KernelIdeal.Skeleton
public import Idealize.ShloMosaic.Lib.Pointwise
public import Idealize.ShloMosaic.Lib.Pipeline.ValueKit

@[expose] public section

set_option maxRecDepth 16384

/-! Arrays of real numbers inside the extended reals: each vector operation of the kernel takes
    real arrays to real arrays, and here is which one. -/

noncomputable section

namespace Cert.AttBwd

open Idealize.ShloMosaic Idealize.ShloMosaic.TcCoe Idealize.SL.Sem
open Cert.KernelIdeal Cert.KernelIdeal.Gen

/-- The array of the real numbers `A i j`. -/
def up (a b : ℕ) (φ : FTy) (A : ℕ → ℕ → ℝ) : FVec Ideal (⟨2, ![a, b]⟩ : Shape) φ :=
  fun j => ((A (j 0).val (j 1).val : ℝ) : EReal)

theorem up_apply {a b : ℕ} (φ : FTy) (A : ℕ → ℕ → ℝ) (i : Fin a) (j : Fin b) :
    up a b φ A (ix2 i j) = ((A i.val j.val : ℝ) : EReal) := rfl

theorem eq_up {a b : ℕ} {φ : FTy} {x : FVec Ideal (⟨2, ![a, b]⟩ : Shape) φ} {A : ℕ → ℕ → ℝ}
    (h : ∀ (i : Fin a) (j : Fin b), x (ix2 i j) = ((A i.val j.val : ℝ) : EReal)) : x = up a b φ A := by
  funext j
  rw [eq_ix2 j]
  exact h _ _

theorem up_ext {a b : ℕ} {φ : FTy} {A B : ℕ → ℕ → ℝ} (h : ∀ i < a, ∀ j < b, A i j = B i j) :
    up a b φ A = up a b φ B :=
  eq_up fun i j => by rw [up_apply, h _ i.isLt _ j.isLt]

theorem sum_coe {n : ℕ} (f : ℕ → ℝ) : (∑ k : Fin n, ((f k.val : ℝ) : EReal)) = ((∑ k ∈ Finset.range n, f k : ℝ) : EReal) := by
  rw [Finset.sum_range]
  exact (map_sum (⟨⟨Real.toEReal, EReal.coe_zero⟩, EReal.coe_add⟩ : ℝ →+ EReal) _ _).symm

variable (A B : ℕ → ℕ → ℝ)

theorem up_nt : matmul (F := Ideal) dot_S512x128_S256x128_S512x256_1_1_0_0_n_n none (up 512 128 .bf16 A) (up 256 128 .bf16 B) (constant S512x256 .f32 0x00000000#32)
    = up 512 256 .f32 fun i j => ∑ l ∈ Finset.range 128, A i l * B j l := by
  refine eq_up fun i j => ?_
  pointwise
  simp only [up_apply, ← EReal.coe_mul]
  exact sum_coe fun l => A i l * B j l

theorem up_tri : matmul (F := Ideal) dot_S512x256_S256x256_S512x256_1_0_0_1_n_n none (up 512 256 .bf16 A) (up 256 256 .bf16 B) (constant S512x256 .f32 0x00000000#32)
    = up 512 256 .f32 fun i j => ∑ l ∈ Finset.range 256, A i l * B l j := by
  refine eq_up fun i j => ?_
  pointwise
  simp only [up_apply, ← EReal.coe_mul]
  exact sum_coe fun l => A i l * B l j

theorem up_nn : matmul (F := Ideal) dot_S512x256_S256x128_S512x128_1_0_0_1_n_n none (up 512 256 .bf16 A) (up 256 128 .bf16 B) (constant S512x128 .f32 0x00000000#32)
    = up 512 128 .f32 fun i j => ∑ l ∈ Finset.range 256, A i l * B l j := by
  refine eq_up fun i j => ?_
  pointwise
  simp only [up_apply, ← EReal.coe_mul]
  exact sum_coe fun l => A i l * B l j

theorem up_tn : matmul (F := Ideal) dot_S512x256_S512x128_S256x128_0_0_1_1_n_n none (up 512 256 .bf16 A) (up 512 128 .bf16 B) (constant S256x128 .f32 0x00000000#32)
    = up 256 128 .f32 fun i j => ∑ l ∈ Finset.range 512, A l i * B l j := by
  refine eq_up fun i j => ?_
  pointwise
  simp only [up_apply, ← EReal.coe_mul]
  exact sum_coe fun l => A l i * B l j

section Any
variable {a b : ℕ} {φ : FTy}

theorem up_add : addf (F := Ideal) (up a b φ A) (up a b φ B) = up a b φ fun i j => A i j + B i j :=
  eq_up fun i j => by pointwise; simp only [up_apply, EReal.coe_add]
theorem up_sub : subf (F := Ideal) (up a b φ A) (up a b φ B) = up a b φ fun i j => A i j - B i j :=
  eq_up fun i j => by pointwise; simp only [up_apply, EReal.coe_sub]
theorem up_mul : mulf (F := Ideal) (up a b φ A) (up a b φ B) = up a b φ fun i j => A i j * B i j :=
  eq_up fun i j => by pointwise; simp only [up_apply, EReal.coe_mul]
theorem up_min : minimumf (F := Ideal) (up a b φ A) (up a b φ B) = up a b φ fun i j => min (A i j) (B i j) :=
  eq_up fun i j => by pointwise; simp only [up_apply]; exact (EReal.coe_strictMono.monotone.map_min).symm
theorem up_abs : absf (F := Ideal) (up a b φ A) = up a b φ fun i j => |A i j| :=
  eq_up fun i j => by
    pointwise; simp only [up_apply]; rw [abs_eq_max_neg]
    exact (EReal.coe_strictMono.monotone.map_max).symm
theorem up_exp : exp (F := Ideal) (up a b φ A) = up a b φ fun i j => Real.exp (A i j) :=
  eq_up fun i j => by pointwise; simp only [up_apply, Ideal.exp_coe]
theorem up_log (h : ∀ i j, 0 < A i j) : log (F := Ideal) (up a b φ A) = up a b φ fun i j => Real.log (A i j) :=
  eq_up fun i j => by pointwise; simp only [up_apply, Ideal.log_coe, if_neg (not_le.2 (h _ _))]
theorem up_trunc (h) : truncf (F := Ideal) .bf16 (up a b .f32 A) h = up a b .bf16 A := rfl
theorem up_zero : broadcast (⟨2, ![a, b]⟩ : Shape) (Scalar.ofBits (F := Ideal) .f32 0x00000000#32) = up a b .f32 fun _ _ => 0 :=
  eq_up fun i j => by pointwise; simp
theorem up_one : broadcast (⟨2, ![a, b]⟩ : Shape) (Scalar.ofBits (F := Ideal) .f32 0x3F800000#32) = up a b .f32 fun _ _ => 1 :=
  eq_up fun i j => by pointwise; simp
theorem up_eighth : broadcast (⟨2, ![a, b]⟩ : Shape) (Scalar.ofBits (F := Ideal) .f32 0x3E000000#32) = up a b .f32 fun _ _ => 1 / 8 :=
  eq_up fun i j => by
    pointwise
    simp [Ideal.ofBits, Ideal.ieee]
    rw [← EReal.coe_mul]
    norm_num
theorem up_cast (h) : shapeCast (⟨2, ![a, b]⟩ : Shape) (up a b φ A) h = up a b φ A := by
  refine eq_up fun i j => ?_
  pointwise
  exact up_apply _ _ _ _
end Any

theorem up_row (g h₁ h₂ h) : shapeCast S512x1 (multiReduction (F := Ideal) (s := S512x256) .add [1] S512 (up 512 256 .f32 A) 0x00000000#32 g h₁ h₂) h
    = up 512 1 .f32 fun i _ => ∑ l ∈ Finset.range 256, A i l := by
  refine eq_up fun i j => ?_
  pointwise
  simp only [up_apply]
  exact sum_coe fun l => A i l

theorem up_wide (h) : broadcastTo S512x256 (up 512 1 .f32 A) h = up 512 256 .f32 fun i _ => A i 0 := by
  refine eq_up fun i j => ?_
  pointwise
  exact up_apply _ _ _ _

/-- The array of bits that say where `M i j` holds. -/
def msk (a b : ℕ) (M : ℕ → ℕ → Prop) [∀ i j, Decidable (M i j)] : IVec (⟨2, ![a, b]⟩ : Shape) 1 :=
  fun j => if M (j 0).val (j 1).val then 1#1 else 0#1

theorem msk_apply {a b : ℕ} (M : ℕ → ℕ → Prop) [∀ i j, Decidable (M i j)] (i : Fin a) (j : Fin b) :
    msk a b M (ix2 i j) = if M i.val j.val then 1#1 else 0#1 := rfl

theorem eq_msk {a b : ℕ} {x : IVec (⟨2, ![a, b]⟩ : Shape) 1} {M : ℕ → ℕ → Prop} [∀ i j, Decidable (M i j)]
    (h : ∀ (i : Fin a) (j : Fin b), x (ix2 i j) = if M i.val j.val then 1#1 else 0#1) : x = msk a b M := by
  funext j
  rw [eq_ix2 j]
  exact h _ _

theorem up_select {a b : ℕ} {φ : FTy} (M : ℕ → ℕ → Prop) [∀ i j, Decidable (M i j)] :
    select (msk a b M) (up a b φ A) (up a b φ B) = up a b φ fun i j => if M i j then A i j else B i j := by
  refine eq_up fun i j => ?_
  pointwise
  simp only [up_apply, msk_apply]
  split <;> simp [Scalar.select, *]

theorem up_slice (o : ℕ) (h : S512x128.Slices ![o, 0] S128x128) (ho : o + 128 ≤ 512) :
    extractStridedSlice S128x128 ![o, 0] (up 512 128 .f32 A) h = up 128 128 .f32 fun i j => A (o + i) j := by
  refine eq_up fun i j => ?_
  pointwise
  exact up_apply _ _ _ _

variable (C D : ℕ → ℕ → ℝ)

/-- Four arrays of 128 rows under one another. -/
def four (A B C D : ℕ → ℕ → ℝ) (i j : ℕ) : ℝ :=
  if i < 128 then A i j else if i < 256 then B (i - 128) j else if i < 384 then C (i - 256) j else D (i - 384) j

theorem up_four {φ : FTy} (h) : concatenate S512x128 0 [⟨S128x128, up 128 128 φ A⟩, ⟨S128x128, up 128 128 φ B⟩, ⟨S128x128, up 128 128 φ C⟩, ⟨S128x128, up 128 128 φ D⟩] h
    = up 512 128 φ (four A B C D) := by
  refine eq_up fun i j => ?_
  pointwise
  simp only [up_apply, four, Nat.sub_sub, Nat.reduceAdd, Fin.val_zero]
  split_ifs <;> first | rfl | (exfalso; omega)

theorem up_four_col {φ : FTy} (h) : concatenate S512x1 0 [⟨S128x1, up 128 1 φ A⟩, ⟨S128x1, up 128 1 φ B⟩, ⟨S128x1, up 128 1 φ C⟩, ⟨S128x1, up 128 1 φ D⟩] h
    = up 512 1 φ (four A B C D) := by
  refine eq_up fun i j => ?_
  obtain rfl : j = 0 := Subsingleton.elim _ _
  pointwise
  simp only [up_apply, four, Nat.sub_sub, Nat.reduceAdd, Fin.val_zero]
  split_ifs <;> first | rfl | (exfalso; omega)

theorem up_four_col_of {φ : FTy} {A B C D : ℕ → ℕ → ℝ} {x y z w : FVec Ideal S128x1 φ} (hx : x = up 128 1 φ A) (hy : y = up 128 1 φ B)
    (hz : z = up 128 1 φ C) (hw : w = up 128 1 φ D) (h) : concatenate S512x1 0 [⟨S128x1, x⟩, ⟨S128x1, y⟩, ⟨S128x1, z⟩, ⟨S128x1, w⟩] h
    = up 512 1 φ (four A B C D) := by
  subst hx hy hz hw
  exact up_four_col A B C D h

theorem cmp_slt (a b : ℕ) (ha : a < 4096) (hb : b < 4096) :
    IntOp.cmpi .slt (BitVec.ofNat 32 a) (BitVec.ofNat 32 b) = if a < b then 1#1 else 0#1 := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  simp only [IntOp.cmpi, BitVec.slt, h1, h2, Nat.cast_lt]
  split <;> simp [*]

theorem cmp_sgt (a b : ℕ) (ha : a < 4096) (hb : b < 4096) :
    IntOp.cmpi .sgt (BitVec.ofNat 32 a) (BitVec.ofNat 32 b) = if b < a then 1#1 else 0#1 :=
  cmp_slt b a hb ha

theorem cmp_sge (a b : ℕ) (ha : a < 4096) (hb : b < 4096) :
    IntOp.cmpi .sge (BitVec.ofNat 32 a) (BitVec.ofNat 32 b) = if b ≤ a then 1#1 else 0#1 := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  simp only [IntOp.cmpi, BitVec.sle, h1, h2, Nat.cast_le]
  split <;> simp [*]

theorem bit_coe (p : Prop) [Decidable p] :
    FloatOps.sitofp (F := Ideal) FTy.f32 (BitVec.setWidth 32 (if p then 1#1 else 0#1)) = (((if p then 1 else 0 : ℝ)) : EReal) := by
  split
  · show (((BitVec.setWidth 32 1#1).toInt : ℝ) : EReal) = _
    norm_num
  · show (((BitVec.setWidth 32 0#1).toInt : ℝ) : EReal) = _
    norm_num

theorem pay65_up : k0_pay65 (F := Ideal) = up 256 256 .bf16 fun r c => if c < r then 1 else 0 := by
  refine eq_up fun i j => ?_
  pointwise [k0_pay65]
  rw [cmp_sgt _ _ (by omega) (by omega), bit_coe]

theorem pay66_up : k0_pay66 (F := Ideal) = up 256 256 .bf16 fun r c => if r < c then 1 else 0 := by
  refine eq_up fun i j => ?_
  pointwise [k0_pay66]
  rw [cmp_slt _ _ (by omega) (by omega), bit_coe]

theorem pay67_msk : k0_pay67 = msk 128 128 fun _ l => l < 64 := by
  refine eq_msk fun i j => ?_
  pointwise [k0_pay67]
  exact cmp_slt _ _ (by omega) (by omega)

theorem pay68_msk : k0_pay68 = msk 128 128 fun _ l => 64 ≤ l := by
  refine eq_msk fun i j => ?_
  pointwise [k0_pay68]
  exact cmp_sge _ _ (by omega) (by omega)

theorem row_word : ∀ i : Fin 512, IntOp.addi (IntOp.muli (IntOp.shrui ArithUnit.vector (BitVec.ofNat 32 i.val) 8#32) 128#32)
    (IntOp.andi (BitVec.ofNat 32 i.val) 127#32) = BitVec.ofNat 32 (128 * (i.val / 256) + i.val % 128) := by decide +kernel

/-- Where a query row of the stack lies strictly after the key column, on the diagonal tile. -/
abbrev causal (i j : ℕ) : Prop := j < 128 * (i / 256) + i % 128

theorem pay99_msk : k0_pay99 = msk 512 256 causal := by
  refine eq_msk fun i j => ?_
  pointwise [k0_pay99]
  rw [row_word, cmp_sgt _ _ (by omega) (by omega)]

theorem pay112_msk : k0_pay112 (iota .tc S512x256 32 [0] iota_S512x256_d0_w32) (iota .tc S512x256 32 [1] iota_S512x256_d1_w32) k0_pay111 = msk 512 256 causal :=
  pay99_msk

end Cert.AttBwd

end
-- ==== Proof.Pays.lean ====
module
public import proofs.«01_k».proof.Proof.Up

@[expose] public section

set_option maxRecDepth 16384

/-! The kernel's pieces of arithmetic on arrays of real numbers: one tile of 256 keys against a stack of
    256 query rows of two heads, both pairs of heads, inside the loop and on the diagonal. -/

noncomputable section

namespace Cert.AttBwd

open Idealize.ShloMosaic Idealize.ShloMosaic.TcCoe Idealize.SL.Sem
open Cert.KernelIdeal Cert.KernelIdeal.Gen

/-- The logarithm of the sigmoid. -/
def lb (x : ℝ) : ℝ := min x 0 - Real.log (1 + Real.exp (0 - |x|))

/-- The query row of a row of the stack, and the head of the pair it belongs to. -/
def qrow (i : ℕ) : ℕ := 128 * (i / 256) + i % 128
def qhead (i : ℕ) : ℕ := i / 128 % 2

/-- The stack of a block of query rows: each row twice, once for each head of the pair. -/
def stk (Q : ℕ → ℕ → ℝ) (i l : ℕ) : ℝ := if l / 64 = qhead i then Q (qrow i) l else 0

/-- Products of a stack with a tile of keys. -/
def prod (Q K : ℕ → ℕ → ℝ) (i j : ℕ) : ℝ := ∑ l ∈ Finset.range 128, Q i l * K j l

def tL (M : ℕ → ℕ → Prop) [∀ i j, Decidable (M i j)] (S : ℕ → ℕ → ℝ) (i j : ℕ) : ℝ :=
  if M i j then lb (S i j) - S i j else 0

def rows (X : ℕ → ℕ → ℝ) (i : ℕ) : ℝ := ∑ l ∈ Finset.range 256, X i l

def tP (M : ℕ → ℕ → Prop) [∀ i j, Decidable (M i j)] (S T seen : ℕ → ℕ → ℝ) (i j : ℕ) : ℝ :=
  if M i j then Real.exp (lb (S i j) + ((∑ l ∈ Finset.range 256, tL M S i l * (if j < l then 1 else 0))
    + (T i 0 - seen i 0 - rows (tL M S) i))) else 0

def tZ (M : ℕ → ℕ → Prop) [∀ i j, Decidable (M i j)] (S G T seen : ℕ → ℕ → ℝ) (i j : ℕ) : ℝ :=
  G i j * tP M S T seen i j

def tD (M : ℕ → ℕ → Prop) [∀ i j, Decidable (M i j)] (S G T seen dseen : ℕ → ℕ → ℝ) (i j : ℕ) : ℝ :=
  if M i j then tZ M S G T seen i j * (1 - Real.exp (lb (S i j)))
    - (dseen i 0 + ∑ l ∈ Finset.range 256, tZ M S G T seen i l * (if l < j then 1 else 0)) * Real.exp (lb (S i j)) else 0

def dqT (D K : ℕ → ℕ → ℝ) (i j : ℕ) : ℝ := ∑ l ∈ Finset.range 256, D i l * K l j
def pick (X : ℕ → ℕ → ℝ) (o i j : ℕ) : ℝ := if j < 64 then X (o + i) j else X (o + 128 + i) j
def dkT (D Q : ℕ → ℕ → ℝ) (i j : ℕ) : ℝ := ∑ l ∈ Finset.range 512, D l i * Q l j

/-- Every key, off the diagonal. -/
abbrev every (i j : ℕ) : Prop := True

variable (A S G T seen dseen K Q : ℕ → ℕ → ℝ)

theorem up_lb (a b : ℕ) : subf (F := Ideal) (minimumf (up a b .f32 S) (broadcast (⟨2, ![a, b]⟩ : Shape) (Scalar.ofBits (F := Ideal) .f32 0x00000000#32)))
    (log (addf (broadcast (⟨2, ![a, b]⟩ : Shape) (Scalar.ofBits (F := Ideal) .f32 0x3F800000#32))
      (exp (subf (broadcast (⟨2, ![a, b]⟩ : Shape) (Scalar.ofBits (F := Ideal) .f32 0x00000000#32)) (absf (up a b .f32 S))))))
    = up a b .f32 fun i j => lb (S i j) := by
  simp only [up_zero, up_one, up_min, up_abs, up_sub, up_exp, up_add]
  rw [up_log _ fun i j => by positivity, up_sub]
  rfl

theorem stk_of {φ : FTy} {x y z w : FVec Ideal S128x128 φ} (hx : x = up 128 128 φ fun i l => if l < 64 then Q i l else 0)
    (hy : y = up 128 128 φ fun i l => if 64 ≤ l then Q i l else 0) (hz : z = up 128 128 φ fun i l => if l < 64 then Q (128 + i) l else 0)
    (hw : w = up 128 128 φ fun i l => if 64 ≤ l then Q (128 + i) l else 0) (h) :
    concatenate S512x128 0 [⟨S128x128, x⟩, ⟨S128x128, y⟩, ⟨S128x128, z⟩, ⟨S128x128, w⟩] h = up 512 128 φ (stk Q) := by
  subst hx hy hz hw
  refine (up_four _ _ _ _ h).trans (up_ext fun i hi l hl => ?_)
  simp only [four, stk, qhead]
  have h : qrow i = if i < 128 then i else if i < 256 then i - 128 else if i < 384 then 128 + (i - 256) else 128 + (i - 384) := by
    unfold qrow; split_ifs <;> omega
  rw [h]
  split_ifs <;> first | rfl | (exfalso; omega)

theorem after_row {x : FVec Ideal S512x1 .f32} (hx : x = up 512 1 .f32 fun i _ => rows A i) (h) :
    select (msk 512 256 causal) (exp (addf (up 512 256 .f32 S) (addf (up 512 256 .f32 G) (broadcastTo S512x256 (subf (up 512 1 .f32 T) x) h))))
      (up 512 256 .f32 fun _ _ => 0)
    = up 512 256 .f32 fun i j => if causal i j then Real.exp (S i j + (G i j + (T i 0 - rows A i))) else 0 := by
  subst hx
  simp only [up_sub, up_wide, up_add, up_exp, up_select]

theorem pay69_up : k0_pay69 (F := Ideal) (up 128 128 .f32 Q) (up 128 128 .f32 fun i l => Q (128 + i) l)
    = up 512 128 .bf16 (stk fun i l => Q i l * (1 / 8)) := by
  simp only [k0_pay69]
  exact stk_of (fun i l => Q i l * (1 / 8)) (by simp only [pay67_msk, pay68_msk, up_zero, up_one, up_eighth, up_mul, up_select, up_trunc, mul_one]) (by simp only [pay67_msk, pay68_msk, up_zero, up_one, up_eighth, up_mul, up_select, up_trunc, mul_one]) (by simp only [pay67_msk, pay68_msk, up_zero, up_one, up_eighth, up_mul, up_select, up_trunc, mul_one]) (by simp only [pay67_msk, pay68_msk, up_zero, up_one, up_eighth, up_mul, up_select, up_trunc, mul_one]) _

theorem pay70_up : k0_pay70 (F := Ideal) k0_pay67 k0_pay68 (up 128 128 .f32 Q) (Scalar.ofBits .f32 0x3E000000#32) (up 128 128 .f32 fun i l => Q (128 + i) l)
    = up 512 128 .bf16 (stk fun i l => Q i l * (1 / 8)) := by
  simp only [k0_pay70]
  exact stk_of (fun i l => Q i l * (1 / 8)) (by simp only [pay67_msk, pay68_msk, up_zero, up_one, up_eighth, up_mul, up_select, up_trunc, mul_one]) (by simp only [pay67_msk, pay68_msk, up_zero, up_one, up_eighth, up_mul, up_select, up_trunc, mul_one]) (by simp only [pay67_msk, pay68_msk, up_zero, up_one, up_eighth, up_mul, up_select, up_trunc, mul_one]) (by simp only [pay67_msk, pay68_msk, up_zero, up_one, up_eighth, up_mul, up_select, up_trunc, mul_one]) _

theorem pay71_up : k0_pay71 (F := Ideal) k0_pay67 k0_pay68 (up 128 128 .f32 Q) (up 128 128 .f32 fun i l => Q (128 + i) l)
    = up 512 128 .bf16 (stk Q) := by
  simp only [k0_pay71]
  exact stk_of Q (by simp only [pay67_msk, pay68_msk, up_zero, up_one, up_eighth, up_mul, up_select, up_trunc, mul_one]) (by simp only [pay67_msk, pay68_msk, up_zero, up_one, up_eighth, up_mul, up_select, up_trunc, mul_one]) (by simp only [pay67_msk, pay68_msk, up_zero, up_one, up_eighth, up_mul, up_select, up_trunc, mul_one]) (by simp only [pay67_msk, pay68_msk, up_zero, up_one, up_eighth, up_mul, up_select, up_trunc, mul_one]) _

theorem pay73_up : k0_pay73 (F := Ideal) k0_pay67 k0_pay68 (k0_pay72 (up 128 128 .f32 Q)) (up 128 128 .f32 fun i l => Q (128 + i) l)
    = up 512 128 .bf16 (stk Q) := by
  simp only [k0_pay72, k0_pay73]
  exact stk_of Q (by simp only [pay67_msk, pay68_msk, up_zero, up_one, up_eighth, up_mul, up_select, up_trunc, mul_one]) (by simp only [pay67_msk, pay68_msk, up_zero, up_one, up_eighth, up_mul, up_select, up_trunc, mul_one]) (by simp only [pay67_msk, pay68_msk, up_zero, up_one, up_eighth, up_mul, up_select, up_trunc, mul_one]) (by simp only [pay67_msk, pay68_msk, up_zero, up_one, up_eighth, up_mul, up_select, up_trunc, mul_one]) _

theorem pay74_up : k0_pay74 (F := Ideal) (up 128 1 .f32 fun i _ => T (0 + i) 0) (up 128 1 .f32 fun i _ => T (0 + i) 64) (up 128 1 .f32 fun i _ => T (128 + i) 0) (up 128 1 .f32 fun i _ => T (128 + i) 64)
    = up 512 1 .f32 fun i _ => T (qrow i) (64 * qhead i) := by
  unfold k0_pay74
  dsimp only
  rw [up_four_col_of (up_cast _ _) (up_cast _ _) (up_cast _ _) (up_cast _ _)]
  refine up_ext fun i hi l hl => ?_
  have h : qrow i = if i < 128 then i else if i < 256 then i - 128 else if i < 384 then 128 + (i - 256) else 128 + (i - 384) := by
    unfold qrow; split_ifs <;> omega
  have h2 : 64 * qhead i = if i < 128 then 0 else if i < 256 then 64 else if i < 384 then 0 else 64 := by
    unfold qhead; split_ifs <;> omega
  simp only [four, h, h2, zero_add]
  split_ifs <;> first | rfl | (exfalso; omega)

theorem pay75_up : k0_pay75 (F := Ideal) (up 128 1 .f32 fun i _ => T (0 + i) 0) (up 128 1 .f32 fun i _ => T (0 + i) 64) (up 128 1 .f32 fun i _ => T (128 + i) 0) (up 128 1 .f32 fun i _ => T (128 + i) 64)
    = up 512 1 .f32 fun i _ => T (qrow i) (64 * qhead i) := by
  unfold k0_pay75
  dsimp only
  rw [up_four_col_of (up_cast _ _) (up_cast _ _) (up_cast _ _) (up_cast _ _)]
  refine up_ext fun i hi l hl => ?_
  have h : qrow i = if i < 128 then i else if i < 256 then i - 128 else if i < 384 then 128 + (i - 256) else 128 + (i - 384) := by
    unfold qrow; split_ifs <;> omega
  have h2 : 64 * qhead i = if i < 128 then 0 else if i < 256 then 64 else if i < 384 then 0 else 64 := by
    unfold qhead; split_ifs <;> omega
  simp only [four, h, h2, zero_add]
  split_ifs <;> first | rfl | (exfalso; omega)

theorem pay1_up : k0_pay1 (F := Ideal) (up 512 128 .bf16 Q) (up 256 128 .f32 K)
    = up 512 256 .f32 (prod Q K) := by
  simp only [k0_pay1, up_trunc, up_nt]; rfl

theorem pay2_up : k0_pay2 (F := Ideal) (up 512 128 .bf16 Q) (up 256 128 .f32 K)
    = up 512 256 .f32 (prod Q K) := by
  simp only [k0_pay2, up_trunc, up_nt]; rfl

theorem pay3_up : k0_pay3 (F := Ideal) (up 512 128 .bf16 Q) (up 256 128 .f32 K)
    = up 512 256 .f32 (prod Q K) := by
  simp only [k0_pay3, up_trunc, up_nt]; rfl

theorem pay4_up : k0_pay4 (F := Ideal) (up 512 128 .bf16 Q) (up 256 128 .f32 K)
    = up 512 256 .f32 (prod Q K) := by
  simp only [k0_pay4, up_trunc, up_nt]; rfl

theorem pay76_up : k0_pay76 (F := Ideal) (up 512 128 .bf16 Q) (up 256 128 .f32 K)
    = up 512 256 .f32 (prod Q K) := by
  simp only [k0_pay76, up_trunc, up_nt]; rfl

theorem pay77_up : k0_pay77 (F := Ideal) (up 512 128 .bf16 Q) (up 256 128 .f32 K)
    = up 512 256 .f32 (prod Q K) := by
  simp only [k0_pay77, up_trunc, up_nt]; rfl

theorem pay78_up : k0_pay78 (F := Ideal) (up 512 128 .bf16 Q) (up 256 128 .f32 K)
    = up 512 256 .f32 (prod Q K) := by
  simp only [k0_pay78, up_trunc, up_nt]; rfl

theorem pay79_up : k0_pay79 (F := Ideal) (up 512 128 .bf16 Q) (up 256 128 .f32 K)
    = up 512 256 .f32 (prod Q K) := by
  simp only [k0_pay79, up_trunc, up_nt]; rfl

theorem pay5_up : k0_pay5 (F := Ideal) (up 256 128 .f32 K)
    = up 256 128 .bf16 K := by
  rfl

theorem pay96_up : k0_pay96 (F := Ideal) (up 256 128 .f32 K)
    = up 256 128 .bf16 K := by
  rfl

theorem pay108_up : k0_pay108 (F := Ideal) (up 256 128 .f32 K)
    = up 256 128 .bf16 K := by
  rfl

theorem pay80_up : k0_pay80 (F := Ideal)
    = up 128 128 .f32 fun _ _ => 0 := by
  exact up_zero

theorem pay81_up : k0_pay81 (F := Ideal)
    = up 128 128 .f32 fun _ _ => 0 := by
  exact up_zero

theorem pay84_up : k0_pay84 (F := Ideal)
    = up 128 128 .f32 fun _ _ => 0 := by
  exact up_zero

theorem pay85_up : k0_pay85 (F := Ideal)
    = up 128 128 .f32 fun _ _ => 0 := by
  exact up_zero

theorem pay82_up : k0_pay82 (F := Ideal)
    = up 512 1 .f32 fun _ _ => 0 := by
  exact up_zero

theorem pay83_up : k0_pay83 (F := Ideal)
    = up 512 1 .f32 fun _ _ => 0 := by
  exact up_zero

theorem pay86_up : k0_pay86 (F := Ideal)
    = up 512 1 .f32 fun _ _ => 0 := by
  exact up_zero

theorem pay87_up : k0_pay87 (F := Ideal)
    = up 512 1 .f32 fun _ _ => 0 := by
  exact up_zero

theorem pay63_up : k0_pay63 (F := Ideal)
    = up 2048 256 .f32 fun _ _ => 0 := by
  simp only [k0_pay63, up_zero, up_cast]

theorem pay64_up : k0_pay64 (F := Ideal)
    = up 2048 256 .f32 fun _ _ => 0 := by
  simp only [k0_pay64, up_zero, up_cast]

theorem pay6_up : k0_pay6 (F := Ideal) (up 512 256 .f32 S)
    = up 512 256 .f32 fun i j => lb (S i j) := by
  simp only [k0_pay6, up_lb]

theorem pay21_up : k0_pay21 (F := Ideal) (up 512 256 .f32 S)
    = up 512 256 .f32 fun i j => lb (S i j) := by
  simp only [k0_pay21, up_lb]

theorem pay109_up : k0_pay109 (F := Ideal) (up 512 256 .f32 S)
    = up 512 256 .f32 fun i j => lb (S i j) := by
  simp only [k0_pay109, up_lb]

theorem pay98_up : k0_pay98 (F := Ideal) (up 512 256 .f32 S) (k0_pay97 (up 512 256 .f32 S))
    = up 512 256 .f32 fun i j => lb (S i j) := by
  simp only [k0_pay98, k0_pay97, up_lb]

theorem pay7_up : k0_pay7 (F := Ideal) (up 512 256 .f32 S)
    = up 512 256 .f32 (tL every S) := by
  simp only [k0_pay7, pay6_up, up_sub]; exact up_ext fun i _ j _ => by simp only [tL, every, if_true]

theorem pay22_up : k0_pay22 (F := Ideal) (up 512 256 .f32 S)
    = up 512 256 .f32 (tL every S) := by
  simp only [k0_pay22, pay21_up, up_sub]; exact up_ext fun i _ j _ => by simp only [tL, every, if_true]

theorem pay110_up : k0_pay110 (F := Ideal) (up 512 256 .f32 S)
    = up 512 256 .f32 fun i j => lb (S i j) - S i j := by
  simp only [k0_pay110, pay109_up, up_sub]

theorem pay8_up : k0_pay8 (F := Ideal) (up 512 256 .f32 S)
    = up 512 1 .f32 fun i _ => rows (tL every S) i := by
  simp only [k0_pay8, pay7_up]
  exact up_row _ _ _ _ _

theorem pay23_up : k0_pay23 (F := Ideal) (up 512 256 .f32 S)
    = up 512 1 .f32 fun i _ => rows (tL every S) i := by
  simp only [k0_pay23, pay22_up]
  exact up_row _ _ _ _ _

theorem pay11_up : k0_pay11 (F := Ideal) (k0_pay6 (up 512 256 .f32 S)) (k0_pay9 k0_pay65 (up 512 256 .f32 S)) (k0_pay10 (up 512 1 .f32 T) (up 512 1 .f32 seen) (up 512 256 .f32 S))
    = up 512 256 .f32 (tP every S T seen) := by
  simp only [k0_pay11, k0_pay9, k0_pay10, pay65_up, pay6_up, pay7_up, pay8_up, up_trunc, up_tri, up_sub, up_wide, up_add, up_exp]
  exact up_ext fun i _ j _ => by simp only [tP, every, if_true]

theorem pay12_up : k0_pay12 (F := Ideal) (up 512 256 .f32 G) (k0_pay6 (up 512 256 .f32 S)) (k0_pay9 k0_pay65 (up 512 256 .f32 S)) (k0_pay10 (up 512 1 .f32 T) (up 512 1 .f32 seen) (up 512 256 .f32 S))
    = up 512 256 .f32 (tZ every S G T seen) := by
  simp only [k0_pay12, pay11_up, up_mul]; rfl

theorem pay13_up : k0_pay13 (F := Ideal) k0_pay66 (up 512 1 .f32 dseen) (up 512 256 .f32 G) (k0_pay6 (up 512 256 .f32 S)) (k0_pay9 k0_pay65 (up 512 256 .f32 S)) (k0_pay10 (up 512 1 .f32 T) (up 512 1 .f32 seen) (up 512 256 .f32 S))
    = up 512 256 .bf16 (tD every S G T seen dseen) := by
  simp only [k0_pay13, pay12_up]
  simp only [pay66_up, pay6_up, up_trunc, up_tri, up_sub, up_wide, up_add, up_exp, up_one, up_mul]
  exact up_ext fun i _ j _ => by simp only [tD, every, if_true]

theorem pay14_up : k0_pay14 (F := Ideal) k0_pay66 (up 512 1 .f32 dseen) (up 512 256 .f32 G) (up 256 128 .bf16 K) (k0_pay6 (up 512 256 .f32 S)) (k0_pay9 k0_pay65 (up 512 256 .f32 S)) (k0_pay10 (up 512 1 .f32 T) (up 512 1 .f32 seen) (up 512 256 .f32 S))
    = up 512 128 .f32 (dqT (tD every S G T seen dseen) K) := by
  simp only [k0_pay14, pay13_up, up_nn]; rfl

theorem pay15_up : k0_pay15 (F := Ideal) k0_pay66 k0_pay67 (up 128 128 .f32 A) (up 512 1 .f32 dseen) (up 512 256 .f32 G) (up 256 128 .bf16 K) (k0_pay6 (up 512 256 .f32 S)) (k0_pay9 k0_pay65 (up 512 256 .f32 S)) (k0_pay10 (up 512 1 .f32 T) (up 512 1 .f32 seen) (up 512 256 .f32 S))
    = up 128 128 .f32 fun i j => A i j + pick (dqT (tD every S G T seen dseen) K) 0 i j := by
  simp only [k0_pay15, pay14_up, pay67_msk]
  rw [up_slice _ 0 _ (by omega), up_slice _ 128 _ (by omega), up_select, up_add]
  rfl

theorem pay16_up : k0_pay16 (F := Ideal) k0_pay66 k0_pay67 (up 128 128 .f32 A) (up 512 1 .f32 dseen) (up 512 256 .f32 G) (up 256 128 .bf16 K) (k0_pay6 (up 512 256 .f32 S)) (k0_pay9 k0_pay65 (up 512 256 .f32 S)) (k0_pay10 (up 512 1 .f32 T) (up 512 1 .f32 seen) (up 512 256 .f32 S))
    = up 128 128 .f32 fun i j => A i j + pick (dqT (tD every S G T seen dseen) K) 256 i j := by
  simp only [k0_pay16, pay14_up, pay67_msk]
  rw [up_slice _ 256 _ (by omega), up_slice _ 384 _ (by omega), up_select, up_add]
  rfl

theorem pay17_up : k0_pay17 (F := Ideal) k0_pay66 (up 512 128 .bf16 Q) (up 512 1 .f32 dseen) (up 512 256 .f32 G) (k0_pay6 (up 512 256 .f32 S)) (k0_pay9 k0_pay65 (up 512 256 .f32 S)) (k0_pay10 (up 512 1 .f32 T) (up 512 1 .f32 seen) (up 512 256 .f32 S)) (up 256 128 .f32 A)
    = up 256 128 .f32 fun i j => A i j + dkT (tD every S G T seen dseen) Q i j := by
  simp only [k0_pay17, pay13_up, up_tn, up_add, up_cast]; rfl

theorem pay18_up : k0_pay18 (F := Ideal) (up 512 128 .bf16 Q) (k0_pay6 (up 512 256 .f32 S)) (k0_pay9 k0_pay65 (up 512 256 .f32 S)) (k0_pay10 (up 512 1 .f32 T) (up 512 1 .f32 seen) (up 512 256 .f32 S)) (up 256 128 .f32 A)
    = up 256 128 .f32 fun i j => A i j + dkT (tP every S T seen) Q i j := by
  simp only [k0_pay18, pay11_up, up_trunc, up_tn, up_add, up_cast]; rfl

theorem pay19_up : k0_pay19 (F := Ideal) (up 512 1 .f32 seen) (k0_pay8 (up 512 256 .f32 S))
    = up 512 1 .f32 fun i _ => seen i 0 + rows (tL every S) i := by
  simp only [k0_pay19, pay8_up, up_add]
  refine up_ext fun i _ j hj => ?_
  obtain rfl : j = 0 := by omega
  rfl

theorem pay20_up : k0_pay20 (F := Ideal) (up 512 1 .f32 dseen) (up 512 256 .f32 G) (k0_pay6 (up 512 256 .f32 S)) (k0_pay9 k0_pay65 (up 512 256 .f32 S)) (k0_pay10 (up 512 1 .f32 T) (up 512 1 .f32 seen) (up 512 256 .f32 S))
    = up 512 1 .f32 fun i _ => dseen i 0 + rows (tZ every S G T seen) i := by
  simp only [k0_pay20, pay12_up]
  refine (congrArg (addf (up 512 1 .f32 dseen)) (up_row _ _ _ _ _)).trans ?_
  rw [up_add]
  refine up_ext fun i _ j hj => ?_
  obtain rfl : j = 0 := by omega
  rfl

theorem pay24_up : k0_pay24 (F := Ideal) k0_pay65 (up 512 1 .f32 T) (up 512 1 .f32 seen) (up 512 256 .f32 S)
    = up 512 256 .f32 (tP every S T seen) := by
  simp only [k0_pay24, pay65_up, pay21_up, pay22_up, pay23_up, up_trunc, up_tri, up_sub, up_wide, up_add, up_exp]
  exact up_ext fun i _ j _ => by simp only [tP, every, if_true]

theorem pay25_up : k0_pay25 (F := Ideal) k0_pay65 (up 512 1 .f32 T) (up 512 1 .f32 seen) (up 512 256 .f32 S)
    = up 512 256 .bf16 (tP every S T seen) := by
  simp only [k0_pay25, pay24_up, up_trunc]

theorem pay26_up : k0_pay26 (F := Ideal) k0_pay65 (up 512 1 .f32 T) (up 512 1 .f32 seen) (up 512 256 .f32 S) (up 512 256 .f32 G)
    = up 512 256 .f32 (tZ every S G T seen) := by
  simp only [k0_pay26, pay24_up, up_mul]; rfl

theorem pay27_up : k0_pay27 (F := Ideal) k0_pay65 k0_pay66 (up 512 1 .f32 T) (up 512 1 .f32 seen) (up 512 1 .f32 dseen) (up 512 256 .f32 S) (up 512 256 .f32 G)
    = up 512 256 .bf16 (tD every S G T seen dseen) := by
  simp only [k0_pay27, pay26_up, pay66_up, pay21_up, up_trunc, up_tri, up_sub, up_wide, up_add, up_exp, up_one, up_mul]
  exact up_ext fun i _ j _ => by simp only [tD, every, if_true]

theorem pay28_up : k0_pay28 (F := Ideal) k0_pay65 k0_pay66 (up 512 1 .f32 T) (up 512 1 .f32 seen) (up 512 1 .f32 dseen) (up 512 256 .f32 S) (up 512 256 .f32 G) (up 256 128 .f32 K)
    = up 512 128 .f32 (dqT (tD every S G T seen dseen) K) := by
  simp only [k0_pay28, pay27_up, up_trunc, up_nn]; rfl

theorem pay29_up : k0_pay29 (F := Ideal) k0_pay65 k0_pay66 k0_pay67 (up 512 1 .f32 T) (up 128 128 .f32 A) (up 512 1 .f32 seen) (up 512 1 .f32 dseen) (up 512 256 .f32 S) (up 512 256 .f32 G) (up 256 128 .f32 K)
    = up 128 128 .f32 fun i j => A i j + pick (dqT (tD every S G T seen dseen) K) 0 i j := by
  simp only [k0_pay29, pay28_up, pay67_msk]
  rw [up_slice _ 0 _ (by omega), up_slice _ 128 _ (by omega), up_select, up_add]
  rfl

theorem pay30_up : k0_pay30 (F := Ideal) k0_pay65 k0_pay66 k0_pay67 (up 512 1 .f32 T) (up 128 128 .f32 A) (up 512 1 .f32 seen) (up 512 1 .f32 dseen) (up 512 256 .f32 S) (up 512 256 .f32 G) (up 256 128 .f32 K)
    = up 128 128 .f32 fun i j => A i j + pick (dqT (tD every S G T seen dseen) K) 256 i j := by
  simp only [k0_pay30, pay28_up, pay67_msk]
  rw [up_slice _ 256 _ (by omega), up_slice _ 384 _ (by omega), up_select, up_add]
  rfl

theorem pay88_up : k0_pay88 (F := Ideal) (k0_pay31 k0_pay65 k0_pay66 (up 512 128 .bf16 Q) (up 512 1 .f32 T) (up 512 1 .f32 seen) (up 512 1 .f32 dseen) (up 512 256 .f32 S) (up 512 256 .f32 G) (up 256 128 .f32 A))
    = up 256 128 .f32 fun i j => A i j + dkT (tD every S G T seen dseen) Q i j := by
  simp only [k0_pay88, k0_pay31, pay27_up, up_tn, up_add, up_cast]; rfl

theorem pay89_up : k0_pay89 (F := Ideal) (up 512 128 .bf16 Q) (k0_pay25 k0_pay65 (up 512 1 .f32 T) (up 512 1 .f32 seen) (up 512 256 .f32 S)) (up 256 128 .f32 A)
    = up 256 128 .f32 fun i j => A i j + dkT (tP every S T seen) Q i j := by
  simp only [k0_pay89, pay25_up, up_tn, up_add, up_cast]; rfl

theorem pay90_up : k0_pay90 (F := Ideal) (up 512 1 .f32 seen) (k0_pay23 (up 512 256 .f32 S))
    = up 512 1 .f32 fun i _ => seen i 0 + rows (tL every S) i := by
  simp only [k0_pay90, pay23_up, up_add]
  refine up_ext fun i _ j hj => ?_
  obtain rfl : j = 0 := by omega
  rfl

theorem pay91_up : k0_pay91 (F := Ideal) (up 512 1 .f32 dseen) (k0_pay26 k0_pay65 (up 512 1 .f32 T) (up 512 1 .f32 seen) (up 512 256 .f32 S) (up 512 256 .f32 G))
    = up 512 1 .f32 fun i _ => dseen i 0 + rows (tZ every S G T seen) i := by
  simp only [k0_pay91, pay26_up]
  refine (congrArg (addf (up 512 1 .f32 dseen)) (up_row _ _ _ _ _)).trans ?_
  rw [up_add]
  refine up_ext fun i _ j hj => ?_
  obtain rfl : j = 0 := by omega
  rfl

theorem pay100_up : k0_pay100 (F := Ideal) k0_pay65 (up 512 1 .f32 T) (up 512 1 .f32 seen) (up 512 256 .f32 S) (k0_pay97 (up 512 256 .f32 S))
    = up 512 256 .f32 (tP causal S T seen) := by
  simp only [k0_pay100, pay99_msk, pay65_up, pay98_up, up_zero, up_trunc, up_sub, up_select, up_tri]
  exact after_row (tL causal S) _ _ _ (up_row _ _ _ _ _) _

theorem pay101_up : k0_pay101 (F := Ideal) k0_pay65 (up 512 1 .f32 T) (up 512 1 .f32 seen) (up 512 256 .f32 S) (k0_pay97 (up 512 256 .f32 S))
    = up 512 256 .bf16 (tP causal S T seen) := by
  simp only [k0_pay101, pay100_up, up_trunc]

theorem pay102_up : k0_pay102 (F := Ideal) k0_pay65 k0_pay66 (up 512 1 .f32 T) (up 512 1 .f32 seen) (up 512 1 .f32 dseen) (up 512 256 .f32 S) (up 512 256 .f32 G) (k0_pay97 (up 512 256 .f32 S))
    = up 512 256 .bf16 (tD causal S G T seen dseen) := by
  simp only [k0_pay102, pay100_up]
  simp only [pay99_msk, pay66_up, pay98_up, up_zero, up_trunc, up_tri, up_sub, up_wide, up_add, up_exp, up_one, up_mul, up_select]
  rfl

theorem pay104_up : k0_pay104 (F := Ideal) k0_pay67 (up 128 128 .f32 A) (up 256 128 .bf16 K) (up 512 256 .bf16 S)
    = up 128 128 .f32 fun i j => A i j + pick (dqT S K) 0 i j := by
  simp only [k0_pay104, k0_pay103, up_nn, pay67_msk]
  rw [up_slice _ 0 _ (by omega), up_slice _ 128 _ (by omega), up_select, up_add]
  rfl

theorem pay105_up : k0_pay105 (F := Ideal) k0_pay67 (up 128 128 .f32 A) (up 256 128 .bf16 K) (up 512 256 .bf16 S)
    = up 128 128 .f32 fun i j => A i j + pick (dqT S K) 256 i j := by
  simp only [k0_pay105, k0_pay103, up_nn, pay67_msk]
  rw [up_slice _ 256 _ (by omega), up_slice _ 384 _ (by omega), up_select, up_add]
  rfl

theorem pay106_up : k0_pay106 (F := Ideal) (up 512 128 .bf16 Q) (up 512 256 .bf16 S) (up 256 128 .f32 A)
    = up 256 128 .f32 fun i j => A i j + dkT S Q i j := by
  simp only [k0_pay106, up_tn, up_add, up_cast]; rfl

theorem pay107_up : k0_pay107 (F := Ideal) (up 512 128 .bf16 Q) (up 512 256 .bf16 S) (up 256 128 .f32 A)
    = up 256 128 .f32 fun i j => A i j + dkT S Q i j := by
  simp only [k0_pay107, up_tn, up_add, up_cast]; rfl

variable (a b c : IVec S512x256 32) (hm : k0_pay112 a b c = msk 512 256 causal)
include hm

theorem pay113_up : k0_pay113 (F := Ideal) k0_pay65 (up 512 1 .f32 T) (up 512 1 .f32 seen) (k0_pay109 (up 512 256 .f32 S)) (k0_pay110 (up 512 256 .f32 S)) a b c
    = up 512 256 .f32 (tP causal S T seen) := by
  simp only [k0_pay113, hm, pay65_up, pay109_up, pay110_up, up_zero, up_trunc, up_sub, up_select, up_tri]
  exact after_row (tL causal S) _ _ _ (up_row _ _ _ _ _) _

theorem pay114_up : k0_pay114 (F := Ideal) k0_pay65 (up 512 1 .f32 T) (up 512 1 .f32 seen) (k0_pay109 (up 512 256 .f32 S)) (k0_pay110 (up 512 256 .f32 S)) a b c
    = up 512 256 .bf16 (tP causal S T seen) := by
  simp only [k0_pay114, pay113_up (hm := hm), up_trunc]

theorem pay115_up : k0_pay115 (F := Ideal) k0_pay65 k0_pay66 (up 512 1 .f32 T) (up 512 1 .f32 seen) (up 512 1 .f32 dseen) (up 512 256 .f32 G) (k0_pay109 (up 512 256 .f32 S)) (k0_pay110 (up 512 256 .f32 S)) a b c
    = up 512 256 .bf16 (tD causal S G T seen dseen) := by
  simp only [k0_pay115, pay113_up (hm := hm)]
  simp only [hm, pay66_up, pay109_up, up_zero, up_trunc, up_tri, up_sub, up_wide, up_add, up_exp, up_one, up_mul, up_select]
  rfl

theorem pay116_up : k0_pay116 (F := Ideal) k0_pay65 k0_pay66 (up 512 1 .f32 T) (up 512 1 .f32 seen) (up 512 1 .f32 dseen) (up 512 256 .f32 G) (up 256 128 .bf16 K) (k0_pay109 (up 512 256 .f32 S)) (k0_pay110 (up 512 256 .f32 S)) a b c
    = up 512 128 .f32 (dqT (tD causal S G T seen dseen) K) := by
  simp only [k0_pay116, pay115_up (hm := hm), up_nn]; rfl

theorem pay117_up : k0_pay117 (F := Ideal) k0_pay65 k0_pay66 k0_pay67 (up 512 1 .f32 T) (up 128 128 .f32 A) (up 512 1 .f32 seen) (up 512 1 .f32 dseen) (up 512 256 .f32 G) (up 256 128 .bf16 K) (k0_pay109 (up 512 256 .f32 S)) (k0_pay110 (up 512 256 .f32 S)) a b c
    = up 128 128 .f32 fun i j => A i j + pick (dqT (tD causal S G T seen dseen) K) 0 i j := by
  simp only [k0_pay117, pay116_up (hm := hm), pay67_msk]
  rw [up_slice _ 0 _ (by omega), up_slice _ 128 _ (by omega), up_select, up_add]
  rfl

theorem pay118_up : k0_pay118 (F := Ideal) k0_pay65 k0_pay66 k0_pay67 (up 512 1 .f32 T) (up 128 128 .f32 A) (up 512 1 .f32 seen) (up 512 1 .f32 dseen) (up 512 256 .f32 G) (up 256 128 .bf16 K) (k0_pay109 (up 512 256 .f32 S)) (k0_pay110 (up 512 256 .f32 S)) a b c
    = up 128 128 .f32 fun i j => A i j + pick (dqT (tD causal S G T seen dseen) K) 256 i j := by
  simp only [k0_pay118, pay116_up (hm := hm), pay67_msk]
  rw [up_slice _ 256 _ (by omega), up_slice _ 384 _ (by omega), up_select, up_add]
  rfl

theorem pay120_up : k0_pay120 (F := Ideal) (k0_pay119 k0_pay65 k0_pay66 (up 512 128 .bf16 Q) (up 512 1 .f32 T) (up 512 1 .f32 seen) (up 512 1 .f32 dseen) (up 512 256 .f32 G) (k0_pay109 (up 512 256 .f32 S)) (k0_pay110 (up 512 256 .f32 S)) a b c (up 256 128 .f32 A))
    = up 256 128 .f32 fun i j => A i j + dkT (tD causal S G T seen dseen) Q i j := by
  simp only [k0_pay120, k0_pay119, pay115_up (hm := hm), up_tn, up_add, up_cast]; rfl

omit hm

theorem pay121_up : k0_pay121 (F := Ideal) (up 512 128 .bf16 Q) (up 512 256 .bf16 S) (up 256 128 .f32 A)
    = up 256 128 .f32 fun i j => A i j + dkT S Q i j := by
  simp only [k0_pay121, up_tn, up_add, up_cast]; rfl

theorem pay122_up : k0_pay122 (F := Ideal) (up 128 128 .f32 A)
    = up 128 128 .bf16 fun i j => A i j * (1 / 8) := by
  simp only [k0_pay122, up_eighth, up_mul, up_trunc]

theorem pay123_up : k0_pay123 (F := Ideal) (up 128 128 .f32 A)
    = up 128 128 .bf16 fun i j => A i j * (1 / 8) := by
  simp only [k0_pay123, up_eighth, up_mul, up_trunc]

theorem pay124_up : k0_pay124 (F := Ideal) (up 128 128 .f32 A)
    = up 128 128 .bf16 fun i j => A i j * (1 / 8) := by
  simp only [k0_pay124, up_eighth, up_mul, up_trunc]

theorem pay125_up : k0_pay125 (F := Ideal) (up 128 128 .f32 A)
    = up 128 128 .bf16 fun i j => A i j * (1 / 8) := by
  simp only [k0_pay125, up_eighth, up_mul, up_trunc]

theorem pay126_up : k0_pay126 (F := Ideal) (up 2048 256 .f32 A)
    = up 2048 256 .bf16 A := by
  rfl

theorem pay127_up : k0_pay127 (F := Ideal) (up 2048 256 .f32 A)
    = up 2048 256 .bf16 A := by
  rfl

end Cert.AttBwd

end
-- ==== Proof.Box.lean ====
module
public import proofs.«01_k».proof.Proof.Pays
public import proofs.«01_k».proof.Proof.Gen.KernelIdeal.Value

@[expose] public section

set_option maxRecDepth 16384

/-! Reads and stores of tiles of 256 rows by 128 lanes in the arrays of 2048 rows, on arrays of real numbers. -/

noncomputable section

namespace Cert.AttBwd

open Idealize.ShloMosaic Idealize.ShloMosaic.TcCoe Idealize.SL.Sem
open Cert.KernelIdeal Cert.KernelIdeal.Gen

theorem trips_eq (i : grid0.Coords) : (k0_t1_loop i).trips = (i 2).val :=
  (by decide +kernel : ∀ a : Fin 8, Scf.trips 0#32 (Scalar.addi 0#32 (Scalar.muli (Scalar.divsi (Scalar.subi (BitVec.ofNat 32 a.val) 0#32) 1#32) 1#32)) 1#32 = a.val) (i 2)

theorem row_now : ∀ k : Fin 8, (Scalar.indexCast (Scalar.muli (Scf.iv 0#32 1#32 k.val) 256#32) : BitVec 32).toNat = 256 * k.val := by
  decide +kernel
theorem row_next : ∀ k : Fin 8, (Scalar.indexCast (Scalar.muli (Scalar.addi (Scf.iv 0#32 1#32 k.val) 1#32) 256#32) : BitVec 32).toNat = 256 * (k.val + 1) := by
  decide +kernel
theorem row_diag : ∀ k : Fin 8, (Scalar.indexCast (Scalar.muli (BitVec.ofNat 32 k.val) 256#32) : BitVec 32).toNat = 256 * k.val := by
  decide +kernel

section
variable (i : grid0.Coords) (k : Fin (k0_t1_loop i).trips)

theorem k_lt : k.val < 7 := by
  have h := k.isLt
  have h2 : (i 2).val < 8 := (i 2).isLt
  have h3 := trips_eq i
  omega

theorem off1 : k0_off1 i k = ![256 * (k.val + 1), 0] := congrArg (fun n => ![n, 0]) (row_next ⟨k.val, by have := k_lt i k; omega⟩)
theorem off2 : k0_off2 i k = ![256 * (k.val + 1), 128] := congrArg (fun n => ![n, 128]) (row_next ⟨k.val, by have := k_lt i k; omega⟩)
theorem off3 : k0_off3 i k = ![256 * k.val, 0] := congrArg (fun n => ![n, 0]) (row_now ⟨k.val, by have := k_lt i k; omega⟩)
theorem off4 : k0_off4 i k = ![256 * k.val, 128] := congrArg (fun n => ![n, 128]) (row_now ⟨k.val, by have := k_lt i k; omega⟩)
theorem off9 : k0_off9 i = ![256 * (i 2).val, 0] := congrArg (fun n => ![n, 0]) (row_diag (i 2))
theorem off10 : k0_off10 i = ![256 * (i 2).val, 128] := congrArg (fun n => ![n, 128]) (row_diag (i 2))
end

variable (A B : ℕ → ℕ → ℝ)

theorem ld_up {a b : ℕ} (o p c d : ℕ) (inb : ∀ x, (![o, p] : Fin 2 → ℕ) x + (![c, d] : Fin 2 → ℕ) x ≤ (⟨2, ![a, b]⟩ : Shape).size x) :
    View.ld (Val := Elt Ideal) (e' := .f32) (up a b .f32 A) (Rect.unit (s := ⟨2, ![a, b]⟩) ![o, p] ![c, d] inb) = (up c d .f32 fun i j => A (o + i) (p + j) : FVec Ideal ⟨2, ![c, d]⟩ .f32) := by
  refine eq_up fun i j => ?_
  show up a b .f32 A _ = _
  simp only [up, Rect.unit, Rect.emb]
  simp

theorem read_up {sig : RefSig} {κ : Kind} {sp : Space} {a b : ℕ} {v : View sig κ sp ⟨2, ![a, b]⟩ .f32} {f : v.ty.Contents (Elt Ideal)}
    (hf : v.read (Elt Ideal) f = up a b .f32 A) {off : Fin 2 → ℕ} {o p c d : ℕ} (h : off = ![o, p])
    (inb : ∀ x, off x + (![c, d] : Fin 2 → ℕ) x ≤ (⟨2, ![a, b]⟩ : Shape).size x) :
    View.readAt (Elt Ideal) v (Rect.unit (s := ⟨2, ![a, b]⟩) off ![c, d] inb).toLoadRect f = (up c d .f32 fun i j => A (o + i) (p + j) : FVec Ideal ⟨2, ![c, d]⟩ .f32) := by
  subst h
  rw [View.readAt_eq_ld, hf, ld_up]

/-- An array with a tile put over it. -/
def put (o p c d : ℕ) (A B : ℕ → ℕ → ℝ) (i j : ℕ) : ℝ := if (o ≤ i ∧ i < o + c) ∧ (p ≤ j ∧ j < p + d) then B (i - o) (j - p) else A i j

theorem put_up {sig : RefSig} {κ : Kind} {sp : Space} {a b : ℕ} {v : View sig κ sp ⟨2, ![a, b]⟩ .f32} {f : v.ty.Contents (Elt Ideal)}
    {L : List (View.Piece (Elt Ideal) ⟨2, ![a, b]⟩ .f32)}
    (hf : v.read (Elt Ideal) (v.writes (Elt Ideal) f L) = up a b .f32 A) {off : Fin 2 → ℕ} {o p c d : ℕ} (h : off = ![o, p])
    (inb : ∀ x, off x + (![c, d] : Fin 2 → ℕ) x ≤ (⟨2, ![a, b]⟩ : Shape).size x)
    {w : FVec Ideal ⟨2, ![c, d]⟩ .f32} (hw : w = up c d .f32 B) :
    v.read (Elt Ideal) (v.writes (Elt Ideal) f (⟨Rect.unit (s := ⟨2, ![a, b]⟩) off ![c, d] inb, w⟩ :: L)) = up a b .f32 (put o p c d A B) := by
  subst h hw
  refine eq_up fun i j => ?_
  by_cases hin : (o ≤ i.val ∧ i.val < o + c) ∧ (p ≤ j.val ∧ j.val < p + d)
  · rw [View.read_writes_cons_hit_of_coords v f _ _ L (ix2 (⟨i.val - o, by omega⟩ : Fin c) (⟨j.val - p, by omega⟩ : Fin d)) (ix2 i j)]
    · rw [put, if_pos hin]; rfl
    · intro x
      have hx : x = 0 ∨ x = 1 := by fin_cases x <;> simp
      rcases hx with rfl | rfl
      · show i.val = o + 1 * (i.val - o); omega
      · show j.val = p + 1 * (j.val - p); omega
  · rw [put, if_neg hin]
    have key : i.val < o ∨ o + c ≤ i.val ∨ j.val < p ∨ p + d ≤ j.val := by omega
    have hh : v.read (Elt Ideal) (v.writes (Elt Ideal) f L) (ix2 i j) = ((A i.val j.val : ℝ) : EReal) := by
      rw [hf]; rfl
    rcases key with h | h | h | h
    · rw [View.read_writes_cons_miss_of_axis v f _ L (ix2 i j) 0 o c rfl rfl rfl (.inl h), hh]
    · rw [View.read_writes_cons_miss_of_axis v f _ L (ix2 i j) 0 o c rfl rfl rfl (.inr h), hh]
    · rw [View.read_writes_cons_miss_of_axis v f _ L (ix2 i j) 1 p d rfl rfl rfl (.inl h), hh]
    · rw [View.read_writes_cons_miss_of_axis v f _ L (ix2 i j) 1 p d rfl rfl rfl (.inr h), hh]

end Cert.AttBwd

end
-- ==== Proof.Trip.lean ====
module
public import proofs.«01_k».proof.Proof.Box

@[expose] public section

set_option maxRecDepth 16384
set_option maxHeartbeats 1000000

/-! One trip of the loop over the tiles of keys before the diagonal, and all of them: what the loop carries and
    what it leaves in the two scratch arrays, as functions of real numbers. -/

noncomputable section

namespace Cert.AttBwd

open Idealize.ShloMosaic Idealize.ShloMosaic.TcCoe Idealize.SL.Sem
open Cert.KernelIdeal Cert.KernelIdeal.Gen

/-- What one pair of heads works on: the stacks of queries and of output gradients, the row totals, and the
    pair's lanes of the keys and values. -/
structure Side where
  Q : ℕ → ℕ → ℝ
  D : ℕ → ℕ → ℝ
  T : ℕ → ℕ → ℝ
  K : ℕ → ℕ → ℝ
  V : ℕ → ℕ → ℝ

namespace Side
variable (s : Side)
/-- Tile `n` of the keys and of the values. -/
def Kt (n i l : ℕ) : ℝ := s.K (256 * n + i) l
def Vt (n i l : ℕ) : ℝ := s.V (256 * n + i) l
/-- The logits and the gradients of the weights at tile `n`. -/
def S (n : ℕ) : ℕ → ℕ → ℝ := prod s.Q (s.Kt n)
def G (n : ℕ) : ℕ → ℕ → ℝ := prod s.D (s.Vt n)
/-- What the tiles before tile `n` sum to, row by row. -/
def seen (n : ℕ) (i _j : ℕ) : ℝ := ∑ m ∈ Finset.range n, rows (tL every (s.S m)) i
def P (n : ℕ) : ℕ → ℕ → ℝ := tP every (s.S n) s.T (s.seen n)
def Z (n : ℕ) : ℕ → ℕ → ℝ := tZ every (s.S n) (s.G n) s.T (s.seen n)
def dseen (n : ℕ) (i _j : ℕ) : ℝ := ∑ m ∈ Finset.range n, rows (s.Z m) i
def E (n : ℕ) : ℕ → ℕ → ℝ := tD every (s.S n) (s.G n) s.T (s.seen n) (s.dseen n)
/-- The gradient of the queries, up to tile `n`, for the half of the rows that starts at stack row `o`. -/
def acc (o n i j : ℕ) : ℝ := ∑ m ∈ Finset.range n, pick (dqT (s.E m) (s.Kt m)) o i j
end Side

/-- The two scratch arrays after `n` tiles. -/
def skK (s0 s1 : Side) (W : ℕ → ℕ → ℝ) : ℕ → ℕ → ℕ → ℝ
  | 0 => W
  | n + 1 => put (256 * n) 128 256 128 (put (256 * n) 0 256 128 (skK s0 s1 W n)
      (fun i j => skK s0 s1 W n (256 * n + i) (0 + j) + dkT (s0.E n) s0.Q i j))
      (fun i j => skK s0 s1 W n (256 * n + i) (128 + j) + dkT (s1.E n) s1.Q i j)

def skV (s0 s1 : Side) (W : ℕ → ℕ → ℝ) : ℕ → ℕ → ℕ → ℝ
  | 0 => W
  | n + 1 => put (256 * n) 128 256 128 (put (256 * n) 0 256 128 (skV s0 s1 W n)
      (fun i j => skV s0 s1 W n (256 * n + i) (0 + j) + dkT (s0.P n) s0.D i j))
      (fun i j => skV s0 s1 W n (256 * n + i) (128 + j) + dkT (s1.P n) s1.D i j)

abbrev Acc : Type := FVec Ideal S128x128 .f32 × FVec Ideal S128x128 .f32 × FVec Ideal S512x1 .f32 × FVec Ideal S512x1 .f32 × FVec Ideal S512x256 .f32 × FVec Ideal S512x256 .f32 × FVec Ideal S128x128 .f32 × FVec Ideal S128x128 .f32 × FVec Ideal S512x1 .f32 × FVec Ideal S512x1 .f32 × FVec Ideal S512x256 .f32 × FVec Ideal S512x256 .f32

/-- What the loop carries before tile `n`. -/
def tup (s0 s1 : Side) (n : ℕ) : Acc :=
  (up 128 128 .f32 (s0.acc 0 n), up 128 128 .f32 (s0.acc 256 n), up 512 1 .f32 (s0.seen n), up 512 1 .f32 (s0.dseen n),
   up 512 256 .f32 (s0.S n), up 512 256 .f32 (s0.G n),
   up 128 128 .f32 (s1.acc 0 n), up 128 128 .f32 (s1.acc 256 n), up 512 1 .f32 (s1.seen n), up 512 1 .f32 (s1.dseen n),
   up 512 256 .f32 (s1.S n), up 512 256 .f32 (s1.G n))

theorem tuple_ext {a1 a2 b1 b2 : FVec Ideal S128x128 .f32} {a3 a4 b3 b4 : FVec Ideal S512x1 .f32} {a5 a6 b5 b6 : FVec Ideal S512x256 .f32}
    {c1 c2 d1 d2 : FVec Ideal S128x128 .f32} {c3 c4 d3 d4 : FVec Ideal S512x1 .f32} {c5 c6 d5 d6 : FVec Ideal S512x256 .f32}
    (h1 : a1 = b1) (h2 : a2 = b2) (h3 : a3 = b3) (h4 : a4 = b4) (h5 : a5 = b5) (h6 : a6 = b6)
    (g1 : c1 = d1) (g2 : c2 = d2) (g3 : c3 = d3) (g4 : c4 = d4) (g5 : c5 = d5) (g6 : c6 = d6) :
    ((a1, a2, a3, a4, a5, a6, c1, c2, c3, c4, c5, c6) : Acc) = (b1, b2, b3, b4, b5, b6, d1, d2, d3, d4, d5, d6) := by
  subst h1 h2 h3 h4 h5 h6 g1 g2 g3 g4 g5 g6; rfl

theorem up_last {a b : ℕ} {φ : FTy} {x : FVec Ideal (⟨2, ![a, b]⟩ : Shape) φ} {f : ℕ → ℕ → ℕ → ℝ} {n : ℕ}
    (h : x = up a b φ fun i j => (∑ m ∈ Finset.range n, f m i j) + f n i j) :
    x = up a b φ fun i j => ∑ m ∈ Finset.range (n + 1), f m i j := by
  rw [h]; exact up_ext fun i _ j _ => (Finset.sum_range_succ _ _).symm

variable (𝒱 : Variants) (c : Dev nD) (bd : Option 𝒱.V) (i : grid0.Coords) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .f32) (harg11 : arg11.IsWhole) (arg12 : Memref sig .tc .vmem S2048x256 .f32) (harg12 : arg12.IsWhole) (arg2 : BitVec 32)
  (v113 : BitVec 32) {X_arg4 : BufTy.Contents (Elt Ideal) arg4.view.ty} {X_arg5 : BufTy.Contents (Elt Ideal) arg5.view.ty}
  (s0 s1 : Side) (K V : ℕ → ℕ → ℝ)
  (h4 : arg4.view.read (Elt Ideal) X_arg4 = up 2048 256 .f32 K) (h5 : arg5.view.read (Elt Ideal) X_arg5 = up 2048 256 .f32 V)
  (hK0 : s0.K = fun i l => K i (0 + l)) (hV0 : s0.V = fun i l => V i (0 + l)) (hK1 : s1.K = fun i l => K i (128 + l)) (hV1 : s1.V = fun i l => V i (128 + l))

section
include h4 h5 hK0 hV0 hK1 hV1

theorem tile_K0 (n : ℕ) {off : Fin 2 → ℕ} (ho : off = ![256 * n, 0]) (inb) :
    View.readAt (Elt Ideal) arg4.view (Rect.unit (s := S2048x256) off ![256, 128] inb).toLoadRect X_arg4 = up 256 128 .f32 (s0.Kt n) := by
  rw [read_up K h4 ho, show s0.Kt n = fun i j => K (256 * n + i) (0 + j) from by funext i j; simp only [Side.Kt, hK0]]
theorem tile_K1 (n : ℕ) {off : Fin 2 → ℕ} (ho : off = ![256 * n, 128]) (inb) :
    View.readAt (Elt Ideal) arg4.view (Rect.unit (s := S2048x256) off ![256, 128] inb).toLoadRect X_arg4 = up 256 128 .f32 (s1.Kt n) := by
  rw [read_up K h4 ho, show s1.Kt n = fun i j => K (256 * n + i) (128 + j) from by funext i j; simp only [Side.Kt, hK1]]
theorem tile_V0 (n : ℕ) {off : Fin 2 → ℕ} (ho : off = ![256 * n, 0]) (inb) :
    View.readAt (Elt Ideal) arg5.view (Rect.unit (s := S2048x256) off ![256, 128] inb).toLoadRect X_arg5 = up 256 128 .f32 (s0.Vt n) := by
  rw [read_up V h5 ho, show s0.Vt n = fun i j => V (256 * n + i) (0 + j) from by funext i j; simp only [Side.Vt, hV0]]
theorem tile_V1 (n : ℕ) {off : Fin 2 → ℕ} (ho : off = ![256 * n, 128]) (inb) :
    View.readAt (Elt Ideal) arg5.view (Rect.unit (s := S2048x256) off ![256, 128] inb).toLoadRect X_arg5 = up 256 128 .f32 (s1.Vt n) := by
  rw [read_up V h5 ho, show s1.Vt n = fun i j => V (256 * n + i) (128 + j) from by funext i j; simp only [Side.Vt, hV1]]

theorem trip_carried (k : Fin (k0_t1_loop i).trips) (f11 : BufTy.Contents (Elt Ideal) arg11.view.ty) (f12 : BufTy.Contents (Elt Ideal) arg12.view.ty) :
    (trip_k0_t1 (F := Ideal) 𝒱 c bd i arg3 harg3 arg4 harg4 arg5 harg5 arg6 harg6 arg7 harg7 arg8 harg8 arg9 harg9 arg10 harg10 arg11 harg11 arg12 harg12 arg2 k0_pay65 k0_pay66 k0_pay67 (up 512 128 .bf16 s0.Q) (up 512 128 .bf16 s1.Q) (up 512 128 .bf16 s0.D) (up 512 128 .bf16 s1.D) (up 512 1 .f32 s0.T) (up 512 1 .f32 s1.T) v113 X_arg4 X_arg5 k).1 (tup s0 s1 k.val) f11 f12 = tup s0 s1 (k.val + 1) := by
  unfold trip_k0_t1
  dsimp only
  sl_unfold_words
  dsimp only [tup]
  have eK0 := tile_K0 (s0 := s0) (s1 := s1) (K := K) (V := V) h4 h5 hK0 hV0 hK1 hV1 (arg4 := arg4) (arg5 := arg5)
  have eK1 := tile_K1 (s0 := s0) (s1 := s1) (K := K) (V := V) h4 h5 hK0 hV0 hK1 hV1 (arg4 := arg4) (arg5 := arg5)
  have eV0 := tile_V0 (s0 := s0) (s1 := s1) (K := K) (V := V) h4 h5 hK0 hV0 hK1 hV1 (arg4 := arg4) (arg5 := arg5)
  have eV1 := tile_V1 (s0 := s0) (s1 := s1) (K := K) (V := V) h4 h5 hK0 hV0 hK1 hV1 (arg4 := arg4) (arg5 := arg5)
  refine tuple_ext ?_ ?_ ?_ ?_ ?_ ?_ ?_ ?_ ?_ ?_ ?_ ?_
  · exact up_last ((congrArg (fun x => k0_pay15 _ _ _ _ _ (k0_pay5 x) _ _ _) (eK0 k.val (off3 i k) _)).trans (pay15_up ..))
  · exact up_last ((congrArg (fun x => k0_pay16 _ _ _ _ _ (k0_pay5 x) _ _ _) (eK0 k.val (off3 i k) _)).trans (pay16_up ..))
  · exact up_last (pay19_up ..)
  · exact up_last (pay20_up ..)
  · exact (congrArg (k0_pay1 _) (eK0 (k.val + 1) (off1 i k) _)).trans (pay1_up ..)
  · exact (congrArg (k0_pay2 _) (eV0 (k.val + 1) (off1 i k) _)).trans (pay2_up ..)
  · exact up_last ((congrArg (fun x => k0_pay29 _ _ _ _ _ _ _ _ _ x) (eK1 k.val (off4 i k) _)).trans (pay29_up ..))
  · exact up_last ((congrArg (fun x => k0_pay30 _ _ _ _ _ _ _ _ _ x) (eK1 k.val (off4 i k) _)).trans (pay30_up ..))
  · exact up_last (pay90_up ..)
  · exact up_last (pay91_up ..)
  · exact (congrArg (k0_pay3 _) (eK1 (k.val + 1) (off2 i k) _)).trans (pay3_up ..)
  · exact (congrArg (k0_pay4 _) (eV1 (k.val + 1) (off2 i k) _)).trans (pay4_up ..)

theorem trip_skK (k : Fin (k0_t1_loop i).trips) (f11 : BufTy.Contents (Elt Ideal) arg11.view.ty) (f12 : BufTy.Contents (Elt Ideal) arg12.view.ty)
    (W : ℕ → ℕ → ℝ) (hf : arg11.view.read (Elt Ideal) f11 = up 2048 256 .f32 (skK s0 s1 W k.val)) :
    arg11.view.read (Elt Ideal) (arg11.view.writes (Elt Ideal) f11 ((trip_k0_t1 (F := Ideal) 𝒱 c bd i arg3 harg3 arg4 harg4 arg5 harg5 arg6 harg6 arg7 harg7 arg8 harg8 arg9 harg9 arg10 harg10 arg11 harg11 arg12 harg12 arg2 k0_pay65 k0_pay66 k0_pay67 (up 512 128 .bf16 s0.Q) (up 512 128 .bf16 s1.Q) (up 512 128 .bf16 s0.D) (up 512 128 .bf16 s1.D) (up 512 1 .f32 s0.T) (up 512 1 .f32 s1.T) v113 X_arg4 X_arg5 k).2.1 (tup s0 s1 k.val) f11 f12))
      = up 2048 256 .f32 (skK s0 s1 W (k.val + 1)) := by
  unfold trip_k0_t1
  dsimp only
  sl_unfold_words
  dsimp only [tup]
  refine put_up _ _ (put_up _ _ (L := []) hf (off3 i k) _ ?_) (off4 i k) _ ?_
  · exact (congrArg (fun x => k0_pay17 _ _ _ _ _ _ _ x) (read_up _ hf (off3 i k) _)).trans (pay17_up ..)
  · exact (congrArg (fun x => k0_pay88 (k0_pay31 _ _ _ _ _ _ _ _ x)) (read_up _ hf (off4 i k) _)).trans (pay88_up ..)

theorem trip_skV (k : Fin (k0_t1_loop i).trips) (f11 : BufTy.Contents (Elt Ideal) arg11.view.ty) (f12 : BufTy.Contents (Elt Ideal) arg12.view.ty)
    (W : ℕ → ℕ → ℝ) (hf : arg12.view.read (Elt Ideal) f12 = up 2048 256 .f32 (skV s0 s1 W k.val)) :
    arg12.view.read (Elt Ideal) (arg12.view.writes (Elt Ideal) f12 ((trip_k0_t1 (F := Ideal) 𝒱 c bd i arg3 harg3 arg4 harg4 arg5 harg5 arg6 harg6 arg7 harg7 arg8 harg8 arg9 harg9 arg10 harg10 arg11 harg11 arg12 harg12 arg2 k0_pay65 k0_pay66 k0_pay67 (up 512 128 .bf16 s0.Q) (up 512 128 .bf16 s1.Q) (up 512 128 .bf16 s0.D) (up 512 128 .bf16 s1.D) (up 512 1 .f32 s0.T) (up 512 1 .f32 s1.T) v113 X_arg4 X_arg5 k).2.2.1 (tup s0 s1 k.val) f11 f12))
      = up 2048 256 .f32 (skV s0 s1 W (k.val + 1)) := by
  unfold trip_k0_t1
  dsimp only
  sl_unfold_words
  dsimp only [tup]
  refine put_up _ _ (put_up _ _ (L := []) hf (off3 i k) _ ?_) (off4 i k) _ ?_
  · exact (congrArg (fun x => k0_pay18 _ _ _ _ x) (read_up _ hf (off3 i k) _)).trans (pay18_up ..)
  · exact (congrArg (fun x => k0_pay89 _ _ x) (read_up _ hf (off4 i k) _)).trans (pay89_up ..)

/-- The loop's state before trip `n`. -/
theorem loop_up (G_arg11 : BufTy.Contents (Elt Ideal) arg11.view.ty) (G_arg12 : BufTy.Contents (Elt Ideal) arg12.view.ty) (W X : ℕ → ℕ → ℝ)
    (h11 : arg11.view.read (Elt Ideal) G_arg11 = up 2048 256 .f32 W) (h12 : arg12.view.read (Elt Ideal) G_arg12 = up 2048 256 .f32 X)
    (n : ℕ) (hn : n ≤ (k0_t1_loop i).trips) :
    (st_k0_t1 (F := Ideal) 𝒱 c bd i arg3 harg3 arg4 harg4 arg5 harg5 arg6 harg6 arg7 harg7 arg8 harg8 arg9 harg9 arg10 harg10 arg11 harg11 arg12 harg12 arg2 k0_pay65 k0_pay66 k0_pay67 (up 512 128 .bf16 s0.Q) (up 512 128 .bf16 s1.Q) (up 512 128 .bf16 s0.D) (up 512 128 .bf16 s1.D) (up 512 1 .f32 s0.T) (up 512 1 .f32 s1.T) v113 X_arg4 X_arg5 G_arg11 G_arg12 (tup s0 s1 0) n).1 = tup s0 s1 n ∧
    arg11.view.read (Elt Ideal) (arg11.view.writes (Elt Ideal) G_arg11 (st_k0_t1 (F := Ideal) 𝒱 c bd i arg3 harg3 arg4 harg4 arg5 harg5 arg6 harg6 arg7 harg7 arg8 harg8 arg9 harg9 arg10 harg10 arg11 harg11 arg12 harg12 arg2 k0_pay65 k0_pay66 k0_pay67 (up 512 128 .bf16 s0.Q) (up 512 128 .bf16 s1.Q) (up 512 128 .bf16 s0.D) (up 512 128 .bf16 s1.D) (up 512 1 .f32 s0.T) (up 512 1 .f32 s1.T) v113 X_arg4 X_arg5 G_arg11 G_arg12 (tup s0 s1 0) n).2.1) = up 2048 256 .f32 (skK s0 s1 W n) ∧
    arg12.view.read (Elt Ideal) (arg12.view.writes (Elt Ideal) G_arg12 (st_k0_t1 (F := Ideal) 𝒱 c bd i arg3 harg3 arg4 harg4 arg5 harg5 arg6 harg6 arg7 harg7 arg8 harg8 arg9 harg9 arg10 harg10 arg11 harg11 arg12 harg12 arg2 k0_pay65 k0_pay66 k0_pay67 (up 512 128 .bf16 s0.Q) (up 512 128 .bf16 s1.Q) (up 512 128 .bf16 s0.D) (up 512 128 .bf16 s1.D) (up 512 1 .f32 s0.T) (up 512 1 .f32 s1.T) v113 X_arg4 X_arg5 G_arg11 G_arg12 (tup s0 s1 0) n).2.2) = up 2048 256 .f32 (skV s0 s1 X n) := by
  induction n with
  | zero => exact ⟨rfl, h11, h12⟩
  | succ n ih =>
    obtain ⟨e1, e2, e3⟩ := ih (by omega)
    rw [show n + 1 = (⟨n, hn⟩ : Fin (k0_t1_loop i).trips).val + 1 from rfl, st_k0_t1_succ]
    dsimp only
    rw [e1]
    refine ⟨?_, ?_, ?_⟩
    · exact trip_carried (k := ⟨n, hn⟩) (h4 := h4) (h5 := h5) (hK0 := hK0) (hV0 := hV0) (hK1 := hK1) (hV1 := hV1) ..
    · rw [View.writes_append]
      exact trip_skK (k := ⟨n, hn⟩) (h4 := h4) (h5 := h5) (hK0 := hK0) (hV0 := hV0) (hK1 := hK1) (hV1 := hV1) (hf := e2) ..
    · rw [View.writes_append]
      exact trip_skV (k := ⟨n, hn⟩) (h4 := h4) (h5 := h5) (hK0 := hK0) (hV0 := hV0) (hK1 := hK1) (hV1 := hV1) (hf := e3) ..
end

end Cert.AttBwd

end
-- ==== Proof.Case.lean ====
module
public import proofs.«01_k».proof.Proof.Trip

@[expose] public section

set_option maxRecDepth 16384
set_option maxHeartbeats 4000000

/-! What the body leaves in its outputs and in the two scratch arrays at one grid point, from blocks of real numbers. -/

noncomputable section

namespace Cert.AttBwd

open Idealize.ShloMosaic Idealize.ShloMosaic.TcCoe Idealize.SL.Sem
open Cert.KernelIdeal Cert.KernelIdeal.Gen

/-- What the pair of heads at lanes `p` to `p + 127` works on, from the blocks. -/
def side (X0 X1 X2 X3 X4 : ℕ → ℕ → ℝ) (p : ℕ) : Side where
  Q := stk fun i l => X0 i (p + l) * (1 / 8)
  D := stk fun i l => X4 i (p + l)
  T := fun i _ => X3 (qrow i) (p + 64 * qhead i)
  K := fun i l => X1 i (p + l)
  V := fun i l => X2 i (p + l)

section
variable (X0 X1 X2 X3 X4 : ℕ → ℕ → ℝ)

/-- A single column from lane `p` on is lane `p`. -/
theorem up_lane (A : ℕ → ℕ → ℝ) (o p : ℕ) : up 128 1 .f32 (fun i j => A (o + i) (p + j)) = up 128 1 .f32 (fun i _ => A (o + i) p) :=
  up_ext fun i _ j hj => by rw [show j = 0 by omega, Nat.add_zero]

theorem e69 : k0_pay69 (F := Ideal) (View.ld (Val := Elt Ideal) (e' := .f32) (up 256 256 .f32 X0) (Rect.unit (s := S256x256) ![0, 0] ![128, 128] inb_S256x256_S128x128_0_0)) (View.ld (Val := Elt Ideal) (e' := .f32) (up 256 256 .f32 X0) (Rect.unit (s := S256x256) ![128, 0] ![128, 128] inb_S256x256_S128x128_128_0)) = up 512 128 .bf16 (side X0 X1 X2 X3 X4 0).Q := by
  have h := pay69_up (fun i l => X0 i (0 + l))
  simpa only [ld_up, side, zero_add, Nat.add_zero, Nat.reduceMul, Nat.reduceAdd] using h

theorem e70 : k0_pay70 (F := Ideal) k0_pay67 k0_pay68 (View.ld (Val := Elt Ideal) (e' := .f32) (up 256 256 .f32 X0) (Rect.unit (s := S256x256) ![0, 128] ![128, 128] inb_S256x256_S128x128_0_128)) (Scalar.ofBits .f32 0x3E000000#32) (View.ld (Val := Elt Ideal) (e' := .f32) (up 256 256 .f32 X0) (Rect.unit (s := S256x256) ![128, 128] ![128, 128] inb_S256x256_S128x128_128_128)) = up 512 128 .bf16 (side X0 X1 X2 X3 X4 128).Q := by
  have h := pay70_up (fun i l => X0 i (128 + l))
  simpa only [ld_up, side, zero_add, Nat.add_zero, Nat.reduceMul, Nat.reduceAdd] using h

theorem e71 : k0_pay71 (F := Ideal) k0_pay67 k0_pay68 (View.ld (Val := Elt Ideal) (e' := .f32) (up 256 256 .f32 X4) (Rect.unit (s := S256x256) ![0, 0] ![128, 128] inb_S256x256_S128x128_0_0)) (View.ld (Val := Elt Ideal) (e' := .f32) (up 256 256 .f32 X4) (Rect.unit (s := S256x256) ![128, 0] ![128, 128] inb_S256x256_S128x128_128_0)) = up 512 128 .bf16 (side X0 X1 X2 X3 X4 0).D := by
  have h := pay71_up (fun i l => X4 i (0 + l))
  simpa only [ld_up, side, zero_add, Nat.add_zero, Nat.reduceMul, Nat.reduceAdd] using h

theorem e73 : k0_pay73 (F := Ideal) k0_pay67 k0_pay68 (k0_pay72 (View.ld (Val := Elt Ideal) (e' := .f32) (up 256 256 .f32 X4) (Rect.unit (s := S256x256) ![0, 128] ![128, 128] inb_S256x256_S128x128_0_128))) (View.ld (Val := Elt Ideal) (e' := .f32) (up 256 256 .f32 X4) (Rect.unit (s := S256x256) ![128, 128] ![128, 128] inb_S256x256_S128x128_128_128)) = up 512 128 .bf16 (side X0 X1 X2 X3 X4 128).D := by
  have h := pay73_up (fun i l => X4 i (128 + l))
  simpa only [ld_up, side, zero_add, Nat.add_zero, Nat.reduceMul, Nat.reduceAdd] using h

theorem e74 : k0_pay74 (F := Ideal) (View.ld (Val := Elt Ideal) (e' := .f32) (up 256 256 .f32 X3) (Rect.unit (s := S256x256) ![0, 0] ![128, 1] inb_S256x256_S128x1_0_0)) (View.ld (Val := Elt Ideal) (e' := .f32) (up 256 256 .f32 X3) (Rect.unit (s := S256x256) ![0, 64] ![128, 1] inb_S256x256_S128x1_0_64)) (View.ld (Val := Elt Ideal) (e' := .f32) (up 256 256 .f32 X3) (Rect.unit (s := S256x256) ![128, 0] ![128, 1] inb_S256x256_S128x1_128_0)) (View.ld (Val := Elt Ideal) (e' := .f32) (up 256 256 .f32 X3) (Rect.unit (s := S256x256) ![128, 64] ![128, 1] inb_S256x256_S128x1_128_64)) = up 512 1 .f32 (side X0 X1 X2 X3 X4 0).T := by
  have h := pay74_up (fun i l => X3 i (0 + l))
  simp only [ld_up, up_lane]
  simpa only [ld_up, side, zero_add, Nat.add_zero, Nat.reduceMul, Nat.reduceAdd] using h

theorem e75 : k0_pay75 (F := Ideal) (View.ld (Val := Elt Ideal) (e' := .f32) (up 256 256 .f32 X3) (Rect.unit (s := S256x256) ![0, 128] ![128, 1] inb_S256x256_S128x1_0_128)) (View.ld (Val := Elt Ideal) (e' := .f32) (up 256 256 .f32 X3) (Rect.unit (s := S256x256) ![0, 192] ![128, 1] inb_S256x256_S128x1_0_192)) (View.ld (Val := Elt Ideal) (e' := .f32) (up 256 256 .f32 X3) (Rect.unit (s := S256x256) ![128, 128] ![128, 1] inb_S256x256_S128x1_128_128)) (View.ld (Val := Elt Ideal) (e' := .f32) (up 256 256 .f32 X3) (Rect.unit (s := S256x256) ![128, 192] ![128, 1] inb_S256x256_S128x1_128_192)) = up 512 1 .f32 (side X0 X1 X2 X3 X4 128).T := by
  have h := pay75_up (fun i l => X3 i (128 + l))
  simp only [ld_up, up_lane]
  simpa only [ld_up, side, zero_add, Nat.add_zero, Nat.reduceMul, Nat.reduceAdd] using h

theorem e_init : ((k0_pay80 (F := Ideal), k0_pay81 (F := Ideal), k0_pay82 (F := Ideal), k0_pay83 (F := Ideal),
      k0_pay76 (up 512 128 .bf16 (side X0 X1 X2 X3 X4 0).Q) (View.ld (Val := Elt Ideal) (e' := .f32) (up 2048 256 .f32 X1) (Rect.unit (s := S2048x256) ![0, 0] ![256, 128] inb_S2048x256_S256x128_0_0)),
      k0_pay77 (up 512 128 .bf16 (side X0 X1 X2 X3 X4 0).D) (View.ld (Val := Elt Ideal) (e' := .f32) (up 2048 256 .f32 X2) (Rect.unit (s := S2048x256) ![0, 0] ![256, 128] inb_S2048x256_S256x128_0_0)),
      k0_pay84 (F := Ideal), k0_pay85 (F := Ideal), k0_pay86 (F := Ideal), k0_pay87 (F := Ideal),
      k0_pay78 (up 512 128 .bf16 (side X0 X1 X2 X3 X4 128).Q) (View.ld (Val := Elt Ideal) (e' := .f32) (up 2048 256 .f32 X1) (Rect.unit (s := S2048x256) ![0, 128] ![256, 128] inb_S2048x256_S256x128_0_128)),
      k0_pay79 (up 512 128 .bf16 (side X0 X1 X2 X3 X4 128).D) (View.ld (Val := Elt Ideal) (e' := .f32) (up 2048 256 .f32 X2) (Rect.unit (s := S2048x256) ![0, 128] ![256, 128] inb_S2048x256_S256x128_0_128))) : Acc) = tup (side X0 X1 X2 X3 X4 0) (side X0 X1 X2 X3 X4 128) 0 := by
  refine tuple_ext ?_ ?_ ?_ ?_ ?_ ?_ ?_ ?_ ?_ ?_ ?_ ?_
  · exact pay80_up
  · exact pay81_up
  · exact pay82_up
  · exact pay83_up
  · rw [ld_up]; exact pay76_up ..
  · rw [ld_up]; exact pay77_up ..
  · exact pay84_up
  · exact pay85_up
  · exact pay86_up
  · exact pay87_up
  · rw [ld_up]; exact pay78_up ..
  · rw [ld_up]; exact pay79_up ..

theorem e_trips (i : grid0.Coords) : Scf.trips (0#32) (Scalar.addi (0#32) (Scalar.muli (Scalar.divsi (Scalar.subi (BitVec.ofNat 32 (i 2).val) 0#32) 1#32) 1#32)) 1#32 = (i 2).val := trips_eq i

theorem e_trips2 (i : grid0.Coords) : Scf.trips (Scalar.addi (0#32) (Scalar.muli (Scalar.divsi (Scalar.subi (BitVec.ofNat 32 (i 2).val) 0#32) 1#32) 1#32)) (Scalar.addi (0#32) (Scalar.subi (BitVec.ofNat 32 (i 2).val) 0#32)) 1#32 = 0 :=
  (by decide +kernel : ∀ a : Fin 8, Scf.trips (Scalar.addi (0#32) (Scalar.muli (Scalar.divsi (Scalar.subi (BitVec.ofNat 32 a.val) 0#32) 1#32) 1#32)) (Scalar.addi (0#32) (Scalar.subi (BitVec.ofNat 32 a.val) 0#32)) 1#32 = 0) (i 2)
end

/-- On the diagonal tile `n`: the weights and the gradient of the logits, and the two halves of the gradient of the queries. -/
def Side.PD (s : Side) (n : ℕ) : ℕ → ℕ → ℝ := tP causal (s.S n) s.T (s.seen n)
def Side.ED (s : Side) (n : ℕ) : ℕ → ℕ → ℝ := tD causal (s.S n) (s.G n) s.T (s.seen n) (s.dseen n)
def Side.dq (s : Side) (o n i j : ℕ) : ℝ := s.acc o n i j + pick (dqT (s.ED n) (s.Kt n)) o i j

/-- A tile of two pairs of heads and two halves of the rows. -/
def quad (A B C D : ℕ → ℕ → ℝ) (i j : ℕ) : ℝ :=
  if j < 128 then (if i < 128 then A i j else B (i - 128) j) else (if i < 128 then C i (j - 128) else D (i - 128) (j - 128))

/-- The block of the gradient of the queries. -/
def blockQ (s0 s1 : Side) (n : ℕ) : ℕ → ℕ → ℝ :=
  quad (fun i j => s0.dq 0 n i j * (1 / 8)) (fun i j => s0.dq 256 n i j * (1 / 8)) (fun i j => s1.dq 0 n i j * (1 / 8)) (fun i j => s1.dq 256 n i j * (1 / 8))

/-- The two scratch arrays after the diagonal tile. -/
def endK (s0 s1 : Side) (W : ℕ → ℕ → ℝ) (n : ℕ) : ℕ → ℕ → ℝ :=
  put (256 * n) 128 256 128 (put (256 * n) 0 256 128 (skK s0 s1 W n)
      (fun i j => skK s0 s1 W n (256 * n + i) (0 + j) + dkT (s0.ED n) s0.Q i j))
      (fun i j => skK s0 s1 W n (256 * n + i) (128 + j) + dkT (s1.ED n) s1.Q i j)
def endV (s0 s1 : Side) (W : ℕ → ℕ → ℝ) (n : ℕ) : ℕ → ℕ → ℝ :=
  put (256 * n) 128 256 128 (put (256 * n) 0 256 128 (skV s0 s1 W n)
      (fun i j => skV s0 s1 W n (256 * n + i) (0 + j) + dkT (s0.PD n) s0.D i j))
      (fun i j => skV s0 s1 W n (256 * n + i) (128 + j) + dkT (s1.PD n) s1.D i j)

theorem put_far (o c : ℕ) (A B : ℕ → ℕ → ℝ) (i j : ℕ) : put o 0 c 128 A B i (128 + j) = A i (128 + j) :=
  if_neg (by omega)

theorem up_far {a b : ℕ} (o c k : ℕ) (A B : ℕ → ℕ → ℝ) :
    up a b .f32 (fun i j => put o 0 c 128 A B (k + i) (128 + j)) = up a b .f32 fun i j => A (k + i) (128 + j) :=
  up_ext fun i _ j _ => put_far ..

theorem canon_put {a b : ℕ} {A B : ℕ → ℕ → ℝ} {L : List (View.Piece (Elt Ideal) ⟨2, ![a, b]⟩ .f32)}
    (hf : View.canon L = up a b .f32 A) {off : Fin 2 → ℕ} {o p c d : ℕ} (h : off = ![o, p])
    (inb : ∀ x, off x + (![c, d] : Fin 2 → ℕ) x ≤ (⟨2, ![a, b]⟩ : Shape).size x)
    {w : FVec Ideal ⟨2, ![c, d]⟩ .f32} (hw : w = up c d .f32 B) :
    View.canon (⟨Rect.unit (s := ⟨2, ![a, b]⟩) off ![c, d] inb, w⟩ :: L) = up a b .f32 (put o p c d A B) := by
  subst h hw
  refine eq_up fun i j => ?_
  by_cases hin : (o ≤ i.val ∧ i.val < o + c) ∧ (p ≤ j.val ∧ j.val < p + d)
  · have e : ix2 i j = (Rect.unit (s := ⟨2, ![a, b]⟩) ![o, p] ![c, d] inb).emb (ix2 (⟨i.val - o, by omega⟩ : Fin c) (⟨j.val - p, by omega⟩ : Fin d)) := by
      funext x
      apply Fin.ext
      fin_cases x
      · show i.val = o + 1 * (i.val - o); omega
      · show j.val = p + 1 * (j.val - p); omega
    rw [e, View.canon_cons_emb, put, if_pos hin]; rfl
  · rw [View.canon_cons_of_not_mem, hf, put, if_neg hin]; · rfl
    intro hm
    obtain ⟨x, hx⟩ := (Rect.unit (s := ⟨2, ![a, b]⟩) ![o, p] ![c, d] inb).exists_idx_of_mem hm
    have h0 : o + 1 * (x 0).val = i.val := congrArg (fun y => (y 0).val) hx
    have h1 : p + 1 * (x 1).val = j.val := congrArg (fun y => (y 1).val) hx
    have hx0 : (x 0).val < c := (x 0).isLt
    have hx1 : (x 1).val < d := (x 1).isLt
    omega

theorem canon_quad {A B C D : ℕ → ℕ → ℝ} {x y z w : FVec Ideal S128x128 .bf16}
    (hx : x = up 128 128 .bf16 A) (hy : y = up 128 128 .bf16 B) (hz : z = up 128 128 .bf16 C) (hw : w = up 128 128 .bf16 D) :
    View.canon (Val := Elt Ideal) (e := .bf16) [⟨Rect.unit (s := S256x256) ![128, 128] ![128, 128] inb_S256x256_S128x128_128_128, w⟩,
      ⟨Rect.unit (s := S256x256) ![0, 128] ![128, 128] inb_S256x256_S128x128_0_128, z⟩,
      ⟨Rect.unit (s := S256x256) ![128, 0] ![128, 128] inb_S256x256_S128x128_128_0, y⟩,
      ⟨Rect.unit (s := S256x256) ![0, 0] ![128, 128] inb_S256x256_S128x128_0_0, x⟩] = up 256 256 .bf16 (quad A B C D) := by
  subst hx hy hz hw
  refine eq_up fun i j => ?_
  canon_tiles t h
  · have e0 : i.val = 128 + (t 0).val := h0
    have e1 : j.val = 128 + (t 1).val := h1
    rw [quad, if_neg (by omega), if_neg (by omega), show i.val - 128 = (t 0).val by omega, show j.val - 128 = (t 1).val by omega]; rfl
  · have e0 : i.val = (t 0).val := h0
    have e1 : j.val = 128 + (t 1).val := h1
    rw [quad, if_neg (by omega), if_pos (by omega), show i.val = (t 0).val by omega, show j.val - 128 = (t 1).val by omega]; rfl
  · have e0 : i.val = 128 + (t 0).val := h0
    have e1 : j.val = (t 1).val := h1
    rw [quad, if_pos (by omega), if_neg (by omega), show i.val - 128 = (t 0).val by omega, show j.val = (t 1).val by omega]; rfl
  · have e0 : i.val = (t 0).val := h0
    have e1 : j.val = (t 1).val := h1
    rw [quad, if_pos (by omega), if_pos (by omega), show i.val = (t 0).val by omega, show j.val = (t 1).val by omega]; rfl

theorem ld9 (Y : ℕ → ℕ → ℝ) (i : grid0.Coords) (inb) : View.ld (Val := Elt Ideal) (e' := .f32) (up 2048 256 .f32 Y) (Rect.unit (s := S2048x256) (k0_off9 i) ![256, 128] inb) = up 256 128 .f32 fun a b => Y (256 * (i 2).val + a) (0 + b) := by
  have h : ∀ (off : Fin 2 → ℕ) (ho : off = ![256 * (i 2).val, 0]) (inb), View.ld (Val := Elt Ideal) (e' := .f32) (up 2048 256 .f32 Y) (Rect.unit (s := S2048x256) off ![256, 128] inb) = up 256 128 .f32 fun a b => Y (256 * (i 2).val + a) (0 + b) := by
    intro off ho inb; subst ho; exact ld_up ..
  exact h _ (off9 i) _
theorem ld10 (Y : ℕ → ℕ → ℝ) (i : grid0.Coords) (inb) : View.ld (Val := Elt Ideal) (e' := .f32) (up 2048 256 .f32 Y) (Rect.unit (s := S2048x256) (k0_off10 i) ![256, 128] inb) = up 256 128 .f32 fun a b => Y (256 * (i 2).val + a) (128 + b) := by
  have h : ∀ (off : Fin 2 → ℕ) (ho : off = ![256 * (i 2).val, 128]) (inb), View.ld (Val := Elt Ideal) (e' := .f32) (up 2048 256 .f32 Y) (Rect.unit (s := S2048x256) off ![256, 128] inb) = up 256 128 .f32 fun a b => Y (256 * (i 2).val + a) (128 + b) := by
    intro off ho inb; subst ho; exact ld_up ..
  exact h _ (off10 i) _

end Cert.AttBwd
end
-- ==== Proof.CaseA.lean ====
module
public import proofs.«01_k».proof.Proof.Case

@[expose] public section

set_option maxRecDepth 16384
set_option maxHeartbeats 1000000

/-! What the body leaves in its outputs and in the two scratch arrays at a grid point that starts a row of query tiles. -/

noncomputable section

namespace Cert.AttBwd

open Idealize.ShloMosaic Idealize.ShloMosaic.TcCoe Idealize.SL.Sem
open Cert.KernelIdeal Cert.KernelIdeal.Gen

section
variable (X0 X1 X2 X3 X4 : ℕ → ℕ → ℝ)
variable (c : Dev nD) (i : grid0.Coords) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .f32) (harg11 : arg11.IsWhole) (arg12 : Memref sig .tc .vmem S2048x256 .f32) (harg12 : arg12.IsWhole)

theorem first_zero : cond0_0 i → (i 2).val = 0 := by
  intro h
  exact (by decide +kernel : ∀ a : Fin 8, Scalar.cmpi .ne (Scalar.extui (Scalar.cmpi .eq (BitVec.ofNat 32 a.val) 0#32)) 0#32 = 1#1 → a.val = 0) (i 2) h

theorem base_k : View.canon (Val := Elt Ideal) (e := .f32) [⟨Rect.unit (s := S2048x256) ![0, 0] ![2048, 256] inb_S2048x256_S2048x256_0_0, k0_pay63 (F := Ideal)⟩] = up 2048 256 .f32 fun _ _ => 0 :=
  (View.canon_cons_unit_lit (S := S2048x256) _ _ _ (by decide)).trans pay63_up
theorem base_v : View.canon (Val := Elt Ideal) (e := .f32) [⟨Rect.unit (s := S2048x256) ![0, 0] ![2048, 256] inb_S2048x256_S2048x256_0_0, k0_pay64 (F := Ideal)⟩] = up 2048 256 .f32 fun _ _ => 0 :=
  (View.canon_cons_unit_lit (S := S2048x256) _ _ _ (by decide)).trans pay64_up

theorem outA_q (hc0 : cond0_0 i) (hc1 : ¬cond0_1 i) : out0_A_5 (F := Ideal) c i arg3 harg3 arg4 harg4 arg5 harg5 arg6 harg6 arg7 harg7 arg8 harg8 arg9 harg9 arg10 harg10 arg11 harg11 arg12 harg12 hc0 hc1 (up 256 256 .f32 X0) (up 2048 256 .f32 X1) (up 2048 256 .f32 X2) (up 256 256 .f32 X3) (up 256 256 .f32 X4) = up 256 256 .bf16 (blockQ (side X0 X1 X2 X3 X4 0) (side X0 X1 X2 X3 X4 128) 0) := by
  have hz := first_zero i hc0
  frame_out
  simp only [e69 X0 X1 X2 X3 X4, e70 X0 X1 X2 X3 X4, e71 X0 X1 X2 X3 X4, e73 X0 X1 X2 X3 X4, e74 X0 X1 X2 X3 X4, e75 X0 X1 X2 X3 X4, e_init, e_trips, e_trips2, st_k0_t2.eq_1]
  simp only [hz, st_k0_t1.eq_1, List.nil_append]
  dsimp only [tup]
  simp only [ld9, ld10, hz, pay96_up, pay108_up, pay102_up, pay104_up, pay105_up, pay117_up (hm := pay112_msk), pay118_up (hm := pay112_msk)]
  exact canon_quad (pay122_up ..) (pay123_up ..) (pay124_up ..) (pay125_up ..)

theorem soutA_k (hc0 : cond0_0 i) (hc1 : ¬cond0_1 i) : sout0_A_0 (F := Ideal) c i arg3 harg3 arg4 harg4 arg5 harg5 arg6 harg6 arg7 harg7 arg8 harg8 arg9 harg9 arg10 harg10 arg11 harg11 arg12 harg12 hc0 hc1 (up 256 256 .f32 X0) (up 2048 256 .f32 X1) (up 2048 256 .f32 X2) (up 256 256 .f32 X3) (up 256 256 .f32 X4) = up 2048 256 .f32 (endK (side X0 X1 X2 X3 X4 0) (side X0 X1 X2 X3 X4 128) (fun _ _ => 0) 0) := by
  have hz := first_zero i hc0
  frame_out
  simp only [e69 X0 X1 X2 X3 X4, e70 X0 X1 X2 X3 X4, e71 X0 X1 X2 X3 X4, e73 X0 X1 X2 X3 X4, e74 X0 X1 X2 X3 X4, e75 X0 X1 X2 X3 X4, e_init, e_trips, e_trips2, st_k0_t2.eq_1]
  simp only [hz, st_k0_t1.eq_1, List.nil_append]
  dsimp only [tup]
  have o9 := (off9 i).trans (congrArg (fun n => ![256 * n, 0]) hz)
  have o10 := (off10 i).trans (congrArg (fun n => ![256 * n, 128]) hz)
  simp only [base_k, ld9, hz, pay102_up, pay106_up]
  have p9 := fun inb => canon_put (base_k) o9 inb (rfl : up 256 128 .f32 (fun a b => skK (side X0 X1 X2 X3 X4 0) (side X0 X1 X2 X3 X4 128) (fun _ _ => 0) 0 (256 * 0 + a) (0 + b) + dkT ((side X0 X1 X2 X3 X4 0).ED 0) (side X0 X1 X2 X3 X4 0).Q a b) = _)
  simp only [Side.ED, skK] at p9
  simp only [p9, ld10, hz, up_far, pay120_up (hm := pay112_msk)]
  exact canon_put (p9 _) o10 _ rfl

theorem soutA_v (hc0 : cond0_0 i) (hc1 : ¬cond0_1 i) : sout0_A_1 (F := Ideal) c i arg3 harg3 arg4 harg4 arg5 harg5 arg6 harg6 arg7 harg7 arg8 harg8 arg9 harg9 arg10 harg10 arg11 harg11 arg12 harg12 hc0 hc1 (up 256 256 .f32 X0) (up 2048 256 .f32 X1) (up 2048 256 .f32 X2) (up 256 256 .f32 X3) (up 256 256 .f32 X4) = up 2048 256 .f32 (endV (side X0 X1 X2 X3 X4 0) (side X0 X1 X2 X3 X4 128) (fun _ _ => 0) 0) := by
  have hz := first_zero i hc0
  frame_out
  simp only [e69 X0 X1 X2 X3 X4, e70 X0 X1 X2 X3 X4, e71 X0 X1 X2 X3 X4, e73 X0 X1 X2 X3 X4, e74 X0 X1 X2 X3 X4, e75 X0 X1 X2 X3 X4, e_init, e_trips, e_trips2, st_k0_t2.eq_1]
  simp only [hz, st_k0_t1.eq_1, List.nil_append]
  dsimp only [tup]
  have o9 := (off9 i).trans (congrArg (fun n => ![256 * n, 0]) hz)
  have o10 := (off10 i).trans (congrArg (fun n => ![256 * n, 128]) hz)
  simp only [base_v, ld9, hz, pay101_up, pay107_up]
  have p9 := fun inb => canon_put (base_v) o9 inb (rfl : up 256 128 .f32 (fun a b => skV (side X0 X1 X2 X3 X4 0) (side X0 X1 X2 X3 X4 128) (fun _ _ => 0) 0 (256 * 0 + a) (0 + b) + dkT ((side X0 X1 X2 X3 X4 0).PD 0) (side X0 X1 X2 X3 X4 0).D a b) = _)
  simp only [Side.PD, skV] at p9
  simp only [p9, ld10, hz, up_far, pay114_up (hm := pay112_msk), pay121_up]
  exact canon_put (p9 _) o10 _ rfl
end
end Cert.AttBwd
end
-- ==== Proof.CaseB.lean ====
module
public import proofs.«01_k».proof.Proof.Case

@[expose] public section

set_option maxRecDepth 16384
set_option maxHeartbeats 1000000

/-! What the body leaves in its outputs and in the two scratch arrays at a grid point that neither starts nor ends a row of query tiles. -/

noncomputable section

namespace Cert.AttBwd

open Idealize.ShloMosaic Idealize.ShloMosaic.TcCoe Idealize.SL.Sem
open Cert.KernelIdeal Cert.KernelIdeal.Gen

section
variable (X0 X1 X2 X3 X4 W X : ℕ → ℕ → ℝ)
variable (c : Dev nD) (i : grid0.Coords) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .f32) (harg11 : arg11.IsWhole) (arg12 : Memref sig .tc .vmem S2048x256 .f32) (harg12 : arg12.IsWhole)

theorem outB_q (hc0 : ¬cond0_0 i) (hc1 : ¬cond0_1 i) : out0_B_5 (F := Ideal) c i arg3 harg3 arg4 harg4 arg5 harg5 arg6 harg6 arg7 harg7 arg8 harg8 arg9 harg9 arg10 harg10 arg11 harg11 arg12 harg12 hc0 hc1 (up 256 256 .f32 X0) (up 2048 256 .f32 X1) (up 2048 256 .f32 X2) (up 256 256 .f32 X3) (up 256 256 .f32 X4) (up 2048 256 .f32 W) (up 2048 256 .f32 X) = up 256 256 .bf16 (blockQ (side X0 X1 X2 X3 X4 0) (side X0 X1 X2 X3 X4 128) (i 2).val) := by
  frame_out
  simp only [e69 X0 X1 X2 X3 X4, e70 X0 X1 X2 X3 X4, e71 X0 X1 X2 X3 X4, e73 X0 X1 X2 X3 X4, e74 X0 X1 X2 X3 X4, e75 X0 X1 X2 X3 X4, e_init, e_trips, e_trips2, st_k0_t2.eq_1]
  have L := loop_up (𝒱 := Variants.none) (c := c) (bd := none) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg2 := BitVec.ofNat 32 (i 2).val) (v113 := 0#32) (s0 := (side X0 X1 X2 X3 X4 0)) (s1 := (side X0 X1 X2 X3 X4 128)) (K := X1) (V := X2) (h4 := harg4.read_unread _) (h5 := harg5.read_unread _) (hK0 := rfl) (hV0 := rfl) (hK1 := rfl) (hV1 := rfl) (G_arg11 := harg11.unread (up 2048 256 .f32 W)) (G_arg12 := harg12.unread (up 2048 256 .f32 X)) (W := W) (X := X) (h11 := harg11.read_unread _) (h12 := harg12.read_unread _) (n := (i 2).val) (hn := le_of_eq (trips_eq i).symm)
  generalize (st_k0_t1 (F := Ideal) Variants.none c none i arg3 harg3 arg4 harg4 arg5 harg5 arg6 harg6 arg7 harg7 arg8 harg8 arg9 harg9 arg10 harg10 arg11 harg11 arg12 harg12 (BitVec.ofNat 32 (i 2).val) k0_pay65 k0_pay66 k0_pay67 (up 512 128 .bf16 (side X0 X1 X2 X3 X4 0).Q) (up 512 128 .bf16 (side X0 X1 X2 X3 X4 128).Q) (up 512 128 .bf16 (side X0 X1 X2 X3 X4 0).D) (up 512 128 .bf16 (side X0 X1 X2 X3 X4 128).D) (up 512 1 .f32 (side X0 X1 X2 X3 X4 0).T) (up 512 1 .f32 (side X0 X1 X2 X3 X4 128).T) (0#32) (harg4.unread (up 2048 256 .f32 X1)) (harg5.unread (up 2048 256 .f32 X2)) (harg11.unread (up 2048 256 .f32 W)) (harg12.unread (up 2048 256 .f32 X)) (tup (side X0 X1 X2 X3 X4 0) (side X0 X1 X2 X3 X4 128) 0) (i 2).val) = ST at L ⊢
  obtain ⟨v, w, w'⟩ := ST
  obtain ⟨L1, L2, L3⟩ := L
  dsimp only at L1 L2 L3 ⊢
  subst L1
  dsimp only [tup, List.nil_append]
  simp only [ld9, ld10, pay96_up, pay108_up, pay102_up, pay104_up, pay105_up, pay117_up (hm := pay112_msk), pay118_up (hm := pay112_msk)]
  exact canon_quad (pay122_up ..) (pay123_up ..) (pay124_up ..) (pay125_up ..)

theorem soutB_k (hc0 : ¬cond0_0 i) (hc1 : ¬cond0_1 i) : sout0_B_0 (F := Ideal) c i arg3 harg3 arg4 harg4 arg5 harg5 arg6 harg6 arg7 harg7 arg8 harg8 arg9 harg9 arg10 harg10 arg11 harg11 arg12 harg12 hc0 hc1 (up 256 256 .f32 X0) (up 2048 256 .f32 X1) (up 2048 256 .f32 X2) (up 256 256 .f32 X3) (up 256 256 .f32 X4) (up 2048 256 .f32 W) (up 2048 256 .f32 X) = up 2048 256 .f32 (endK (side X0 X1 X2 X3 X4 0) (side X0 X1 X2 X3 X4 128) W (i 2).val) := by
  frame_out
  simp only [e69 X0 X1 X2 X3 X4, e70 X0 X1 X2 X3 X4, e71 X0 X1 X2 X3 X4, e73 X0 X1 X2 X3 X4, e74 X0 X1 X2 X3 X4, e75 X0 X1 X2 X3 X4, e_init, e_trips, e_trips2, st_k0_t2.eq_1]
  have L := loop_up (𝒱 := Variants.none) (c := c) (bd := none) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg2 := BitVec.ofNat 32 (i 2).val) (v113 := 0#32) (s0 := (side X0 X1 X2 X3 X4 0)) (s1 := (side X0 X1 X2 X3 X4 128)) (K := X1) (V := X2) (h4 := harg4.read_unread _) (h5 := harg5.read_unread _) (hK0 := rfl) (hV0 := rfl) (hK1 := rfl) (hV1 := rfl) (G_arg11 := harg11.unread (up 2048 256 .f32 W)) (G_arg12 := harg12.unread (up 2048 256 .f32 X)) (W := W) (X := X) (h11 := harg11.read_unread _) (h12 := harg12.read_unread _) (n := (i 2).val) (hn := le_of_eq (trips_eq i).symm)
  generalize (st_k0_t1 (F := Ideal) Variants.none c none i arg3 harg3 arg4 harg4 arg5 harg5 arg6 harg6 arg7 harg7 arg8 harg8 arg9 harg9 arg10 harg10 arg11 harg11 arg12 harg12 (BitVec.ofNat 32 (i 2).val) k0_pay65 k0_pay66 k0_pay67 (up 512 128 .bf16 (side X0 X1 X2 X3 X4 0).Q) (up 512 128 .bf16 (side X0 X1 X2 X3 X4 128).Q) (up 512 128 .bf16 (side X0 X1 X2 X3 X4 0).D) (up 512 128 .bf16 (side X0 X1 X2 X3 X4 128).D) (up 512 1 .f32 (side X0 X1 X2 X3 X4 0).T) (up 512 1 .f32 (side X0 X1 X2 X3 X4 128).T) (0#32) (harg4.unread (up 2048 256 .f32 X1)) (harg5.unread (up 2048 256 .f32 X2)) (harg11.unread (up 2048 256 .f32 W)) (harg12.unread (up 2048 256 .f32 X)) (tup (side X0 X1 X2 X3 X4 0) (side X0 X1 X2 X3 X4 128) 0) (i 2).val) = ST at L ⊢
  obtain ⟨v, w, w'⟩ := ST
  obtain ⟨L1, L2, L3⟩ := L
  dsimp only at L1 L2 L3 ⊢
  subst L1
  dsimp only [tup, List.nil_append]
  simp only [L2, ld9, pay102_up, pay106_up]
  have p9 := fun inb => put_up _ _ (L := w) L2 (off9 i) inb (rfl : up 256 128 .f32 (fun a b => skK (side X0 X1 X2 X3 X4 0) (side X0 X1 X2 X3 X4 128) W (i 2).val (256 * (i 2).val + a) (0 + b) + dkT ((side X0 X1 X2 X3 X4 0).ED (i 2).val) (side X0 X1 X2 X3 X4 0).Q a b) = _)
  simp only [Side.ED] at p9
  simp only [p9, ld10, up_far, pay120_up (hm := pay112_msk)]
  exact put_up _ _ (p9 _) (off10 i) _ rfl

theorem soutB_v (hc0 : ¬cond0_0 i) (hc1 : ¬cond0_1 i) : sout0_B_1 (F := Ideal) c i arg3 harg3 arg4 harg4 arg5 harg5 arg6 harg6 arg7 harg7 arg8 harg8 arg9 harg9 arg10 harg10 arg11 harg11 arg12 harg12 hc0 hc1 (up 256 256 .f32 X0) (up 2048 256 .f32 X1) (up 2048 256 .f32 X2) (up 256 256 .f32 X3) (up 256 256 .f32 X4) (up 2048 256 .f32 W) (up 2048 256 .f32 X) = up 2048 256 .f32 (endV (side X0 X1 X2 X3 X4 0) (side X0 X1 X2 X3 X4 128) X (i 2).val) := by
  frame_out
  simp only [e69 X0 X1 X2 X3 X4, e70 X0 X1 X2 X3 X4, e71 X0 X1 X2 X3 X4, e73 X0 X1 X2 X3 X4, e74 X0 X1 X2 X3 X4, e75 X0 X1 X2 X3 X4, e_init, e_trips, e_trips2, st_k0_t2.eq_1]
  have L := loop_up (𝒱 := Variants.none) (c := c) (bd := none) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg2 := BitVec.ofNat 32 (i 2).val) (v113 := 0#32) (s0 := (side X0 X1 X2 X3 X4 0)) (s1 := (side X0 X1 X2 X3 X4 128)) (K := X1) (V := X2) (h4 := harg4.read_unread _) (h5 := harg5.read_unread _) (hK0 := rfl) (hV0 := rfl) (hK1 := rfl) (hV1 := rfl) (G_arg11 := harg11.unread (up 2048 256 .f32 W)) (G_arg12 := harg12.unread (up 2048 256 .f32 X)) (W := W) (X := X) (h11 := harg11.read_unread _) (h12 := harg12.read_unread _) (n := (i 2).val) (hn := le_of_eq (trips_eq i).symm)
  generalize (st_k0_t1 (F := Ideal) Variants.none c none i arg3 harg3 arg4 harg4 arg5 harg5 arg6 harg6 arg7 harg7 arg8 harg8 arg9 harg9 arg10 harg10 arg11 harg11 arg12 harg12 (BitVec.ofNat 32 (i 2).val) k0_pay65 k0_pay66 k0_pay67 (up 512 128 .bf16 (side X0 X1 X2 X3 X4 0).Q) (up 512 128 .bf16 (side X0 X1 X2 X3 X4 128).Q) (up 512 128 .bf16 (side X0 X1 X2 X3 X4 0).D) (up 512 128 .bf16 (side X0 X1 X2 X3 X4 128).D) (up 512 1 .f32 (side X0 X1 X2 X3 X4 0).T) (up 512 1 .f32 (side X0 X1 X2 X3 X4 128).T) (0#32) (harg4.unread (up 2048 256 .f32 X1)) (harg5.unread (up 2048 256 .f32 X2)) (harg11.unread (up 2048 256 .f32 W)) (harg12.unread (up 2048 256 .f32 X)) (tup (side X0 X1 X2 X3 X4 0) (side X0 X1 X2 X3 X4 128) 0) (i 2).val) = ST at L ⊢
  obtain ⟨v, w, w'⟩ := ST
  obtain ⟨L1, L2, L3⟩ := L
  dsimp only at L1 L2 L3 ⊢
  subst L1
  dsimp only [tup, List.nil_append]
  simp only [L3, ld9, pay101_up, pay107_up]
  have p9 := fun inb => put_up _ _ (L := w') L3 (off9 i) inb (rfl : up 256 128 .f32 (fun a b => skV (side X0 X1 X2 X3 X4 0) (side X0 X1 X2 X3 X4 128) X (i 2).val (256 * (i 2).val + a) (0 + b) + dkT ((side X0 X1 X2 X3 X4 0).PD (i 2).val) (side X0 X1 X2 X3 X4 0).D a b) = _)
  simp only [Side.PD] at p9
  simp only [p9, ld10, up_far, pay114_up (hm := pay112_msk), pay121_up]
  exact put_up _ _ (p9 _) (off10 i) _ rfl
end
end Cert.AttBwd
end
-- ==== Proof.CaseC.lean ====
module
public import proofs.«01_k».proof.Proof.Case

@[expose] public section

set_option maxRecDepth 16384
set_option maxHeartbeats 1000000

/-! What the body leaves in its outputs and in the two scratch arrays at a grid point that ends a row of query tiles. -/

noncomputable section

namespace Cert.AttBwd

open Idealize.ShloMosaic Idealize.ShloMosaic.TcCoe Idealize.SL.Sem
open Cert.KernelIdeal Cert.KernelIdeal.Gen

section
variable (X0 X1 X2 X3 X4 W X : ℕ → ℕ → ℝ)
variable (c : Dev nD) (i : grid0.Coords) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .f32) (harg11 : arg11.IsWhole) (arg12 : Memref sig .tc .vmem S2048x256 .f32) (harg12 : arg12.IsWhole)

theorem outC_q (hc0 : ¬cond0_0 i) (hc1 : cond0_1 i) : out0_C_5 (F := Ideal) c i arg3 harg3 arg4 harg4 arg5 harg5 arg6 harg6 arg7 harg7 arg8 harg8 arg9 harg9 arg10 harg10 arg11 harg11 arg12 harg12 hc0 hc1 (up 256 256 .f32 X0) (up 2048 256 .f32 X1) (up 2048 256 .f32 X2) (up 256 256 .f32 X3) (up 256 256 .f32 X4) (up 2048 256 .f32 W) (up 2048 256 .f32 X) = up 256 256 .bf16 (blockQ (side X0 X1 X2 X3 X4 0) (side X0 X1 X2 X3 X4 128) (i 2).val) := by
  frame_out
  simp only [e69 X0 X1 X2 X3 X4, e70 X0 X1 X2 X3 X4, e71 X0 X1 X2 X3 X4, e73 X0 X1 X2 X3 X4, e74 X0 X1 X2 X3 X4, e75 X0 X1 X2 X3 X4, e_init, e_trips, e_trips2, st_k0_t2.eq_1]
  have L := loop_up (𝒱 := Variants.none) (c := c) (bd := none) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg2 := BitVec.ofNat 32 (i 2).val) (v113 := 0#32) (s0 := (side X0 X1 X2 X3 X4 0)) (s1 := (side X0 X1 X2 X3 X4 128)) (K := X1) (V := X2) (h4 := harg4.read_unread _) (h5 := harg5.read_unread _) (hK0 := rfl) (hV0 := rfl) (hK1 := rfl) (hV1 := rfl) (G_arg11 := harg11.unread (up 2048 256 .f32 W)) (G_arg12 := harg12.unread (up 2048 256 .f32 X)) (W := W) (X := X) (h11 := harg11.read_unread _) (h12 := harg12.read_unread _) (n := (i 2).val) (hn := le_of_eq (trips_eq i).symm)
  generalize (st_k0_t1 (F := Ideal) Variants.none c none i arg3 harg3 arg4 harg4 arg5 harg5 arg6 harg6 arg7 harg7 arg8 harg8 arg9 harg9 arg10 harg10 arg11 harg11 arg12 harg12 (BitVec.ofNat 32 (i 2).val) k0_pay65 k0_pay66 k0_pay67 (up 512 128 .bf16 (side X0 X1 X2 X3 X4 0).Q) (up 512 128 .bf16 (side X0 X1 X2 X3 X4 128).Q) (up 512 128 .bf16 (side X0 X1 X2 X3 X4 0).D) (up 512 128 .bf16 (side X0 X1 X2 X3 X4 128).D) (up 512 1 .f32 (side X0 X1 X2 X3 X4 0).T) (up 512 1 .f32 (side X0 X1 X2 X3 X4 128).T) (0#32) (harg4.unread (up 2048 256 .f32 X1)) (harg5.unread (up 2048 256 .f32 X2)) (harg11.unread (up 2048 256 .f32 W)) (harg12.unread (up 2048 256 .f32 X)) (tup (side X0 X1 X2 X3 X4 0) (side X0 X1 X2 X3 X4 128) 0) (i 2).val) = ST at L ⊢
  obtain ⟨v, w, w'⟩ := ST
  obtain ⟨L1, L2, L3⟩ := L
  dsimp only at L1 L2 L3 ⊢
  subst L1
  dsimp only [tup, List.nil_append]
  simp only [ld9, ld10, pay96_up, pay108_up, pay102_up, pay104_up, pay105_up, pay117_up (hm := pay112_msk), pay118_up (hm := pay112_msk)]
  exact canon_quad (pay122_up ..) (pay123_up ..) (pay124_up ..) (pay125_up ..)

theorem soutC_k (hc0 : ¬cond0_0 i) (hc1 : cond0_1 i) : sout0_C_0 (F := Ideal) c i arg3 harg3 arg4 harg4 arg5 harg5 arg6 harg6 arg7 harg7 arg8 harg8 arg9 harg9 arg10 harg10 arg11 harg11 arg12 harg12 hc0 hc1 (up 256 256 .f32 X0) (up 2048 256 .f32 X1) (up 2048 256 .f32 X2) (up 256 256 .f32 X3) (up 256 256 .f32 X4) (up 2048 256 .f32 W) (up 2048 256 .f32 X) = up 2048 256 .f32 (endK (side X0 X1 X2 X3 X4 0) (side X0 X1 X2 X3 X4 128) W (i 2).val) := by
  frame_out
  simp only [e69 X0 X1 X2 X3 X4, e70 X0 X1 X2 X3 X4, e71 X0 X1 X2 X3 X4, e73 X0 X1 X2 X3 X4, e74 X0 X1 X2 X3 X4, e75 X0 X1 X2 X3 X4, e_init, e_trips, e_trips2, st_k0_t2.eq_1]
  have L := loop_up (𝒱 := Variants.none) (c := c) (bd := none) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg2 := BitVec.ofNat 32 (i 2).val) (v113 := 0#32) (s0 := (side X0 X1 X2 X3 X4 0)) (s1 := (side X0 X1 X2 X3 X4 128)) (K := X1) (V := X2) (h4 := harg4.read_unread _) (h5 := harg5.read_unread _) (hK0 := rfl) (hV0 := rfl) (hK1 := rfl) (hV1 := rfl) (G_arg11 := harg11.unread (up 2048 256 .f32 W)) (G_arg12 := harg12.unread (up 2048 256 .f32 X)) (W := W) (X := X) (h11 := harg11.read_unread _) (h12 := harg12.read_unread _) (n := (i 2).val) (hn := le_of_eq (trips_eq i).symm)
  generalize (st_k0_t1 (F := Ideal) Variants.none c none i arg3 harg3 arg4 harg4 arg5 harg5 arg6 harg6 arg7 harg7 arg8 harg8 arg9 harg9 arg10 harg10 arg11 harg11 arg12 harg12 (BitVec.ofNat 32 (i 2).val) k0_pay65 k0_pay66 k0_pay67 (up 512 128 .bf16 (side X0 X1 X2 X3 X4 0).Q) (up 512 128 .bf16 (side X0 X1 X2 X3 X4 128).Q) (up 512 128 .bf16 (side X0 X1 X2 X3 X4 0).D) (up 512 128 .bf16 (side X0 X1 X2 X3 X4 128).D) (up 512 1 .f32 (side X0 X1 X2 X3 X4 0).T) (up 512 1 .f32 (side X0 X1 X2 X3 X4 128).T) (0#32) (harg4.unread (up 2048 256 .f32 X1)) (harg5.unread (up 2048 256 .f32 X2)) (harg11.unread (up 2048 256 .f32 W)) (harg12.unread (up 2048 256 .f32 X)) (tup (side X0 X1 X2 X3 X4 0) (side X0 X1 X2 X3 X4 128) 0) (i 2).val) = ST at L ⊢
  obtain ⟨v, w, w'⟩ := ST
  obtain ⟨L1, L2, L3⟩ := L
  dsimp only at L1 L2 L3 ⊢
  subst L1
  dsimp only [tup, List.nil_append]
  simp only [L2, ld9, pay102_up, pay106_up]
  have p9 := fun inb => put_up _ _ (L := w) L2 (off9 i) inb (rfl : up 256 128 .f32 (fun a b => skK (side X0 X1 X2 X3 X4 0) (side X0 X1 X2 X3 X4 128) W (i 2).val (256 * (i 2).val + a) (0 + b) + dkT ((side X0 X1 X2 X3 X4 0).ED (i 2).val) (side X0 X1 X2 X3 X4 0).Q a b) = _)
  simp only [Side.ED] at p9
  simp only [p9, ld10, up_far, pay120_up (hm := pay112_msk)]
  exact put_up _ _ (p9 _) (off10 i) _ rfl

theorem outC_k (hc0 : ¬cond0_0 i) (hc1 : cond0_1 i) : out0_C_6 (F := Ideal) c i arg3 harg3 arg4 harg4 arg5 harg5 arg6 harg6 arg7 harg7 arg8 harg8 arg9 harg9 arg10 harg10 arg11 harg11 arg12 harg12 hc0 hc1 (up 256 256 .f32 X0) (up 2048 256 .f32 X1) (up 2048 256 .f32 X2) (up 256 256 .f32 X3) (up 256 256 .f32 X4) (up 2048 256 .f32 W) (up 2048 256 .f32 X) = up 2048 256 .bf16 (endK (side X0 X1 X2 X3 X4 0) (side X0 X1 X2 X3 X4 128) W (i 2).val) := by
  frame_out
  simp only [e69 X0 X1 X2 X3 X4, e70 X0 X1 X2 X3 X4, e71 X0 X1 X2 X3 X4, e73 X0 X1 X2 X3 X4, e74 X0 X1 X2 X3 X4, e75 X0 X1 X2 X3 X4, e_init, e_trips, e_trips2, st_k0_t2.eq_1]
  have L := loop_up (𝒱 := Variants.none) (c := c) (bd := none) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg2 := BitVec.ofNat 32 (i 2).val) (v113 := 0#32) (s0 := (side X0 X1 X2 X3 X4 0)) (s1 := (side X0 X1 X2 X3 X4 128)) (K := X1) (V := X2) (h4 := harg4.read_unread _) (h5 := harg5.read_unread _) (hK0 := rfl) (hV0 := rfl) (hK1 := rfl) (hV1 := rfl) (G_arg11 := harg11.unread (up 2048 256 .f32 W)) (G_arg12 := harg12.unread (up 2048 256 .f32 X)) (W := W) (X := X) (h11 := harg11.read_unread _) (h12 := harg12.read_unread _) (n := (i 2).val) (hn := le_of_eq (trips_eq i).symm)
  generalize (st_k0_t1 (F := Ideal) Variants.none c none i arg3 harg3 arg4 harg4 arg5 harg5 arg6 harg6 arg7 harg7 arg8 harg8 arg9 harg9 arg10 harg10 arg11 harg11 arg12 harg12 (BitVec.ofNat 32 (i 2).val) k0_pay65 k0_pay66 k0_pay67 (up 512 128 .bf16 (side X0 X1 X2 X3 X4 0).Q) (up 512 128 .bf16 (side X0 X1 X2 X3 X4 128).Q) (up 512 128 .bf16 (side X0 X1 X2 X3 X4 0).D) (up 512 128 .bf16 (side X0 X1 X2 X3 X4 128).D) (up 512 1 .f32 (side X0 X1 X2 X3 X4 0).T) (up 512 1 .f32 (side X0 X1 X2 X3 X4 128).T) (0#32) (harg4.unread (up 2048 256 .f32 X1)) (harg5.unread (up 2048 256 .f32 X2)) (harg11.unread (up 2048 256 .f32 W)) (harg12.unread (up 2048 256 .f32 X)) (tup (side X0 X1 X2 X3 X4 0) (side X0 X1 X2 X3 X4 128) 0) (i 2).val) = ST at L ⊢
  obtain ⟨v, w, w'⟩ := ST
  obtain ⟨L1, L2, L3⟩ := L
  dsimp only at L1 L2 L3 ⊢
  subst L1
  dsimp only [tup, List.nil_append]
  simp only [L2, ld9, pay102_up, pay106_up]
  have p9 := fun inb => put_up _ _ (L := w) L2 (off9 i) inb (rfl : up 256 128 .f32 (fun a b => skK (side X0 X1 X2 X3 X4 0) (side X0 X1 X2 X3 X4 128) W (i 2).val (256 * (i 2).val + a) (0 + b) + dkT ((side X0 X1 X2 X3 X4 0).ED (i 2).val) (side X0 X1 X2 X3 X4 0).Q a b) = _)
  simp only [Side.ED] at p9
  simp only [p9, ld10, up_far, pay120_up (hm := pay112_msk)]
  exact (congrArg k0_pay126 (put_up _ _ (p9 _) (off10 i) _ rfl)).trans (pay126_up ..)

theorem soutC_v (hc0 : ¬cond0_0 i) (hc1 : cond0_1 i) : sout0_C_1 (F := Ideal) c i arg3 harg3 arg4 harg4 arg5 harg5 arg6 harg6 arg7 harg7 arg8 harg8 arg9 harg9 arg10 harg10 arg11 harg11 arg12 harg12 hc0 hc1 (up 256 256 .f32 X0) (up 2048 256 .f32 X1) (up 2048 256 .f32 X2) (up 256 256 .f32 X3) (up 256 256 .f32 X4) (up 2048 256 .f32 W) (up 2048 256 .f32 X) = up 2048 256 .f32 (endV (side X0 X1 X2 X3 X4 0) (side X0 X1 X2 X3 X4 128) X (i 2).val) := by
  frame_out
  simp only [e69 X0 X1 X2 X3 X4, e70 X0 X1 X2 X3 X4, e71 X0 X1 X2 X3 X4, e73 X0 X1 X2 X3 X4, e74 X0 X1 X2 X3 X4, e75 X0 X1 X2 X3 X4, e_init, e_trips, e_trips2, st_k0_t2.eq_1]
  have L := loop_up (𝒱 := Variants.none) (c := c) (bd := none) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg2 := BitVec.ofNat 32 (i 2).val) (v113 := 0#32) (s0 := (side X0 X1 X2 X3 X4 0)) (s1 := (side X0 X1 X2 X3 X4 128)) (K := X1) (V := X2) (h4 := harg4.read_unread _) (h5 := harg5.read_unread _) (hK0 := rfl) (hV0 := rfl) (hK1 := rfl) (hV1 := rfl) (G_arg11 := harg11.unread (up 2048 256 .f32 W)) (G_arg12 := harg12.unread (up 2048 256 .f32 X)) (W := W) (X := X) (h11 := harg11.read_unread _) (h12 := harg12.read_unread _) (n := (i 2).val) (hn := le_of_eq (trips_eq i).symm)
  generalize (st_k0_t1 (F := Ideal) Variants.none c none i arg3 harg3 arg4 harg4 arg5 harg5 arg6 harg6 arg7 harg7 arg8 harg8 arg9 harg9 arg10 harg10 arg11 harg11 arg12 harg12 (BitVec.ofNat 32 (i 2).val) k0_pay65 k0_pay66 k0_pay67 (up 512 128 .bf16 (side X0 X1 X2 X3 X4 0).Q) (up 512 128 .bf16 (side X0 X1 X2 X3 X4 128).Q) (up 512 128 .bf16 (side X0 X1 X2 X3 X4 0).D) (up 512 128 .bf16 (side X0 X1 X2 X3 X4 128).D) (up 512 1 .f32 (side X0 X1 X2 X3 X4 0).T) (up 512 1 .f32 (side X0 X1 X2 X3 X4 128).T) (0#32) (harg4.unread (up 2048 256 .f32 X1)) (harg5.unread (up 2048 256 .f32 X2)) (harg11.unread (up 2048 256 .f32 W)) (harg12.unread (up 2048 256 .f32 X)) (tup (side X0 X1 X2 X3 X4 0) (side X0 X1 X2 X3 X4 128) 0) (i 2).val) = ST at L ⊢
  obtain ⟨v, w, w'⟩ := ST
  obtain ⟨L1, L2, L3⟩ := L
  dsimp only at L1 L2 L3 ⊢
  subst L1
  dsimp only [tup, List.nil_append]
  simp only [L3, ld9, pay101_up, pay107_up]
  have p9 := fun inb => put_up _ _ (L := w') L3 (off9 i) inb (rfl : up 256 128 .f32 (fun a b => skV (side X0 X1 X2 X3 X4 0) (side X0 X1 X2 X3 X4 128) X (i 2).val (256 * (i 2).val + a) (0 + b) + dkT ((side X0 X1 X2 X3 X4 0).PD (i 2).val) (side X0 X1 X2 X3 X4 0).D a b) = _)
  simp only [Side.PD] at p9
  simp only [p9, ld10, up_far, pay114_up (hm := pay112_msk), pay121_up]
  exact put_up _ _ (p9 _) (off10 i) _ rfl

theorem outC_v (hc0 : ¬cond0_0 i) (hc1 : cond0_1 i) : out0_C_7 (F := Ideal) c i arg3 harg3 arg4 harg4 arg5 harg5 arg6 harg6 arg7 harg7 arg8 harg8 arg9 harg9 arg10 harg10 arg11 harg11 arg12 harg12 hc0 hc1 (up 256 256 .f32 X0) (up 2048 256 .f32 X1) (up 2048 256 .f32 X2) (up 256 256 .f32 X3) (up 256 256 .f32 X4) (up 2048 256 .f32 W) (up 2048 256 .f32 X) = up 2048 256 .bf16 (endV (side X0 X1 X2 X3 X4 0) (side X0 X1 X2 X3 X4 128) X (i 2).val) := by
  frame_out
  simp only [e69 X0 X1 X2 X3 X4, e70 X0 X1 X2 X3 X4, e71 X0 X1 X2 X3 X4, e73 X0 X1 X2 X3 X4, e74 X0 X1 X2 X3 X4, e75 X0 X1 X2 X3 X4, e_init, e_trips, e_trips2, st_k0_t2.eq_1]
  have L := loop_up (𝒱 := Variants.none) (c := c) (bd := none) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg2 := BitVec.ofNat 32 (i 2).val) (v113 := 0#32) (s0 := (side X0 X1 X2 X3 X4 0)) (s1 := (side X0 X1 X2 X3 X4 128)) (K := X1) (V := X2) (h4 := harg4.read_unread _) (h5 := harg5.read_unread _) (hK0 := rfl) (hV0 := rfl) (hK1 := rfl) (hV1 := rfl) (G_arg11 := harg11.unread (up 2048 256 .f32 W)) (G_arg12 := harg12.unread (up 2048 256 .f32 X)) (W := W) (X := X) (h11 := harg11.read_unread _) (h12 := harg12.read_unread _) (n := (i 2).val) (hn := le_of_eq (trips_eq i).symm)
  generalize (st_k0_t1 (F := Ideal) Variants.none c none i arg3 harg3 arg4 harg4 arg5 harg5 arg6 harg6 arg7 harg7 arg8 harg8 arg9 harg9 arg10 harg10 arg11 harg11 arg12 harg12 (BitVec.ofNat 32 (i 2).val) k0_pay65 k0_pay66 k0_pay67 (up 512 128 .bf16 (side X0 X1 X2 X3 X4 0).Q) (up 512 128 .bf16 (side X0 X1 X2 X3 X4 128).Q) (up 512 128 .bf16 (side X0 X1 X2 X3 X4 0).D) (up 512 128 .bf16 (side X0 X1 X2 X3 X4 128).D) (up 512 1 .f32 (side X0 X1 X2 X3 X4 0).T) (up 512 1 .f32 (side X0 X1 X2 X3 X4 128).T) (0#32) (harg4.unread (up 2048 256 .f32 X1)) (harg5.unread (up 2048 256 .f32 X2)) (harg11.unread (up 2048 256 .f32 W)) (harg12.unread (up 2048 256 .f32 X)) (tup (side X0 X1 X2 X3 X4 0) (side X0 X1 X2 X3 X4 128) 0) (i 2).val) = ST at L ⊢
  obtain ⟨v, w, w'⟩ := ST
  obtain ⟨L1, L2, L3⟩ := L
  dsimp only at L1 L2 L3 ⊢
  subst L1
  dsimp only [tup, List.nil_append]
  simp only [L3, ld9, pay101_up, pay107_up]
  have p9 := fun inb => put_up _ _ (L := w') L3 (off9 i) inb (rfl : up 256 128 .f32 (fun a b => skV (side X0 X1 X2 X3 X4 0) (side X0 X1 X2 X3 X4 128) X (i 2).val (256 * (i 2).val + a) (0 + b) + dkT ((side X0 X1 X2 X3 X4 0).PD (i 2).val) (side X0 X1 X2 X3 X4 0).D a b) = _)
  simp only [Side.PD] at p9
  simp only [p9, ld10, up_far, pay114_up (hm := pay112_msk), pay121_up]
  exact (congrArg k0_pay127 (put_up _ _ (p9 _) (off10 i) _ rfl)).trans (pay127_up ..)
end
end Cert.AttBwd
end
-- ==== Proof.Heads.lean ====
module
public import proofs.«01_k».proof.Proof.Case

@[expose] public section

set_option maxRecDepth 16384
set_option maxHeartbeats 1000000

/-! The tiles of the kernel put together: what the tiles compute, as functions of a whole row of keys. -/

noncomputable section

namespace Cert.AttBwd

open Idealize.ShloMosaic Idealize.ShloMosaic.TcCoe Idealize.SL.Sem
open Cert.KernelIdeal Cert.KernelIdeal.Gen

/-! For one query, at place `τ` of its sequence: from the logits `lo` and the gradients `go` of the weights at all
keys, and from the row total `t`. -/

def lgR (lo : ℕ → ℝ) (τ j : ℕ) : ℝ := if j < τ then lb (lo j) - lo j else 0
def pwR (lo : ℕ → ℝ) (t : ℝ) (τ j : ℕ) : ℝ :=
  if j < τ then Real.exp (lb (lo j) + (t - ∑ l ∈ Finset.range (j + 1), lgR lo τ l)) else 0
def dzR (lo go : ℕ → ℝ) (t : ℝ) (τ j : ℕ) : ℝ := go j * pwR lo t τ j
def dsR (lo go : ℕ → ℝ) (t : ℝ) (τ j : ℕ) : ℝ :=
  if j < τ then dzR lo go t τ j * (1 - Real.exp (lb (lo j))) - (∑ l ∈ Finset.range j, dzR lo go t τ l) * Real.exp (lb (lo j)) else 0

theorem sum_tiles (f : ℕ → ℝ) (n : ℕ) :
    ∑ m ∈ Finset.range n, ∑ c ∈ Finset.range 256, f (256 * m + c) = ∑ l ∈ Finset.range (256 * n), f l := by
  induction n with
  | zero => rfl
  | succ n ih => rw [Finset.sum_range_succ, ih, Nat.mul_succ, Finset.sum_range_add]

theorem sum_upto (f : ℕ → ℝ) (n : ℕ) {c k : ℕ} (h : c ≤ k) :
    ∑ l ∈ Finset.range k, f l * (if l < c then 1 else 0) = ∑ l ∈ Finset.range c, f l := by
  obtain ⟨d, rfl⟩ := Nat.exists_eq_add_of_le h
  rw [Finset.sum_range_add, Finset.sum_congr rfl (g := f) (fun l hl => by rw [if_pos (Finset.mem_range.mp hl), mul_one]),
    Finset.sum_eq_zero (s := Finset.range d) (fun l _ => by rw [if_neg (by omega), mul_zero]), add_zero]

theorem sum_after (f : ℕ → ℝ) {c k : ℕ} (h : c < k) :
    ∑ l ∈ Finset.range k, f l * (if c < l then 1 else 0) = (∑ l ∈ Finset.range k, f l) - ∑ l ∈ Finset.range (c + 1), f l := by
  rw [← sum_upto f 0 (show c + 1 ≤ k from h), ← Finset.sum_sub_distrib]
  refine Finset.sum_congr rfl fun l _ => ?_
  by_cases hl : c < l
  · rw [if_pos hl, if_neg (by omega)]; ring
  · rw [if_neg hl, if_pos (by omega)]; ring

theorem qrow_lt {r : ℕ} (h : r < 512) : qrow r < 256 := by unfold qrow; omega
theorem qhead_lt (r : ℕ) : qhead r < 2 := by unfold qhead; omega

/-- A pair of heads at tile `i` of the queries works on these logits, gradients and row totals, head by head. -/
structure Fits (s : Side) (i : ℕ) (Lo Go : ℕ → ℕ → ℕ → ℝ) (T : ℕ → ℕ → ℝ) : Prop where
  S : ∀ n r c, s.S n r c = Lo (qhead r) (256 * i + qrow r) (256 * n + c)
  G : ∀ n r c, s.G n r c = Go (qhead r) (256 * i + qrow r) (256 * n + c)
  T : ∀ r, s.T r 0 = T (qhead r) (256 * i + qrow r)

namespace Fits
variable {s : Side} {i : ℕ} {Lo Go : ℕ → ℕ → ℕ → ℝ} {T : ℕ → ℕ → ℝ} (h : Fits s i Lo Go T)
include h

theorem off {n : ℕ} (hn : n < i) (r : ℕ) {c : ℕ} (hc : c < 256) : 256 * n + c < 256 * i + qrow r := by omega

theorem tL_off {n : ℕ} (hn : n < i) (r : ℕ) {c : ℕ} (hc : c < 256) :
    tL every (s.S n) r c = lgR (Lo (qhead r) (256 * i + qrow r)) (256 * i + qrow r) (256 * n + c) := by
  rw [tL, if_pos trivial, lgR, if_pos (by omega), h.S]

theorem tL_on (r c : ℕ) :
    tL causal (s.S i) r c = lgR (Lo (qhead r) (256 * i + qrow r)) (256 * i + qrow r) (256 * i + c) := by
  have e : causal r c ↔ 256 * i + c < 256 * i + qrow r := by simp only [causal, qrow]; omega
  rw [tL, lgR, h.S]
  exact if_congr e rfl rfl

theorem seen {n : ℕ} (hn : n ≤ i) (r j : ℕ) :
    s.seen n r j = ∑ l ∈ Finset.range (256 * n), lgR (Lo (qhead r) (256 * i + qrow r)) (256 * i + qrow r) l := by
  rw [← sum_tiles]
  refine Finset.sum_congr rfl fun m hm => Finset.sum_congr rfl fun c hc => ?_
  exact h.tL_off (lt_of_lt_of_le (Finset.mem_range.mp hm) hn) r (Finset.mem_range.mp hc)

omit h in
theorem total (f : ℕ → ℝ) (t : ℝ) (n : ℕ) {c : ℕ} (hc : c < 256) :
    (∑ l ∈ Finset.range 256, f (256 * n + l) * (if c < l then 1 else 0)) + (t - (∑ l ∈ Finset.range (256 * n), f l) - ∑ l ∈ Finset.range 256, f (256 * n + l))
      = t - ∑ l ∈ Finset.range (256 * n + c + 1), f l := by
  rw [sum_after (fun l => f (256 * n + l)) hc, Nat.add_assoc (256 * n), Finset.sum_range_add f]
  ring

theorem P_off {n : ℕ} (hn : n < i) (r : ℕ) {c : ℕ} (hc : c < 256) :
    s.P n r c = pwR (Lo (qhead r) (256 * i + qrow r)) (T (qhead r) (256 * i + qrow r)) (256 * i + qrow r) (256 * n + c) := by
  rw [Side.P, tP, if_pos trivial, pwR, if_pos (by omega), h.S, h.T, h.seen hn.le, ← total _ _ _ hc]
  congr 2
  congr 1
  · exact Finset.sum_congr rfl fun l hl => by rw [h.tL_off hn r (Finset.mem_range.mp hl)]
  · congr 1
    exact Finset.sum_congr rfl fun l hl => by rw [h.tL_off hn r (Finset.mem_range.mp hl)]

theorem P_on (r : ℕ) {c : ℕ} (hc : c < 256) :
    s.PD i r c = pwR (Lo (qhead r) (256 * i + qrow r)) (T (qhead r) (256 * i + qrow r)) (256 * i + qrow r) (256 * i + c) := by
  have e : causal r c ↔ 256 * i + c < 256 * i + qrow r := by simp only [causal, qrow]; omega
  rw [Side.PD, tP, pwR, h.S, h.T, h.seen le_rfl, ← total _ _ _ hc]
  refine if_congr e ?_ rfl
  congr 2
  congr 1
  · exact Finset.sum_congr rfl fun l hl => by rw [h.tL_on r]
  · congr 1
    exact Finset.sum_congr rfl fun l hl => by rw [h.tL_on r]

theorem Z_off {n : ℕ} (hn : n < i) (r : ℕ) {c : ℕ} (hc : c < 256) :
    s.Z n r c = dzR (Lo (qhead r) (256 * i + qrow r)) (Go (qhead r) (256 * i + qrow r)) (T (qhead r) (256 * i + qrow r)) (256 * i + qrow r) (256 * n + c) := by
  have := h.P_off hn r hc
  rw [Side.P] at this
  rw [Side.Z, tZ, this, h.G, dzR]

theorem dseen {n : ℕ} (hn : n ≤ i) (r j : ℕ) :
    s.dseen n r j = ∑ l ∈ Finset.range (256 * n), dzR (Lo (qhead r) (256 * i + qrow r)) (Go (qhead r) (256 * i + qrow r)) (T (qhead r) (256 * i + qrow r)) (256 * i + qrow r) l := by
  rw [← sum_tiles]
  refine Finset.sum_congr rfl fun m hm => Finset.sum_congr rfl fun c hc => ?_
  exact h.Z_off (lt_of_lt_of_le (Finset.mem_range.mp hm) hn) r (Finset.mem_range.mp hc)

theorem E_off {n : ℕ} (hn : n < i) (r : ℕ) {c : ℕ} (hc : c < 256) :
    s.E n r c = dsR (Lo (qhead r) (256 * i + qrow r)) (Go (qhead r) (256 * i + qrow r)) (T (qhead r) (256 * i + qrow r)) (256 * i + qrow r) (256 * n + c) := by
  have hz := fun l (hl : l < 256) => h.Z_off hn r hl
  simp only [Side.Z] at hz
  have hs : ∑ l ∈ Finset.range 256, tZ every (s.S n) (s.G n) s.T (s.seen n) r l * (if l < c then 1 else 0)
      = ∑ l ∈ Finset.range c, dzR (Lo (qhead r) (256 * i + qrow r)) (Go (qhead r) (256 * i + qrow r)) (T (qhead r) (256 * i + qrow r)) (256 * i + qrow r) (256 * n + l) :=
    (Finset.sum_congr rfl fun l hl => by rw [hz l (Finset.mem_range.mp hl)]).trans (sum_upto (fun l => dzR (Lo (qhead r) (256 * i + qrow r)) (Go (qhead r) (256 * i + qrow r)) (T (qhead r) (256 * i + qrow r)) (256 * i + qrow r) (256 * n + l)) 0 hc.le)
  rw [Side.E, tD, if_pos trivial, dsR, if_pos (by omega), h.dseen hn.le, hz c hc, h.S, Finset.sum_range_add, hs]

theorem E_on (r : ℕ) {c : ℕ} (hc : c < 256) :
    s.ED i r c = dsR (Lo (qhead r) (256 * i + qrow r)) (Go (qhead r) (256 * i + qrow r)) (T (qhead r) (256 * i + qrow r)) (256 * i + qrow r) (256 * i + c) := by
  have e : causal r c ↔ 256 * i + c < 256 * i + qrow r := by simp only [causal, qrow]; omega
  have hz : ∀ l < 256, tZ causal (s.S i) (s.G i) s.T (s.seen i) r l = dzR (Lo (qhead r) (256 * i + qrow r)) (Go (qhead r) (256 * i + qrow r)) (T (qhead r) (256 * i + qrow r)) (256 * i + qrow r) (256 * i + l) := by
    intro l hl
    have := h.P_on r hl
    rw [Side.PD] at this
    rw [tZ, this, h.G, dzR]
  have hs : ∑ l ∈ Finset.range 256, tZ causal (s.S i) (s.G i) s.T (s.seen i) r l * (if l < c then 1 else 0)
      = ∑ l ∈ Finset.range c, dzR (Lo (qhead r) (256 * i + qrow r)) (Go (qhead r) (256 * i + qrow r)) (T (qhead r) (256 * i + qrow r)) (256 * i + qrow r) (256 * i + l) :=
    (Finset.sum_congr rfl fun l hl => by rw [hz l (Finset.mem_range.mp hl)]).trans (sum_upto (fun l => dzR (Lo (qhead r) (256 * i + qrow r)) (Go (qhead r) (256 * i + qrow r)) (T (qhead r) (256 * i + qrow r)) (256 * i + qrow r) (256 * i + l)) 0 hc.le)
  rw [Side.ED, tD, dsR, h.dseen le_rfl, hz c hc, h.S, Finset.sum_range_add, hs]
  exact if_congr e rfl rfl

/-- The gradient of a query: the two halves of the heads and of the rows. -/
theorem dq (r0 : ℕ) {a j : ℕ} (o : ℕ) :
    s.dq o i a j = (fun r => ∑ l ∈ Finset.range (256 * (i + 1)), dsR (Lo (qhead r) (256 * i + qrow r)) (Go (qhead r) (256 * i + qrow r)) (T (qhead r) (256 * i + qrow r)) (256 * i + qrow r) l * s.K l j) (if j < 64 then o + a else o + 128 + a) := by
  have key : ∀ r, (∑ m ∈ Finset.range i, dqT (s.E m) (s.Kt m) r j) + dqT (s.ED i) (s.Kt i) r j
      = ∑ l ∈ Finset.range (256 * (i + 1)), dsR (Lo (qhead r) (256 * i + qrow r)) (Go (qhead r) (256 * i + qrow r)) (T (qhead r) (256 * i + qrow r)) (256 * i + qrow r) l * s.K l j := by
    intro r
    rw [← sum_tiles, Finset.sum_range_succ]
    congr 1
    · refine Finset.sum_congr rfl fun m hm => Finset.sum_congr rfl fun c hc => ?_
      rw [h.E_off (Finset.mem_range.mp hm) r (Finset.mem_range.mp hc)]; rfl
    · refine Finset.sum_congr rfl fun c hc => ?_
      rw [h.E_on r (Finset.mem_range.mp hc)]; rfl
  simp only [Side.dq, Side.acc, pick]
  split
  · exact key _
  · exact key _

end Fits

theorem sum_half (f g : ℕ → ℝ) (o : ℕ) (h : ∀ l < 128, f (o + l) = g l) :
    ∑ l ∈ Finset.range 128, f (o + l) = ∑ l ∈ Finset.range 128, g l :=
  Finset.sum_congr rfl fun l hl => h l (Finset.mem_range.mp hl)

/-- A sum over the rows of the stack, for a lane of it, is a sum over the rows of the block. -/
theorem sum_stack (F : ℕ → ℕ → ℝ) (Q : ℕ → ℕ → ℝ) (f : ℕ → ℝ) (hf : ∀ r < 512, f r = F (qhead r) (qrow r)) {l : ℕ} (hl : l < 128) :
    ∑ r ∈ Finset.range 512, f r * stk Q r l = ∑ a ∈ Finset.range 256, F (l / 64) a * Q a l := by
  rw [show 512 = 128 + 128 + 128 + 128 from rfl, show 256 = 128 + 128 from rfl, Finset.sum_range_add, Finset.sum_range_add, Finset.sum_range_add,
    Finset.sum_range_add]
  have one : ∀ (r a e : ℕ), r < 512 → qrow r = a → qhead r = e → f r * stk Q r l = if l / 64 = e then F (l / 64) a * Q a l else 0 := by
    intro r a e hr ha he
    rw [hf r hr, stk, ha, he]
    split
    · next h => rw [h]
    · rw [mul_zero]
  have z1 := sum_half (fun r => f r * stk Q r l) (fun a => if l / 64 = 0 then F (l / 64) a * Q a l else 0) 0
    fun a ha => one _ _ _ (by omega) (by unfold qrow; omega) (by unfold qhead; omega)
  have z2 := sum_half (fun r => f r * stk Q r l) (fun a => if l / 64 = 1 then F (l / 64) a * Q a l else 0) 128
    fun a ha => one _ _ _ (by omega) (by unfold qrow; omega) (by unfold qhead; omega)
  have z3 := sum_half (fun r => f r * stk Q r l) (fun a => if l / 64 = 0 then F (l / 64) (128 + a) * Q (128 + a) l else 0) (128 + 128)
    fun a ha => one _ _ _ (by omega) (by unfold qrow; omega) (by unfold qhead; omega)
  have z4 := sum_half (fun r => f r * stk Q r l) (fun a => if l / 64 = 1 then F (l / 64) (128 + a) * Q (128 + a) l else 0) (128 + 128 + 128)
    fun a ha => one _ _ _ (by omega) (by unfold qrow; omega) (by unfold qhead; omega)
  simp only [zero_add] at z1
  rw [z1, z2, z3, z4]
  have hh : l / 64 = 0 ∨ l / 64 = 1 := by omega
  rcases hh with hh | hh <;> simp [hh]

/-- A product of a stack with a tile is a product over the lanes of the head. -/
theorem prod_stk (Q K : ℕ → ℕ → ℝ) (r c : ℕ) :
    prod (stk Q) K r c = ∑ d ∈ Finset.range 64, Q (qrow r) (64 * qhead r + d) * K c (64 * qhead r + d) := by
  rw [prod, show 128 = 64 + 64 from rfl, Finset.sum_range_add]
  have hh : qhead r = 0 ∨ qhead r = 1 := by have := qhead_lt r; omega
  rcases hh with hh | hh
  · rw [Finset.sum_eq_zero (s := Finset.range 64) (f := fun x => stk Q r (64 + x) * K c (64 + x)) (fun d hd => by
      rw [stk, if_neg (by have := Finset.mem_range.mp hd; omega), zero_mul]), add_zero]
    exact Finset.sum_congr rfl fun d hd => by
      rw [stk, if_pos (by have := Finset.mem_range.mp hd; omega), hh]; simp
  · rw [Finset.sum_eq_zero (s := Finset.range 64) (f := fun x => stk Q r x * K c x) (fun d hd => by
      rw [stk, if_neg (by have := Finset.mem_range.mp hd; omega), zero_mul]), zero_add]
    exact Finset.sum_congr rfl fun d hd => by
      rw [stk, if_pos (by have := Finset.mem_range.mp hd; omega), hh]

namespace Fits
variable {s : Side} {i : ℕ} {Lo Go : ℕ → ℕ → ℕ → ℝ} {T : ℕ → ℕ → ℝ} {A : ℕ → ℕ → ℝ}

/-- What the queries of tile `i` add to the gradient of key `j`, and of value `j`, at lane `l` of the pair. -/
def kd (i : ℕ) (Lo Go : ℕ → ℕ → ℕ → ℝ) (T : ℕ → ℕ → ℝ) (A : ℕ → ℕ → ℝ) (j l : ℕ) : ℝ :=
  ∑ a ∈ Finset.range 256, dsR (Lo (l / 64) (256 * i + a)) (Go (l / 64) (256 * i + a)) (T (l / 64) (256 * i + a)) (256 * i + a) j * A a l
def vd (i : ℕ) (Lo : ℕ → ℕ → ℕ → ℝ) (T : ℕ → ℕ → ℝ) (A : ℕ → ℕ → ℝ) (j l : ℕ) : ℝ :=
  ∑ a ∈ Finset.range 256, pwR (Lo (l / 64) (256 * i + a)) (T (l / 64) (256 * i + a)) (256 * i + a) j * A a l

theorem kd_late {j l : ℕ} (hj : 256 * (i + 1) ≤ j) : kd i Lo Go T A j l = 0 :=
  Finset.sum_eq_zero fun a ha => by rw [dsR, if_neg (by have := Finset.mem_range.mp ha; omega), zero_mul]
theorem vd_late {j l : ℕ} (hj : 256 * (i + 1) ≤ j) : vd i Lo T A j l = 0 :=
  Finset.sum_eq_zero fun a ha => by rw [pwR, if_neg (by have := Finset.mem_range.mp ha; omega), zero_mul]

variable (h : Fits s i Lo Go T)
include h
theorem dk_off (hQ : s.Q = stk A) {n : ℕ} (hn : n < i) {c l : ℕ} (hc : c < 256) (hl : l < 128) :
    dkT (s.E n) s.Q c l = kd i Lo Go T A (256 * n + c) l := by
  rw [dkT, hQ, sum_stack (fun e a => dsR (Lo e (256 * i + a)) (Go e (256 * i + a)) (T e (256 * i + a)) (256 * i + a) (256 * n + c)) A (fun r => s.E n r c) (fun r _ => h.E_off hn r hc) hl]
  rfl
theorem dk_on (hQ : s.Q = stk A) {c l : ℕ} (hc : c < 256) (hl : l < 128) :
    dkT (s.ED i) s.Q c l = kd i Lo Go T A (256 * i + c) l := by
  rw [dkT, hQ, sum_stack (fun e a => dsR (Lo e (256 * i + a)) (Go e (256 * i + a)) (T e (256 * i + a)) (256 * i + a) (256 * i + c)) A (fun r => s.ED i r c) (fun r _ => h.E_on r hc) hl]
  rfl
theorem dv_off (hQ : s.D = stk A) {n : ℕ} (hn : n < i) {c l : ℕ} (hc : c < 256) (hl : l < 128) :
    dkT (s.P n) s.D c l = vd i Lo T A (256 * n + c) l := by
  rw [dkT, hQ, sum_stack (fun e a => pwR (Lo e (256 * i + a)) (T e (256 * i + a)) (256 * i + a) (256 * n + c)) A (fun r => s.P n r c) (fun r _ => h.P_off hn r hc) hl]
  rfl
theorem dv_on (hQ : s.D = stk A) {c l : ℕ} (hc : c < 256) (hl : l < 128) :
    dkT (s.PD i) s.D c l = vd i Lo T A (256 * i + c) l := by
  rw [dkT, hQ, sum_stack (fun e a => pwR (Lo e (256 * i + a)) (T e (256 * i + a)) (256 * i + a) (256 * i + c)) A (fun r => s.PD i r c) (fun r _ => h.P_on r hc) hl]
  rfl
end Fits

theorem put_two (W B0 B1 : ℕ → ℕ → ℝ) (n j : ℕ) {l : ℕ} (hl : l < 256) :
    put (256 * n) 128 256 128 (put (256 * n) 0 256 128 W (fun i j => W (256 * n + i) (0 + j) + B0 i j)) (fun i j => W (256 * n + i) (128 + j) + B1 i j) j l
      = W j l + if 256 * n ≤ j ∧ j < 256 * n + 256 then (if l < 128 then B0 (j - 256 * n) l else B1 (j - 256 * n) (l - 128)) else 0 := by
  by_cases hj : 256 * n ≤ j ∧ j < 256 * n + 256
  · by_cases h1 : l < 128
    · rw [put, if_neg (by omega), put, if_pos (by omega), if_pos hj, if_pos h1, show 256 * n + (j - 256 * n) = j by omega, Nat.sub_zero, Nat.zero_add]
    · rw [put, if_pos (by omega), if_pos hj, if_neg h1, show 256 * n + (j - 256 * n) = j by omega, show 128 + (l - 128) = l by omega]
  · rw [put, if_neg (by omega), put, if_neg (by omega), if_neg hj, add_zero]

section
variable {s0 s1 : Side} {i : ℕ} {Lo0 Go0 Lo1 Go1 : ℕ → ℕ → ℕ → ℝ} {T0 T1 A0 A1 : ℕ → ℕ → ℝ}
  (h0 : Fits s0 i Lo0 Go0 T0) (h1 : Fits s1 i Lo1 Go1 T1) (W : ℕ → ℕ → ℝ) (j : ℕ) {l : ℕ} (hl : l < 256)
include h0 h1 hl

theorem skK_sum (q0 : s0.Q = stk A0) (q1 : s1.Q = stk A1) {n : ℕ} (hn : n ≤ i) : skK s0 s1 W n j l
    = W j l + if j < 256 * n then (if l < 128 then Fits.kd i Lo0 Go0 T0 A0 j l else Fits.kd i Lo1 Go1 T1 A1 j (l - 128)) else 0 := by
  induction n with
  | zero => rw [skK, if_neg (by omega), add_zero]
  | succ n ih =>
    rw [skK, put_two _ _ _ _ _ hl, ih (by omega)]
    by_cases hj : 256 * n ≤ j ∧ j < 256 * n + 256
    · rw [if_neg (by omega : ¬ j < 256 * n), if_pos hj, if_pos (by omega : j < 256 * (n + 1)), add_zero]
      split
      · next hh => rw [h0.dk_off q0 (by omega) (by omega) hh, show 256 * n + (j - 256 * n) = j by omega]
      · next hh => rw [h1.dk_off q1 (by omega) (by omega) (by omega), show 256 * n + (j - 256 * n) = j by omega]
    · rw [if_neg hj, add_zero]
      exact congrArg _ (if_congr (by omega) rfl rfl)

theorem endK_sum (q0 : s0.Q = stk A0) (q1 : s1.Q = stk A1) : endK s0 s1 W i j l
    = W j l + if l < 128 then Fits.kd i Lo0 Go0 T0 A0 j l else Fits.kd i Lo1 Go1 T1 A1 j (l - 128) := by
  rw [endK, put_two _ _ _ _ _ hl, skK_sum h0 h1 W j hl q0 q1 le_rfl]
  by_cases hj : 256 * i ≤ j ∧ j < 256 * i + 256
  · rw [if_neg (by omega : ¬ j < 256 * i), if_pos hj, add_zero]
    split
    · next hh => rw [h0.dk_on q0 (by omega) hh, show 256 * i + (j - 256 * i) = j by omega]
    · next hh => rw [h1.dk_on q1 (by omega) (by omega), show 256 * i + (j - 256 * i) = j by omega]
  · rw [if_neg hj, add_zero]
    by_cases hh : j < 256 * i
    · rw [if_pos hh]
    · rw [if_neg hh, Fits.kd_late (by omega), Fits.kd_late (by omega), ite_self]

theorem skV_sum (q0 : s0.D = stk A0) (q1 : s1.D = stk A1) {n : ℕ} (hn : n ≤ i) : skV s0 s1 W n j l
    = W j l + if j < 256 * n then (if l < 128 then Fits.vd i Lo0 T0 A0 j l else Fits.vd i Lo1 T1 A1 j (l - 128)) else 0 := by
  induction n with
  | zero => rw [skV, if_neg (by omega), add_zero]
  | succ n ih =>
    rw [skV, put_two _ _ _ _ _ hl, ih (by omega)]
    by_cases hj : 256 * n ≤ j ∧ j < 256 * n + 256
    · rw [if_neg (by omega : ¬ j < 256 * n), if_pos hj, if_pos (by omega : j < 256 * (n + 1)), add_zero]
      split
      · next hh => rw [h0.dv_off q0 (by omega) (by omega) hh, show 256 * n + (j - 256 * n) = j by omega]
      · next hh => rw [h1.dv_off q1 (by omega) (by omega) (by omega), show 256 * n + (j - 256 * n) = j by omega]
    · rw [if_neg hj, add_zero]
      exact congrArg _ (if_congr (by omega) rfl rfl)

theorem endV_sum (q0 : s0.D = stk A0) (q1 : s1.D = stk A1) : endV s0 s1 W i j l
    = W j l + if l < 128 then Fits.vd i Lo0 T0 A0 j l else Fits.vd i Lo1 T1 A1 j (l - 128) := by
  rw [endV, put_two _ _ _ _ _ hl, skV_sum h0 h1 W j hl q0 q1 le_rfl]
  by_cases hj : 256 * i ≤ j ∧ j < 256 * i + 256
  · rw [if_neg (by omega : ¬ j < 256 * i), if_pos hj, add_zero]
    split
    · next hh => rw [h0.dv_on q0 (by omega) hh, show 256 * i + (j - 256 * i) = j by omega]
    · next hh => rw [h1.dv_on q1 (by omega) (by omega), show 256 * i + (j - 256 * i) = j by omega]
  · rw [if_neg hj, add_zero]
    by_cases hh : j < 256 * i
    · rw [if_pos hh]
    · rw [if_neg hh, Fits.vd_late (by omega), Fits.vd_late (by omega), ite_self]
end

end Cert.AttBwd

end
-- ==== Proof.Blocks.lean ====
module
public import proofs.«01_k».proof.Proof.CaseA
public import proofs.«01_k».proof.Proof.CaseB
public import proofs.«01_k».proof.Proof.CaseC
public import proofs.«01_k».proof.Proof.Gen.KernelIdeal.Value
public import proofs.«01_k».proof.Proof.Heads

@[expose] public section

set_option maxRecDepth 16384
set_option maxHeartbeats 1000000

/-! The blocks of the kernel's grid points, and what its runs leave, as real functions. -/

noncomputable section

namespace Cert.AttBwd

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

theorem idx : ∀ t : Fin cfg0.N,
    win0_0.index t 0 = 8 * (t.val / 32) + t.val % 8 ∧ win0_0.index t 1 = 12 + t.val / 8 % 4 ∧
    win0_1.index t 0 = t.val / 32 ∧ win0_1.index t 1 = 16 + t.val / 8 % 4 ∧
    win0_2.index t 0 = t.val / 32 ∧ win0_2.index t 1 = 20 + t.val / 8 % 4 ∧
    win0_3.index t 0 = 8 * (t.val / 32) + t.val % 8 ∧ win0_3.index t 1 = t.val / 8 % 4 ∧
    win0_4.index t 0 = 8 * (t.val / 32) + t.val % 8 ∧ win0_4.index t 1 = t.val / 8 % 4 ∧
    win0_5.index t 0 = 8 * (t.val / 32) + t.val % 8 ∧ win0_5.index t 1 = t.val / 8 % 4 ∧
    win0_6.index t 0 = t.val / 32 ∧ win0_6.index t 1 = t.val / 8 % 4 ∧
    win0_7.index t 0 = t.val / 32 ∧ win0_7.index t 1 = t.val / 8 % 4 := (by decide +kernel : ∀ t : Fin grid0.N, _)
theorem coord : ∀ t : Fin cfg0.N, (grid0.coords t 2).val = t.val % 8 := (by decide +kernel : ∀ t : Fin grid0.N, _)

theorem blk0 (c : Dev nD) (X : ℕ → ℕ → ℝ) (h : m ((c : Thread nD τ).loc main_arg0) = (up 8192 6144 .f32 X : FVec Ideal S8192x6144 .f32)) (t : Fin cfg0.N) :
    iblk m c 0 t = (up 256 256 .f32 fun a b => X (2048 * (t.val / 32) + 256 * (t.val % 8) + a) (3072 + 256 * (t.val / 8 % 4) + b) : FVec Ideal S256x256 .f32) := by
  refine eq_up fun i j => ?_
  have hv : Gen.V m c main_arg0 = (up 8192 6144 .f32 X : FVec Ideal S8192x6144 .f32) := (Gen.V_main_arg0 m c).trans h
  blk_simp [iblk]
  rw [hv]
  exact congrArg (fun x : ℝ => (x : EReal)) (congrArg₂ X (by blk_simp [idx t] <;> omega) (by blk_simp [idx t] <;> omega))

theorem blk1 (c : Dev nD) (X : ℕ → ℕ → ℝ) (h : m ((c : Thread nD τ).loc main_arg0) = (up 8192 6144 .f32 X : FVec Ideal S8192x6144 .f32)) (t : Fin cfg0.N) :
    iblk m c 1 t = (up 2048 256 .f32 fun a b => X (2048 * (t.val / 32) + a) (4096 + 256 * (t.val / 8 % 4) + b) : FVec Ideal S2048x256 .f32) := by
  refine eq_up fun i j => ?_
  have hv : Gen.V m c main_arg0 = (up 8192 6144 .f32 X : FVec Ideal S8192x6144 .f32) := (Gen.V_main_arg0 m c).trans h
  blk_simp [iblk]
  rw [hv]
  exact congrArg (fun x : ℝ => (x : EReal)) (congrArg₂ X (by blk_simp [idx t] <;> omega) (by blk_simp [idx t] <;> omega))

theorem blk2 (c : Dev nD) (X : ℕ → ℕ → ℝ) (h : m ((c : Thread nD τ).loc main_arg0) = (up 8192 6144 .f32 X : FVec Ideal S8192x6144 .f32)) (t : Fin cfg0.N) :
    iblk m c 2 t = (up 2048 256 .f32 fun a b => X (2048 * (t.val / 32) + a) (5120 + 256 * (t.val / 8 % 4) + b) : FVec Ideal S2048x256 .f32) := by
  refine eq_up fun i j => ?_
  have hv : Gen.V m c main_arg0 = (up 8192 6144 .f32 X : FVec Ideal S8192x6144 .f32) := (Gen.V_main_arg0 m c).trans h
  blk_simp [iblk]
  rw [hv]
  exact congrArg (fun x : ℝ => (x : EReal)) (congrArg₂ X (by blk_simp [idx t] <;> omega) (by blk_simp [idx t] <;> omega))

theorem blk3 (c : Dev nD) (X : ℕ → ℕ → ℝ) (h : Gen.V m c main_v20 = (up 8192 1024 .f32 X : FVec Ideal S8192x1024 .f32)) (t : Fin cfg0.N) :
    iblk m c 3 t = (up 256 256 .f32 fun a b => X (2048 * (t.val / 32) + 256 * (t.val % 8) + a) (256 * (t.val / 8 % 4) + b) : FVec Ideal S256x256 .f32) := by
  refine eq_up fun i j => ?_
  have hv : Gen.V m c main_v20 = (up 8192 1024 .f32 X : FVec Ideal S8192x1024 .f32) := h
  blk_simp [iblk]
  rw [hv]
  exact congrArg (fun x : ℝ => (x : EReal)) (congrArg₂ X (by blk_simp [idx t] <;> omega) (by blk_simp [idx t] <;> omega))

theorem blk4 (c : Dev nD) (X : ℕ → ℕ → ℝ) (h : m ((c : Thread nD τ).loc main_arg1) = (up 8192 1024 .f32 X : FVec Ideal S8192x1024 .f32)) (t : Fin cfg0.N) :
    iblk m c 4 t = (up 256 256 .f32 fun a b => X (2048 * (t.val / 32) + 256 * (t.val % 8) + a) (256 * (t.val / 8 % 4) + b) : FVec Ideal S256x256 .f32) := by
  refine eq_up fun i j => ?_
  have hv : Gen.V m c main_arg1 = (up 8192 1024 .f32 X : FVec Ideal S8192x1024 .f32) := (Gen.V_main_arg1 m c).trans h
  blk_simp [iblk]
  rw [hv]
  exact congrArg (fun x : ℝ => (x : EReal)) (congrArg₂ X (by blk_simp [idx t] <;> omega) (by blk_simp [idx t] <;> omega))

/-- The logits of head `h` of sequence `s`, and the gradients of its weights. -/
def gl (X : ℕ → ℕ → ℝ) (s h τ j : ℕ) : ℝ := ∑ d ∈ Finset.range 64, (X (2048 * s + τ) (3072 + 64 * h + d) * (1 / 8)) * X (2048 * s + j) (4096 + 64 * h + d)
def gg (X Y : ℕ → ℕ → ℝ) (s h τ j : ℕ) : ℝ := ∑ d ∈ Finset.range 64, Y (2048 * s + τ) (64 * h + d) * X (2048 * s + j) (5120 + 64 * h + d)

/-- What a pair of heads works on at grid point `t`. -/
def bs (X Y R : ℕ → ℕ → ℝ) (t o : ℕ) : Side :=
  side (fun a b => X (2048 * (t / 32) + 256 * (t % 8) + a) (3072 + 256 * (t / 8 % 4) + b)) (fun a b => X (2048 * (t / 32) + a) (4096 + 256 * (t / 8 % 4) + b))
    (fun a b => X (2048 * (t / 32) + a) (5120 + 256 * (t / 8 % 4) + b)) (fun a b => R (2048 * (t / 32) + 256 * (t % 8) + a) (256 * (t / 8 % 4) + b))
    (fun a b => Y (2048 * (t / 32) + 256 * (t % 8) + a) (256 * (t / 8 % 4) + b)) o

variable (X Y R : ℕ → ℕ → ℝ)

theorem bs_fits (t r : ℕ) : Fits (bs X Y R t (128 * r)) (t % 8) (fun e => gl X (t / 32) (4 * (t / 8 % 4) + 2 * r + e)) (fun e => gg X Y (t / 32) (4 * (t / 8 % 4) + 2 * r + e))
    (fun e τ => R (2048 * (t / 32) + τ) (64 * (4 * (t / 8 % 4) + 2 * r + e))) where
  S n a c := by
    refine (prod_stk (fun i l => X (2048 * (t / 32) + 256 * (t % 8) + i) (3072 + 256 * (t / 8 % 4) + (128 * r + l)) * (1 / 8)) (fun i l => X (2048 * (t / 32) + (256 * n + i)) (4096 + 256 * (t / 8 % 4) + (128 * r + l))) a c).trans (Finset.sum_congr rfl fun d _ => ?_)
    show X (2048 * (t / 32) + 256 * (t % 8) + qrow a) (3072 + 256 * (t / 8 % 4) + (128 * r + (64 * qhead a + d))) * (1 / 8) * X (2048 * (t / 32) + (256 * n + c)) (4096 + 256 * (t / 8 % 4) + (128 * r + (64 * qhead a + d))) = _
    rw [show 2048 * (t / 32) + 256 * (t % 8) + qrow a = 2048 * (t / 32) + (256 * (t % 8) + qrow a) by omega,
      show 3072 + 256 * (t / 8 % 4) + (128 * r + (64 * qhead a + d)) = 3072 + 64 * (4 * (t / 8 % 4) + 2 * r + qhead a) + d by omega,
      show 4096 + 256 * (t / 8 % 4) + (128 * r + (64 * qhead a + d)) = 4096 + 64 * (4 * (t / 8 % 4) + 2 * r + qhead a) + d by omega]
  G n a c := by
    refine (prod_stk (fun i l => Y (2048 * (t / 32) + 256 * (t % 8) + i) (256 * (t / 8 % 4) + (128 * r + l))) (fun i l => X (2048 * (t / 32) + (256 * n + i)) (5120 + 256 * (t / 8 % 4) + (128 * r + l))) a c).trans (Finset.sum_congr rfl fun d _ => ?_)
    show Y (2048 * (t / 32) + 256 * (t % 8) + qrow a) (256 * (t / 8 % 4) + (128 * r + (64 * qhead a + d))) * X (2048 * (t / 32) + (256 * n + c)) (5120 + 256 * (t / 8 % 4) + (128 * r + (64 * qhead a + d))) = _
    rw [show 2048 * (t / 32) + 256 * (t % 8) + qrow a = 2048 * (t / 32) + (256 * (t % 8) + qrow a) by omega,
      show 256 * (t / 8 % 4) + (128 * r + (64 * qhead a + d)) = 64 * (4 * (t / 8 % 4) + 2 * r + qhead a) + d by omega,
      show 5120 + 256 * (t / 8 % 4) + (128 * r + (64 * qhead a + d)) = 5120 + 64 * (4 * (t / 8 % 4) + 2 * r + qhead a) + d by omega]
  T a := by
    show R (2048 * (t / 32) + 256 * (t % 8) + qrow a) (256 * (t / 8 % 4) + (128 * r + 64 * qhead a)) = _
    rw [show 2048 * (t / 32) + 256 * (t % 8) + qrow a = 2048 * (t / 32) + (256 * (t % 8) + qrow a) by omega,
      show 256 * (t / 8 % 4) + (128 * r + 64 * qhead a) = 64 * (4 * (t / 8 % 4) + 2 * r + qhead a) by omega]

/-- For sequence `s`: the gradient of the logit of query `τ` and key `j`, and the weight, at head `h`. -/
def gds (s h τ j : ℕ) : ℝ := dsR (gl X s h τ) (gg X Y s h τ) (R (2048 * s + τ) (64 * h)) τ j
def gpw (s h τ j : ℕ) : ℝ := pwR (gl X s h τ) (R (2048 * s + τ) (64 * h)) τ j

/-- The three gradients. -/
def DQ (r q : ℕ) : ℝ := (∑ l ∈ Finset.range 2048, gds X Y R (r / 2048) (q / 64) (r % 2048) l * X (2048 * (r / 2048) + l) (4096 + q)) * (1 / 8)
def DK (r q : ℕ) : ℝ := ∑ τ ∈ Finset.range 2048, gds X Y R (r / 2048) (q / 64) τ (r % 2048) * (X (2048 * (r / 2048) + τ) (3072 + q) * (1 / 8))
def DV (r q : ℕ) : ℝ := ∑ τ ∈ Finset.range 2048, gpw X R (r / 2048) (q / 64) τ (r % 2048) * Y (2048 * (r / 2048) + τ) q

/-- What the scratch arrays hold after grid point `t`. -/
def scK (t j l : ℕ) : ℝ := ∑ τ ∈ Finset.range (256 * (t % 8 + 1)), gds X Y R (t / 32) (4 * (t / 8 % 4) + l / 64) τ j * (X (2048 * (t / 32) + τ) (3072 + 256 * (t / 8 % 4) + l) * (1 / 8))
def scV (t j l : ℕ) : ℝ := ∑ τ ∈ Finset.range (256 * (t % 8 + 1)), gpw X R (t / 32) (4 * (t / 8 % 4) + l / 64) τ j * Y (2048 * (t / 32) + τ) (256 * (t / 8 % 4) + l)

theorem endK_bs (W : ℕ → ℕ → ℝ) (t j : ℕ) {l : ℕ} (hl : l < 256) : endK (bs X Y R t 0) (bs X Y R t 128) W (t % 8) j l
    = W j l + ∑ a ∈ Finset.range 256, gds X Y R (t / 32) (4 * (t / 8 % 4) + l / 64) (256 * (t % 8) + a) j * (X (2048 * (t / 32) + (256 * (t % 8) + a)) (3072 + 256 * (t / 8 % 4) + l) * (1 / 8)) := by
  refine (endK_sum (A0 := (fun i l => X (2048 * (t / 32) + 256 * (t % 8) + i) (3072 + 256 * (t / 8 % 4) + (128 * 0 + l)) * (1 / 8))) (A1 := (fun i l => X (2048 * (t / 32) + 256 * (t % 8) + i) (3072 + 256 * (t / 8 % 4) + (128 * 1 + l)) * (1 / 8))) (bs_fits X Y R t 0) (bs_fits X Y R t 1) W j hl rfl rfl).trans (congrArg _ ?_)
  split
  · next h =>
    refine Finset.sum_congr rfl fun a _ => ?_
    simp only [gds, Nat.mul_zero, Nat.add_zero, Nat.zero_add, Nat.add_assoc]
  · next h =>
    refine Finset.sum_congr rfl fun a _ => ?_
    simp only [gds, show 4 * (t / 8 % 4) + 2 * 1 + (l - 128) / 64 = 4 * (t / 8 % 4) + l / 64 by omega, show 128 * 1 + (l - 128) = l by omega, Nat.add_assoc]

theorem endV_bs (W : ℕ → ℕ → ℝ) (t j : ℕ) {l : ℕ} (hl : l < 256) : endV (bs X Y R t 0) (bs X Y R t 128) W (t % 8) j l
    = W j l + ∑ a ∈ Finset.range 256, gpw X R (t / 32) (4 * (t / 8 % 4) + l / 64) (256 * (t % 8) + a) j * Y (2048 * (t / 32) + (256 * (t % 8) + a)) (256 * (t / 8 % 4) + l) := by
  refine (endV_sum (A0 := (fun i l => Y (2048 * (t / 32) + 256 * (t % 8) + i) (256 * (t / 8 % 4) + (128 * 0 + l)))) (A1 := (fun i l => Y (2048 * (t / 32) + 256 * (t % 8) + i) (256 * (t / 8 % 4) + (128 * 1 + l)))) (bs_fits X Y R t 0) (bs_fits X Y R t 1) W j hl rfl rfl).trans (congrArg _ ?_)
  split
  · next h =>
    refine Finset.sum_congr rfl fun a _ => ?_
    simp only [gpw, Nat.mul_zero, Nat.add_zero, Nat.zero_add, Nat.add_assoc]
  · next h =>
    refine Finset.sum_congr rfl fun a _ => ?_
    simp only [gpw, show 4 * (t / 8 % 4) + 2 * 1 + (l - 128) / 64 = 4 * (t / 8 % 4) + l / 64 by omega, show 128 * 1 + (l - 128) = l by omega, Nat.add_assoc]

theorem scK_first {t : ℕ} (ht : t % 8 = 0) {j l : ℕ} (hl : l < 256) : endK (bs X Y R t 0) (bs X Y R t 128) (fun _ _ => 0) 0 j l = scK X Y R t j l := by
  have := endK_bs X Y R (fun _ _ => 0) t j hl
  rw [ht] at this
  rw [this, scK, ht, zero_add]
  simp
theorem scV_first {t : ℕ} (ht : t % 8 = 0) {j l : ℕ} (hl : l < 256) : endV (bs X Y R t 0) (bs X Y R t 128) (fun _ _ => 0) 0 j l = scV X Y R t j l := by
  have := endV_bs X Y R (fun _ _ => 0) t j hl
  rw [ht] at this
  rw [this, scV, ht, zero_add]
  simp
theorem scK_next {t : ℕ} (ht : ¬ t % 8 = 0) {j l : ℕ} (hl : l < 256) : endK (bs X Y R t 0) (bs X Y R t 128) (scK X Y R (t - 1)) (t % 8) j l = scK X Y R t j l := by
  rw [endK_bs X Y R _ t j hl, scK, scK, show (t - 1) % 8 + 1 = t % 8 by omega, show (t - 1) / 32 = t / 32 by omega, show (t - 1) / 8 = t / 8 by omega,
    Nat.mul_succ, Finset.sum_range_add]
theorem scV_next {t : ℕ} (ht : ¬ t % 8 = 0) {j l : ℕ} (hl : l < 256) : endV (bs X Y R t 0) (bs X Y R t 128) (scV X Y R (t - 1)) (t % 8) j l = scV X Y R t j l := by
  rw [endV_bs X Y R _ t j hl, scV, scV, show (t - 1) % 8 + 1 = t % 8 by omega, show (t - 1) / 32 = t / 32 by omega, show (t - 1) / 8 = t / 8 by omega,
    Nat.mul_succ, Finset.sum_range_add]

theorem gds_late {s h τ j : ℕ} (hj : ¬ j < τ) : gds X Y R s h τ j = 0 := if_neg hj
theorem gpw_early {s h τ j : ℕ} (hj : ¬ j < τ) : gpw X R s h τ j = 0 := if_neg hj

theorem sum_cut (f : ℕ → ℝ) {a b : ℕ} (h : a ≤ b) (hf : ∀ l, a ≤ l → f l = 0) : ∑ l ∈ Finset.range a, f l = ∑ l ∈ Finset.range b, f l := by
  obtain ⟨d, rfl⟩ := Nat.exists_eq_add_of_le h
  rw [Finset.sum_range_add, Finset.sum_eq_zero (s := Finset.range d) (fun l _ => hf _ (by omega)), add_zero]

theorem blockQ_bs {t : ℕ} (ht : t < 128) {a b : ℕ} (ha : a < 256) (hb : b < 256) : blockQ (bs X Y R t 0) (bs X Y R t 128) (t % 8) a b
    = DQ X Y R (2048 * (t / 32) + 256 * (t % 8) + a) (256 * (t / 8 % 4) + b) := by
  have key : ∀ (r o a' j : ℕ), r < 2 → j < 128 → a' < 128 → (o = 0 ∨ o = 256) → b = 128 * r + j → a = o / 2 + a' →
      (bs X Y R t (128 * r)).dq o (t % 8) a' j * (1 / 8) = DQ X Y R (2048 * (t / 32) + 256 * (t % 8) + a) (256 * (t / 8 % 4) + b) := by
    intro r o a' j hr hj ha' ho e1 e2
    rw [(bs_fits X Y R t r).dq 0 o]
    have q1 : qrow (if j < 64 then o + a' else o + 128 + a') = a := by split <;> (unfold qrow; omega)
    have q2 : qhead (if j < 64 then o + a' else o + 128 + a') = j / 64 := by split <;> (unfold qhead; omega)
    simp only [q1, q2]
    rw [DQ, show (2048 * (t / 32) + 256 * (t % 8) + a) / 2048 = t / 32 by omega, show (2048 * (t / 32) + 256 * (t % 8) + a) % 2048 = 256 * (t % 8) + a by omega,
      show (256 * (t / 8 % 4) + b) / 64 = 4 * (t / 8 % 4) + 2 * r + j / 64 by omega]
    congr 1
    rw [← sum_cut (fun l => gds X Y R (t / 32) (4 * (t / 8 % 4) + 2 * r + j / 64) (256 * (t % 8) + a) l * X (2048 * (t / 32) + l) (4096 + (256 * (t / 8 % 4) + b))) (show 256 * (t % 8 + 1) ≤ 2048 by omega)
      fun l hl => by rw [gds_late X Y R (by omega), zero_mul]]
    refine Finset.sum_congr rfl fun l _ => ?_
    show _ * X (2048 * (t / 32) + l) (4096 + 256 * (t / 8 % 4) + (128 * r + j)) = _
    rw [show 4096 + 256 * (t / 8 % 4) + (128 * r + j) = 4096 + (256 * (t / 8 % 4) + b) by omega]
    rfl
  unfold blockQ quad
  split
  · split
    · exact key 0 0 a b (by omega) (by omega) (by omega) (.inl rfl) (by omega) (by omega)
    · exact key 0 256 (a - 128) b (by omega) (by omega) (by omega) (.inr rfl) (by omega) (by omega)
  · split
    · exact key 1 0 a (b - 128) (by omega) (by omega) (by omega) (.inl rfl) (by omega) (by omega)
    · exact key 1 256 (a - 128) (b - 128) (by omega) (by omega) (by omega) (.inr rfl) (by omega) (by omega)

theorem scK_last {t : ℕ} (ht : t < 128) (h7 : t % 8 = 7) {j l : ℕ} (hj : j < 2048) (hl : l < 256) : scK X Y R t j l = DK X Y R (2048 * (t / 32) + j) (256 * (t / 8 % 4) + l) := by
  rw [scK, DK, h7, show (2048 * (t / 32) + j) / 2048 = t / 32 by omega, show (2048 * (t / 32) + j) % 2048 = j by omega,
    show (256 * (t / 8 % 4) + l) / 64 = 4 * (t / 8 % 4) + l / 64 by omega, show 3072 + (256 * (t / 8 % 4) + l) = 3072 + 256 * (t / 8 % 4) + l by omega]
theorem scV_last {t : ℕ} (ht : t < 128) (h7 : t % 8 = 7) {j l : ℕ} (hj : j < 2048) (hl : l < 256) : scV X Y R t j l = DV X Y R (2048 * (t / 32) + j) (256 * (t / 8 % 4) + l) := by
  rw [scV, DV, h7, show (2048 * (t / 32) + j) / 2048 = t / 32 by omega, show (2048 * (t / 32) + j) % 2048 = j by omega,
    show (256 * (t / 8 % 4) + l) / 64 = 4 * (t / 8 % 4) + l / 64 by omega]

end Cert.AttBwd
end
-- ==== Proof.Points.lean ====
module
public import proofs.«01_k».proof.Proof.Blocks

@[expose] public section

set_option maxRecDepth 16384
set_option maxHeartbeats 1000000

/-! What the kernel leaves in its three result arrays. -/

noncomputable section

namespace Cert.AttBwd

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (c : Dev nD) (X Y R : ℕ → ℕ → ℝ)
  (hX : m ((c : Thread nD τ).loc main_arg0) = (up 8192 6144 .f32 X : FVec Ideal S8192x6144 .f32))
  (hY : m ((c : Thread nD τ).loc main_arg1) = (up 8192 1024 .f32 Y : FVec Ideal S8192x1024 .f32))
  (hR : Gen.V m c main_v20 = (up 8192 1024 .f32 R : FVec Ideal S8192x1024 .f32))

include hX hY hR

theorem atA_q (t : Fin cfg0.N) (h0 : cond0_0 (grid0.coords t)) (h1 : ¬ cond0_1 (grid0.coords t)) (hm : t.val % 8 = 0) : out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h0 h1 (iblk m c 0 t) (iblk m c 1 t) (iblk m c 2 t) (iblk m c 3 t) (iblk m c 4 t) = (up 256 256 .bf16 (fun a b => DQ X Y R (2048 * (t.val / 32) + 256 * (t.val % 8) + a) (256 * (t.val / 8 % 4) + b)) : FVec Ideal S256x256 .bf16) := by
  rw [blk0 m c X hX t, blk1 m c X hX t, blk2 m c X hX t, blk3 m c R hR t, blk4 m c Y hY t]
  have ht : t.val < 128 := lt_of_lt_of_eq t.isLt N_0
  refine (outA_q ..).trans (up_ext fun a ha b hb => ?_)
  rw [← blockQ_bs X Y R ht ha hb]
  show blockQ (bs X Y R t.val 0) (bs X Y R t.val 128) 0 a b = _
  rw [hm]

theorem satA_k (t : Fin cfg0.N) (h0 : cond0_0 (grid0.coords t)) (h1 : ¬ cond0_1 (grid0.coords t)) (hm : t.val % 8 = 0) : sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h0 h1 (iblk m c 0 t) (iblk m c 1 t) (iblk m c 2 t) (iblk m c 3 t) (iblk m c 4 t) = (up 2048 256 .f32 (scK X Y R t.val) : FVec Ideal S2048x256 .f32) := by
  rw [blk0 m c X hX t, blk1 m c X hX t, blk2 m c X hX t, blk3 m c R hR t, blk4 m c Y hY t]
  refine (soutA_k ..).trans (up_ext fun a ha b hb => ?_)
  exact scK_first X Y R hm hb

theorem satA_v (t : Fin cfg0.N) (h0 : cond0_0 (grid0.coords t)) (h1 : ¬ cond0_1 (grid0.coords t)) (hm : t.val % 8 = 0) : sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h0 h1 (iblk m c 0 t) (iblk m c 1 t) (iblk m c 2 t) (iblk m c 3 t) (iblk m c 4 t) = (up 2048 256 .f32 (scV X Y R t.val) : FVec Ideal S2048x256 .f32) := by
  rw [blk0 m c X hX t, blk1 m c X hX t, blk2 m c X hX t, blk3 m c R hR t, blk4 m c Y hY t]
  refine (soutA_v ..).trans (up_ext fun a ha b hb => ?_)
  exact scV_first X Y R hm hb

theorem atB_q (t : Fin cfg0.N) (h0 : ¬ cond0_0 (grid0.coords t)) (h1 : ¬ cond0_1 (grid0.coords t)) (hm : ¬ t.val % 8 = 0) : out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h0 h1 (iblk m c 0 t) (iblk m c 1 t) (iblk m c 2 t) (iblk m c 3 t) (iblk m c 4 t) (up 2048 256 .f32 (scK X Y R (t.val - 1)) : FVec Ideal S2048x256 .f32) (up 2048 256 .f32 (scV X Y R (t.val - 1)) : FVec Ideal S2048x256 .f32) = (up 256 256 .bf16 (fun a b => DQ X Y R (2048 * (t.val / 32) + 256 * (t.val % 8) + a) (256 * (t.val / 8 % 4) + b)) : FVec Ideal S256x256 .bf16) := by
  rw [blk0 m c X hX t, blk1 m c X hX t, blk2 m c X hX t, blk3 m c R hR t, blk4 m c Y hY t]
  have ht : t.val < 128 := lt_of_lt_of_eq t.isLt N_0
  refine (outB_q ..).trans (up_ext fun a ha b hb => ?_)
  rw [← blockQ_bs X Y R ht ha hb]
  rw [coord t]
  rfl

theorem satB_k (t : Fin cfg0.N) (h0 : ¬ cond0_0 (grid0.coords t)) (h1 : ¬ cond0_1 (grid0.coords t)) (hm : ¬ t.val % 8 = 0) : sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h0 h1 (iblk m c 0 t) (iblk m c 1 t) (iblk m c 2 t) (iblk m c 3 t) (iblk m c 4 t) (up 2048 256 .f32 (scK X Y R (t.val - 1)) : FVec Ideal S2048x256 .f32) (up 2048 256 .f32 (scV X Y R (t.val - 1)) : FVec Ideal S2048x256 .f32) = (up 2048 256 .f32 (scK X Y R t.val) : FVec Ideal S2048x256 .f32) := by
  rw [blk0 m c X hX t, blk1 m c X hX t, blk2 m c X hX t, blk3 m c R hR t, blk4 m c Y hY t]
  refine (soutB_k ..).trans (up_ext fun a ha b hb => ?_)
  rw [coord t]; exact scK_next X Y R hm hb

theorem satB_v (t : Fin cfg0.N) (h0 : ¬ cond0_0 (grid0.coords t)) (h1 : ¬ cond0_1 (grid0.coords t)) (hm : ¬ t.val % 8 = 0) : sout0_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h0 h1 (iblk m c 0 t) (iblk m c 1 t) (iblk m c 2 t) (iblk m c 3 t) (iblk m c 4 t) (up 2048 256 .f32 (scK X Y R (t.val - 1)) : FVec Ideal S2048x256 .f32) (up 2048 256 .f32 (scV X Y R (t.val - 1)) : FVec Ideal S2048x256 .f32) = (up 2048 256 .f32 (scV X Y R t.val) : FVec Ideal S2048x256 .f32) := by
  rw [blk0 m c X hX t, blk1 m c X hX t, blk2 m c X hX t, blk3 m c R hR t, blk4 m c Y hY t]
  refine (soutB_v ..).trans (up_ext fun a ha b hb => ?_)
  rw [coord t]; exact scV_next X Y R hm hb

theorem atC_q (t : Fin cfg0.N) (h0 : ¬ cond0_0 (grid0.coords t)) (h1 : cond0_1 (grid0.coords t)) (hm : ¬ t.val % 8 = 0) : out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h0 h1 (iblk m c 0 t) (iblk m c 1 t) (iblk m c 2 t) (iblk m c 3 t) (iblk m c 4 t) (up 2048 256 .f32 (scK X Y R (t.val - 1)) : FVec Ideal S2048x256 .f32) (up 2048 256 .f32 (scV X Y R (t.val - 1)) : FVec Ideal S2048x256 .f32) = (up 256 256 .bf16 (fun a b => DQ X Y R (2048 * (t.val / 32) + 256 * (t.val % 8) + a) (256 * (t.val / 8 % 4) + b)) : FVec Ideal S256x256 .bf16) := by
  rw [blk0 m c X hX t, blk1 m c X hX t, blk2 m c X hX t, blk3 m c R hR t, blk4 m c Y hY t]
  have ht : t.val < 128 := lt_of_lt_of_eq t.isLt N_0
  refine (outC_q ..).trans (up_ext fun a ha b hb => ?_)
  rw [← blockQ_bs X Y R ht ha hb]
  rw [coord t]
  rfl

theorem satC_k (t : Fin cfg0.N) (h0 : ¬ cond0_0 (grid0.coords t)) (h1 : cond0_1 (grid0.coords t)) (hm : ¬ t.val % 8 = 0) : sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h0 h1 (iblk m c 0 t) (iblk m c 1 t) (iblk m c 2 t) (iblk m c 3 t) (iblk m c 4 t) (up 2048 256 .f32 (scK X Y R (t.val - 1)) : FVec Ideal S2048x256 .f32) (up 2048 256 .f32 (scV X Y R (t.val - 1)) : FVec Ideal S2048x256 .f32) = (up 2048 256 .f32 (scK X Y R t.val) : FVec Ideal S2048x256 .f32) := by
  rw [blk0 m c X hX t, blk1 m c X hX t, blk2 m c X hX t, blk3 m c R hR t, blk4 m c Y hY t]
  refine (soutC_k ..).trans (up_ext fun a ha b hb => ?_)
  rw [coord t]; exact scK_next X Y R hm hb

theorem atC_k (t : Fin cfg0.N) (h0 : ¬ cond0_0 (grid0.coords t)) (h1 : cond0_1 (grid0.coords t)) (hm : ¬ t.val % 8 = 0) (h7 : t.val % 8 = 7) : out0_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h0 h1 (iblk m c 0 t) (iblk m c 1 t) (iblk m c 2 t) (iblk m c 3 t) (iblk m c 4 t) (up 2048 256 .f32 (scK X Y R (t.val - 1)) : FVec Ideal S2048x256 .f32) (up 2048 256 .f32 (scV X Y R (t.val - 1)) : FVec Ideal S2048x256 .f32) = (up 2048 256 .bf16 (fun a b => DK X Y R (2048 * (t.val / 32) + a) (256 * (t.val / 8 % 4) + b)) : FVec Ideal S2048x256 .bf16) := by
  rw [blk0 m c X hX t, blk1 m c X hX t, blk2 m c X hX t, blk3 m c R hR t, blk4 m c Y hY t]
  have ht : t.val < 128 := lt_of_lt_of_eq t.isLt N_0
  refine (outC_k ..).trans (up_ext fun a ha b hb => ?_)
  rw [coord t, ← scK_last X Y R ht h7 ha hb]; exact scK_next X Y R hm hb

theorem satC_v (t : Fin cfg0.N) (h0 : ¬ cond0_0 (grid0.coords t)) (h1 : cond0_1 (grid0.coords t)) (hm : ¬ t.val % 8 = 0) : sout0_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h0 h1 (iblk m c 0 t) (iblk m c 1 t) (iblk m c 2 t) (iblk m c 3 t) (iblk m c 4 t) (up 2048 256 .f32 (scK X Y R (t.val - 1)) : FVec Ideal S2048x256 .f32) (up 2048 256 .f32 (scV X Y R (t.val - 1)) : FVec Ideal S2048x256 .f32) = (up 2048 256 .f32 (scV X Y R t.val) : FVec Ideal S2048x256 .f32) := by
  rw [blk0 m c X hX t, blk1 m c X hX t, blk2 m c X hX t, blk3 m c R hR t, blk4 m c Y hY t]
  refine (soutC_v ..).trans (up_ext fun a ha b hb => ?_)
  rw [coord t]; exact scV_next X Y R hm hb

theorem atC_v (t : Fin cfg0.N) (h0 : ¬ cond0_0 (grid0.coords t)) (h1 : cond0_1 (grid0.coords t)) (hm : ¬ t.val % 8 = 0) (h7 : t.val % 8 = 7) : out0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h0 h1 (iblk m c 0 t) (iblk m c 1 t) (iblk m c 2 t) (iblk m c 3 t) (iblk m c 4 t) (up 2048 256 .f32 (scK X Y R (t.val - 1)) : FVec Ideal S2048x256 .f32) (up 2048 256 .f32 (scV X Y R (t.val - 1)) : FVec Ideal S2048x256 .f32) = (up 2048 256 .bf16 (fun a b => DV X Y R (2048 * (t.val / 32) + a) (256 * (t.val / 8 % 4) + b)) : FVec Ideal S2048x256 .bf16) := by
  rw [blk0 m c X hX t, blk1 m c X hX t, blk2 m c X hX t, blk3 m c R hR t, blk4 m c Y hY t]
  have ht : t.val < 128 := lt_of_lt_of_eq t.isLt N_0
  refine (outC_v ..).trans (up_ext fun a ha b hb => ?_)
  rw [coord t, ← scV_last X Y R ht h7 ha hb]; exact scV_next X Y R hm hb

/-- After grid point `n` the scratch arrays hold the sums so far. -/
theorem scratch (n : ℕ) (hn : n < cfg0.N) : (outsAt0 m c n hn).2.2.2.1 = (up 2048 256 .f32 (scK X Y R n) : FVec Ideal S2048x256 .f32)
    ∧ (outsAt0 m c n hn).2.2.2.2 = (up 2048 256 .f32 (scV X Y R n) : FVec Ideal S2048x256 .f32) := by
  induction n using Nat.strong_induction_on with
  | _ n ih =>
  by_cases h0 : n % 8 = 0
  · rw [outsAt0_A m c ⟨n, hn⟩ h0 (by dsimp only; omega)]
    exact ⟨satA_k m c X Y R hX hY hR ⟨n, hn⟩ ((hcond0_0 ⟨n, hn⟩).mpr h0) (fun h => by have := (hcond0_1 ⟨n, hn⟩).mp h; dsimp only at this; omega) h0, satA_v m c X Y R hX hY hR ⟨n, hn⟩ ((hcond0_0 ⟨n, hn⟩).mpr h0) (fun h => by have := (hcond0_1 ⟨n, hn⟩).mp h; dsimp only at this; omega) h0⟩
  · obtain ⟨e1, e2⟩ := ih (n - 1) (by omega) (by omega)
    by_cases h1 : n % 8 = 7
    · rw [outsAt0_C m c ⟨n, hn⟩ h0 h1]
      dsimp only
      rw [e1, e2]
      exact ⟨satC_k m c X Y R hX hY hR ⟨n, hn⟩ (fun h => h0 ((hcond0_0 ⟨n, hn⟩).mp h)) ((hcond0_1 ⟨n, hn⟩).mpr h1) h0, satC_v m c X Y R hX hY hR ⟨n, hn⟩ (fun h => h0 ((hcond0_0 ⟨n, hn⟩).mp h)) ((hcond0_1 ⟨n, hn⟩).mpr h1) h0⟩
    · rw [outsAt0_B m c ⟨n, hn⟩ h0 h1]
      dsimp only
      rw [e1, e2]
      exact ⟨satB_k m c X Y R hX hY hR ⟨n, hn⟩ (fun h => h0 ((hcond0_0 ⟨n, hn⟩).mp h)) (fun h => h1 ((hcond0_1 ⟨n, hn⟩).mp h)) h0, satB_v m c X Y R hX hY hR ⟨n, hn⟩ (fun h => h0 ((hcond0_0 ⟨n, hn⟩).mp h)) (fun h => h1 ((hcond0_1 ⟨n, hn⟩).mp h)) h0⟩

theorem point_q (t : Fin cfg0.N) : (outsAt0 m c t.val t.isLt).1 = (up 256 256 .bf16 (fun a b => DQ X Y R (2048 * (t.val / 32) + 256 * (t.val % 8) + a) (256 * (t.val / 8 % 4) + b)) : FVec Ideal S256x256 .bf16) := by
  by_cases h0 : t.val % 8 = 0
  · rw [outsAt0_A m c t h0 (by omega)]
    exact atA_q m c X Y R hX hY hR t ((hcond0_0 t).mpr h0) (fun h => by have := (hcond0_1 t).mp h; omega) h0
  · obtain ⟨e1, e2⟩ := scratch m c X Y R hX hY hR (t.val - 1) (by have := t.isLt; omega)
    by_cases h1 : t.val % 8 = 7
    · rw [outsAt0_C m c t h0 h1]
      dsimp only
      rw [e1, e2]
      exact atC_q m c X Y R hX hY hR t (fun h => h0 ((hcond0_0 t).mp h)) ((hcond0_1 t).mpr h1) h0
    · rw [outsAt0_B m c t h0 h1]
      dsimp only
      rw [e1, e2]
      exact atB_q m c X Y R hX hY hR t (fun h => h0 ((hcond0_0 t).mp h)) (fun h => h1 ((hcond0_1 t).mp h)) h0

theorem point_kv (t : Fin cfg0.N) (h7 : t.val % 8 = 7) :
    (outsAt0 m c t.val t.isLt).2.1 = (up 2048 256 .bf16 (fun a b => DK X Y R (2048 * (t.val / 32) + a) (256 * (t.val / 8 % 4) + b)) : FVec Ideal S2048x256 .bf16)
    ∧ (outsAt0 m c t.val t.isLt).2.2.1 = (up 2048 256 .bf16 (fun a b => DV X Y R (2048 * (t.val / 32) + a) (256 * (t.val / 8 % 4) + b)) : FVec Ideal S2048x256 .bf16) := by
  have h0 : ¬ t.val % 8 = 0 := by omega
  obtain ⟨e1, e2⟩ := scratch m c X Y R hX hY hR (t.val - 1) (by have := t.isLt; omega)
  rw [outsAt0_C m c t h0 h7]
  dsimp only
  rw [e1, e2]
  exact ⟨atC_k m c X Y R hX hY hR t (fun h => h0 ((hcond0_0 t).mp h)) ((hcond0_1 t).mpr h7) h0 h7, atC_v m c X Y R hX hY hR t (fun h => h0 ((hcond0_0 t).mp h)) ((hcond0_1 t).mpr h7) h0 h7⟩

end Cert.AttBwd
end
-- ==== Proof.Final.lean ====
module
public import proofs.«01_k».proof.Proof.Points

@[expose] public section

set_option maxRecDepth 16384
set_option maxHeartbeats 1000000

/-! The three result arrays of the kernel after the run. -/

noncomputable section

namespace Cert.AttBwd

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (c : Dev nD) (X Y R : ℕ → ℕ → ℝ)
  (hX : m ((c : Thread nD τ).loc main_arg0) = (up 8192 6144 .f32 X : FVec Ideal S8192x6144 .f32))
  (hY : m ((c : Thread nD τ).loc main_arg1) = (up 8192 1024 .f32 Y : FVec Ideal S8192x1024 .f32))
  (hR : Gen.V m c main_v20 = (up 8192 1024 .f32 R : FVec Ideal S8192x1024 .f32))

include hX hY hR

omit hX hY hR in
theorem last_point : ∀ t : Fin cfg0.N, ((cfg0.win 6).flush t = true → t.val % 8 = 7) ∧ ((cfg0.win 7).flush t = true → t.val % 8 = 7) :=
  (by decide +kernel : ∀ t : Fin grid0.N, _)

theorem final_q : (dats m 0 c).arrAt 5 cfg0.N = (up 8192 1024 .bf16 (DQ X Y R) : FVec Ideal S8192x1024 .bf16) := by
  refine (dats m 0 c).arrAt_eq_of_covers 5 _ (by decide +kernel) fun t hf y => ?_
  blk_simp
  rw [after0_5, point_q m c X Y R hX hY hR t]
  exact congrArg (fun x : ℝ => (x : EReal)) (congrArg₂ (DQ X Y R) (by blk_simp [idx t] <;> omega) (by blk_simp [idx t] <;> omega))

theorem final_k : (dats m 0 c).arrAt 6 cfg0.N = (up 8192 1024 .bf16 (DK X Y R) : FVec Ideal S8192x1024 .bf16) := by
  refine (dats m 0 c).arrAt_eq_of_covers 6 _ (by decide +kernel) fun t hf y => ?_
  blk_simp
  rw [after0_6, (point_kv m c X Y R hX hY hR t ((last_point t).1 hf)).1]
  exact congrArg (fun x : ℝ => (x : EReal)) (congrArg₂ (DK X Y R) (by blk_simp [idx t] <;> omega) (by blk_simp [idx t] <;> omega))

theorem final_v : (dats m 0 c).arrAt 7 cfg0.N = (up 8192 1024 .bf16 (DV X Y R) : FVec Ideal S8192x1024 .bf16) := by
  refine (dats m 0 c).arrAt_eq_of_covers 7 _ (by decide +kernel) fun t hf y => ?_
  blk_simp
  rw [after0_7, (point_kv m c X Y R hX hY hR t ((last_point t).2 hf)).2]
  exact congrArg (fun x : ℝ => (x : EReal)) (congrArg₂ (DV X Y R) (by blk_simp [idx t] <;> omega) (by blk_simp [idx t] <;> omega))

end Cert.AttBwd
end
-- ==== Proof.Four.lean ====
module
public import proofs.«01_k».proof.Proof.Heads
@[expose] public section
set_option maxHeartbeats 1000000
noncomputable section
namespace Cert.AttBwd
open Idealize.ShloMosaic Idealize.ShloMosaic.TcCoe Idealize.SL.Sem

/-- The four-axis array of the real numbers `A i j k l`. -/
def up4 (a b c d : ℕ) (φ : FTy) (A : ℕ → ℕ → ℕ → ℕ → ℝ) : FVec Ideal (⟨4, ![a, b, c, d]⟩ : Shape) φ :=
  fun j => ((A (j 0).val (j 1).val (j 2).val (j 3).val : ℝ) : EReal)

theorem up4_apply {a b c d : ℕ} {φ : FTy} (A : ℕ → ℕ → ℕ → ℕ → ℝ) (j : (⟨4, ![a, b, c, d]⟩ : Shape).Idx) :
    up4 a b c d φ A j = ((A (j 0).val (j 1).val (j 2).val (j 3).val : ℝ) : EReal) := rfl

theorem up4_ext {a b c d : ℕ} {φ : FTy} {A B : ℕ → ℕ → ℕ → ℕ → ℝ} (h : ∀ i < a, ∀ j < b, ∀ k < c, ∀ l < d, A i j k l = B i j k l) :
    up4 a b c d φ A = up4 a b c d φ B :=
  funext fun j => congrArg _ (h _ (j 0).isLt _ (j 1).isLt _ (j 2).isLt _ (j 3).isLt)

/-- `log (1 + exp x)`, as the host computes it. -/
def sp (x : ℝ) : ℝ := max x 0 + Real.log (1 + Real.exp (-|x|))

theorem sp_host (r : ℝ) : Scalar.select (FloatOps.cmpf (F := Ideal) (φ := .f32) .une (FloatOps.subf (F := Ideal) (φ := .f32) (r : EReal) (FloatOps.ofBits .f32 0#32)) (FloatOps.subf (F := Ideal) (φ := .f32) (r : EReal) (FloatOps.ofBits .f32 0#32)))
      (FloatOps.addf (F := Ideal) (φ := .f32) (r : EReal) (FloatOps.ofBits .f32 0#32))
      (FloatOps.addf (F := Ideal) (φ := .f32) (FloatOps.maximumf (F := Ideal) (φ := .f32) (r : EReal) (FloatOps.ofBits .f32 0#32))
        (FloatOps.hostUnary (F := Ideal) (φ := .f32) .log1p (FloatOps.hostUnary (F := Ideal) (φ := .f32) .exp (FloatOps.hostNegf (F := Ideal) (φ := .f32)
          (FloatOps.hostAbsf (F := Ideal) (φ := .f32) (FloatOps.subf (F := Ideal) (φ := .f32) (r : EReal) (FloatOps.ofBits .f32 0#32)))))))
    = ((sp r : ℝ) : EReal) := by
  have z : (FloatOps.ofBits .f32 0#32 : Ideal .f32) = ((0 : ℝ) : EReal) := by
    show Ideal.ofBits .f32 0#32 = _
    simp
  have c : ∀ x : Ideal .f32, FloatOps.cmpf (F := Ideal) .une x x = 0#1 := fun x => by
    show BitVec.ofBool (decide (x ≠ x)) = _
    simp
  rw [z, c]
  show ((max (r : EReal) ((0 : ℝ) : EReal)) + Ideal.log (1 + Ideal.exp (-(max ((r : EReal) - ((0 : ℝ) : EReal)) (-((r : EReal) - ((0 : ℝ) : EReal))))))) = _
  rw [← EReal.coe_sub, ← EReal.coe_neg, ← EReal.coe_strictMono.monotone.map_max, ← EReal.coe_strictMono.monotone.map_max, ← EReal.coe_neg, Ideal.exp_coe, ← EReal.coe_one, ← EReal.coe_add, Ideal.log_coe, if_neg (not_le.2 (by positivity)), ← EReal.coe_add]
  rw [sub_zero, ← abs_eq_max_neg]
  rfl

theorem lb_sp (x : ℝ) : lb x = -sp (-x) := by
  unfold lb sp
  rw [abs_neg, zero_sub, max_comm, neg_add, ← sub_eq_add_neg]
  congr 1
  rcases le_total x 0 with h | h
  · rw [min_eq_left h, max_eq_right (by linarith), neg_neg]
  · rw [min_eq_right h, max_eq_left (by linarith), neg_zero]

theorem sp_lb (x : ℝ) : sp x = x - lb x := by
  unfold lb sp
  rw [zero_sub]
  rcases le_total x 0 with h | h
  · rw [min_eq_left h, max_eq_right h]; ring
  · rw [min_eq_right h, max_eq_left h]; ring

/-- A left fold of additions is a sum. -/
theorem fold_sum {α : Type} (g : α → EReal) (v : EReal) (L : List α) : L.foldl (fun r n => r + g n) v = v + (L.map g).sum := by
  induction L generalizing v with
  | nil => simp
  | cons a L ih => rw [List.foldl_cons, ih, List.map_cons, List.sum_cons, add_assoc]

theorem window_sum (lo hi : Fin 4 → ℕ) (p : ℕ) (A : ℕ → ℕ → ℕ → ℕ → ℝ) (hlo : lo = ![0, 0, 0, p])
    (h : (⟨4, ![4, 16, 2048, 2048]⟩ : Shape).ReduceWindows (![1, 1, 1, 2048] : Fin 4 → ℕ) ![1, 1, 1, 1] lo hi ⟨4, ![4, 16, 2048, 2048]⟩) :
    Ideal.hostReduceWindowAdd ![1, 1, 1, 2048] ![1, 1, 1, 1] lo hi h (up4 4 16 2048 2048 .f32 A) ((0 : ℝ) : EReal)
      = up4 4 16 2048 2048 .f32 fun s h i j => ∑ k ∈ Finset.range 2048, if p ≤ j + k ∧ j + k - p < 2048 then A s h i (j + k - p) else 0 := by
  subst hlo
  funext j
  unfold Ideal.hostReduceWindowAdd Host.reduceWindow
  dsimp only
  rw [fold_sum, EReal.coe_zero, zero_add, ← Fin.sum_univ_def]
  let g : (⟨4, ![1, 1, 1, 2048]⟩ : Shape).Idx → EReal := fun w =>
    (((if p ≤ (j 3).val + (w 3).val ∧ (j 3).val + (w 3).val - p < 2048 then A (j 0).val (j 1).val (j 2).val ((j 3).val + (w 3).val - p) else 0 : ℝ)) : EReal)
  have hg : ∀ (w : (⟨4, ![1, 1, 1, 2048]⟩ : Shape).Idx) (inst : Decidable (∀ a : Fin 4, (![0, 0, 0, p] : Fin 4 → ℕ) a ≤ (j a).val * (![1, 1, 1, 1] : Fin 4 → ℕ) a + (w a).val
        ∧ (j a).val * (![1, 1, 1, 1] : Fin 4 → ℕ) a + (w a).val - (![0, 0, 0, p] : Fin 4 → ℕ) a < (![4, 16, 2048, 2048] : Fin 4 → ℕ) a)), @dite EReal (∀ a : Fin 4, (![0, 0, 0, p] : Fin 4 → ℕ) a ≤ (j a).val * (![1, 1, 1, 1] : Fin 4 → ℕ) a + (w a).val
        ∧ (j a).val * (![1, 1, 1, 1] : Fin 4 → ℕ) a + (w a).val - (![0, 0, 0, p] : Fin 4 → ℕ) a < (![4, 16, 2048, 2048] : Fin 4 → ℕ) a) inst (fun hin => up4 4 16 2048 2048 .f32 A fun a => ⟨(j a).val * (![1, 1, 1, 1] : Fin 4 → ℕ) a + (w a).val - (![0, 0, 0, p] : Fin 4 → ℕ) a, (hin a).2⟩) (fun _ => 0) = g w := fun w _ => by
    have w0 : (w 0).val = 0 := Nat.lt_one_iff.mp (w 0).isLt
    have w1 : (w 1).val = 0 := Nat.lt_one_iff.mp (w 1).isLt
    have w2 : (w 2).val = 0 := Nat.lt_one_iff.mp (w 2).isLt
    have j0 : (j 0).val < 4 := (j 0).isLt
    have j1 : (j 1).val < 16 := (j 1).isLt
    have j2 : (j 2).val < 2048 := (j 2).isLt
    by_cases hp : p ≤ (j 3).val + (w 3).val ∧ (j 3).val + (w 3).val - p < 2048
    · rw [dif_pos (by
        intro a
        match a with
        | ⟨0, _⟩ => show 0 ≤ (j 0).val * 1 + (w 0).val ∧ (j 0).val * 1 + (w 0).val - 0 < 4; omega
        | ⟨1, _⟩ => show 0 ≤ (j 1).val * 1 + (w 1).val ∧ (j 1).val * 1 + (w 1).val - 0 < 16; omega
        | ⟨2, _⟩ => show 0 ≤ (j 2).val * 1 + (w 2).val ∧ (j 2).val * 1 + (w 2).val - 0 < 2048; omega
        | ⟨3, _⟩ => show p ≤ (j 3).val * 1 + (w 3).val ∧ (j 3).val * 1 + (w 3).val - p < 2048; omega)]
      show ((A ((j 0).val * 1 + (w 0).val - 0) ((j 1).val * 1 + (w 1).val - 0) ((j 2).val * 1 + (w 2).val - 0) ((j 3).val * 1 + (w 3).val - p) : ℝ) : EReal) = _
      simp only [g, if_pos hp, w0, w1, w2, Nat.mul_one, Nat.add_zero, Nat.sub_zero]
    · rw [dif_neg fun hin => hp (by
        have := hin 3
        change p ≤ (j 3).val * 1 + (w 3).val ∧ (j 3).val * 1 + (w 3).val - p < 2048 at this
        omega)]
      simp only [g, if_neg hp, EReal.coe_zero]
  refine (Finset.sum_congr rfl fun n _ => hg ((⟨4, ![1, 1, 1, 2048]⟩ : Shape).rowMajor.symm n) _).trans ?_
  rw [Equiv.sum_comp (⟨4, ![1, 1, 1, 2048]⟩ : Shape).rowMajor.symm g, sum_idx4]
  simp only [Fin.sum_univ_one, g]
  exact sum_coe fun k => if p ≤ (j 3).val + k ∧ (j 3).val + k - p < 2048 then A (j 0).val (j 1).val (j 2).val ((j 3).val + k - p) else 0

theorem suffix_sum (f : ℕ → ℝ) (j : ℕ) (hj : j < 2048) :
    (∑ k ∈ Finset.range 2048, if 0 ≤ j + k ∧ j + k - 0 < 2048 then f (j + k - 0) else 0) = (∑ l ∈ Finset.range 2048, f l) - ∑ l ∈ Finset.range j, f l := by
  have e : 2048 = j + (2048 - j) := by omega
  have e' : 2048 = (2048 - j) + j := by omega
  rw [eq_sub_iff_add_eq', show (∑ l ∈ Finset.range 2048, f l) = ∑ l ∈ Finset.range (j + (2048 - j)), f l by rw [← e], Finset.sum_range_add]
  congr 1
  rw [show (∑ k ∈ Finset.range 2048, if 0 ≤ j + k ∧ j + k - 0 < 2048 then f (j + k - 0) else 0) = ∑ k ∈ Finset.range ((2048 - j) + j), if 0 ≤ j + k ∧ j + k - 0 < 2048 then f (j + k - 0) else 0 by rw [← e'],
    Finset.sum_range_add, Finset.sum_eq_zero (s := Finset.range j) fun k _ => if_neg (by omega), add_zero]
  exact Finset.sum_congr rfl fun k hk => by rw [if_pos (by have := Finset.mem_range.mp hk; omega), Nat.sub_zero]

theorem prefix_sum (f : ℕ → ℝ) (j : ℕ) (hj : j < 2048) :
    (∑ k ∈ Finset.range 2048, if 2047 ≤ j + k ∧ j + k - 2047 < 2048 then f (j + k - 2047) else 0) = ∑ l ∈ Finset.range (j + 1), f l := by
  have e : 2048 = (2047 - j) + (j + 1) := by omega
  rw [show (∑ k ∈ Finset.range 2048, if 2047 ≤ j + k ∧ j + k - 2047 < 2048 then f (j + k - 2047) else 0) = ∑ k ∈ Finset.range ((2047 - j) + (j + 1)), if 2047 ≤ j + k ∧ j + k - 2047 < 2048 then f (j + k - 2047) else 0 by rw [← e],
    Finset.sum_range_add, Finset.sum_eq_zero (s := Finset.range (2047 - j)) fun k hk => if_neg (by have := Finset.mem_range.mp hk; omega), zero_add]
  refine Finset.sum_congr rfl fun k hk => ?_
  have := Finset.mem_range.mp hk
  rw [if_pos (by omega), show j + (2047 - j + k) - 2047 = k by omega]
end Cert.AttBwd
end
-- ==== Proof.Refs.lean ====
module
public import proofs.«01_k».proof.Proof.Blocks
public import proofs.«01_k».proof.Proof.Four
public import proofs.«01_k».proof.Proof.Gen.ReferenceIdeal.Read

@[expose] public section

set_option maxHeartbeats 1000000
set_option maxRecDepth 16384

/-! The reference on real arrays, one operation after the other. -/

noncomputable section

namespace Cert.AttBwd

open Idealize.ShloMosaic Idealize.ShloMosaic.TcCoe Idealize.SL.Sem
open Cert.ReferenceIdeal Cert.ReferenceIdeal.Read

variable (X Y : ℕ → ℕ → ℝ)

/-- The sum of `log (1 - β)` over row `i` of sequence `s`, head `h`. -/
def tot (s h i : ℕ) : ℝ := ∑ l ∈ Finset.range 2048, lgR (gl X s h i) i l

/-- The row totals: at row `r` and a column of head `q / 64`, the sum of the row's `log (1 - β)`. -/
def RT (r q : ℕ) : ℝ := tot X (r / 2048) (q / 64) (r % 2048)

abbrev px : FVec Ideal S8192x6144 .f32 := up 8192 6144 .f32 X
abbrev py : FVec Ideal S8192x1024 .f32 := up 8192 1024 .f32 Y

theorem zero_word : (FloatOps.ofBits .f32 0#32 : Ideal .f32) = ((0 : ℝ) : EReal) := by
  show Ideal.ofBits .f32 0#32 = _
  simp
theorem eighth_word : (FloatOps.ofBits .f32 0x3E000000#32 : Ideal .f32) = ((1 / 8 : ℝ) : EReal) := by
  show Ideal.ofBits .f32 0x3E000000#32 = _
  simp [Ideal.ofBits, Ideal.ieee]
  rw [← EReal.coe_mul]
  norm_num

theorem top_word : (FloatOps.ofBits .f32 0x7F800000#32 : Ideal .f32) = (⊤ : EReal) := by
  show Ideal.ofBits .f32 0x7F800000#32 = _
  simp [Ideal.ofBits, Ideal.ieee]

theorem sig_host (r t : ℝ) : FloatOps.hostUnary (F := Ideal) (φ := .f32) .exp (FloatOps.subf (F := Ideal) (φ := .f32)
      (Scalar.select (FloatOps.cmpf (F := Ideal) (φ := .f32) .oeq (r : EReal) (FloatOps.ofBits .f32 0x7F800000#32)) (FloatOps.ofBits (F := Ideal) .f32 0#32) (r : EReal))
      (Scalar.select (FloatOps.cmpf (F := Ideal) (φ := .f32) .oeq (t : EReal) (FloatOps.ofBits .f32 0x7F800000#32)) (FloatOps.ofBits (F := Ideal) .f32 0#32) (t : EReal)))
    = ((Real.exp (r - t) : ℝ) : EReal) := by
  have c : ∀ x : ℝ, FloatOps.cmpf (F := Ideal) (φ := .f32) .oeq (x : EReal) (⊤ : EReal) = 0#1 := fun x => by
    show BitVec.ofBool (decide ((x : EReal) = ⊤)) = _
    simp
  rw [top_word, c, c]
  show Ideal.exp ((r : EReal) - (t : EReal)) = _
  rw [← EReal.coe_sub, Ideal.exp_coe]

theorem exp_sp (x : ℝ) : Real.exp (x - sp x) = Real.exp (lb x) := by
  rw [sp_lb]; congr 1; ring

theorem exp_sp_neg (x : ℝ) : Real.exp (-x - sp (-x)) = 1 - Real.exp (lb x) := by
  have e : Real.exp (lb x) = Real.exp (min x 0) / (1 + Real.exp (-|x|)) := by
    unfold lb
    rw [Real.exp_sub, zero_sub, Real.exp_log (by positivity)]
  have e' : -x - sp (-x) = min (-x) 0 - Real.log (1 + Real.exp (-|x|)) := by
    rw [sp_lb]; unfold lb; rw [zero_sub, abs_neg]; ring
  rw [e', e, Real.exp_sub, Real.exp_log (by positivity), eq_sub_iff_add_eq, ← add_div, div_eq_one_iff_eq (by positivity)]
  rcases le_total x 0 with h | h
  · rw [min_eq_right (by linarith), min_eq_left h, abs_of_nonpos h, neg_neg, Real.exp_zero]
  · rw [min_eq_left (by linarith), min_eq_right h, abs_of_nonneg h, Real.exp_zero, add_comm]

theorem rv1 : val_main_v1 (F := Ideal) (px X) = (up4 4 2048 16 64 .f32 fun s τ h d => X (2048 * s + τ) (3072 + 64 * h + d) : FVec Ideal S4x2048x16x64 .f32) := by
  funext i
  have h0 : (i 0).val < 4 := (i 0).isLt
  have h1 : (i 1).val < 2048 := (i 1).isLt
  have h2 : (i 2).val < 16 := (i 2).isLt
  have h3 : (i 3).val < 64 := (i 3).isLt
  refine ((val_main_v1_apply _ i).trans (val_main_v0_apply _ _)).trans (congrArg (fun x : ℝ => (x : EReal)) (congrArg₂ X ?_ ?_))
  · show ((((i 0).val * 2048 + (i 1).val) * 16 + (i 2).val) * 64 + (i 3).val) / 1024 = 2048 * (i 0).val + (i 1).val
    omega
  · show 3072 + (((((i 0).val * 2048 + (i 1).val) * 16 + (i 2).val) * 64 + (i 3).val) % 1024) = 3072 + 64 * (i 2).val + (i 3).val
    omega

theorem rv3 : val_main_v3 (F := Ideal) (px X) = (up4 4 2048 16 64 .f32 fun s τ h d => X (2048 * s + τ) (4096 + 64 * h + d) : FVec Ideal S4x2048x16x64 .f32) := by
  funext i
  have h0 : (i 0).val < 4 := (i 0).isLt
  have h1 : (i 1).val < 2048 := (i 1).isLt
  have h2 : (i 2).val < 16 := (i 2).isLt
  have h3 : (i 3).val < 64 := (i 3).isLt
  refine ((val_main_v3_apply _ i).trans (val_main_v2_apply _ _)).trans (congrArg (fun x : ℝ => (x : EReal)) (congrArg₂ X ?_ ?_))
  · show ((((i 0).val * 2048 + (i 1).val) * 16 + (i 2).val) * 64 + (i 3).val) / 1024 = 2048 * (i 0).val + (i 1).val
    omega
  · show 4096 + (((((i 0).val * 2048 + (i 1).val) * 16 + (i 2).val) * 64 + (i 3).val) % 1024) = 4096 + 64 * (i 2).val + (i 3).val
    omega

theorem rv5 : val_main_v5 (F := Ideal) (px X) = (up4 4 2048 16 64 .f32 fun s τ h d => X (2048 * s + τ) (5120 + 64 * h + d) : FVec Ideal S4x2048x16x64 .f32) := by
  funext i
  have h0 : (i 0).val < 4 := (i 0).isLt
  have h1 : (i 1).val < 2048 := (i 1).isLt
  have h2 : (i 2).val < 16 := (i 2).isLt
  have h3 : (i 3).val < 64 := (i 3).isLt
  refine ((val_main_v5_apply _ i).trans (val_main_v4_apply _ _)).trans (congrArg (fun x : ℝ => (x : EReal)) (congrArg₂ X ?_ ?_))
  · show ((((i 0).val * 2048 + (i 1).val) * 16 + (i 2).val) * 64 + (i 3).val) / 1024 = 2048 * (i 0).val + (i 1).val
    omega
  · show 5120 + (((((i 0).val * 2048 + (i 1).val) * 16 + (i 2).val) * 64 + (i 3).val) % 1024) = 5120 + 64 * (i 2).val + (i 3).val
    omega

theorem rv26 : val_main_v26 (F := Ideal) (py Y) = (up4 4 2048 16 64 .f32 fun s τ h d => Y (2048 * s + τ) (64 * h + d) : FVec Ideal S4x2048x16x64 .f32) := by
  funext i
  have h0 : (i 0).val < 4 := (i 0).isLt
  have h1 : (i 1).val < 2048 := (i 1).isLt
  have h2 : (i 2).val < 16 := (i 2).isLt
  have h3 : (i 3).val < 64 := (i 3).isLt
  refine (val_main_v26_apply _ i).trans (congrArg (fun x : ℝ => (x : EReal)) (congrArg₂ Y ?_ ?_))
  · show ((((i 0).val * 2048 + (i 1).val) * 16 + (i 2).val) * 64 + (i 3).val) / 1024 = 2048 * (i 0).val + (i 1).val
    omega
  · show ((((i 0).val * 2048 + (i 1).val) * 16 + (i 2).val) * 64 + (i 3).val) % 1024 = 64 * (i 2).val + (i 3).val
    omega

theorem rv6 : val_main_v6 (F := Ideal) (px X) = (up4 4 16 2048 2048 .f32 fun s h i j => ∑ k ∈ Finset.range 64, X (2048 * s + i) (3072 + 64 * h + k) * X (2048 * s + j) (4096 + 64 * h + k) : FVec Ideal S4x16x2048x2048 .f32) := by
  funext i
  refine (val_main_v6_apply (px X) i).trans ?_
  rw [rv1, rv3]
  simp only [up4_apply, ← EReal.coe_mul]
  exact sum_coe fun k => X (2048 * (i 0).val + (i 2).val) (3072 + 64 * (i 1).val + k) * X (2048 * (i 0).val + (i 3).val) (4096 + 64 * (i 1).val + k)

theorem rv8 : val_main_v8 (F := Ideal) (px X) = (up4 4 16 2048 2048 .f32 fun s h i j => gl X s h i j : FVec Ideal S4x16x2048x2048 .f32) := by
  funext i
  refine (val_main_v8_apply _ i).trans ?_
  rw [rv6, val_main_v7_apply, val_main_cst_apply, eighth_word, up4_apply, up4_apply]
  refine (EReal.coe_mul _ _).symm.trans (congrArg (fun x : ℝ => (x : EReal)) ?_)
  unfold gl
  rw [Finset.sum_mul]
  exact Finset.sum_congr rfl fun d _ => by ring

theorem rv14 (i : S2048x2048.Idx) : val_main_v14 (F := Ideal) i = if (i 1).val < (i 0).val then 1#1 else 0#1 := by
  simp only [val_main_v14_apply, val_main_v13_apply, val_main_v12_apply, val_main_v11_apply, val_main_v10_apply, val_main_v9_apply]
  have h0 : (i 0).val < 2048 := (i 0).isLt
  have h1 : (i 1).val < 2048 := (i 1).isLt
  exact cmp_slt _ _ (by omega) (by omega)

theorem rcall0_v0 : val_main_call0_v0 (F := Ideal) (px X) = (up4 4 16 2048 2048 .f32 fun s h i j => -gl X s h i j : FVec Ideal S4x16x2048x2048 .f32) := by
  funext i
  refine (val_main_call0_v0_apply _ i).trans ?_
  rw [rv8]
  exact (EReal.coe_neg _).symm

theorem rcall0_v1_0 : val_main_call0_v1_0 (F := Ideal) (px X) = (up4 4 16 2048 2048 .f32 fun s h i j => sp (-gl X s h i j) : FVec Ideal S4x16x2048x2048 .f32) := by
  funext i
  simp only [val_main_call0_v1_0_apply, val_main_call0_call0_v4_apply, val_main_call0_call0_v6_apply, val_main_call0_call0_v11_apply, val_main_call0_call0_v3_apply, val_main_call0_call0_v5_apply, val_main_call0_call0_v1_apply, val_main_call0_call0_v10_apply, val_main_call0_call0_v9_apply, val_main_call0_call0_v8_apply, val_main_call0_call0_v7_apply, val_main_call0_call0_v0_apply, val_main_call0_call0_v2_apply, val_main_call0_call0_cst_apply]
  rw [rcall0_v0, up4_apply]
  exact sp_host _

theorem rv15_0 : val_main_v15_0 (F := Ideal) (px X) = (up4 4 16 2048 2048 .f32 fun s h i j => lb (gl X s h i j) : FVec Ideal S4x16x2048x2048 .f32) := by
  funext i
  refine (val_main_v15_0_apply _ i).trans ?_
  rw [rcall0_v1_0]
  refine (EReal.coe_neg _).symm.trans (congrArg (fun x : ℝ => (x : EReal)) ?_)
  dsimp only
  rw [lb_sp]

theorem rv15_1 : val_main_v15_1 (F := Ideal) (px X) = (up4 4 16 2048 2048 .f32 fun s h i j => 1 - Real.exp (lb (gl X s h i j)) : FVec Ideal S4x16x2048x2048 .f32) := by
  funext i
  simp only [val_main_v15_1_apply, val_main_call0_call0_v21_apply, val_main_call0_call0_v16_apply, val_main_call0_call0_v20_apply, val_main_call0_call0_v14_apply, val_main_call0_call0_v18_apply, val_main_call0_call0_v13_apply, val_main_call0_call0_v17_apply, val_main_call0_call0_v15_apply, val_main_call0_call0_v19_apply, val_main_call0_call0_cst_0_apply, val_main_call0_call0_cst_1_apply, val_main_call0_call0_cst_2_apply, val_main_call0_call0_cst_3_apply]
  rw [rcall0_v0, rcall0_v1_0, up4_apply, up4_apply]
  exact (sig_host _ _).trans (congrArg (fun x : ℝ => (x : EReal)) (exp_sp_neg _))

theorem rv16 : val_main_v16 (F := Ideal) (px X) = (up4 4 16 2048 2048 .f32 fun s h i j => -gl X s h i j : FVec Ideal S4x16x2048x2048 .f32) := by
  funext i
  refine (val_main_v16_apply _ i).trans ?_
  rw [rv8]
  exact (EReal.coe_neg _).symm

theorem rcall1_v0 : val_main_call1_v0 (F := Ideal) (px X) = (up4 4 16 2048 2048 .f32 fun s h i j => gl X s h i j : FVec Ideal S4x16x2048x2048 .f32) := by
  funext i
  refine (val_main_call1_v0_apply _ i).trans ?_
  rw [rv16]
  exact (EReal.coe_neg _).symm.trans (congrArg (fun x : ℝ => (x : EReal)) (neg_neg _))

theorem rcall1_v1_0 : val_main_call1_v1_0 (F := Ideal) (px X) = (up4 4 16 2048 2048 .f32 fun s h i j => sp (gl X s h i j) : FVec Ideal S4x16x2048x2048 .f32) := by
  funext i
  simp only [val_main_call1_v1_0_apply, val_main_call1_call0_v4_apply, val_main_call1_call0_v6_apply, val_main_call1_call0_v11_apply, val_main_call1_call0_v3_apply, val_main_call1_call0_v5_apply, val_main_call1_call0_v1_apply, val_main_call1_call0_v10_apply, val_main_call1_call0_v9_apply, val_main_call1_call0_v8_apply, val_main_call1_call0_v7_apply, val_main_call1_call0_v0_apply, val_main_call1_call0_v2_apply, val_main_call1_call0_cst_apply]
  rw [rcall1_v0, up4_apply]
  exact sp_host _

theorem rv17_0 : val_main_v17_0 (F := Ideal) (px X) = (up4 4 16 2048 2048 .f32 fun s h i j => lb (gl X s h i j) - gl X s h i j : FVec Ideal S4x16x2048x2048 .f32) := by
  funext i
  refine (val_main_v17_0_apply _ i).trans ?_
  rw [rcall1_v1_0]
  refine (EReal.coe_neg _).symm.trans (congrArg (fun x : ℝ => (x : EReal)) ?_)
  dsimp only
  rw [sp_lb]; ring

theorem rv17_1 : val_main_v17_1 (F := Ideal) (px X) = (up4 4 16 2048 2048 .f32 fun s h i j => Real.exp (lb (gl X s h i j)) : FVec Ideal S4x16x2048x2048 .f32) := by
  funext i
  simp only [val_main_v17_1_apply, val_main_call1_call0_v21_apply, val_main_call1_call0_v16_apply, val_main_call1_call0_v20_apply, val_main_call1_call0_v14_apply, val_main_call1_call0_v18_apply, val_main_call1_call0_v13_apply, val_main_call1_call0_v17_apply, val_main_call1_call0_v15_apply, val_main_call1_call0_v19_apply, val_main_call1_call0_cst_0_apply, val_main_call1_call0_cst_1_apply, val_main_call1_call0_cst_2_apply, val_main_call1_call0_cst_3_apply]
  rw [rcall1_v0, rcall1_v1_0, up4_apply, up4_apply]
  exact (sig_host _ _).trans (congrArg (fun x : ℝ => (x : EReal)) (exp_sp _))

theorem rv18_1 (i : S4x16x2048x2048.Idx) : val_main_v18_1 (F := Ideal) i = if (i 3).val < (i 2).val then 1#1 else 0#1 :=
  (val_main_v18_1_apply i).trans (rv14 _)

theorem rv23_1 (i : S4x16x2048x2048.Idx) : val_main_v23_1 (F := Ideal) i = if (i 3).val < (i 2).val then 1#1 else 0#1 :=
  (val_main_v23_1_apply i).trans (rv14 _)

theorem select_if (p : Prop) [Decidable p] (x y : ℝ) : Scalar.select (if p then 1#1 else 0#1) (x : EReal) (y : EReal) = (((if p then x else y : ℝ)) : EReal) := by
  split <;> rfl

theorem rv18_0 : val_main_v18_0 (F := Ideal) (px X) = (up4 4 16 2048 2048 .f32 fun s h i j => lgR (gl X s h i) i j : FVec Ideal S4x16x2048x2048 .f32) := by
  funext i
  simp only [val_main_v18_0_apply, rv18_1, val_main_call2_v2_apply, val_main_call2_v0_apply, val_main_cst_0_apply]
  rw [rv17_0, up4_apply, zero_word]
  exact select_if _ _ _

theorem rv19 : val_main_v19 (F := Ideal) (px X) = (up4 4 16 2048 2048 .f32 fun s h i j => tot X s h i - ∑ l ∈ Finset.range j, lgR (gl X s h i) i l : FVec Ideal S4x16x2048x2048 .f32) := by
  funext i
  have e : (val_main_v19 (F := Ideal) (px X)) = Ideal.hostReduceWindowAdd ![1, 1, 1, 2048] ![1, 1, 1, 1] ![0, 0, 0, 0] ![0, 0, 0, 2047] Gen.reduceWindows_S4x16x2048x2048_S4x16x2048x2048_w1s1p0_0_w1s1p0_0_w1s1p0_0_w2048s1p0_2047 (val_main_v18_0 (F := Ideal) (px X)) (val_main_call3_v0 (F := Ideal) (Shape.Idx.first Gen.h_S_)) := by
    unfold val_main_v19 Host.reduceWindowAdd
    exact Ideal.hostReduceWindowAdd_def ..
  rw [e, rv18_0, val_main_call3_v0_apply, val_main_call3_cst_apply, zero_word, window_sum _ _ 0 _ rfl]
  exact congrArg (fun x : ℝ => (x : EReal)) (suffix_sum _ _ (i 3).isLt)

theorem rv20 : val_main_v20 (F := Ideal) (px X) = (up4 4 16 2048 2048 .f32 fun s h i j => tot X s h i - ∑ l ∈ Finset.range (j + 1), lgR (gl X s h i) i l : FVec Ideal S4x16x2048x2048 .f32) := by
  funext i
  refine (val_main_v20_apply _ i).trans ?_
  rw [rv19, rv18_0]
  refine (EReal.coe_sub _ _).symm.trans (congrArg (fun x : ℝ => (x : EReal)) ?_)
  dsimp only
  rw [Finset.sum_range_succ]; ring

theorem rv22 : val_main_v22 (F := Ideal) (px X) = (up4 4 16 2048 2048 .f32 fun s h i j => Real.exp (lb (gl X s h i j) + (tot X s h i - ∑ l ∈ Finset.range (j + 1), lgR (gl X s h i) i l)) : FVec Ideal S4x16x2048x2048 .f32) := by
  funext i
  refine (val_main_v22_apply _ i).trans ?_
  rw [val_main_v21_apply, rv15_0, rv20]
  refine (congrArg Ideal.exp (EReal.coe_add _ _).symm).trans (Ideal.exp_coe _)

theorem rv23_0 : val_main_v23_0 (F := Ideal) (px X) = (up4 4 16 2048 2048 .f32 fun s h i j => pwR (gl X s h i) (tot X s h i) i j : FVec Ideal S4x16x2048x2048 .f32) := by
  funext i
  simp only [val_main_v23_0_apply, rv23_1, val_main_call4_v2_apply, val_main_call4_v0_apply, val_main_cst_1_apply]
  rw [rv22, up4_apply, zero_word]
  exact select_if _ _ _

theorem rv27 : val_main_v27 (F := Ideal) (py Y) = (up4 4 16 64 2048 .f32 fun s h d τ => Y (2048 * s + τ) (64 * h + d) : FVec Ideal S4x16x64x2048 .f32) := by
  funext i
  refine (val_main_v27_apply _ i).trans ?_
  rw [rv26]
  rfl

theorem rv28 : val_main_v28 (F := Ideal) (px X) (py Y) = (up4 4 16 2048 2048 .f32 fun s h i j => gg X Y s h i j : FVec Ideal S4x16x2048x2048 .f32) := by
  funext i
  refine (val_main_v28_apply (px X) (py Y) i).trans ?_
  rw [rv27, rv5]
  simp only [up4_apply, ← EReal.coe_mul]
  exact sum_coe fun k => Y (2048 * (i 0).val + (i 2).val) (64 * (i 1).val + k) * X (2048 * (i 0).val + (i 3).val) (5120 + 64 * (i 1).val + k)

theorem rv29 : val_main_v29 (F := Ideal) (px X) (py Y) = (up4 4 16 64 2048 .f32 fun s h d j => ∑ k ∈ Finset.range 2048, Y (2048 * s + k) (64 * h + d) * pwR (gl X s h k) (tot X s h k) k j : FVec Ideal S4x16x64x2048 .f32) := by
  funext i
  refine (val_main_v29_apply (px X) (py Y) i).trans ?_
  rw [rv27, rv23_0]
  simp only [up4_apply, ← EReal.coe_mul]
  exact sum_coe fun k => Y (2048 * (i 0).val + k) (64 * (i 1).val + (i 2).val) * pwR (gl X (i 0).val (i 1).val k) (tot X (i 0).val (i 1).val k) k (i 3).val

theorem rv30 : val_main_v30 (F := Ideal) (px X) (py Y) = (up4 4 2048 16 64 .f32 fun s j h d => ∑ k ∈ Finset.range 2048, Y (2048 * s + k) (64 * h + d) * pwR (gl X s h k) (tot X s h k) k j : FVec Ideal S4x2048x16x64 .f32) := by
  funext i
  refine (val_main_v30_apply _ _ i).trans ?_
  rw [rv29]
  rfl

theorem rv32 : val_main_v32 (F := Ideal) (px X) (py Y) = (up4 4 16 2048 2048 .f32 fun s h i j => dzR (gl X s h i) (gg X Y s h i) (tot X s h i) i j : FVec Ideal S4x16x2048x2048 .f32) := by
  funext i
  simp only [val_main_v32_apply, val_main_v31_apply, rv23_1, val_main_call5_v0_apply, val_main_call5_cst_apply]
  rw [rv28, rv22, up4_apply, up4_apply, zero_word, select_if]
  refine (EReal.coe_mul _ _).symm.trans (congrArg (fun x : ℝ => (x : EReal)) ?_)
  unfold dzR pwR
  dsimp only
  split
  · rfl
  · rw [zero_mul, mul_zero]

theorem rv34 : val_main_v34 (F := Ideal) (px X) (py Y) = (up4 4 16 2048 2048 .f32 fun s h i j => ∑ l ∈ Finset.range (j + 1), dzR (gl X s h i) (gg X Y s h i) (tot X s h i) i l : FVec Ideal S4x16x2048x2048 .f32) := by
  funext i
  have e : (val_main_v34 (F := Ideal) (px X) (py Y)) = Ideal.hostReduceWindowAdd ![1, 1, 1, 2048] ![1, 1, 1, 1] ![0, 0, 0, 2047] ![0, 0, 0, 0] Gen.reduceWindows_S4x16x2048x2048_S4x16x2048x2048_w1s1p0_0_w1s1p0_0_w1s1p0_0_w2048s1p2047_0 (val_main_v32 (F := Ideal) (px X) (py Y)) (val_main_call6_v0 (F := Ideal) (Shape.Idx.first Gen.h_S_)) := by
    unfold val_main_v34 Host.reduceWindowAdd
    exact Ideal.hostReduceWindowAdd_def ..
  rw [e, rv32, val_main_call6_v0_apply, val_main_call6_cst_apply, zero_word, window_sum _ _ 2047 _ rfl]
  exact congrArg (fun x : ℝ => (x : EReal)) (prefix_sum _ _ (i 3).isLt)

theorem rv36 : val_main_v36 (F := Ideal) (px X) (py Y) = (up4 4 16 2048 2048 .f32 fun s h i j => if j < i then ∑ l ∈ Finset.range j, dzR (gl X s h i) (gg X Y s h i) (tot X s h i) i l else 0 : FVec Ideal S4x16x2048x2048 .f32) := by
  funext i
  simp only [val_main_v36_apply, rv18_1, val_main_call7_v0_apply, val_main_call7_cst_apply, val_main_v35_apply, val_main_v33_apply]
  rw [rv34, rv32, up4_apply, up4_apply, zero_word]
  refine (congrArg₂ (Scalar.select _) ((congrArg₂ (· + ·) (EReal.coe_neg _).symm rfl).trans (EReal.coe_add _ _).symm) rfl).trans ((select_if _ _ _).trans (congrArg (fun x : ℝ => (x : EReal)) ?_))
  dsimp only
  split
  · rw [Finset.sum_range_succ]; ring
  · rfl

theorem rv42 : val_main_v42 (F := Ideal) (px X) (py Y) = (up4 4 16 2048 2048 .f32 fun s h i j => dsR (gl X s h i) (gg X Y s h i) (tot X s h i) i j * (1 / 8) : FVec Ideal S4x16x2048x2048 .f32) := by
  funext i
  simp only [val_main_v42_apply, val_main_v41_apply, val_main_cst_2_apply, val_main_v40_apply, val_main_v38_apply, val_main_v37_apply, val_main_call8_v1_apply, val_main_call8_v0_apply, val_main_v39_apply, val_main_call9_v1_apply, val_main_call9_v0_apply]
  rw [rv36, rv32, rv17_1, rv15_1, up4_apply, up4_apply, up4_apply, up4_apply, eighth_word]
  have e : ∀ a b c d : ℝ, FloatOps.mulf (F := Ideal) (φ := .f32) (FloatOps.addf (F := Ideal) (φ := .f32) (FloatOps.hostNegf (F := Ideal) (φ := .f32) (FloatOps.hostNegf (F := Ideal) (φ := .f32) (FloatOps.mulf (F := Ideal) (φ := .f32) (FloatOps.hostNegf (F := Ideal) (φ := .f32) (a : EReal)) (b : EReal))))
      (FloatOps.hostNegf (F := Ideal) (φ := .f32) (FloatOps.mulf (F := Ideal) (φ := .f32) (FloatOps.hostNegf (F := Ideal) (φ := .f32) (c : EReal)) (d : EReal)))) ((1 / 8 : ℝ) : EReal) = (((c * d - a * b) * (1 / 8) : ℝ) : EReal) := fun a b c d => by
    show ((- -(-(a : EReal) * (b : EReal))) + -(-(c : EReal) * (d : EReal))) * ((1 / 8 : ℝ) : EReal) = _
    simp only [← EReal.coe_neg, ← EReal.coe_mul, ← EReal.coe_add]
    exact congrArg _ (by ring)
  refine (e _ _ _ _).trans (congrArg (fun x : ℝ => (x : EReal)) ?_)
  dsimp only
  congr 1
  unfold dsR
  split
  · rfl
  · next h => unfold dzR pwR; rw [if_neg h]; ring

theorem rv43 : val_main_v43 (F := Ideal) (px X) (py Y) = (up4 4 16 2048 64 .f32 fun s h j d => ∑ k ∈ Finset.range 2048, dsR (gl X s h k) (gg X Y s h k) (tot X s h k) k j * (1 / 8) * X (2048 * s + k) (3072 + 64 * h + d) : FVec Ideal S4x16x2048x64 .f32) := by
  funext i
  refine (val_main_v43_apply (px X) (py Y) i).trans ?_
  rw [rv42, rv1]
  simp only [up4_apply, ← EReal.coe_mul]
  exact sum_coe fun k => dsR (gl X (i 0).val (i 1).val k) (gg X Y (i 0).val (i 1).val k) (tot X (i 0).val (i 1).val k) k (i 2).val * (1 / 8) * X (2048 * (i 0).val + k) (3072 + 64 * (i 1).val + (i 3).val)

theorem rv44 : val_main_v44 (F := Ideal) (px X) (py Y) = (up4 4 2048 16 64 .f32 fun s j h d => ∑ k ∈ Finset.range 2048, dsR (gl X s h k) (gg X Y s h k) (tot X s h k) k j * (1 / 8) * X (2048 * s + k) (3072 + 64 * h + d) : FVec Ideal S4x2048x16x64 .f32) := by
  funext i
  refine (val_main_v44_apply _ _ i).trans ?_
  rw [rv43]
  rfl

theorem rv45 : val_main_v45 (F := Ideal) (px X) (py Y) = (up4 4 16 2048 64 .f32 fun s h j d => ∑ k ∈ Finset.range 2048, dsR (gl X s h j) (gg X Y s h j) (tot X s h j) j k * (1 / 8) * X (2048 * s + k) (4096 + 64 * h + d) : FVec Ideal S4x16x2048x64 .f32) := by
  funext i
  refine (val_main_v45_apply (px X) (py Y) i).trans ?_
  rw [rv42, rv3]
  simp only [up4_apply, ← EReal.coe_mul]
  exact sum_coe fun k => dsR (gl X (i 0).val (i 1).val (i 2).val) (gg X Y (i 0).val (i 1).val (i 2).val) (tot X (i 0).val (i 1).val (i 2).val) (i 2).val k * (1 / 8) * X (2048 * (i 0).val + k) (4096 + 64 * (i 1).val + (i 3).val)

theorem rv46 : val_main_v46 (F := Ideal) (px X) (py Y) = (up4 4 2048 16 64 .f32 fun s j h d => ∑ k ∈ Finset.range 2048, dsR (gl X s h j) (gg X Y s h j) (tot X s h j) j k * (1 / 8) * X (2048 * s + k) (4096 + 64 * h + d) : FVec Ideal S4x2048x16x64 .f32) := by
  funext i
  refine (val_main_v46_apply _ _ i).trans ?_
  rw [rv45]
  rfl

theorem rv48 : val_main_v48 (F := Ideal) (px X) (py Y) = (up 8192 1024 .bf16 (DQ X Y (RT X)) : FVec Ideal S8192x1024 .bf16) := by
  funext i
  have h0 : (i 0).val < 8192 := (i 0).isLt
  have h1 : (i 1).val < 1024 := (i 1).isLt
  refine (val_main_v48_apply _ _ i).trans ((val_main_v47_apply _ _ i).trans ?_)
  rw [rv46, up4_apply]
  refine congrArg (fun x : ℝ => (x : EReal)) ?_
  have e0 : ((i 0).val * 1024 + (i 1).val) / 2097152 = (i 0).val / 2048 := by omega
  have e1 : ((i 0).val * 1024 + (i 1).val) / 1024 % 2048 = (i 0).val % 2048 := by omega
  have e2 : ((i 0).val * 1024 + (i 1).val) / 64 % 16 = (i 1).val / 64 := by omega
  have e3 : ((i 0).val * 1024 + (i 1).val) % 64 = (i 1).val % 64 := by omega
  have e4 : 64 * ((i 1).val / 64) + (i 1).val % 64 = (i 1).val := by omega
  have eR : ∀ k, k < 2048 → RT X (2048 * ((i 0).val / 2048) + k) (64 * ((i 1).val / 64)) = tot X ((i 0).val / 2048) ((i 1).val / 64) k := fun k hk => by
    unfold RT
    congr 1 <;> omega
  simp only [e0, e1, e2, e3, e4]
  unfold DQ gds
  rw [Finset.sum_mul]
  refine Finset.sum_congr rfl fun k _ => ?_
  rw [eR _ (Nat.mod_lt _ (by norm_num)), add_assoc, e4]
  ring

theorem rv50 : val_main_v50 (F := Ideal) (px X) (py Y) = (up 8192 1024 .bf16 (DK X Y (RT X)) : FVec Ideal S8192x1024 .bf16) := by
  funext i
  have h0 : (i 0).val < 8192 := (i 0).isLt
  have h1 : (i 1).val < 1024 := (i 1).isLt
  refine (val_main_v50_apply _ _ i).trans ((val_main_v49_apply _ _ i).trans ?_)
  rw [rv44, up4_apply]
  refine congrArg (fun x : ℝ => (x : EReal)) ?_
  have e0 : ((i 0).val * 1024 + (i 1).val) / 2097152 = (i 0).val / 2048 := by omega
  have e1 : ((i 0).val * 1024 + (i 1).val) / 1024 % 2048 = (i 0).val % 2048 := by omega
  have e2 : ((i 0).val * 1024 + (i 1).val) / 64 % 16 = (i 1).val / 64 := by omega
  have e3 : ((i 0).val * 1024 + (i 1).val) % 64 = (i 1).val % 64 := by omega
  have e4 : 64 * ((i 1).val / 64) + (i 1).val % 64 = (i 1).val := by omega
  have eR : ∀ k, k < 2048 → RT X (2048 * ((i 0).val / 2048) + k) (64 * ((i 1).val / 64)) = tot X ((i 0).val / 2048) ((i 1).val / 64) k := fun k hk => by
    unfold RT
    congr 1 <;> omega
  simp only [e0, e1, e2, e3, e4]
  unfold DK gds
  refine Finset.sum_congr rfl fun k hk => ?_
  rw [eR _ (Finset.mem_range.mp hk), add_assoc, e4]
  ring

theorem rv52 : val_main_v52 (F := Ideal) (px X) (py Y) = (up 8192 1024 .bf16 (DV X Y (RT X)) : FVec Ideal S8192x1024 .bf16) := by
  funext i
  have h0 : (i 0).val < 8192 := (i 0).isLt
  have h1 : (i 1).val < 1024 := (i 1).isLt
  refine (val_main_v52_apply _ _ i).trans ((val_main_v51_apply _ _ i).trans ?_)
  rw [rv30, up4_apply]
  refine congrArg (fun x : ℝ => (x : EReal)) ?_
  have e0 : ((i 0).val * 1024 + (i 1).val) / 2097152 = (i 0).val / 2048 := by omega
  have e1 : ((i 0).val * 1024 + (i 1).val) / 1024 % 2048 = (i 0).val % 2048 := by omega
  have e2 : ((i 0).val * 1024 + (i 1).val) / 64 % 16 = (i 1).val / 64 := by omega
  have e3 : ((i 0).val * 1024 + (i 1).val) % 64 = (i 1).val % 64 := by omega
  have e4 : 64 * ((i 1).val / 64) + (i 1).val % 64 = (i 1).val := by omega
  have eR : ∀ k, k < 2048 → RT X (2048 * ((i 0).val / 2048) + k) (64 * ((i 1).val / 64)) = tot X ((i 0).val / 2048) ((i 1).val / 64) k := fun k hk => by
    unfold RT
    congr 1 <;> omega
  simp only [e0, e1, e2, e3, e4]
  unfold DV gpw
  refine Finset.sum_congr rfl fun k hk => ?_
  rw [eR _ (Finset.mem_range.mp hk)]
  ring

end Cert.AttBwd
end
-- ==== Proof.Host.lean ====
module
public import proofs.«01_k».proof.Proof.Refs
public import proofs.«01_k».proof.Proof.Final
@[expose] public section
set_option maxHeartbeats 1000000
set_option maxRecDepth 16384
noncomputable section
namespace Cert.AttBwd
open Idealize.ShloMosaic Idealize.ShloMosaic.TcCoe Idealize.SL.Sem
open Cert.KernelIdeal Cert.KernelIdeal.Gen
variable (m : (ℓ : Loc nD τ sig) → Buf (Elt Ideal) ℓ) (c : Dev nD)

/-- The host's row totals, from the masked `log (1 - β)` of the reference. -/
def rowTotals (x : FVec Ideal S4x16x2048x2048 .f32) : FVec Ideal S8192x1024 .f32 :=
  shapeCast S8192x1024 (broadcastInDim S4x2048x16x64 ![0, 1, 2, 3] bcast_S4x2048x16x1_S4x2048x16x64_0_1_2_3
    (broadcastInDim S4x2048x16x1 ![0, 1, 2] bcast_S4x2048x16_S4x2048x16x1_0_1_2
      (transpose S4x2048x16 [0, 2, 1] (Host.reduceAdd x (constant S_ .f32 0x00000000#32) reducesTo_S4x16x2048x2048_S4x16x2048_d3 h_S_) transposes_S4x16x2048_S4x2048x16_0_2_1)))
    shapeCasts_S4x2048x16x64_S8192x1024

theorem host_rows : Gen.V m c main_v20 = rowTotals (Cert.ReferenceIdeal.Read.val_main_v18_0 (F := Ideal) (m ((c : Thread nD τ).loc main_arg0))) := by
  entry_read
  simp only [List.flatten_cons, List.flatten_nil, List.append_nil, StableHlo.after_append]
  after_results
  rfl

theorem rowTotals_up (A : ℕ → ℕ → ℕ → ℕ → ℝ) : rowTotals (up4 4 16 2048 2048 .f32 A)
    = up 8192 1024 .f32 fun r q => ∑ l ∈ Finset.range 2048, A (r / 2048) (q / 64) (r % 2048) l := by
  refine eq_up fun i j => ?_
  pointwise [rowTotals]
  exact sum_coe fun l => A (i.val / 2048) (j.val / 64) (i.val % 2048) l

theorem host_up (X : ℕ → ℕ → ℝ) (hX : m ((c : Thread nD τ).loc main_arg0) = (up 8192 6144 .f32 X : FVec Ideal S8192x6144 .f32)) :
    Gen.V m c main_v20 = (up 8192 1024 .f32 (RT X) : FVec Ideal S8192x1024 .f32) := by
  rw [host_rows, hX]
  exact (congrArg rowTotals (rv18_0 X)).trans (rowTotals_up _)
end Cert.AttBwd
end
-- ==== Proof.Finite.lean ====
module
public import proofs.«01_k».proof.Proof.Up
public import proofs.«01_k».proof.Pre_finite
public import Idealize.ShloMosaic.Lib.ReduceAll
@[expose] public section
set_option maxHeartbeats 1000000

/-! Arguments that meet the precondition are arrays of real numbers. -/

noncomputable section
namespace Cert.AttBwd
open Idealize.ShloMosaic Idealize.ShloMosaic.TcCoe Idealize.SL.Sem

theorem pre_facts : Cert.Pre_finite.Facts where
  bcast_S_S8192x6144 := by decide
  reducesTo_S8192x6144_S_d0_1 := by decide
  h_S_ := by decide
  bcast_S_S8192x1024 := by decide
  reducesTo_S8192x1024_S_d0_1 := by decide

/-- The real numbers in an array. -/
def reals {a b : ℕ} {φ : FTy} (x : FVec Ideal (⟨2, ![a, b]⟩ : Shape) φ) (i j : ℕ) : ℝ :=
  if h : i < a ∧ j < b then EReal.toReal (x (ix2 ⟨i, h.1⟩ ⟨j, h.2⟩)) else 0

theorem eq_reals {a b : ℕ} {φ : FTy} (x : FVec Ideal (⟨2, ![a, b]⟩ : Shape) φ) (h : ∀ i, (x i : EReal) ≠ ⊤ ∧ (x i : EReal) ≠ ⊥) : x = up a b φ (reals x) := by
  refine eq_up fun i j => ?_
  unfold reals
  rw [dif_pos ⟨i.isLt, j.isLt⟩]
  exact (EReal.coe_toReal (h _).1 (h _).2).symm

theorem bounded (x : EReal) (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  have h' : max x (-x) < ⊤ := by
    by_contra hn
    have : Ideal.cmp .olt (max x (-x)) ⊤ = 0#1 := by
      show BitVec.ofBool (decide _) = _
      rw [decide_eq_false hn]; rfl
    exact (by decide : ¬ (0#1 : BitVec 1) = 1#1) (this.symm.trans h)
  rw [max_lt_iff] at h'
  exact ⟨h'.1.ne, fun hb => by rw [hb] at h'; exact absurd h'.2 (by simp)⟩

theorem finite_args [Cert.Pre_finite.Facts] (x : FVec Ideal Cert.Pre_finite.S8192x6144 .f32) (y : FVec Ideal Cert.Pre_finite.S8192x1024 .f32)
    (h : Cert.Pre_finite.fn (F := Ideal) x y = fun _ => 1#1) : x = up 8192 6144 .f32 (reals x) ∧ y = up 8192 1024 .f32 (reals y) := by
  obtain ⟨h1, h2⟩ := IntOp.andi_eq_one.mp (congrFun h (Shape.Idx.first Cert.Pre_finite.Facts.h_S_))
  haveI : Subsingleton Cert.Pre_finite.S_.Idx := ⟨fun a b => funext fun k => k.elim0⟩
  exact ⟨eq_reals x fun i => bounded _ (Host.reduce_andi_all _ _ _ _ _ h1 i), eq_reals y fun i => bounded _ (Host.reduce_andi_all _ _ _ _ _ h2 i)⟩
end Cert.AttBwd
end
-- ==== Proof.GradH.lean ====
module
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Claim

@[expose] public section

set_option maxRecDepth 16384
set_option maxHeartbeats 1000000

/-! The gradient of a layer's normalised input: the kernel sums its tiles' products, the reference multiplies once. -/

noncomputable section

namespace Cert.GradH

open Idealize.ShloMosaic Idealize.ShloMosaic.TcCoe Idealize.SL.Sem
open Cert.Kernel2Ideal Cert.Kernel2Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 (j 0) k) * y (ix2 (j 1) k) := by pointwise [k0_pay2]

/-- The whole product. -/
def prod (X : Vec Ideal S8192x6144 .bf16) (Y : Vec Ideal S1024x6144 .bf16) (i : S8192x1024.Idx) : EReal := ∑ k : Fin 6144, X (ix2 (i 0) k) * Y (ix2 (i 1) k)

/-- The blocks of grid point `t`. -/
theorem place : ∀ t : Fin cfg0.N, win0_0.index t = ![t.val / 6, t.val % 6] ∧ win0_1.index t = ![0, t.val % 6] ∧ win0_2.index t = ![t.val / 6, 0] ∧ win0_3.index t = ![t.val / 6, 0] :=
  (by decide +kernel : ∀ t : Fin grid0.N, _)

theorem kept (X : Vec Ideal S1024x1024 .f32) (h : scM0_0.IsWhole) : View.read (Elt Ideal) (View.whole cc0_scratch0) (h.unread X) = X := h.read_unread X

/-- What the accumulator holds after point `t`. -/
def acc (c : Dev nD) (t : Fin cfg0.N) : Vec Ideal S1024x1024 .f32 := (outsAt0 m c t.val t.isLt).2

/-- After the last step of a run the accumulator holds a tile of the whole product. -/
theorem total (c : Dev nD) (t : Fin cfg0.N) (h : t.val % 6 = 5) (j : S1024x1024.Idx) (i : S8192x1024.Idx) (h0 : (i 0).val = (t.val / 6) * 1024 + (j 0).val) (h1 : (i 1).val = (0) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 6 (fun _ => 0) _
    (fun t h j => by rw [outsAt0_A m c t h (by omega)]; frame_out; rw [part, fill])
    (fun t h j => by
      by_cases h1 : t.val % 6 = 5
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores in output 0. -/
theorem stored0 (c : Dev nD) (t : Fin cfg0.N) (h : t.val % 6 = 5) (j : S1024x1024.Idx) : (outsAt0 m c t.val t.isLt).1 j = acc m c t j + (show Vec Ideal S1024x1024 .f32 from iblk m c 2 t) j := by
  unfold acc
  rw [outsAt0_C m c t (by omega) h]
  frame_out
  pointwise [k0_pay3]

theorem ref0 (x0 : Vec Ideal S8192x6144 .bf16) (x1 : Vec Ideal S1024x6144 .bf16) (x2 : Vec Ideal S8192x1024 .f32) (i : S8192x1024.Idx) : Cert.Reference2Ideal.Read.val_main_v5 (F := Ideal) x0 x1 x2 i = (prod x0 x1 i) + x2 i := by
  unfold prod
  pointwise [Cert.Reference2Ideal.Read.val_main_cst, Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_v5]

theorem final0 (c : Dev nD) : (dats m 0 c).arrAt 3 cfg0.N = Cert.Reference2Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, stored0 m c t h , ref0]
  refine congrArg₂ (fun a b : EReal => a + b) (total m c t h _ _ (by blk_simp; simp only [place t, Matrix.cons_val_zero, Matrix.cons_val_one]; try omega) (by blk_simp; simp only [place t, Matrix.cons_val_zero, Matrix.cons_val_one]; try omega)) ?_
  blk_ext [iblk, V, place t]

end Cert.GradH

end
-- ==== Proof.GradWIn.lean ====
module
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Claim

@[expose] public section

set_option maxRecDepth 16384
set_option maxHeartbeats 1000000

/-! The gradient of the input projection's weights: the kernel sums its tiles' products, the reference multiplies once. -/

noncomputable section

namespace Cert.GradWIn

open Idealize.ShloMosaic Idealize.ShloMosaic.TcCoe Idealize.SL.Sem
open Cert.Kernel3Ideal Cert.Kernel3Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1536.Idx) : k0_pay2 (F := Ideal) acc x y j = acc j + ∑ k : Fin 1024, x (ix2 k (j 0)) * y (ix2 k (j 1)) := by pointwise [k0_pay2]

/-- The whole product. -/
def prod (X : Vec Ideal S8192x1024 .bf16) (Y : Vec Ideal S8192x6144 .bf16) (i : S1024x6144.Idx) : EReal := ∑ k : Fin 8192, X (ix2 k (i 0)) * Y (ix2 k (i 1))

/-- The blocks of grid point `t`. -/
theorem place : ∀ t : Fin cfg0.N, win0_0.index t = ![t.val % 8, t.val / 32] ∧ win0_1.index t = ![t.val % 8, t.val / 8 % 4] ∧ win0_2.index t = ![t.val / 32, t.val / 8 % 4] :=
  (by decide +kernel : ∀ t : Fin grid0.N, _)

theorem kept (X : Vec Ideal S1024x1536 .f32) (h : scM0_0.IsWhole) : View.read (Elt Ideal) (View.whole cc0_scratch0) (h.unread X) = X := h.read_unread X

/-- What the accumulator holds after point `t`. -/
def acc (c : Dev nD) (t : Fin cfg0.N) : Vec Ideal S1024x1536 .f32 := (outsAt0 m c t.val t.isLt).2

/-- After the last step of a run the accumulator holds a tile of the whole product. -/
theorem total (c : Dev nD) (t : Fin cfg0.N) (h : t.val % 8 = 7) (j : S1024x1536.Idx) (i : S1024x6144.Idx) (h0 : (i 0).val = (t.val / 32) * 1024 + (j 0).val) (h1 : (i 1).val = (t.val / 8 % 4) * 1536 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 8 (fun _ => 0) _
    (fun t h j => by rw [outsAt0_A m c t h (by omega)]; frame_out; rw [part, fill])
    (fun t h j => by
      by_cases h1 : t.val % 8 = 7
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores in output 0. -/
theorem stored0 (c : Dev nD) (t : Fin cfg0.N) (h : t.val % 8 = 7) (j : S1024x1536.Idx) : (outsAt0 m c t.val t.isLt).1 j = acc m c t j := by
  unfold acc
  rw [outsAt0_C m c t (by omega) h]
  frame_out
  try rfl

theorem ref0 (x0 : Vec Ideal S8192x1024 .bf16) (x1 : Vec Ideal S8192x6144 .bf16) (i : S1024x6144.Idx) : Cert.Reference3Ideal.Read.val_main_v5 (F := Ideal) x0 x1 i = (prod x0 x1 i) := by
  unfold prod
  pointwise [Cert.Reference3Ideal.Read.val_main_cst, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_v5]
  exact Finset.sum_congr rfl fun k _ => mul_comm _ _

theorem final0 (c : Dev nD) : (dats m 0 c).arrAt 2 cfg0.N = Cert.Reference3Ideal.Read.val_main_v5 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, stored0 m c t h , ref0]
  exact (total m c t h _ _ (by blk_simp; simp only [place t, Matrix.cons_val_zero, Matrix.cons_val_one]; try omega) (by blk_simp; simp only [place t, Matrix.cons_val_zero, Matrix.cons_val_one]; try omega))

end Cert.GradWIn

end
-- ==== Proof.InProj.lean ====
module
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Claim

@[expose] public section

set_option maxRecDepth 16384
set_option maxHeartbeats 1000000

/-! The input projection: the kernel sums its tiles' products, the reference multiplies once. -/

noncomputable section

namespace Cert.InProj

open Idealize.ShloMosaic Idealize.ShloMosaic.TcCoe Idealize.SL.Sem
open Cert.Kernel4Ideal Cert.Kernel4Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1536.Idx) : k0_pay2 (F := Ideal) acc x y j = acc j + ∑ k : Fin 1024, x (ix2 (j 0) k) * y (ix2 k (j 1)) := by pointwise [k0_pay2]

/-- The whole product. -/
def prod (X : Vec Ideal S8192x1024 .bf16) (Y : Vec Ideal S1024x6144 .bf16) (i : S8192x6144.Idx) : EReal := ∑ k : Fin 1024, X (ix2 (i 0) k) * Y (ix2 k (i 1))

/-- The blocks of grid point `t`. -/
theorem place : ∀ t : Fin cfg0.N, win0_0.index t = ![t.val / 4, 0] ∧ win0_1.index t = ![0, t.val % 4] ∧ win0_2.index t = ![t.val / 4, t.val % 4] :=
  (by decide +kernel : ∀ t : Fin grid0.N, _)

/-- What the accumulator holds after point `t`. -/
def acc (c : Dev nD) (t : Fin cfg0.N) : Vec Ideal S1024x1536 .f32 := k0_pay2 (F := Ideal) (k0_pay1 (F := Ideal)) (iblk m c 0 t) (iblk m c 1 t)

/-- The accumulator holds a tile of the whole product. -/
theorem total (c : Dev nD) (t : Fin cfg0.N) (j : S1024x1536.Idx) (i : S8192x6144.Idx) (h0 : (i 0).val = (t.val / 4) * 1024 + (j 0).val) (h1 : (i 1).val = (t.val % 4) * 1536 + (j 1).val) :
    acc m c t j = prod (m ((c : Thread nD τ).loc main_arg0)) (m ((c : Thread nD τ).loc main_arg1)) i := by
  unfold acc prod
  rw [part, fill, zero_add]
  refine Finset.sum_congr rfl fun k _ => ?_
  refine congrArg₂ (fun a b : EReal => a * b) ?_ ?_
  · blk_ext [iblk, V, place t]
  · blk_ext [iblk, V, place t]

/-- What point `t` stores in output 0. -/
theorem stored0 (c : Dev nD) (t : Fin cfg0.N) (j : S1024x1536.Idx) : (outsAt0 m c t) j = acc m c t j := by
  unfold acc
  unfold outsAt0
  frame_out
  try rfl

theorem ref0 (x0 : Vec Ideal S8192x1024 .bf16) (x1 : Vec Ideal S1024x6144 .bf16) (i : S8192x6144.Idx) : Cert.Reference4Ideal.Read.val_main_v2 (F := Ideal) x0 x1 i = (prod x0 x1 i) := by
  unfold prod
  pointwise [Cert.Reference4Ideal.Read.val_main_v0, Cert.Reference4Ideal.Read.val_main_v1, Cert.Reference4Ideal.Read.val_main_v2]

theorem final0 (c : Dev nD) : (dats m 0 c).arrAt 2 cfg0.N = Cert.Reference4Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored0 m c t , ref0]
  exact (total m c t _ _ (by blk_simp; simp only [place t, Matrix.cons_val_zero, Matrix.cons_val_one]; try omega) (by blk_simp; simp only [place t, Matrix.cons_val_zero, Matrix.cons_val_one]; try omega))

end Cert.InProj

end
-- ==== Proof.UpProj.lean ====
module
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Claim

@[expose] public section

set_option maxRecDepth 16384
set_option maxHeartbeats 1000000

/-! The first product of the squared ReLU layer: the kernel sums its tiles' products, the reference multiplies once. -/

noncomputable section

namespace Cert.UpProj

open Idealize.ShloMosaic Idealize.ShloMosaic.TcCoe Idealize.SL.Sem
open Cert.Kernel5Ideal Cert.Kernel5Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 (j 0) k) * y (ix2 k (j 1)) := by pointwise [k0_pay2]

/-- The whole product. -/
def prod (X : Vec Ideal S8192x1024 .bf16) (Y : Vec Ideal S1024x4096 .bf16) (i : S8192x4096.Idx) : EReal := ∑ k : Fin 1024, X (ix2 (i 0) k) * Y (ix2 k (i 1))

/-- The blocks of grid point `t`. -/
theorem place : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

/-- What the accumulator holds after point `t`. -/
def acc (c : Dev nD) (t : Fin cfg0.N) : Vec Ideal S1024x1024 .f32 := k0_pay2 (F := Ideal) (k0_pay1 (F := Ideal)) (iblk m c 0 t) (iblk m c 1 t)

/-- The accumulator holds a tile of the whole product. -/
theorem total (c : Dev nD) (t : Fin cfg0.N) (j : S1024x1024.Idx) (i : S8192x4096.Idx) (h0 : (i 0).val = (t.val / 4) * 1024 + (j 0).val) (h1 : (i 1).val = (t.val % 4) * 1024 + (j 1).val) :
    acc m c t j = prod (m ((c : Thread nD τ).loc main_arg0)) (m ((c : Thread nD τ).loc main_arg1)) i := by
  unfold acc prod
  rw [part, fill, zero_add]
  refine Finset.sum_congr rfl fun k _ => ?_
  refine congrArg₂ (fun a b : EReal => a * b) ?_ ?_
  · blk_ext [iblk, V, place t]
  · blk_ext [iblk, V, place t]

/-- What point `t` stores in output 0. -/
theorem stored0 (c : Dev nD) (t : Fin cfg0.N) (j : S1024x1024.Idx) : (outsAt0 m c t).1 j = acc m c t j := by
  unfold acc
  unfold outsAt0
  frame_out
  try rfl

theorem ref0 (x0 : Vec Ideal S8192x1024 .bf16) (x1 : Vec Ideal S1024x4096 .bf16) (i : S8192x4096.Idx) : Cert.Reference5Ideal.Read.val_main_v2 (F := Ideal) x0 x1 i = (prod x0 x1 i) := by
  unfold prod
  pointwise [Cert.Reference5Ideal.Read.val_main_v0, Cert.Reference5Ideal.Read.val_main_v1, Cert.Reference5Ideal.Read.val_main_v2, Cert.Reference5Ideal.Read.val_main_call0_cst, Cert.Reference5Ideal.Read.val_main_call0_v0, Cert.Reference5Ideal.Read.val_main_v3, Cert.Reference5Ideal.Read.val_main_v4, Cert.Reference5Ideal.Read.val_main_v5]

theorem final0 (c : Dev nD) : (dats m 0 c).arrAt 2 cfg0.N = Cert.Reference5Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored0 m c t , ref0]
  exact (total m c t _ _ (by blk_simp; simp only [place t, Matrix.cons_val_zero, Matrix.cons_val_one]; try omega) (by blk_simp; simp only [place t, Matrix.cons_val_zero, Matrix.cons_val_one]; try omega))

/-- What point `t` stores in output 1. -/
theorem stored1 (c : Dev nD) (t : Fin cfg0.N) (j : S1024x1024.Idx) : (outsAt0 m c t).2 j = (max (acc m c t j) 0) * (max (acc m c t j) 0) := by
  unfold acc
  unfold outsAt0
  frame_out
  pointwise [k0_pay3]

theorem ref1 (x0 : Vec Ideal S8192x1024 .bf16) (x1 : Vec Ideal S1024x4096 .bf16) (i : S8192x4096.Idx) : Cert.Reference5Ideal.Read.val_main_v5 (F := Ideal) x0 x1 i = (max (prod x0 x1 i) 0) * (max (prod x0 x1 i) 0) := by
  unfold prod
  pointwise [Cert.Reference5Ideal.Read.val_main_v0, Cert.Reference5Ideal.Read.val_main_v1, Cert.Reference5Ideal.Read.val_main_v2, Cert.Reference5Ideal.Read.val_main_call0_cst, Cert.Reference5Ideal.Read.val_main_call0_v0, Cert.Reference5Ideal.Read.val_main_v3, Cert.Reference5Ideal.Read.val_main_v4, Cert.Reference5Ideal.Read.val_main_v5]

theorem final1 (c : Dev nD) : (dats m 0 c).arrAt 3 cfg0.N = Cert.Reference5Ideal.Read.val_main_v5 (F := Ideal) (m ((c : Thread nD τ).loc main_arg0)) (m ((c : Thread nD τ).loc main_arg1)) := by
  refine (dats m 0 c).arrAt_eq_of_covers 3 _ (by decide +kernel) fun t hf y => ?_
  blk_simp
  rw [after0_3, stored1 m c t , ref1]
  exact congrArg (fun a : EReal => max a 0 * max a 0) (total m c t _ _ (by blk_simp; simp only [place t, Matrix.cons_val_zero, Matrix.cons_val_one]; try omega) (by blk_simp; simp only [place t, Matrix.cons_val_zero, Matrix.cons_val_one]; try omega))

end Cert.UpProj

end
-- ==== Proof.DownProj.lean ====
module
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Claim

@[expose] public section

set_option maxRecDepth 16384
set_option maxHeartbeats 1000000

/-! The second product of the squared ReLU layer, with the residual and the next norm: the kernel sums its tiles' products, the reference multiplies once. -/

noncomputable section

namespace Cert.DownProj

open Idealize.ShloMosaic Idealize.ShloMosaic.TcCoe Idealize.SL.Sem
open Cert.Kernel6Ideal Cert.Kernel6Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 (j 0) k) * y (ix2 k (j 1)) := by pointwise [k0_pay2]

/-- The whole product. -/
def prod (X : Vec Ideal S8192x4096 .bf16) (Y : Vec Ideal S4096x1024 .bf16) (i : S8192x1024.Idx) : EReal := ∑ k : Fin 4096, X (ix2 (i 0) k) * Y (ix2 k (i 1))

/-- The blocks of grid point `t`. -/
theorem place : ∀ t : Fin cfg0.N, win0_0.index t = ![t.val / 4, t.val % 4] ∧ win0_1.index t = ![t.val % 4, 0] ∧ win0_2.index t = ![t.val / 4, 0] ∧ win0_3.index t = ![0, 0] ∧ win0_4.index t = ![t.val / 4, 0] ∧ win0_5.index t = ![t.val / 4, 0] :=
  (by decide +kernel : ∀ t : Fin grid0.N, _)

theorem kept (X : Vec Ideal S1024x1024 .f32) (h : scM0_0.IsWhole) : View.read (Elt Ideal) (View.whole cc0_scratch0) (h.unread X) = X := h.read_unread X

/-- What the accumulator holds after point `t`. -/
def acc (c : Dev nD) (t : Fin cfg0.N) : Vec Ideal S1024x1024 .f32 := (outsAt0 m c t.val t.isLt).2.2

/-- After the last step of a run the accumulator holds a tile of the whole product. -/
theorem total (c : Dev nD) (t : Fin cfg0.N) (h : t.val % 4 = 3) (j : S1024x1024.Idx) (i : S8192x1024.Idx) (h0 : (i 0).val = (t.val / 4) * 1024 + (j 0).val) (h1 : (i 1).val = (0) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2.2) 4 (fun _ => 0) _
    (fun t h j => by rw [outsAt0_A m c t h (by omega)]; frame_out; rw [part, fill])
    (fun t h j => by
      by_cases h1 : t.val % 4 = 3
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores in output 0. -/
theorem stored0 (c : Dev nD) (t : Fin cfg0.N) (h : t.val % 4 = 3) (j : S1024x1024.Idx) : (outsAt0 m c t.val t.isLt).1 j = (show Vec Ideal S1024x1024 .f32 from iblk m c 2 t) j + acc m c t j := by
  unfold acc
  rw [outsAt0_C m c t (by omega) h]
  frame_out
  pointwise [k0_pay3, k0_pay4]

theorem ref0 (x0 : Vec Ideal S8192x4096 .bf16) (x1 : Vec Ideal S4096x1024 .bf16) (x2 : Vec Ideal S8192x1024 .f32) (i : S8192x1024.Idx) : Cert.Reference6Ideal.Read.val_main_v3 (F := Ideal) x0 x1 x2 i = x2 i + (prod x0 x1 i) := by
  unfold prod
  pointwise [Cert.Reference6Ideal.Read.val_main_v0, Cert.Reference6Ideal.Read.val_main_v1, Cert.Reference6Ideal.Read.val_main_v2, Cert.Reference6Ideal.Read.val_main_v3, Cert.Reference6Ideal.Read.val_main_v4, Cert.Reference6Ideal.Read.val_main_cst, Cert.Reference6Ideal.Read.val_main_v5, Cert.Reference6Ideal.Read.val_main_v6, Cert.Reference6Ideal.Read.val_main_cst_0, Cert.Reference6Ideal.Read.val_main_v7, Cert.Reference6Ideal.Read.val_main_v8, Cert.Reference6Ideal.Read.val_main_cst_1, Cert.Reference6Ideal.Read.val_main_v9, Cert.Reference6Ideal.Read.val_main_v10, Cert.Reference6Ideal.Read.val_main_v11, Cert.Reference6Ideal.Read.val_main_v12, Cert.Reference6Ideal.Read.val_main_v13, Cert.Reference6Ideal.Read.val_main_v14, Cert.Reference6Ideal.Read.val_main_v15, Cert.Reference6Ideal.Read.val_main_v16]

theorem final0 (c : Dev nD) : (dats m 0 c).arrAt 4 cfg0.N = Cert.Reference6Ideal.Read.val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have h := (flush0_4 t).mp hf
  blk_simp
  rw [after0_4, stored0 m c t h , ref0]
  refine congrArg₂ (fun a b : EReal => a + b) ?_ (total m c t h _ _ (by blk_simp; simp only [place t, Matrix.cons_val_zero, Matrix.cons_val_one]; try omega) (by blk_simp; simp only [place t, Matrix.cons_val_zero, Matrix.cons_val_one]; try omega))
  blk_ext [iblk, V, place t]

/-- What point `t` stores in output 1. -/
theorem stored1 (c : Dev nD) (t : Fin cfg0.N) (h : t.val % 4 = 3) (j : S1024x1024.Idx) : (outsAt0 m c t.val t.isLt).2.1 j = ((show Vec Ideal S1024x1024 .f32 from iblk m c 2 t) j + acc m c t j) * Ideal.rsqrt (Ideal.div (∑ k : Fin 1024, ((show Vec Ideal S1024x1024 .f32 from iblk m c 2 t) (ix2 (j 0) k) + acc m c t (ix2 (j 0) k)) * ((show Vec Ideal S1024x1024 .f32 from iblk m c 2 t) (ix2 (j 0) k) + acc m c t (ix2 (j 0) k))) (Ideal.ofBits FTy.f32 1149239296#32) + Ideal.ofBits FTy.f32 925353388#32) * (show Vec Ideal S1x1024 .f32 from iblk m c 3 t) (ix2 0 (j 1)) := by
  unfold acc
  rw [outsAt0_C m c t (by omega) h]
  frame_out
  pointwise [k0_pay3, k0_pay4]

theorem ref1 (x0 : Vec Ideal S8192x4096 .bf16) (x1 : Vec Ideal S4096x1024 .bf16) (x2 : Vec Ideal S8192x1024 .f32) (x3 : Vec Ideal S1x1024 .f32) (i : S8192x1024.Idx) : Cert.Reference6Ideal.Read.val_main_v16 (F := Ideal) x0 x1 x2 x3 i = (x2 i + prod x0 x1 i) * Ideal.rsqrt (Ideal.div (∑ k : Fin 1024, (x2 (ix2 (i 0) k) + prod x0 x1 (ix2 (i 0) k)) * (x2 (ix2 (i 0) k) + prod x0 x1 (ix2 (i 0) k))) (Ideal.ofBits FTy.f32 1149239296#32) + Ideal.ofBits FTy.f32 925353388#32) * x3 (ix2 0 (i 1)) := by
  unfold prod
  pointwise [Cert.Reference6Ideal.Read.val_main_v0, Cert.Reference6Ideal.Read.val_main_v1, Cert.Reference6Ideal.Read.val_main_v2, Cert.Reference6Ideal.Read.val_main_v3, Cert.Reference6Ideal.Read.val_main_v4, Cert.Reference6Ideal.Read.val_main_cst, Cert.Reference6Ideal.Read.val_main_v5, Cert.Reference6Ideal.Read.val_main_v6, Cert.Reference6Ideal.Read.val_main_cst_0, Cert.Reference6Ideal.Read.val_main_v7, Cert.Reference6Ideal.Read.val_main_v8, Cert.Reference6Ideal.Read.val_main_cst_1, Cert.Reference6Ideal.Read.val_main_v9, Cert.Reference6Ideal.Read.val_main_v10, Cert.Reference6Ideal.Read.val_main_v11, Cert.Reference6Ideal.Read.val_main_v12, Cert.Reference6Ideal.Read.val_main_v13, Cert.Reference6Ideal.Read.val_main_v14, Cert.Reference6Ideal.Read.val_main_v15, Cert.Reference6Ideal.Read.val_main_v16]

theorem final1 (c : Dev nD) : (dats m 0 c).arrAt 5 cfg0.N = Cert.Reference6Ideal.Read.val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h := (flush0_5 t).mp hf
  blk_simp
  rw [after0_5, stored1 m c t h , ref1]
  have row : ∀ j : S1024x1024.Idx, ∀ i : S8192x1024.Idx, (i 0).val = (t.val / 4) * 1024 + (j 0).val → (i 1).val = (0) * 1024 + (j 1).val →
      (show Vec Ideal S1024x1024 .f32 from iblk m c 2 t) j + acc m c t j = (show Vec Ideal S8192x1024 .f32 from (m ((c : Thread nD τ).loc main_arg2))) i + prod (m ((c : Thread nD τ).loc main_arg0)) (m ((c : Thread nD τ).loc main_arg1)) i := fun j i h0 h1 => by
    refine congrArg₂ (fun a b : EReal => a + b) ?_ (total m c t h _ _ h0 h1)
    blk_ext [iblk, V, place t]
  refine congrArg₂ (fun a b : EReal => a * b) (congrArg₂ (fun a b : EReal => a * b) (row _ _ ?_ ?_)
    (congrArg (fun s : EReal => Ideal.rsqrt (Ideal.div s _ + _)) (Finset.sum_congr rfl fun k _ =>
      congrArg₂ (fun a b : EReal => a * b) (row _ _ ?_ ?_) (row _ _ ?_ ?_)))) ?_
  · (blk_simp; try simp only [place t, Matrix.cons_val_zero, Matrix.cons_val_one]); try omega
  · (blk_simp; try simp only [place t, Matrix.cons_val_zero, Matrix.cons_val_one]); try omega
  · (blk_simp; try simp only [place t, Matrix.cons_val_zero, Matrix.cons_val_one]); try omega
  · (blk_simp; try simp only [place t, Matrix.cons_val_zero, Matrix.cons_val_one]); try omega
  · (blk_simp; try simp only [place t, Matrix.cons_val_zero, Matrix.cons_val_one]); try omega
  · (blk_simp; try simp only [place t, Matrix.cons_val_zero, Matrix.cons_val_one]); try omega
  · blk_ext [iblk, V, place t]

end Cert.DownProj

end
-- ==== Proof.GradAct.lean ====
module
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Claim

@[expose] public section

set_option maxRecDepth 16384
set_option maxHeartbeats 1000000

/-! The gradient through the squared ReLU: the kernel sums its tiles' products, the reference multiplies once. -/

noncomputable section

namespace Cert.GradAct

open Idealize.ShloMosaic Idealize.ShloMosaic.TcCoe Idealize.SL.Sem
open Cert.Kernel7Ideal Cert.Kernel7Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 (j 0) k) * y (ix2 (j 1) k) := by pointwise [k0_pay2]

/-- The whole product. -/
def prod (X : Vec Ideal S8192x1024 .bf16) (Y : Vec Ideal S4096x1024 .bf16) (i : S8192x4096.Idx) : EReal := ∑ k : Fin 1024, X (ix2 (i 0) k) * Y (ix2 (i 1) k)

/-- The blocks of grid point `t`. -/
theorem place : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

/-- What the accumulator holds after point `t`. -/
def acc (c : Dev nD) (t : Fin cfg0.N) : Vec Ideal S1024x1024 .f32 := k0_pay2 (F := Ideal) (k0_pay1 (F := Ideal)) (iblk m c 0 t) (iblk m c 1 t)

/-- The accumulator holds a tile of the whole product. -/
theorem total (c : Dev nD) (t : Fin cfg0.N) (j : S1024x1024.Idx) (i : S8192x4096.Idx) (h0 : (i 0).val = (t.val / 4) * 1024 + (j 0).val) (h1 : (i 1).val = (t.val % 4) * 1024 + (j 1).val) :
    acc m c t j = prod (m ((c : Thread nD τ).loc main_arg0)) (m ((c : Thread nD τ).loc main_arg1)) i := by
  unfold acc prod
  rw [part, fill, zero_add]
  refine Finset.sum_congr rfl fun k _ => ?_
  refine congrArg₂ (fun a b : EReal => a * b) ?_ ?_
  · blk_ext [iblk, V, place t]
  · blk_ext [iblk, V, place t]

/-- What point `t` stores in output 0. -/
theorem stored0 (c : Dev nD) (t : Fin cfg0.N) (j : S1024x1024.Idx) : (outsAt0 m c t) j = acc m c t j * (Ideal.ofBits FTy.f32 1073741824#32 * max ((show Vec Ideal S1024x1024 .f32 from iblk m c 2 t) j) 0) := by
  unfold acc
  unfold outsAt0
  frame_out
  pointwise [k0_pay3]

theorem ref0 (x0 : Vec Ideal S8192x1024 .bf16) (x1 : Vec Ideal S4096x1024 .bf16) (x2 : Vec Ideal S8192x4096 .f32) (i : S8192x4096.Idx) : Cert.Reference7Ideal.Read.val_main_v14 (F := Ideal) x0 x1 x2 i = (prod x0 x1 i) * (Ideal.ofBits FTy.f32 1073741824#32 * max (x2 i) 0) := by
  unfold prod
  pointwise [Cert.Reference7Ideal.Read.val_main_call0_cst, Cert.Reference7Ideal.Read.val_main_call0_v0, Cert.Reference7Ideal.Read.val_main_v0, Cert.Reference7Ideal.Read.val_main_cst, Cert.Reference7Ideal.Read.val_main_v1, Cert.Reference7Ideal.Read.val_main_v2, Cert.Reference7Ideal.Read.val_main_cst_0, Cert.Reference7Ideal.Read.val_main_v3, Cert.Reference7Ideal.Read.val_main_v4, Cert.Reference7Ideal.Read.val_main_cst_1, Cert.Reference7Ideal.Read.val_main_v5, Cert.Reference7Ideal.Read.val_main_v6, Cert.Reference7Ideal.Read.val_main_v7, Cert.Reference7Ideal.Read.val_main_v8, Cert.Reference7Ideal.Read.val_main_v9, Cert.Reference7Ideal.Read.val_main_v10, Cert.Reference7Ideal.Read.val_main_v11, Cert.Reference7Ideal.Read.val_main_cst_2, Cert.Reference7Ideal.Read.val_main_v12, Cert.Reference7Ideal.Read.val_main_v13, Cert.Reference7Ideal.Read.val_main_v14]
  split_ifs with hu
  · rfl
  · rw [max_eq_right (not_lt.mp hu), mul_zero, mul_zero]

theorem final0 (c : Dev nD) : (dats m 0 c).arrAt 3 cfg0.N = Cert.Reference7Ideal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, stored0 m c t , ref0]
  refine congrArg₂ (fun a b : EReal => a * b) (total m c t _ _ (by blk_simp; simp only [place t, Matrix.cons_val_zero, Matrix.cons_val_one]; try omega) (by blk_simp; simp only [place t, Matrix.cons_val_zero, Matrix.cons_val_one]; try omega)) (congrArg (fun a : EReal => Ideal.ofBits FTy.f32 1073741824#32 * max a 0) ?_)
  blk_ext [iblk, V, place t]

end Cert.GradAct

end
-- ==== Proof.GradH2.lean ====
module
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Claim

@[expose] public section

set_option maxRecDepth 16384
set_option maxHeartbeats 1000000

/-! The gradient of the squared ReLU layer's normalised input: the kernel sums its tiles' products, the reference multiplies once. -/

noncomputable section

namespace Cert.GradH2

open Idealize.ShloMosaic Idealize.ShloMosaic.TcCoe Idealize.SL.Sem
open Cert.Kernel8Ideal Cert.Kernel8Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 (j 0) k) * y (ix2 (j 1) k) := by pointwise [k0_pay2]

/-- The whole product. -/
def prod (X : Vec Ideal S8192x4096 .bf16) (Y : Vec Ideal S1024x4096 .bf16) (i : S8192x1024.Idx) : EReal := ∑ k : Fin 4096, X (ix2 (i 0) k) * Y (ix2 (i 1) k)

/-- The blocks of grid point `t`. -/
theorem place : ∀ t : Fin cfg0.N, win0_0.index t = ![t.val / 4, t.val % 4] ∧ win0_1.index t = ![0, t.val % 4] ∧ win0_2.index t = ![t.val / 4, 0] :=
  (by decide +kernel : ∀ t : Fin grid0.N, _)

theorem kept (X : Vec Ideal S1024x1024 .f32) (h : scM0_0.IsWhole) : View.read (Elt Ideal) (View.whole cc0_scratch0) (h.unread X) = X := h.read_unread X

/-- What the accumulator holds after point `t`. -/
def acc (c : Dev nD) (t : Fin cfg0.N) : Vec Ideal S1024x1024 .f32 := (outsAt0 m c t.val t.isLt).2

/-- After the last step of a run the accumulator holds a tile of the whole product. -/
theorem total (c : Dev nD) (t : Fin cfg0.N) (h : t.val % 4 = 3) (j : S1024x1024.Idx) (i : S8192x1024.Idx) (h0 : (i 0).val = (t.val / 4) * 1024 + (j 0).val) (h1 : (i 1).val = (0) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 4 (fun _ => 0) _
    (fun t h j => by rw [outsAt0_A m c t h (by omega)]; frame_out; rw [part, fill])
    (fun t h j => by
      by_cases h1 : t.val % 4 = 3
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores in output 0. -/
theorem stored0 (c : Dev nD) (t : Fin cfg0.N) (h : t.val % 4 = 3) (j : S1024x1024.Idx) : (outsAt0 m c t.val t.isLt).1 j = acc m c t j := by
  unfold acc
  rw [outsAt0_C m c t (by omega) h]
  frame_out
  try rfl

theorem ref0 (x0 : Vec Ideal S8192x4096 .bf16) (x1 : Vec Ideal S1024x4096 .bf16) (i : S8192x1024.Idx) : Cert.Reference8Ideal.Read.val_main_v4 (F := Ideal) x0 x1 i = (prod x0 x1 i) := by
  unfold prod
  pointwise [Cert.Reference8Ideal.Read.val_main_cst, Cert.Reference8Ideal.Read.val_main_v0, Cert.Reference8Ideal.Read.val_main_v1, Cert.Reference8Ideal.Read.val_main_v2, Cert.Reference8Ideal.Read.val_main_v3, Cert.Reference8Ideal.Read.val_main_v4]

theorem final0 (c : Dev nD) : (dats m 0 c).arrAt 2 cfg0.N = Cert.Reference8Ideal.Read.val_main_v4 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, stored0 m c t h , ref0]
  exact (total m c t h _ _ (by blk_simp; simp only [place t, Matrix.cons_val_zero, Matrix.cons_val_one]; try omega) (by blk_simp; simp only [place t, Matrix.cons_val_zero, Matrix.cons_val_one]; try omega))

end Cert.GradH2

end
-- ==== Proof.OutProj.lean ====
module
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Claim

@[expose] public section

set_option maxRecDepth 16384
set_option maxHeartbeats 1000000

/-! The output projection, with the residual and the next norm: the kernel sums its tiles' products, the reference multiplies once. -/

noncomputable section

namespace Cert.OutProj

open Idealize.ShloMosaic Idealize.ShloMosaic.TcCoe Idealize.SL.Sem
open Cert.Kernel9Ideal Cert.Kernel9Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 (j 0) k) * y (ix2 k (j 1)) := by pointwise [k0_pay2]

/-- The whole product. -/
def prod (X : Vec Ideal S8192x2048 .bf16) (Y : Vec Ideal S2048x1024 .bf16) (i : S8192x1024.Idx) : EReal := ∑ k : Fin 2048, X (ix2 (i 0) k) * Y (ix2 k (i 1))

/-- The blocks of grid point `t`. -/
theorem place : ∀ t : Fin cfg0.N, win0_0.index t = ![t.val / 2, t.val % 2] ∧ win0_1.index t = ![t.val % 2, 0] ∧ win0_2.index t = ![t.val / 2, 0] ∧ win0_3.index t = ![0, 0] ∧ win0_4.index t = ![t.val / 2, 0] ∧ win0_5.index t = ![t.val / 2, 0] :=
  (by decide +kernel : ∀ t : Fin grid0.N, _)

theorem kept (X : Vec Ideal S1024x1024 .f32) (h : scM0_0.IsWhole) : View.read (Elt Ideal) (View.whole cc0_scratch0) (h.unread X) = X := h.read_unread X

/-- What the accumulator holds after point `t`. -/
def acc (c : Dev nD) (t : Fin cfg0.N) : Vec Ideal S1024x1024 .f32 := (outsAt0 m c t.val t.isLt).2.2

/-- After the last step of a run the accumulator holds a tile of the whole product. -/
theorem total (c : Dev nD) (t : Fin cfg0.N) (h : t.val % 2 = 1) (j : S1024x1024.Idx) (i : S8192x1024.Idx) (h0 : (i 0).val = (t.val / 2) * 1024 + (j 0).val) (h1 : (i 1).val = (0) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2.2) 2 (fun _ => 0) _
    (fun t h j => by rw [outsAt0_A m c t h (by omega)]; frame_out; rw [part, fill])
    (fun t h j => by
      rw [outsAt0_B m c t h (by omega)]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores in output 0. -/
theorem stored0 (c : Dev nD) (t : Fin cfg0.N) (h : t.val % 2 = 1) (j : S1024x1024.Idx) : (outsAt0 m c t.val t.isLt).1 j = (show Vec Ideal S1024x1024 .f32 from iblk m c 2 t) j + acc m c t j := by
  unfold acc
  rw [outsAt0_B m c t (by omega) h]
  frame_out
  pointwise [k0_pay3, k0_pay4]

theorem ref0 (x0 : Vec Ideal S8192x2048 .bf16) (x1 : Vec Ideal S2048x1024 .bf16) (x2 : Vec Ideal S8192x1024 .f32) (i : S8192x1024.Idx) : Cert.Reference9Ideal.Read.val_main_v3 (F := Ideal) x0 x1 x2 i = x2 i + (prod x0 x1 i) := by
  unfold prod
  pointwise [Cert.Reference9Ideal.Read.val_main_v0, Cert.Reference9Ideal.Read.val_main_v1, Cert.Reference9Ideal.Read.val_main_v2, Cert.Reference9Ideal.Read.val_main_v3, Cert.Reference9Ideal.Read.val_main_v4, Cert.Reference9Ideal.Read.val_main_cst, Cert.Reference9Ideal.Read.val_main_v5, Cert.Reference9Ideal.Read.val_main_v6, Cert.Reference9Ideal.Read.val_main_cst_0, Cert.Reference9Ideal.Read.val_main_v7, Cert.Reference9Ideal.Read.val_main_v8, Cert.Reference9Ideal.Read.val_main_cst_1, Cert.Reference9Ideal.Read.val_main_v9, Cert.Reference9Ideal.Read.val_main_v10, Cert.Reference9Ideal.Read.val_main_v11, Cert.Reference9Ideal.Read.val_main_v12, Cert.Reference9Ideal.Read.val_main_v13, Cert.Reference9Ideal.Read.val_main_v14, Cert.Reference9Ideal.Read.val_main_v15, Cert.Reference9Ideal.Read.val_main_v16]

theorem final0 (c : Dev nD) : (dats m 0 c).arrAt 4 cfg0.N = Cert.Reference9Ideal.Read.val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have h := (flush0_4 t).mp hf
  blk_simp
  rw [after0_4, stored0 m c t h , ref0]
  refine congrArg₂ (fun a b : EReal => a + b) ?_ (total m c t h _ _ (by blk_simp; simp only [place t, Matrix.cons_val_zero, Matrix.cons_val_one]; try omega) (by blk_simp; simp only [place t, Matrix.cons_val_zero, Matrix.cons_val_one]; try omega))
  blk_ext [iblk, V, place t]

/-- What point `t` stores in output 1. -/
theorem stored1 (c : Dev nD) (t : Fin cfg0.N) (h : t.val % 2 = 1) (j : S1024x1024.Idx) : (outsAt0 m c t.val t.isLt).2.1 j = ((show Vec Ideal S1024x1024 .f32 from iblk m c 2 t) j + acc m c t j) * Ideal.rsqrt (Ideal.div (∑ k : Fin 1024, ((show Vec Ideal S1024x1024 .f32 from iblk m c 2 t) (ix2 (j 0) k) + acc m c t (ix2 (j 0) k)) * ((show Vec Ideal S1024x1024 .f32 from iblk m c 2 t) (ix2 (j 0) k) + acc m c t (ix2 (j 0) k))) (Ideal.ofBits FTy.f32 1149239296#32) + Ideal.ofBits FTy.f32 925353388#32) * (show Vec Ideal S1x1024 .f32 from iblk m c 3 t) (ix2 0 (j 1)) := by
  unfold acc
  rw [outsAt0_B m c t (by omega) h]
  frame_out
  pointwise [k0_pay3, k0_pay4]

theorem ref1 (x0 : Vec Ideal S8192x2048 .bf16) (x1 : Vec Ideal S2048x1024 .bf16) (x2 : Vec Ideal S8192x1024 .f32) (x3 : Vec Ideal S1x1024 .f32) (i : S8192x1024.Idx) : Cert.Reference9Ideal.Read.val_main_v16 (F := Ideal) x0 x1 x2 x3 i = (x2 i + prod x0 x1 i) * Ideal.rsqrt (Ideal.div (∑ k : Fin 1024, (x2 (ix2 (i 0) k) + prod x0 x1 (ix2 (i 0) k)) * (x2 (ix2 (i 0) k) + prod x0 x1 (ix2 (i 0) k))) (Ideal.ofBits FTy.f32 1149239296#32) + Ideal.ofBits FTy.f32 925353388#32) * x3 (ix2 0 (i 1)) := by
  unfold prod
  pointwise [Cert.Reference9Ideal.Read.val_main_v0, Cert.Reference9Ideal.Read.val_main_v1, Cert.Reference9Ideal.Read.val_main_v2, Cert.Reference9Ideal.Read.val_main_v3, Cert.Reference9Ideal.Read.val_main_v4, Cert.Reference9Ideal.Read.val_main_cst, Cert.Reference9Ideal.Read.val_main_v5, Cert.Reference9Ideal.Read.val_main_v6, Cert.Reference9Ideal.Read.val_main_cst_0, Cert.Reference9Ideal.Read.val_main_v7, Cert.Reference9Ideal.Read.val_main_v8, Cert.Reference9Ideal.Read.val_main_cst_1, Cert.Reference9Ideal.Read.val_main_v9, Cert.Reference9Ideal.Read.val_main_v10, Cert.Reference9Ideal.Read.val_main_v11, Cert.Reference9Ideal.Read.val_main_v12, Cert.Reference9Ideal.Read.val_main_v13, Cert.Reference9Ideal.Read.val_main_v14, Cert.Reference9Ideal.Read.val_main_v15, Cert.Reference9Ideal.Read.val_main_v16]

theorem final1 (c : Dev nD) : (dats m 0 c).arrAt 5 cfg0.N = Cert.Reference9Ideal.Read.val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h := (flush0_5 t).mp hf
  blk_simp
  rw [after0_5, stored1 m c t h , ref1]
  have row : ∀ j : S1024x1024.Idx, ∀ i : S8192x1024.Idx, (i 0).val = (t.val / 2) * 1024 + (j 0).val → (i 1).val = (0) * 1024 + (j 1).val →
      (show Vec Ideal S1024x1024 .f32 from iblk m c 2 t) j + acc m c t j = (show Vec Ideal S8192x1024 .f32 from (m ((c : Thread nD τ).loc main_arg2))) i + prod (m ((c : Thread nD τ).loc main_arg0)) (m ((c : Thread nD τ).loc main_arg1)) i := fun j i h0 h1 => by
    refine congrArg₂ (fun a b : EReal => a + b) ?_ (total m c t h _ _ h0 h1)
    blk_ext [iblk, V, place t]
  refine congrArg₂ (fun a b : EReal => a * b) (congrArg₂ (fun a b : EReal => a * b) (row _ _ ?_ ?_)
    (congrArg (fun s : EReal => Ideal.rsqrt (Ideal.div s _ + _)) (Finset.sum_congr rfl fun k _ =>
      congrArg₂ (fun a b : EReal => a * b) (row _ _ ?_ ?_) (row _ _ ?_ ?_)))) ?_
  · (blk_simp; try simp only [place t, Matrix.cons_val_zero, Matrix.cons_val_one]); try omega
  · (blk_simp; try simp only [place t, Matrix.cons_val_zero, Matrix.cons_val_one]); try omega
  · (blk_simp; try simp only [place t, Matrix.cons_val_zero, Matrix.cons_val_one]); try omega
  · (blk_simp; try simp only [place t, Matrix.cons_val_zero, Matrix.cons_val_one]); try omega
  · (blk_simp; try simp only [place t, Matrix.cons_val_zero, Matrix.cons_val_one]); try omega
  · (blk_simp; try simp only [place t, Matrix.cons_val_zero, Matrix.cons_val_one]); try omega
  · blk_ext [iblk, V, place t]

end Cert.OutProj

end
-- ==== Proof.GradYcat.lean ====
module
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Claim

@[expose] public section

set_option maxRecDepth 16384
set_option maxHeartbeats 1000000

/-! The gradient of the two heads' outputs: the kernel sums its tiles' products, the reference multiplies once. -/

noncomputable section

namespace Cert.GradYcat

open Idealize.ShloMosaic Idealize.ShloMosaic.TcCoe Idealize.SL.Sem
open Cert.Kernel10Ideal Cert.Kernel10Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 (j 0) k) * y (ix2 (j 1) k) := by pointwise [k0_pay2]

/-- The whole product. -/
def prod (X : Vec Ideal S8192x1024 .bf16) (Y : Vec Ideal S2048x1024 .bf16) (i : S8192x2048.Idx) : EReal := ∑ k : Fin 1024, X (ix2 (i 0) k) * Y (ix2 (i 1) k)

/-- The blocks of grid point `t`. -/
theorem place : ∀ t : Fin cfg0.N, win0_0.index t = ![t.val / 2, 0] ∧ win0_1.index t = ![t.val % 2, 0] ∧ win0_2.index t = ![t.val / 2, t.val % 2] :=
  (by decide +kernel : ∀ t : Fin grid0.N, _)

/-- What the accumulator holds after point `t`. -/
def acc (c : Dev nD) (t : Fin cfg0.N) : Vec Ideal S1024x1024 .f32 := k0_pay2 (F := Ideal) (k0_pay1 (F := Ideal)) (iblk m c 0 t) (iblk m c 1 t)

/-- The accumulator holds a tile of the whole product. -/
theorem total (c : Dev nD) (t : Fin cfg0.N) (j : S1024x1024.Idx) (i : S8192x2048.Idx) (h0 : (i 0).val = (t.val / 2) * 1024 + (j 0).val) (h1 : (i 1).val = (t.val % 2) * 1024 + (j 1).val) :
    acc m c t j = prod (m ((c : Thread nD τ).loc main_arg0)) (m ((c : Thread nD τ).loc main_arg1)) i := by
  unfold acc prod
  rw [part, fill, zero_add]
  refine Finset.sum_congr rfl fun k _ => ?_
  refine congrArg₂ (fun a b : EReal => a * b) ?_ ?_
  · blk_ext [iblk, V, place t]
  · blk_ext [iblk, V, place t]

/-- What point `t` stores in output 0. -/
theorem stored0 (c : Dev nD) (t : Fin cfg0.N) (j : S1024x1024.Idx) : (outsAt0 m c t) j = acc m c t j := by
  unfold acc
  unfold outsAt0
  frame_out
  try rfl

theorem ref0 (x0 : Vec Ideal S8192x1024 .bf16) (x1 : Vec Ideal S2048x1024 .bf16) (i : S8192x2048.Idx) : Cert.Reference10Ideal.Read.val_main_v4 (F := Ideal) x0 x1 i = (prod x0 x1 i) := by
  unfold prod
  pointwise [Cert.Reference10Ideal.Read.val_main_cst, Cert.Reference10Ideal.Read.val_main_v0, Cert.Reference10Ideal.Read.val_main_v1, Cert.Reference10Ideal.Read.val_main_v2, Cert.Reference10Ideal.Read.val_main_v3, Cert.Reference10Ideal.Read.val_main_v4]

theorem final0 (c : Dev nD) : (dats m 0 c).arrAt 2 cfg0.N = Cert.Reference10Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored0 m c t , ref0]
  exact (total m c t _ _ (by blk_simp; simp only [place t, Matrix.cons_val_zero, Matrix.cons_val_one]; try omega) (by blk_simp; simp only [place t, Matrix.cons_val_zero, Matrix.cons_val_one]; try omega))

end Cert.GradYcat

end
-- ==== Proof.GradWDown.lean ====
module
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Claim

@[expose] public section

set_option maxRecDepth 16384
set_option maxHeartbeats 1000000

/-! The gradient of the second weights of the squared ReLU layer: the kernel sums its tiles' products and writes them into its layer's rows
of every chip's shard, the reference multiplies once. -/

noncomputable section

namespace Cert.GradWDown

open Idealize.ShloMosaic Idealize.ShloMosaic.TcCoe Idealize.SL.Sem
open Cert.Kernel11Ideal Cert.Kernel11Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 k (j 0)) * y (ix2 k (j 1)) := by pointwise [k0_pay2]

/-- The whole product. -/
def prod (X : Vec Ideal S8192x4096 .bf16) (Y : Vec Ideal S8192x1024 .bf16) (i : Cert.Reference11Ideal.S4096x1024.Idx) : EReal := ∑ k : Fin 8192, X (ix2 k (i 0)) * Y (ix2 k (i 1))

/-- The blocks of grid point `t`. -/
theorem place : ∀ t : Fin cfg0.N, win0_0.index t = ![t.val % 8, t.val / 8] ∧ win0_1.index t = ![t.val % 8, 0] ∧ win0_2.index t = ![t.val / 8, 1, 0] :=
  (by decide +kernel : ∀ t : Fin grid0.N, _)

theorem kept (X : Vec Ideal S1024x1024 .f32) (h : scM0_0.IsWhole) : View.read (Elt Ideal) (View.whole cc0_scratch0) (h.unread X) = X := h.read_unread X

/-- What the accumulator holds after point `t`. -/
def acc (c : Dev nD) (t : Fin cfg0.N) : Vec Ideal S1024x1024 .f32 := (outsAt0 m c t.val t.isLt).2

/-- After the last step of a run the accumulator holds a tile of the whole product. -/
theorem total (c : Dev nD) (t : Fin cfg0.N) (h : t.val % 8 = 7) (j : S1024x1024.Idx) (i : Cert.Reference11Ideal.S4096x1024.Idx) (h0 : (i 0).val = (t.val / 8) * 1024 + (j 0).val) (h1 : (i 1).val = (0) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 8 (fun _ => 0) _
    (fun t h j => by rw [outsAt0_A m c t h (by omega)]; frame_out; rw [part, fill])
    (fun t h j => by
      by_cases h1 : t.val % 8 = 7
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores. -/
theorem stored (c : Dev nD) (t : Fin cfg0.N) (h : t.val % 8 = 7) (j : S1x1024x1024.Idx) : (outsAt0 m c t.val t.isLt).1 j = acc m c t (ix2 (j 1) (j 2)) := by
  unfold acc
  rw [outsAt0_C m c t (by omega) h]
  frame_out
  pointwise [k0_pay3]

theorem entry (c : Dev nD) : V m c main_v0 = m ((c : Thread nD τ).loc main_arg2) := by
  unfold V
  after_results
  try rfl

/-- The reference inside the layer's rows. -/
theorem inside (x0 : Vec Ideal S8192x4096 .bf16) (x1 : Vec Ideal S8192x1024 .bf16) (x2 : Vec Ideal S4x4096x1024 .f32) (i : S4x4096x1024.Idx) (r : Cert.Reference11Ideal.S4096x1024.Idx) (h : 1024 ≤ (i 1).val ∧ (i 1).val < 2048)
    (h0 : (r 0).val = (i 0).val * 1024 + ((i 1).val - 1024)) (h1 : (r 1).val = (i 2).val) : Cert.Reference11Ideal.Read.val_main_v9 (F := Ideal) x0 x1 x2 i = prod x0 x1 r := by
  unfold prod
  pointwise [Cert.Reference11Ideal.Read.val_main_cst, Cert.Reference11Ideal.Read.val_main_v0, Cert.Reference11Ideal.Read.val_main_v1, Cert.Reference11Ideal.Read.val_main_v2, Cert.Reference11Ideal.Read.val_main_v3, Cert.Reference11Ideal.Read.val_main_v4, Cert.Reference11Ideal.Read.val_main_v5, Cert.Reference11Ideal.Read.val_main_v6, Cert.Reference11Ideal.Read.val_main_v7, Cert.Reference11Ideal.Read.val_main_v8, Cert.Reference11Ideal.Read.val_main_v9]
  rw [dif_neg (by omega), dif_pos (by omega)]
  refine Finset.sum_congr rfl fun k _ => (mul_comm _ _).trans ?_
  refine congrArg₂ (fun a b : EReal => a * b) (congrArg x0 ?_) (congrArg x1 ?_) <;> (blk_ext; try omega)

/-- The reference outside of the layer's rows. -/
theorem outside (x0 : Vec Ideal S8192x4096 .bf16) (x1 : Vec Ideal S8192x1024 .bf16) (x2 : Vec Ideal S4x4096x1024 .f32) (i : S4x4096x1024.Idx) (h : ¬(1024 ≤ (i 1).val ∧ (i 1).val < 2048)) : Cert.Reference11Ideal.Read.val_main_v9 (F := Ideal) x0 x1 x2 i = x2 i := by
  pointwise [Cert.Reference11Ideal.Read.val_main_cst, Cert.Reference11Ideal.Read.val_main_v0, Cert.Reference11Ideal.Read.val_main_v1, Cert.Reference11Ideal.Read.val_main_v2, Cert.Reference11Ideal.Read.val_main_v3, Cert.Reference11Ideal.Read.val_main_v4, Cert.Reference11Ideal.Read.val_main_v5, Cert.Reference11Ideal.Read.val_main_v6, Cert.Reference11Ideal.Read.val_main_v7, Cert.Reference11Ideal.Read.val_main_v8, Cert.Reference11Ideal.Read.val_main_v9]
  split_ifs <;> first | rfl | omega | (refine congrArg x2 ?_; blk_ext; try omega)

theorem final0 (c : Dev nD) : (dats m 0 c).arrAt 2 cfg0.N = Cert.Reference11Ideal.Read.val_main_v9 (F := Ideal) (m ((c : Thread nD τ).loc main_arg0)) (m ((c : Thread nD τ).loc main_arg1)) (m ((c : Thread nD τ).loc main_arg2)) := by
  refine (dats m 0 c).arrAt_eq_of_coversWhere_of_agree 2 _ (fun β => β 1 = 1) (by decide +kernel) (fun t hf y => ?_) (fun j hj => ?_)
  · have h := (flush0_2 t).mp hf
    have hN : t.val < 32 := t.isLt
    have b1 : (y 1).val < 1024 := (y 1).isLt
    have b2 : (y 2).val < 1024 := (y 2).isLt
    blk_simp
    rw [after0_2, stored m c t h]
    refine (total m c t h _ (ix2 ⟨(t.val / 8) * 1024 + (y 1).val, by omega⟩ ⟨(y 2).val, by omega⟩) ?_ ?_).trans (inside _ _ _ _ _ ?_ ?_ ?_).symm
    all_goals ((try blk_simp); (try simp only [place t, Matrix.cons_val_zero, Matrix.cons_val_one, Matrix.cons_val_two, Matrix.tail_cons, Matrix.head_cons, Matrix.cons_val]); (try simp only [ix2_zero, ix2_one]); try omega)
  · blk_simp [Pipeline.Window.cell_apply] at hj
    refine (congrFun (entry m c) _).trans (outside _ _ _ _ ?_).symm
    blk_simp
    omega

end Cert.GradWDown

end
-- ==== Proof.GradWUp.lean ====
module
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Claim

@[expose] public section

set_option maxRecDepth 16384
set_option maxHeartbeats 1000000

/-! The gradient of the first weights of the squared ReLU layer: the kernel sums its tiles' products and writes them into its layer's rows
of every chip's shard, the reference multiplies once. -/

noncomputable section

namespace Cert.GradWUp

open Idealize.ShloMosaic Idealize.ShloMosaic.TcCoe Idealize.SL.Sem
open Cert.Kernel12Ideal Cert.Kernel12Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 k (j 0)) * y (ix2 k (j 1)) := by pointwise [k0_pay2]

/-- The whole product. -/
def prod (X : Vec Ideal S8192x1024 .bf16) (Y : Vec Ideal S8192x4096 .bf16) (i : Cert.Reference12Ideal.S1024x4096.Idx) : EReal := ∑ k : Fin 8192, X (ix2 k (i 0)) * Y (ix2 k (i 1))

/-- The blocks of grid point `t`. -/
theorem place : ∀ t : Fin cfg0.N, win0_0.index t = ![t.val % 8, t.val / 32] ∧ win0_1.index t = ![t.val % 8, t.val / 8 % 4] ∧ win0_2.index t = ![t.val / 8, 1, 0] :=
  (by decide +kernel : ∀ t : Fin grid0.N, _)

theorem kept (X : Vec Ideal S1024x1024 .f32) (h : scM0_0.IsWhole) : View.read (Elt Ideal) (View.whole cc0_scratch0) (h.unread X) = X := h.read_unread X

/-- What the accumulator holds after point `t`. -/
def acc (c : Dev nD) (t : Fin cfg0.N) : Vec Ideal S1024x1024 .f32 := (outsAt0 m c t.val t.isLt).2

/-- After the last step of a run the accumulator holds a tile of the whole product. -/
theorem total (c : Dev nD) (t : Fin cfg0.N) (h : t.val % 8 = 7) (j : S1024x1024.Idx) (i : Cert.Reference12Ideal.S1024x4096.Idx) (h0 : (i 0).val = (t.val / 32) * 1024 + (j 0).val) (h1 : (i 1).val = (t.val / 8 % 4) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 8 (fun _ => 0) _
    (fun t h j => by rw [outsAt0_A m c t h (by omega)]; frame_out; rw [part, fill])
    (fun t h j => by
      by_cases h1 : t.val % 8 = 7
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores. -/
theorem stored (c : Dev nD) (t : Fin cfg0.N) (h : t.val % 8 = 7) (j : S1x1024x1024.Idx) : (outsAt0 m c t.val t.isLt).1 j = acc m c t (ix2 (j 1) (j 2)) := by
  unfold acc
  rw [outsAt0_C m c t (by omega) h]
  frame_out
  pointwise [k0_pay3]

theorem entry (c : Dev nD) : V m c main_v0 = m ((c : Thread nD τ).loc main_arg2) := by
  unfold V
  after_results
  try rfl

/-- The reference inside the layer's rows. -/
theorem inside (x0 : Vec Ideal S8192x1024 .bf16) (x1 : Vec Ideal S8192x4096 .bf16) (x2 : Vec Ideal S4x4096x1024 .f32) (i : S4x4096x1024.Idx) (r : Cert.Reference12Ideal.S1024x4096.Idx) (h : 1024 ≤ (i 1).val ∧ (i 1).val < 2048)
    (h0 : (r 0).val = (i 1).val - 1024) (h1 : (r 1).val = (i 0).val * 1024 + (i 2).val) : Cert.Reference12Ideal.Read.val_main_v10 (F := Ideal) x0 x1 x2 i = prod x0 x1 r := by
  unfold prod
  pointwise [Cert.Reference12Ideal.Read.val_main_cst, Cert.Reference12Ideal.Read.val_main_v0, Cert.Reference12Ideal.Read.val_main_v1, Cert.Reference12Ideal.Read.val_main_v2, Cert.Reference12Ideal.Read.val_main_v3, Cert.Reference12Ideal.Read.val_main_v4, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10]
  rw [dif_neg (by omega), dif_pos (by omega)]
  refine Finset.sum_congr rfl fun k _ => (mul_comm _ _).trans ?_
  refine congrArg₂ (fun a b : EReal => a * b) (congrArg x0 ?_) (congrArg x1 ?_) <;> (blk_ext; try omega)

/-- The reference outside of the layer's rows. -/
theorem outside (x0 : Vec Ideal S8192x1024 .bf16) (x1 : Vec Ideal S8192x4096 .bf16) (x2 : Vec Ideal S4x4096x1024 .f32) (i : S4x4096x1024.Idx) (h : ¬(1024 ≤ (i 1).val ∧ (i 1).val < 2048)) : Cert.Reference12Ideal.Read.val_main_v10 (F := Ideal) x0 x1 x2 i = x2 i := by
  pointwise [Cert.Reference12Ideal.Read.val_main_cst, Cert.Reference12Ideal.Read.val_main_v0, Cert.Reference12Ideal.Read.val_main_v1, Cert.Reference12Ideal.Read.val_main_v2, Cert.Reference12Ideal.Read.val_main_v3, Cert.Reference12Ideal.Read.val_main_v4, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10]
  split_ifs <;> first | rfl | omega | (refine congrArg x2 ?_; blk_ext; try omega)

theorem final0 (c : Dev nD) : (dats m 0 c).arrAt 2 cfg0.N = Cert.Reference12Ideal.Read.val_main_v10 (F := Ideal) (m ((c : Thread nD τ).loc main_arg0)) (m ((c : Thread nD τ).loc main_arg1)) (m ((c : Thread nD τ).loc main_arg2)) := by
  refine (dats m 0 c).arrAt_eq_of_coversWhere_of_agree 2 _ (fun β => β 1 = 1) (by decide +kernel) (fun t hf y => ?_) (fun j hj => ?_)
  · have h := (flush0_2 t).mp hf
    have hN : t.val < 32 := t.isLt
    have b1 : (y 1).val < 1024 := (y 1).isLt
    have b2 : (y 2).val < 1024 := (y 2).isLt
    blk_simp
    rw [after0_2, stored m c t h]
    refine (total m c t h _ (ix2 ⟨(y 1).val, by omega⟩ ⟨(t.val / 8) * 1024 + (y 2).val, by omega⟩) ?_ ?_).trans (inside _ _ _ _ _ ?_ ?_ ?_).symm
    all_goals ((try blk_simp); (try simp only [place t, Matrix.cons_val_zero, Matrix.cons_val_one, Matrix.cons_val_two, Matrix.tail_cons, Matrix.head_cons, Matrix.cons_val]); (try simp only [ix2_zero, ix2_one]); try omega)
  · blk_simp [Pipeline.Window.cell_apply] at hj
    refine (congrFun (entry m c) _).trans (outside _ _ _ _ ?_).symm
    blk_simp
    omega

end Cert.GradWUp

end
-- ==== Proof.GradWOut.lean ====
module
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Claim

@[expose] public section

set_option maxRecDepth 16384
set_option maxHeartbeats 1000000

/-! The gradient of the output projection's weights: the kernel sums its tiles' products and writes them into its layer's rows
of every chip's shard, the reference multiplies once. -/

noncomputable section

namespace Cert.GradWOut

open Idealize.ShloMosaic Idealize.ShloMosaic.TcCoe Idealize.SL.Sem
open Cert.Kernel13Ideal Cert.Kernel13Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S512x1024.Idx) : k0_pay2 (F := Ideal) acc x y j = acc j + ∑ k : Fin 1024, x (ix2 k (j 0)) * y (ix2 k (j 1)) := by pointwise [k0_pay2]

/-- The whole product. -/
def prod (X : Vec Ideal S8192x2048 .bf16) (Y : Vec Ideal S8192x1024 .bf16) (i : Cert.Reference13Ideal.S2048x1024.Idx) : EReal := ∑ k : Fin 8192, X (ix2 k (i 0)) * Y (ix2 k (i 1))

/-- The blocks of grid point `t`. -/
theorem place : ∀ t : Fin cfg0.N, win0_0.index t = ![t.val % 8, t.val / 8] ∧ win0_1.index t = ![t.val % 8, 0] ∧ win0_2.index t = ![t.val / 8, 1, 0] :=
  (by decide +kernel : ∀ t : Fin grid0.N, _)

theorem kept (X : Vec Ideal S512x1024 .f32) (h : scM0_0.IsWhole) : View.read (Elt Ideal) (View.whole cc0_scratch0) (h.unread X) = X := h.read_unread X

/-- What the accumulator holds after point `t`. -/
def acc (c : Dev nD) (t : Fin cfg0.N) : Vec Ideal S512x1024 .f32 := (outsAt0 m c t.val t.isLt).2

/-- After the last step of a run the accumulator holds a tile of the whole product. -/
theorem total (c : Dev nD) (t : Fin cfg0.N) (h : t.val % 8 = 7) (j : S512x1024.Idx) (i : Cert.Reference13Ideal.S2048x1024.Idx) (h0 : (i 0).val = (t.val / 8) * 512 + (j 0).val) (h1 : (i 1).val = (0) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 8 (fun _ => 0) _
    (fun t h j => by rw [outsAt0_A m c t h (by omega)]; frame_out; rw [part, fill])
    (fun t h j => by
      by_cases h1 : t.val % 8 = 7
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores. -/
theorem stored (c : Dev nD) (t : Fin cfg0.N) (h : t.val % 8 = 7) (j : S1x512x1024.Idx) : (outsAt0 m c t.val t.isLt).1 j = acc m c t (ix2 (j 1) (j 2)) := by
  unfold acc
  rw [outsAt0_C m c t (by omega) h]
  frame_out
  pointwise [k0_pay3]

theorem entry (c : Dev nD) : V m c main_v0 = m ((c : Thread nD τ).loc main_arg2) := by
  unfold V
  after_results
  try rfl

/-- The reference inside the layer's rows. -/
theorem inside (x0 : Vec Ideal S8192x2048 .bf16) (x1 : Vec Ideal S8192x1024 .bf16) (x2 : Vec Ideal S4x2048x1024 .f32) (i : S4x2048x1024.Idx) (r : Cert.Reference13Ideal.S2048x1024.Idx) (h : 512 ≤ (i 1).val ∧ (i 1).val < 1024)
    (h0 : (r 0).val = (i 0).val * 512 + ((i 1).val - 512)) (h1 : (r 1).val = (i 2).val) : Cert.Reference13Ideal.Read.val_main_v9 (F := Ideal) x0 x1 x2 i = prod x0 x1 r := by
  unfold prod
  pointwise [Cert.Reference13Ideal.Read.val_main_cst, Cert.Reference13Ideal.Read.val_main_v0, Cert.Reference13Ideal.Read.val_main_v1, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9]
  rw [dif_neg (by omega), dif_pos (by omega)]
  refine Finset.sum_congr rfl fun k _ => (mul_comm _ _).trans ?_
  refine congrArg₂ (fun a b : EReal => a * b) (congrArg x0 ?_) (congrArg x1 ?_) <;> (blk_ext; try omega)

/-- The reference outside of the layer's rows. -/
theorem outside (x0 : Vec Ideal S8192x2048 .bf16) (x1 : Vec Ideal S8192x1024 .bf16) (x2 : Vec Ideal S4x2048x1024 .f32) (i : S4x2048x1024.Idx) (h : ¬(512 ≤ (i 1).val ∧ (i 1).val < 1024)) : Cert.Reference13Ideal.Read.val_main_v9 (F := Ideal) x0 x1 x2 i = x2 i := by
  pointwise [Cert.Reference13Ideal.Read.val_main_cst, Cert.Reference13Ideal.Read.val_main_v0, Cert.Reference13Ideal.Read.val_main_v1, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9]
  split_ifs <;> first | rfl | omega | (refine congrArg x2 ?_; blk_ext; try omega)

theorem final0 (c : Dev nD) : (dats m 0 c).arrAt 2 cfg0.N = Cert.Reference13Ideal.Read.val_main_v9 (F := Ideal) (m ((c : Thread nD τ).loc main_arg0)) (m ((c : Thread nD τ).loc main_arg1)) (m ((c : Thread nD τ).loc main_arg2)) := by
  refine (dats m 0 c).arrAt_eq_of_coversWhere_of_agree 2 _ (fun β => β 1 = 1) (by decide +kernel) (fun t hf y => ?_) (fun j hj => ?_)
  · have h := (flush0_2 t).mp hf
    have hN : t.val < 32 := t.isLt
    have b1 : (y 1).val < 512 := (y 1).isLt
    have b2 : (y 2).val < 1024 := (y 2).isLt
    blk_simp
    rw [after0_2, stored m c t h]
    refine (total m c t h _ (ix2 ⟨(t.val / 8) * 512 + (y 1).val, by omega⟩ ⟨(y 2).val, by omega⟩) ?_ ?_).trans (inside _ _ _ _ _ ?_ ?_ ?_).symm
    all_goals ((try blk_simp); (try simp only [place t, Matrix.cons_val_zero, Matrix.cons_val_one, Matrix.cons_val_two, Matrix.tail_cons, Matrix.head_cons, Matrix.cons_val]); (try simp only [ix2_zero, ix2_one]); try omega)
  · blk_simp [Pipeline.Window.cell_apply] at hj
    refine (congrFun (entry m c) _).trans (outside _ _ _ _ ?_).symm
    blk_simp
    omega

end Cert.GradWOut

end
-- ==== Proof.DownLast.lean ====
module
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Claim

@[expose] public section

set_option maxRecDepth 16384
set_option maxHeartbeats 1000000

/-! The second product of the last layer's squared ReLU layer, with the residual: the kernel sums its tiles' products, the reference multiplies once. -/

noncomputable section

namespace Cert.DownLast

open Idealize.ShloMosaic Idealize.ShloMosaic.TcCoe Idealize.SL.Sem
open Cert.Kernel14Ideal Cert.Kernel14Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 (j 0) k) * y (ix2 k (j 1)) := by pointwise [k0_pay2]

/-- The whole product. -/
def prod (X : Vec Ideal S8192x4096 .bf16) (Y : Vec Ideal S4096x1024 .bf16) (i : S8192x1024.Idx) : EReal := ∑ k : Fin 4096, X (ix2 (i 0) k) * Y (ix2 k (i 1))

/-- The blocks of grid point `t`. -/
theorem place : ∀ t : Fin cfg0.N, win0_0.index t = ![t.val / 4, t.val % 4] ∧ win0_1.index t = ![t.val % 4, 0] ∧ win0_2.index t = ![t.val / 4, 0] ∧ win0_3.index t = ![t.val / 4, 0] :=
  (by decide +kernel : ∀ t : Fin grid0.N, _)

theorem kept (X : Vec Ideal S1024x1024 .f32) (h : scM0_0.IsWhole) : View.read (Elt Ideal) (View.whole cc0_scratch0) (h.unread X) = X := h.read_unread X

/-- What the accumulator holds after point `t`. -/
def acc (c : Dev nD) (t : Fin cfg0.N) : Vec Ideal S1024x1024 .f32 := (outsAt0 m c t.val t.isLt).2

/-- After the last step of a run the accumulator holds a tile of the whole product. -/
theorem total (c : Dev nD) (t : Fin cfg0.N) (h : t.val % 4 = 3) (j : S1024x1024.Idx) (i : S8192x1024.Idx) (h0 : (i 0).val = (t.val / 4) * 1024 + (j 0).val) (h1 : (i 1).val = (0) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 4 (fun _ => 0) _
    (fun t h j => by rw [outsAt0_A m c t h (by omega)]; frame_out; rw [part, fill])
    (fun t h j => by
      by_cases h1 : t.val % 4 = 3
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores in output 0. -/
theorem stored0 (c : Dev nD) (t : Fin cfg0.N) (h : t.val % 4 = 3) (j : S1024x1024.Idx) : (outsAt0 m c t.val t.isLt).1 j = (show Vec Ideal S1024x1024 .f32 from iblk m c 2 t) j + acc m c t j := by
  unfold acc
  rw [outsAt0_C m c t (by omega) h]
  frame_out
  pointwise [k0_pay3]

theorem ref0 (x0 : Vec Ideal S8192x4096 .bf16) (x1 : Vec Ideal S4096x1024 .bf16) (x2 : Vec Ideal S8192x1024 .f32) (i : S8192x1024.Idx) : Cert.Reference14Ideal.Read.val_main_v3 (F := Ideal) x0 x1 x2 i = x2 i + (prod x0 x1 i) := by
  unfold prod
  pointwise [Cert.Reference14Ideal.Read.val_main_v0, Cert.Reference14Ideal.Read.val_main_v1, Cert.Reference14Ideal.Read.val_main_v2, Cert.Reference14Ideal.Read.val_main_v3]

theorem final0 (c : Dev nD) : (dats m 0 c).arrAt 3 cfg0.N = Cert.Reference14Ideal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, stored0 m c t h , ref0]
  refine congrArg₂ (fun a b : EReal => a + b) ?_ (total m c t h _ _ (by blk_simp; simp only [place t, Matrix.cons_val_zero, Matrix.cons_val_one]; try omega) (by blk_simp; simp only [place t, Matrix.cons_val_zero, Matrix.cons_val_one]; try omega))
  blk_ext [iblk, V, place t]

end Cert.DownLast

end
-- ==== Proof.DtProj.lean ====
module
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Claim

@[expose] public section

set_option maxRecDepth 16384
set_option maxHeartbeats 1000000

/-! The projection to the step sizes: the kernel sums its tiles' products, the reference multiplies once. -/

noncomputable section

namespace Cert.DtProj

open Idealize.ShloMosaic Idealize.ShloMosaic.TcCoe Idealize.SL.Sem
open Cert.Kernel15Ideal Cert.Kernel15Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x128.Idx) : k0_pay2 (F := Ideal) acc x y j = acc j + ∑ k : Fin 1024, x (ix2 (j 0) k) * y (ix2 k (j 1)) := by pointwise [k0_pay2]

/-- The whole product. -/
def prod (X : Vec Ideal S8192x1024 .bf16) (Y : Vec Ideal S1024x128 .bf16) (i : S8192x128.Idx) : EReal := ∑ k : Fin 1024, X (ix2 (i 0) k) * Y (ix2 k (i 1))

/-- The blocks of grid point `t`. -/
theorem place : ∀ t : Fin cfg0.N, win0_0.index t = ![t.val, 0] ∧ win0_1.index t = ![0, 0] ∧ win0_2.index t = ![t.val, 0] :=
  (by decide +kernel : ∀ t : Fin grid0.N, _)

/-- What the accumulator holds after point `t`. -/
def acc (c : Dev nD) (t : Fin cfg0.N) : Vec Ideal S1024x128 .f32 := k0_pay2 (F := Ideal) (k0_pay1 (F := Ideal)) (iblk m c 0 t) (iblk m c 1 t)

/-- The accumulator holds a tile of the whole product. -/
theorem total (c : Dev nD) (t : Fin cfg0.N) (j : S1024x128.Idx) (i : S8192x128.Idx) (h0 : (i 0).val = (t.val) * 1024 + (j 0).val) (h1 : (i 1).val = (0) * 128 + (j 1).val) :
    acc m c t j = prod (m ((c : Thread nD τ).loc main_arg0)) (m ((c : Thread nD τ).loc main_arg1)) i := by
  unfold acc prod
  rw [part, fill, zero_add]
  refine Finset.sum_congr rfl fun k _ => ?_
  refine congrArg₂ (fun a b : EReal => a * b) ?_ ?_
  · blk_ext [iblk, V, place t]
  · blk_ext [iblk, V, place t]

/-- What point `t` stores in output 0. -/
theorem stored0 (c : Dev nD) (t : Fin cfg0.N) (j : S1024x128.Idx) : (outsAt0 m c t) j = acc m c t j := by
  unfold acc
  unfold outsAt0
  frame_out
  try rfl

theorem ref0 (x0 : Vec Ideal S8192x1024 .bf16) (x1 : Vec Ideal S1024x128 .bf16) (i : S8192x128.Idx) : Cert.Reference15Ideal.Read.val_main_v2 (F := Ideal) x0 x1 i = (prod x0 x1 i) := by
  unfold prod
  pointwise [Cert.Reference15Ideal.Read.val_main_v0, Cert.Reference15Ideal.Read.val_main_v1, Cert.Reference15Ideal.Read.val_main_v2]

theorem final0 (c : Dev nD) : (dats m 0 c).arrAt 2 cfg0.N = Cert.Reference15Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored0 m c t , ref0]
  exact (total m c t _ _ (by blk_simp; simp only [place t, Matrix.cons_val_zero, Matrix.cons_val_one]; try omega) (by blk_simp; simp only [place t, Matrix.cons_val_zero, Matrix.cons_val_one]; try omega))

end Cert.DtProj

end
-- ==== Proof.GradWDt.lean ====
module
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Claim

@[expose] public section

set_option maxRecDepth 16384
set_option maxHeartbeats 1000000

/-! The gradient of the step sizes' weights: the kernel sums its tiles' products, the reference multiplies once. -/

noncomputable section

namespace Cert.GradWDt

open Idealize.ShloMosaic Idealize.ShloMosaic.TcCoe Idealize.SL.Sem
open Cert.Kernel16Ideal Cert.Kernel16Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x128.Idx) : k0_pay2 (F := Ideal) acc x y j = acc j + ∑ k : Fin 1024, x (ix2 k (j 0)) * y (ix2 k (j 1)) := by pointwise [k0_pay2]

/-- The whole product. -/
def prod (X : Vec Ideal S8192x1024 .bf16) (Y : Vec Ideal S8192x128 .bf16) (i : S1024x128.Idx) : EReal := ∑ k : Fin 8192, X (ix2 k (i 0)) * Y (ix2 k (i 1))

/-- The blocks of grid point `t`. -/
theorem place : ∀ t : Fin cfg0.N, win0_0.index t = ![t.val % 8, t.val / 8] ∧ win0_1.index t = ![t.val % 8, 0] ∧ win0_2.index t = ![t.val / 8, 0] :=
  (by decide +kernel : ∀ t : Fin grid0.N, _)

theorem kept (X : Vec Ideal S1024x128 .f32) (h : scM0_0.IsWhole) : View.read (Elt Ideal) (View.whole cc0_scratch0) (h.unread X) = X := h.read_unread X

/-- What the accumulator holds after point `t`. -/
def acc (c : Dev nD) (t : Fin cfg0.N) : Vec Ideal S1024x128 .f32 := (outsAt0 m c t.val t.isLt).2

/-- After the last step of a run the accumulator holds a tile of the whole product. -/
theorem total (c : Dev nD) (t : Fin cfg0.N) (h : t.val % 8 = 7) (j : S1024x128.Idx) (i : S1024x128.Idx) (h0 : (i 0).val = (t.val / 8) * 1024 + (j 0).val) (h1 : (i 1).val = (0) * 128 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 8 (fun _ => 0) _
    (fun t h j => by rw [outsAt0_A m c t h (by omega)]; frame_out; rw [part, fill])
    (fun t h j => by
      by_cases h1 : t.val % 8 = 7
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores in output 0. -/
theorem stored0 (c : Dev nD) (t : Fin cfg0.N) (h : t.val % 8 = 7) (j : S1024x128.Idx) : (outsAt0 m c t.val t.isLt).1 j = acc m c t j := by
  unfold acc
  rw [outsAt0_C m c t (by omega) h]
  frame_out
  try rfl

theorem ref0 (x0 : Vec Ideal S8192x1024 .bf16) (x1 : Vec Ideal S8192x128 .bf16) (i : S1024x128.Idx) : Cert.Reference16Ideal.Read.val_main_v5 (F := Ideal) x0 x1 i = (prod x0 x1 i) := by
  unfold prod
  pointwise [Cert.Reference16Ideal.Read.val_main_cst, Cert.Reference16Ideal.Read.val_main_v0, Cert.Reference16Ideal.Read.val_main_v1, Cert.Reference16Ideal.Read.val_main_v2, Cert.Reference16Ideal.Read.val_main_v3, Cert.Reference16Ideal.Read.val_main_v4, Cert.Reference16Ideal.Read.val_main_v5]
  exact Finset.sum_congr rfl fun k _ => mul_comm _ _

theorem final0 (c : Dev nD) : (dats m 0 c).arrAt 2 cfg0.N = Cert.Reference16Ideal.Read.val_main_v5 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, stored0 m c t h , ref0]
  exact (total m c t h _ _ (by blk_simp; simp only [place t, Matrix.cons_val_zero, Matrix.cons_val_one]; try omega) (by blk_simp; simp only [place t, Matrix.cons_val_zero, Matrix.cons_val_one]; try omega))

end Cert.GradWDt

end
-- ==== Proof.GradHDt.lean ====
module
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Claim

@[expose] public section

set_option maxRecDepth 16384
set_option maxHeartbeats 1000000

/-! The gradient of the step sizes' input: the kernel sums its tiles' products, the reference multiplies once. -/

noncomputable section

namespace Cert.GradHDt

open Idealize.ShloMosaic Idealize.ShloMosaic.TcCoe Idealize.SL.Sem
open Cert.Kernel17Ideal Cert.Kernel17Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 128, x (ix2 (j 0) k) * y (ix2 (j 1) k) := by pointwise [k0_pay2]

/-- The whole product. -/
def prod (X : Vec Ideal S8192x128 .bf16) (Y : Vec Ideal S1024x128 .bf16) (i : S8192x1024.Idx) : EReal := ∑ k : Fin 128, X (ix2 (i 0) k) * Y (ix2 (i 1) k)

/-- The blocks of grid point `t`. -/
theorem place : ∀ t : Fin cfg0.N, win0_0.index t = ![t.val, 0] ∧ win0_1.index t = ![0, 0] ∧ win0_2.index t = ![t.val, 0] :=
  (by decide +kernel : ∀ t : Fin grid0.N, _)

/-- What the accumulator holds after point `t`. -/
def acc (c : Dev nD) (t : Fin cfg0.N) : Vec Ideal S1024x1024 .f32 := k0_pay2 (F := Ideal) (k0_pay1 (F := Ideal)) (iblk m c 0 t) (iblk m c 1 t)

/-- The accumulator holds a tile of the whole product. -/
theorem total (c : Dev nD) (t : Fin cfg0.N) (j : S1024x1024.Idx) (i : S8192x1024.Idx) (h0 : (i 0).val = (t.val) * 1024 + (j 0).val) (h1 : (i 1).val = (0) * 1024 + (j 1).val) :
    acc m c t j = prod (m ((c : Thread nD τ).loc main_arg0)) (m ((c : Thread nD τ).loc main_arg1)) i := by
  unfold acc prod
  rw [part, fill, zero_add]
  refine Finset.sum_congr rfl fun k _ => ?_
  refine congrArg₂ (fun a b : EReal => a * b) ?_ ?_
  · blk_ext [iblk, V, place t]
  · blk_ext [iblk, V, place t]

/-- What point `t` stores in output 0. -/
theorem stored0 (c : Dev nD) (t : Fin cfg0.N) (j : S1024x1024.Idx) : (outsAt0 m c t) j = acc m c t j := by
  unfold acc
  unfold outsAt0
  frame_out
  try rfl

theorem ref0 (x0 : Vec Ideal S8192x128 .bf16) (x1 : Vec Ideal S1024x128 .bf16) (i : S8192x1024.Idx) : Cert.Reference17Ideal.Read.val_main_v4 (F := Ideal) x0 x1 i = (prod x0 x1 i) := by
  unfold prod
  pointwise [Cert.Reference17Ideal.Read.val_main_cst, Cert.Reference17Ideal.Read.val_main_v0, Cert.Reference17Ideal.Read.val_main_v1, Cert.Reference17Ideal.Read.val_main_v2, Cert.Reference17Ideal.Read.val_main_v3, Cert.Reference17Ideal.Read.val_main_v4]

theorem final0 (c : Dev nD) : (dats m 0 c).arrAt 2 cfg0.N = Cert.Reference17Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored0 m c t , ref0]
  exact (total m c t _ _ (by blk_simp; simp only [place t, Matrix.cons_val_zero, Matrix.cons_val_one]; try omega) (by blk_simp; simp only [place t, Matrix.cons_val_zero, Matrix.cons_val_one]; try omega))

end Cert.GradHDt

end
-- ==== Proof.Norm.lean ====
module
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Claim

@[expose] public section

set_option maxRecDepth 16384
set_option maxHeartbeats 1000000

/-! The root mean square norm: the kernel takes 256 rows at a time, the reference all of them. -/

noncomputable section

namespace Cert.Norm

open Idealize.ShloMosaic Idealize.ShloMosaic.TcCoe Idealize.SL.Sem
open Cert.Kernel18Ideal Cert.Kernel18Ideal.Gen
open Idealize.ShloMosaic.Pipeline (Dat)

variable (m : (ℓ : Loc nD τ sig) → Buf (Elt Ideal) ℓ)

/-- One element of a row over its root mean square, times its gain. -/
def scaled (x : Fin 1024 → EReal) (g : EReal) (j : Fin 1024) : EReal :=
  x j * Ideal.rsqrt (Ideal.div (∑ k : Fin 1024, x k * x k) (Ideal.ofBits FTy.f32 1149239296#32) + Ideal.ofBits FTy.f32 925353388#32) * g

theorem pay (x : Vec Ideal S256x1024 .f32) (g : Vec Ideal S1x1024 .f32) (j : S256x1024.Idx) : k0_pay1 (F := Ideal) x g j = scaled (fun k => x (ix2 (j 0) k)) (g (ix2 0 (j 1))) (j 1) := by
  unfold scaled
  pointwise [k0_pay1]

/-- The blocks of grid point `t`. -/
theorem place : ∀ t : Fin cfg0.N, win0_0.index t = ![t.val, 0] ∧ win0_1.index t = ![0, 0] ∧ win0_2.index t = ![t.val, 0] :=
  (by decide +kernel : ∀ t : Fin grid0.N, _)

theorem ref0 (x0 : Vec Ideal S8192x1024 .f32) (x1 : Vec Ideal S1x1024 .f32) (i : S8192x1024.Idx) : Cert.Reference18Ideal.Read.val_main_v12 (F := Ideal) x0 x1 i = scaled (fun k => x0 (ix2 (i 0) k)) (x1 (ix2 0 (i 1))) (i 1) := by
  unfold scaled
  pointwise [Cert.Reference18Ideal.Read.val_main_v0, Cert.Reference18Ideal.Read.val_main_cst, Cert.Reference18Ideal.Read.val_main_v1, Cert.Reference18Ideal.Read.val_main_v2, Cert.Reference18Ideal.Read.val_main_cst_0, Cert.Reference18Ideal.Read.val_main_v3, Cert.Reference18Ideal.Read.val_main_v4, Cert.Reference18Ideal.Read.val_main_cst_1, Cert.Reference18Ideal.Read.val_main_v5, Cert.Reference18Ideal.Read.val_main_v6, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_v12]

theorem final0 (c : Dev nD) : (dats m 0 c).arrAt 2 cfg0.N = Cert.Reference18Ideal.Read.val_main_v12 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay, ref0]
  refine congr (congrArg₂ scaled (funext fun k => ?_) ?_) (Fin.ext ?_)
  · blk_ext [iblk, V, place t]
  · blk_ext [iblk, V, place t]
  · blk_simp
    simp only [place t, Matrix.cons_val_one, Matrix.cons_val_zero]
    try omega

end Cert.Norm

end
-- ==== Proof.NormBack.lean ====
module
public import Idealize.ShloMosaic.Lib.Pipeline.ValueKit
public import Idealize.ShloMosaic.Lib.Claim

@[expose] public section

set_option maxRecDepth 16384
set_option maxHeartbeats 1000000

/-! The gradient of the root mean square norm, one row at a time. -/

noncomputable section

namespace Cert.NormBack

open Idealize.ShloMosaic

theorem width : Ideal.ofBits FTy.f32 1149239296#32 = ((1024 : ℝ) : EReal) := by
  simp [Ideal.ofBits, Ideal.ieee, -EReal.coe_mul]
  try norm_num [Nat.shiftRight_eq_div_pow]

theorem half : Ideal.ofBits FTy.f32 3204448256#32 = ((-(1 / 2) : ℝ) : EReal) := by
  simp [Ideal.ofBits, Ideal.ieee, -EReal.coe_mul]
  try norm_num [Nat.shiftRight_eq_div_pow]

theorem small : ∃ e : ℝ, 0 < e ∧ Ideal.ofBits FTy.f32 925353388#32 = ((e : ℝ) : EReal) := by
  refine ⟨(10995116 : ℝ) * 2 ^ (-40 : ℤ), by positivity, ?_⟩
  simp [Ideal.ofBits, Ideal.ieee, -EReal.coe_mul]
  try norm_num [Nat.shiftRight_eq_div_pow]

theorem over (y : EReal) (r : ℝ) (h : r ≠ 0) : Ideal.div y (r : EReal) = y * ((r⁻¹ : ℝ) : EReal) := by
  unfold Ideal.div
  rw [if_neg (by simpa using h), EReal.coe_inv]

/-- A positive factor leaves the sum. -/
theorem sum_scale {n : ℕ} (f : Fin n → EReal) (r : ℝ) (h : 0 ≤ r) : ∑ k, f k * (r : EReal) = (∑ k, f k) * (r : EReal) := by
  classical
  have key : ∀ s : Finset (Fin n), ∑ k ∈ s, f k * (r : EReal) = (∑ k ∈ s, f k) * (r : EReal) := by
    intro s
    induction s using Finset.induction_on with
    | empty => simp
    | insert a s ha ih =>
      rw [Finset.sum_insert ha, Finset.sum_insert ha, ih, EReal.right_distrib_of_nonneg_of_ne_top (by exact_mod_cast h) (EReal.coe_ne_top r)]
  exact key _

theorem neg_twice (b : EReal) : -b + -b = -(b + b) := by
  induction b with
  | bot => rfl
  | top => rfl
  | coe r => norm_cast; ring

theorem twice (a : EReal) (p : ℝ) (h : 0 ≤ p) : a * ((-p : ℝ) : EReal) + a * ((-p : ℝ) : EReal) = -(a * ((p + p : ℝ) : EReal)) := by
  have e : a * ((-p : ℝ) : EReal) = -(a * (p : EReal)) := by rw [EReal.coe_neg, mul_neg]
  rw [e, neg_twice, EReal.coe_add, EReal.left_distrib_of_nonneg (by exact_mod_cast h) (by exact_mod_cast h)]

theorem sq_nonneg (a : EReal) : 0 ≤ a * a := by
  induction a with
  | bot => simp
  | top => simp
  | coe r => exact_mod_cast mul_self_nonneg r

/-- The mean square and the small constant. -/
def ms (x : Fin 1024 → EReal) : EReal := Ideal.div (∑ k : Fin 1024, x k * x k) (Ideal.ofBits FTy.f32 1149239296#32) + Ideal.ofBits FTy.f32 925353388#32

theorem ms_pos (x : Fin 1024 → EReal) : ms x = ⊤ ∨ ∃ s : ℝ, 0 < s ∧ ms x = (s : EReal) := by
  obtain ⟨e, he, h⟩ := small
  have hn : 0 ≤ Ideal.div (∑ k : Fin 1024, x k * x k) (Ideal.ofBits FTy.f32 1149239296#32) := by
    rw [width, over _ _ (by norm_num)]
    exact mul_nonneg (Finset.sum_nonneg fun k _ => sq_nonneg _) (by exact_mod_cast (by norm_num : (0 : ℝ) ≤ 1024⁻¹))
  unfold ms
  rw [h]
  generalize Ideal.div _ _ = a at hn
  induction a with
  | bot => simp at hn
  | top => exact Or.inl rfl
  | coe r =>
    have hr : 0 ≤ r := by exact_mod_cast hn
    exact Or.inr ⟨r + e, by positivity, by norm_cast⟩

theorem root (s : ℝ) (h : 0 < s) : Ideal.rsqrt (s : EReal) = (((Real.sqrt s)⁻¹ : ℝ) : EReal) := by
  show (if s < 0 then (⊥ : EReal) else if s = 0 then ⊤ else ((Real.sqrt s)⁻¹ : ℝ)) = _
  rw [if_neg h.not_gt, if_neg h.ne']

/-- The gradient of one row as the kernel writes it. -/
def back (x u : Fin 1024 → EReal) (j : Fin 1024) : EReal :=
  Ideal.rsqrt (ms x) * (u j - x j * Ideal.rsqrt (ms x) * Ideal.div (∑ k : Fin 1024, u k * (x k * Ideal.rsqrt (ms x))) (Ideal.ofBits FTy.f32 1149239296#32))

/-- The part that comes from the root. -/
def side (x u : Fin 1024 → EReal) : EReal :=
  Ideal.div ((∑ k : Fin 1024, x k * u k) * (Ideal.ofBits FTy.f32 3204448256#32 * Ideal.div (Ideal.rsqrt (ms x)) (ms x))) (Ideal.ofBits FTy.f32 1149239296#32)

/-- The gradient of one row as the derivative of the norm gives it. -/
theorem back_eq (x u : Fin 1024 → EReal) (j : Fin 1024) :
    back x u j = u j * Ideal.rsqrt (ms x) + x j * side x u + side x u * x j := by
  unfold back side
  rcases ms_pos x with h | ⟨s, hs, h⟩
  · rw [h]
    have e : Ideal.rsqrt ⊤ = 0 := rfl
    have d : Ideal.div 0 ⊤ = 0 := by unfold Ideal.div; simp
    rw [e, d, width, over _ _ (by norm_num), over _ _ (by norm_num)]
    simp
  · rw [h, root s hs, width, over _ _ (by norm_num), over _ _ (by norm_num), over _ _ hs.ne', half]
    have hq : 0 < Real.sqrt s := Real.sqrt_pos.mpr hs
    set r : ℝ := (Real.sqrt s)⁻¹ with hr
    have hp : 0 < r := inv_pos.mpr hq
    have hss : s⁻¹ = r * r := by rw [hr, ← mul_inv, Real.mul_self_sqrt hs.le]
    have e1 : ∑ k : Fin 1024, u k * (x k * (r : EReal)) = (∑ k : Fin 1024, x k * u k) * (r : EReal) := by
      rw [← sum_scale _ r hp.le]
      exact Finset.sum_congr rfl fun k _ => by rw [← mul_assoc, mul_comm (u k)]
    rw [e1, hss]
    generalize ∑ k : Fin 1024, x k * u k = S
    have p : 0 ≤ 1 / 2 * (r * (r * r)) * 1024⁻¹ := by positivity
    have e2 : S * (((-(1 / 2) : ℝ) : EReal) * ((r : EReal) * ((r * r : ℝ) : EReal))) * ((1024⁻¹ : ℝ) : EReal) = S * ((-(1 / 2 * (r * (r * r)) * 1024⁻¹) : ℝ) : EReal) := by
      rw [mul_assoc, ← EReal.coe_mul, ← EReal.coe_mul, ← EReal.coe_mul]
      congr 2
      ring
    rw [e2, mul_comm (S * _) (x j), ← mul_assoc (x j) S, add_assoc, twice _ _ p, sub_eq_add_neg,
      EReal.left_distrib_of_nonneg_of_ne_top (by exact_mod_cast hp.le) (EReal.coe_ne_top r), mul_comm (r : EReal) (u j), mul_neg]
    congr 2
    rw [show (r : EReal) * (x j * (r : EReal) * (S * (r : EReal) * ((1024⁻¹ : ℝ) : EReal))) = x j * S * ((r : EReal) * (r : EReal) * (r : EReal) * ((1024⁻¹ : ℝ) : EReal)) by ac_rfl,
      ← EReal.coe_mul, ← EReal.coe_mul, ← EReal.coe_mul]
    congr 2
    ring

end Cert.NormBack

end
-- ==== Proof.RmsBwd.lean ====
module
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Claim
public import proofs.«01_k».proof.Proof.NormBack

@[expose] public section

set_option maxRecDepth 16384
set_option maxHeartbeats 1000000

/-! The gradient of the root mean square norm: the kernel takes 256 rows at a time and adds up the gain's
gradient over them, the reference takes all of them. -/

noncomputable section

namespace Cert.RmsBwd

open Idealize.ShloMosaic Idealize.ShloMosaic.TcCoe Idealize.SL.Sem
open Cert.Kernel19Ideal Cert.Kernel19Ideal.Gen
open Idealize.ShloMosaic.Pipeline (Dat)

variable (m : (ℓ : Loc nD τ sig) → Buf (Elt Ideal) ℓ)

open Cert.NormBack (ms back side back_eq)

/-- The gradient of a row, and what arrives on the other way. -/
def full (x d g : Fin 1024 → EReal) (e : EReal) (j : Fin 1024) : EReal := back x (fun k => d k * g k) j + e

/-- One row's part of the gain's gradient. -/
def gain (x : Fin 1024 → EReal) (d : EReal) (j : Fin 1024) : EReal := d * (x j * Ideal.rsqrt (ms x))

/-- The gain's gradient. -/
def gains (x d : Vec Ideal S8192x1024 .f32) (j : Fin 1024) : EReal := ∑ k : Fin 8192, gain (fun n => x (ix2 k n)) (d (ix2 k j)) j

theorem pay5 (x d e : Vec Ideal S256x1024 .f32) (g : Vec Ideal S1x1024 .f32) (j : S256x1024.Idx) : k0_pay5 (F := Ideal) x d e g j = full (fun k => x (ix2 (j 0) k)) (fun k => d (ix2 (j 0) k)) (fun k => g (ix2 0 k)) (e j) (j 1) := by
  unfold full back ms
  pointwise [k0_pay5, k0_pay3, k0_pay2]

theorem pay6 (x d e : Vec Ideal S256x1024 .f32) (g : Vec Ideal S1x1024 .f32) (j : S256x1024.Idx) : k0_pay6 (F := Ideal) x d e g j = full (fun k => x (ix2 (j 0) k)) (fun k => d (ix2 (j 0) k)) (fun k => g (ix2 0 k)) (e j) (j 1) := by
  unfold full back ms
  pointwise [k0_pay6, k0_pay5, k0_pay3, k0_pay2]

theorem part (x d : Vec Ideal S256x1024 .f32) (a : Vec Ideal S1x1024 .f32) (j : S1x1024.Idx) : k0_pay1 (F := Ideal) (k0_pay4 x d) a j = a j + ∑ k : Fin 256, gain (fun n => x (ix2 k n)) (d (ix2 k (j 1))) (j 1) := by
  unfold gain ms
  pointwise [k0_pay1, k0_pay4, k0_pay3, k0_pay2]

theorem fill (j) : k0_pay7 (F := Ideal) j = 0 := by pointwise [k0_pay7]

/-- The blocks of grid point `t`. -/
theorem place : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

theorem ref0 (x0 : Vec Ideal S8192x1024 .f32) (x1 : Vec Ideal S1x1024 .f32) (x2 x3 : Vec Ideal S8192x1024 .f32) (i : S8192x1024.Idx) :
    Cert.Reference19Ideal.Read.val_main_v35 (F := Ideal) x0 x1 x2 x3 i = full (fun k => x0 (ix2 (i 0) k)) (fun k => x2 (ix2 (i 0) k)) (fun k => x1 (ix2 0 k)) (x3 i) (i 1) := by
  refine Eq.trans ?_ (congrArg (fun a : EReal => a + x3 i) (back_eq _ _ _).symm)
  unfold side ms
  pointwise [Cert.Reference19Ideal.Read.val_main_v0, Cert.Reference19Ideal.Read.val_main_cst, Cert.Reference19Ideal.Read.val_main_v1, Cert.Reference19Ideal.Read.val_main_v2, Cert.Reference19Ideal.Read.val_main_cst_0, Cert.Reference19Ideal.Read.val_main_v3, Cert.Reference19Ideal.Read.val_main_v4, Cert.Reference19Ideal.Read.val_main_cst_1, Cert.Reference19Ideal.Read.val_main_v5, Cert.Reference19Ideal.Read.val_main_v6, Cert.Reference19Ideal.Read.val_main_v7, Cert.Reference19Ideal.Read.val_main_v8, Cert.Reference19Ideal.Read.val_main_cst_2, Cert.Reference19Ideal.Read.val_main_v9, Cert.Reference19Ideal.Read.val_main_v10, Cert.Reference19Ideal.Read.val_main_v11, Cert.Reference19Ideal.Read.val_main_v12, Cert.Reference19Ideal.Read.val_main_v13, Cert.Reference19Ideal.Read.val_main_v14, Cert.Reference19Ideal.Read.val_main_v15, Cert.Reference19Ideal.Read.val_main_cst_3, Cert.Reference19Ideal.Read.val_main_v16, Cert.Reference19Ideal.Read.val_main_v17, Cert.Reference19Ideal.Read.val_main_v18, Cert.Reference19Ideal.Read.val_main_v19, Cert.Reference19Ideal.Read.val_main_v20, Cert.Reference19Ideal.Read.val_main_cst_4, Cert.Reference19Ideal.Read.val_main_v21, Cert.Reference19Ideal.Read.val_main_v22, Cert.Reference19Ideal.Read.val_main_v23, Cert.Reference19Ideal.Read.val_main_v24, Cert.Reference19Ideal.Read.val_main_v25, Cert.Reference19Ideal.Read.val_main_cst_5, Cert.Reference19Ideal.Read.val_main_v26, Cert.Reference19Ideal.Read.val_main_v27, Cert.Reference19Ideal.Read.val_main_cst_6, Cert.Reference19Ideal.Read.val_main_v28, Cert.Reference19Ideal.Read.val_main_v29, Cert.Reference19Ideal.Read.val_main_v30, Cert.Reference19Ideal.Read.val_main_v31, Cert.Reference19Ideal.Read.val_main_v32, Cert.Reference19Ideal.Read.val_main_v33, Cert.Reference19Ideal.Read.val_main_v34, Cert.Reference19Ideal.Read.val_main_v35, Cert.Reference19Ideal.Read.val_main_v36]
  simp only [Finset.univ_unique, Finset.sum_singleton]

theorem ref1 (x0 : Vec Ideal S8192x1024 .f32) (x1 : Vec Ideal S1x1024 .f32) (x2 x3 : Vec Ideal S8192x1024 .f32) (i : S8192x1024.Idx) :
    Cert.Reference19Ideal.Read.val_main_v36 (F := Ideal) x0 x1 x2 x3 i = full (fun k => x0 (ix2 (i 0) k)) (fun k => x2 (ix2 (i 0) k)) (fun k => x1 (ix2 0 k)) (x3 i) (i 1) :=
  ref0 x0 x1 x2 x3 i

theorem ref2 (x0 x2 : Vec Ideal S8192x1024 .f32) (i : S1x1024.Idx) :
    Cert.Reference19Ideal.Read.val_main_v17 (F := Ideal) x0 x2 i = gains x0 x2 (i 1) := by
  unfold gains gain ms
  pointwise [Cert.Reference19Ideal.Read.val_main_v0, Cert.Reference19Ideal.Read.val_main_cst, Cert.Reference19Ideal.Read.val_main_v1, Cert.Reference19Ideal.Read.val_main_v2, Cert.Reference19Ideal.Read.val_main_cst_0, Cert.Reference19Ideal.Read.val_main_v3, Cert.Reference19Ideal.Read.val_main_v4, Cert.Reference19Ideal.Read.val_main_cst_1, Cert.Reference19Ideal.Read.val_main_v5, Cert.Reference19Ideal.Read.val_main_v6, Cert.Reference19Ideal.Read.val_main_v7, Cert.Reference19Ideal.Read.val_main_v8, Cert.Reference19Ideal.Read.val_main_cst_2, Cert.Reference19Ideal.Read.val_main_v9, Cert.Reference19Ideal.Read.val_main_v10, Cert.Reference19Ideal.Read.val_main_v11, Cert.Reference19Ideal.Read.val_main_v12, Cert.Reference19Ideal.Read.val_main_v13, Cert.Reference19Ideal.Read.val_main_v14, Cert.Reference19Ideal.Read.val_main_v15, Cert.Reference19Ideal.Read.val_main_cst_3, Cert.Reference19Ideal.Read.val_main_v16, Cert.Reference19Ideal.Read.val_main_v17, Cert.Reference19Ideal.Read.val_main_v18, Cert.Reference19Ideal.Read.val_main_v19, Cert.Reference19Ideal.Read.val_main_v20, Cert.Reference19Ideal.Read.val_main_cst_4, Cert.Reference19Ideal.Read.val_main_v21, Cert.Reference19Ideal.Read.val_main_v22, Cert.Reference19Ideal.Read.val_main_v23, Cert.Reference19Ideal.Read.val_main_v24, Cert.Reference19Ideal.Read.val_main_v25, Cert.Reference19Ideal.Read.val_main_cst_5, Cert.Reference19Ideal.Read.val_main_v26, Cert.Reference19Ideal.Read.val_main_v27, Cert.Reference19Ideal.Read.val_main_cst_6, Cert.Reference19Ideal.Read.val_main_v28, Cert.Reference19Ideal.Read.val_main_v29, Cert.Reference19Ideal.Read.val_main_v30, Cert.Reference19Ideal.Read.val_main_v31, Cert.Reference19Ideal.Read.val_main_v32, Cert.Reference19Ideal.Read.val_main_v33, Cert.Reference19Ideal.Read.val_main_v34, Cert.Reference19Ideal.Read.val_main_v35, Cert.Reference19Ideal.Read.val_main_v36]
  exact Finset.sum_congr rfl fun k _ => mul_comm _ _

/-- What point `t` stores. -/
theorem stored (c : Dev nD) (t : Fin cfg0.N) : (outsAt0 m c t.val t.isLt).1 = k0_pay5 (F := Ideal) (iblk m c 0 t) (iblk m c 1 t) (iblk m c 2 t) (iblk m c 3 t) ∧ (outsAt0 m c t.val t.isLt).2.1 = k0_pay6 (F := Ideal) (iblk m c 0 t) (iblk m c 1 t) (iblk m c 2 t) (iblk m c 3 t) := by
  by_cases h : t.val % 32 = 0
  · rw [outsAt0_A m c t h]
    constructor <;> frame_out
  · rw [outsAt0_B m c t h]
    constructor <;> frame_out

/-- After the last step the accumulator holds the sum over all rows. -/
theorem total (c : Dev nD) (t : Fin cfg0.N) (h : t.val % 32 = 31) (j : S1x1024.Idx) :
    (outsAt0 m c t.val t.isLt).2.2 j = gains (m ((c : Thread nD τ).loc main_arg0)) (m ((c : Thread nD τ).loc main_arg2)) (j 1) := by
  unfold gains
  rw [Pipeline.eq_sum_fin_of_reset_step_apply_of_flush (fun n h => (outsAt0 m c n h).2.2) 32 (fun _ => 0) _
    (fun t h j => by rw [outsAt0_A m c t h]; frame_out; rw [part, fill])
    (fun t h j => by rw [outsAt0_B m c t h]; frame_out; rw [part])
    t h _, zero_add]
  have hN : t.val < 32 := t.isLt
  refine Fin.sum_mul_add_congr fun s k hl => ?_
  refine congrArg₂ (fun f d => gain f d (j 1)) (funext fun n => ?_) ?_
  · blk_ext [iblk, V, place t, place ⟨_, Pipeline.run_point_lt_of_flush t h s⟩]
  · blk_ext [iblk, V, place t, place ⟨_, Pipeline.run_point_lt_of_flush t h s⟩]

theorem final0 (c : Dev nD) : (dats m 0 c).arrAt 4 cfg0.N = Cert.Reference19Ideal.Read.val_main_v35 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, (stored m c t).1, pay5, ref0]
  refine congr (congr (congr (congrArg₂ full (funext fun k => ?_) (funext fun k => ?_)) (funext fun k => ?_)) ?_) (Fin.ext ?_)
  · blk_ext [iblk, V, place t]
  · blk_ext [iblk, V, place t]
  · blk_ext [iblk, V, place t]
  · blk_ext [iblk, V, place t]
  · blk_simp
    simp only [place t, Matrix.cons_val_one, Matrix.cons_val_zero]
    try omega

theorem final1 (c : Dev nD) : (dats m 0 c).arrAt 5 cfg0.N = Cert.Reference19Ideal.Read.val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, (stored m c t).2, pay6, ref1]
  refine congr (congr (congr (congrArg₂ full (funext fun k => ?_) (funext fun k => ?_)) (funext fun k => ?_)) ?_) (Fin.ext ?_)
  · blk_ext [iblk, V, place t]
  · blk_ext [iblk, V, place t]
  · blk_ext [iblk, V, place t]
  · blk_ext [iblk, V, place t]
  · blk_simp
    simp only [place t, Matrix.cons_val_one, Matrix.cons_val_zero]
    try omega

theorem final2 (c : Dev nD) : (dats m 0 c).arrAt 6 cfg0.N = Cert.Reference19Ideal.Read.val_main_v17 (F := Ideal) (m ((c : Thread nD τ).loc main_arg0)) (m ((c : Thread nD τ).loc main_arg2)) := by
  refine (dats m 0 c).arrAt_eq_of_covers 6 _ (by decide +kernel) fun t hf y => ?_
  have h := (flush0_6 t).mp hf
  blk_simp
  rw [after0_6, total m c t (by omega), ref2]
  refine congrArg (gains _ _) (Fin.ext ?_)
  blk_simp
  simp only [place t, Matrix.cons_val_one, Matrix.cons_val_zero]
  try omega

end Cert.RmsBwd

end
-- ==== Proof.FinalLoss.lean ====
module
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Claim
public import proofs.«01_k».proof.Proof.NormBack

@[expose] public section

set_option maxRecDepth 16384
set_option maxHeartbeats 1000000

/-! The loss over the last norm and its gradients: the kernel takes 256 rows at a time and adds up the loss
and the gain's gradient over them, the reference takes all of them. -/

noncomputable section

namespace Cert.FinalLoss

open Idealize.ShloMosaic Idealize.ShloMosaic.TcCoe Idealize.SL.Sem
open Cert.Kernel20Ideal Cert.Kernel20Ideal.Gen
open Idealize.ShloMosaic.Pipeline (Dat)

variable (m : (ℓ : Loc nD τ sig) → Buf (Elt Ideal) ℓ)

open Cert.NormBack (ms back side back_eq width over sum_scale)

/-- How far a row's norm is from its target. -/
def err (x y g : Fin 1024 → EReal) (n : Fin 1024) : EReal := x n * Ideal.rsqrt (ms x) * g n - y n

/-- A row's loss. -/
def loss (x y g : Fin 1024 → EReal) : EReal := Ideal.ofBits FTy.f32 1056964608#32 * Ideal.div (∑ k : Fin 1024, err x y g k * err x y g k) (Ideal.ofBits FTy.f32 1149239296#32)

/-- The gradient of a row's loss in its norm. -/
def cot (x y g : Fin 1024 → EReal) (n : Fin 1024) : EReal := err x y g n * Ideal.ofBits FTy.f32 981467136#32

/-- The gradient of a row's loss in the row. -/
def full (x y g : Fin 1024 → EReal) (j : Fin 1024) : EReal := back x (fun k => cot x y g k * g k) j

/-- One row's part of the gain's gradient. -/
def gain (x y g : Fin 1024 → EReal) (j : Fin 1024) : EReal := cot x y g j * (x j * Ideal.rsqrt (ms x))

/-- The gain's gradient. -/
def gains (x y : Vec Ideal S8192x1024 .f32) (g : Vec Ideal S1x1024 .f32) (j : Fin 1024) : EReal := ∑ k : Fin 8192, gain (fun n => x (ix2 k n)) (fun n => y (ix2 k n)) (fun n => g (ix2 0 n)) j

/-- The loss. -/
def losses (x y : Vec Ideal S8192x1024 .f32) (g : Vec Ideal S1x1024 .f32) : EReal := ∑ k : Fin 8192, loss (fun n => x (ix2 k n)) (fun n => y (ix2 k n)) (fun n => g (ix2 0 n))

theorem half : Ideal.ofBits FTy.f32 1056964608#32 = ((1 / 2 : ℝ) : EReal) := by
  simp [Ideal.ofBits, Ideal.ieee, -EReal.coe_mul]
  try norm_num [Nat.shiftRight_eq_div_pow]

theorem two : Ideal.ofBits FTy.f32 1073741824#32 = ((2 : ℝ) : EReal) := by
  simp [Ideal.ofBits, Ideal.ieee, -EReal.coe_mul]
  try norm_num [Nat.shiftRight_eq_div_pow]

theorem share : Ideal.ofBits FTy.f32 981467136#32 = ((1 / 1024 : ℝ) : EReal) := by
  simp [Ideal.ofBits, Ideal.ieee, -EReal.coe_mul]
  try norm_num [Nat.shiftRight_eq_div_pow]

/-- Half of twice the difference over the width. -/
theorem cot_eq (e : EReal) : Ideal.div (Ideal.ofBits FTy.f32 1056964608#32) (Ideal.ofBits FTy.f32 1149239296#32) * (Ideal.ofBits FTy.f32 1073741824#32 * e) = e * Ideal.ofBits FTy.f32 981467136#32 := by
  rw [half, two, share, width, over _ _ (by norm_num), ← mul_assoc, ← EReal.coe_mul, ← EReal.coe_mul, mul_comm]
  congr 2
  norm_num

/-- A half of a sum. -/
theorem sum_half {n : ℕ} (f : Fin n → EReal) : Ideal.ofBits FTy.f32 1056964608#32 * ∑ k, f k = ∑ k, Ideal.ofBits FTy.f32 1056964608#32 * f k := by
  rw [half, mul_comm, ← sum_scale _ _ (by norm_num)]
  exact Finset.sum_congr rfl fun k _ => mul_comm _ _

theorem pay11 (x y : Vec Ideal S256x1024 .f32) (g : Vec Ideal S1x1024 .f32) (j : S256x1024.Idx) : k0_pay11 (F := Ideal) x y g j = full (fun n => x (ix2 (j 0) n)) (fun n => y (ix2 (j 0) n)) (fun n => g (ix2 0 n)) (j 1) := by
  unfold full cot err back ms
  pointwise [k0_pay11, k0_pay10, k0_pay8, k0_pay7, k0_pay6]

theorem pay1 (x y : Vec Ideal S256x1024 .f32) (g : Vec Ideal S1x1024 .f32) (j : S256x1024.Idx) : k0_pay1 (F := Ideal) (k0_pay11 x y g) j = full (fun n => x (ix2 (j 0) n)) (fun n => y (ix2 (j 0) n)) (fun n => g (ix2 0 n)) (j 1) := pay11 x y g j

theorem part (x y : Vec Ideal S256x1024 .f32) (g a : Vec Ideal S1x1024 .f32) (j : S1x1024.Idx) : k0_pay5 (F := Ideal) (k0_pay12 x y g) a j = a j + ∑ k : Fin 256, gain (fun n => x (ix2 k n)) (fun n => y (ix2 k n)) (fun n => g (ix2 0 n)) (j 1) := by
  unfold gain cot err ms
  pointwise [k0_pay5, k0_pay12, k0_pay10, k0_pay8, k0_pay7, k0_pay6]

theorem partLoss (x y : Vec Ideal S256x1024 .f32) (g : Vec Ideal S1x1024 .f32) (a : Vec Ideal S1x128 .f32) (j : S1x128.Idx) : k0_pay4 (F := Ideal) (k0_pay9 x y g) a j = a j + ∑ k : Fin 256, loss (fun n => x (ix2 k n)) (fun n => y (ix2 k n)) (fun n => g (ix2 0 n)) := by
  unfold loss
  rw [← sum_half]
  unfold err ms
  pointwise [k0_pay4, k0_pay9, k0_pay8, k0_pay7, k0_pay6]

theorem fill (j) : k0_pay3 (F := Ideal) j = 0 := by pointwise [k0_pay3]

theorem fillLoss (j) : k0_pay2 (F := Ideal) j = 0 := by pointwise [k0_pay2]

/-- The blocks of grid point `t`. -/
theorem place : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![0, 0] :=
  (by decide +kernel : ∀ t : Fin grid0.N, _)

theorem ref1 (x0 : Vec Ideal S8192x1024 .f32) (x1 : Vec Ideal S1x1024 .f32) (x2 : Vec Ideal S8192x1024 .f32) (i : S8192x1024.Idx) : Cert.Reference20Ideal.Read.val_main_v48 (F := Ideal) x0 x1 x2 i = full (fun n => x0 (ix2 (i 0) n)) (fun n => x2 (ix2 (i 0) n)) (fun n => x1 (ix2 0 n)) (i 1) := by
  refine Eq.trans ?_ (back_eq _ _ _).symm
  unfold side cot
  simp only [← cot_eq]
  unfold err ms
  pointwise [Cert.Reference20Ideal.Read.val_main_v0, Cert.Reference20Ideal.Read.val_main_cst, Cert.Reference20Ideal.Read.val_main_v1, Cert.Reference20Ideal.Read.val_main_v2, Cert.Reference20Ideal.Read.val_main_cst_0, Cert.Reference20Ideal.Read.val_main_v3, Cert.Reference20Ideal.Read.val_main_v4, Cert.Reference20Ideal.Read.val_main_cst_1, Cert.Reference20Ideal.Read.val_main_v5, Cert.Reference20Ideal.Read.val_main_v6, Cert.Reference20Ideal.Read.val_main_v7, Cert.Reference20Ideal.Read.val_main_v8, Cert.Reference20Ideal.Read.val_main_cst_2, Cert.Reference20Ideal.Read.val_main_v9, Cert.Reference20Ideal.Read.val_main_v10, Cert.Reference20Ideal.Read.val_main_v11, Cert.Reference20Ideal.Read.val_main_v12, Cert.Reference20Ideal.Read.val_main_v13, Cert.Reference20Ideal.Read.val_main_v14, Cert.Reference20Ideal.Read.val_main_v15, Cert.Reference20Ideal.Read.val_main_v16, Cert.Reference20Ideal.Read.val_main_cst_3, Cert.Reference20Ideal.Read.val_main_v17, Cert.Reference20Ideal.Read.val_main_v18, Cert.Reference20Ideal.Read.val_main_cst_4, Cert.Reference20Ideal.Read.val_main_v19, Cert.Reference20Ideal.Read.val_main_cst_5, Cert.Reference20Ideal.Read.val_main_v20, Cert.Reference20Ideal.Read.val_main_v21, Cert.Reference20Ideal.Read.val_main_cst_6, Cert.Reference20Ideal.Read.val_main_v22, Cert.Reference20Ideal.Read.val_main_cst_7, Cert.Reference20Ideal.Read.val_main_v23, Cert.Reference20Ideal.Read.val_main_cst_8, Cert.Reference20Ideal.Read.val_main_cst_9, Cert.Reference20Ideal.Read.val_main_v24, Cert.Reference20Ideal.Read.val_main_v25, Cert.Reference20Ideal.Read.val_main_cst_10, Cert.Reference20Ideal.Read.val_main_v26, Cert.Reference20Ideal.Read.val_main_v27, Cert.Reference20Ideal.Read.val_main_v28, Cert.Reference20Ideal.Read.val_main_v29, Cert.Reference20Ideal.Read.val_main_v30, Cert.Reference20Ideal.Read.val_main_cst_11, Cert.Reference20Ideal.Read.val_main_v31, Cert.Reference20Ideal.Read.val_main_v32, Cert.Reference20Ideal.Read.val_main_v33, Cert.Reference20Ideal.Read.val_main_v34, Cert.Reference20Ideal.Read.val_main_v35, Cert.Reference20Ideal.Read.val_main_cst_12, Cert.Reference20Ideal.Read.val_main_v36, Cert.Reference20Ideal.Read.val_main_v37, Cert.Reference20Ideal.Read.val_main_v38, Cert.Reference20Ideal.Read.val_main_v39, Cert.Reference20Ideal.Read.val_main_v40, Cert.Reference20Ideal.Read.val_main_cst_13, Cert.Reference20Ideal.Read.val_main_v41, Cert.Reference20Ideal.Read.val_main_v42, Cert.Reference20Ideal.Read.val_main_cst_14, Cert.Reference20Ideal.Read.val_main_v43, Cert.Reference20Ideal.Read.val_main_v44, Cert.Reference20Ideal.Read.val_main_v45, Cert.Reference20Ideal.Read.val_main_v46, Cert.Reference20Ideal.Read.val_main_v47, Cert.Reference20Ideal.Read.val_main_v48, Cert.Reference20Ideal.Read.val_main_v49, Cert.Reference20Ideal.Read.val_main_v50, Cert.Reference20Ideal.Read.val_main_v51]
  simp only [Finset.univ_unique, Finset.sum_singleton]

theorem ref2 (x0 : Vec Ideal S8192x1024 .f32) (x1 : Vec Ideal S1x1024 .f32) (x2 : Vec Ideal S8192x1024 .f32) (i : S8192x1024.Idx) : Cert.Reference20Ideal.Read.val_main_v51 (F := Ideal) x0 x1 x2 i = full (fun n => x0 (ix2 (i 0) n)) (fun n => x2 (ix2 (i 0) n)) (fun n => x1 (ix2 0 n)) (i 1) :=
  ref1 x0 x1 x2 i

theorem ref0 (x0 : Vec Ideal S8192x1024 .f32) (x1 : Vec Ideal S1x1024 .f32) (x2 : Vec Ideal S8192x1024 .f32) (i : S1x128.Idx) : Cert.Reference20Ideal.Read.val_main_v50 (F := Ideal) x0 x1 x2 i = losses x0 x2 x1 := by
  unfold losses loss
  rw [← sum_half]
  unfold err ms
  pointwise [Cert.Reference20Ideal.Read.val_main_v0, Cert.Reference20Ideal.Read.val_main_cst, Cert.Reference20Ideal.Read.val_main_v1, Cert.Reference20Ideal.Read.val_main_v2, Cert.Reference20Ideal.Read.val_main_cst_0, Cert.Reference20Ideal.Read.val_main_v3, Cert.Reference20Ideal.Read.val_main_v4, Cert.Reference20Ideal.Read.val_main_cst_1, Cert.Reference20Ideal.Read.val_main_v5, Cert.Reference20Ideal.Read.val_main_v6, Cert.Reference20Ideal.Read.val_main_v7, Cert.Reference20Ideal.Read.val_main_v8, Cert.Reference20Ideal.Read.val_main_cst_2, Cert.Reference20Ideal.Read.val_main_v9, Cert.Reference20Ideal.Read.val_main_v10, Cert.Reference20Ideal.Read.val_main_v11, Cert.Reference20Ideal.Read.val_main_v12, Cert.Reference20Ideal.Read.val_main_v13, Cert.Reference20Ideal.Read.val_main_v14, Cert.Reference20Ideal.Read.val_main_v15, Cert.Reference20Ideal.Read.val_main_v16, Cert.Reference20Ideal.Read.val_main_cst_3, Cert.Reference20Ideal.Read.val_main_v17, Cert.Reference20Ideal.Read.val_main_v18, Cert.Reference20Ideal.Read.val_main_cst_4, Cert.Reference20Ideal.Read.val_main_v19, Cert.Reference20Ideal.Read.val_main_cst_5, Cert.Reference20Ideal.Read.val_main_v20, Cert.Reference20Ideal.Read.val_main_v21, Cert.Reference20Ideal.Read.val_main_cst_6, Cert.Reference20Ideal.Read.val_main_v22, Cert.Reference20Ideal.Read.val_main_cst_7, Cert.Reference20Ideal.Read.val_main_v23, Cert.Reference20Ideal.Read.val_main_cst_8, Cert.Reference20Ideal.Read.val_main_cst_9, Cert.Reference20Ideal.Read.val_main_v24, Cert.Reference20Ideal.Read.val_main_v25, Cert.Reference20Ideal.Read.val_main_cst_10, Cert.Reference20Ideal.Read.val_main_v26, Cert.Reference20Ideal.Read.val_main_v27, Cert.Reference20Ideal.Read.val_main_v28, Cert.Reference20Ideal.Read.val_main_v29, Cert.Reference20Ideal.Read.val_main_v30, Cert.Reference20Ideal.Read.val_main_cst_11, Cert.Reference20Ideal.Read.val_main_v31, Cert.Reference20Ideal.Read.val_main_v32, Cert.Reference20Ideal.Read.val_main_v33, Cert.Reference20Ideal.Read.val_main_v34, Cert.Reference20Ideal.Read.val_main_v35, Cert.Reference20Ideal.Read.val_main_cst_12, Cert.Reference20Ideal.Read.val_main_v36, Cert.Reference20Ideal.Read.val_main_v37, Cert.Reference20Ideal.Read.val_main_v38, Cert.Reference20Ideal.Read.val_main_v39, Cert.Reference20Ideal.Read.val_main_v40, Cert.Reference20Ideal.Read.val_main_cst_13, Cert.Reference20Ideal.Read.val_main_v41, Cert.Reference20Ideal.Read.val_main_v42, Cert.Reference20Ideal.Read.val_main_cst_14, Cert.Reference20Ideal.Read.val_main_v43, Cert.Reference20Ideal.Read.val_main_v44, Cert.Reference20Ideal.Read.val_main_v45, Cert.Reference20Ideal.Read.val_main_v46, Cert.Reference20Ideal.Read.val_main_v47, Cert.Reference20Ideal.Read.val_main_v48, Cert.Reference20Ideal.Read.val_main_v49, Cert.Reference20Ideal.Read.val_main_v50, Cert.Reference20Ideal.Read.val_main_v51]

theorem ref3 (x0 : Vec Ideal S8192x1024 .f32) (x1 : Vec Ideal S1x1024 .f32) (x2 : Vec Ideal S8192x1024 .f32) (i : S1x1024.Idx) : Cert.Reference20Ideal.Read.val_main_v32 (F := Ideal) x0 x1 x2 i = gains x0 x2 x1 (i 1) := by
  unfold gains gain cot
  simp only [← cot_eq]
  unfold err ms
  pointwise [Cert.Reference20Ideal.Read.val_main_v0, Cert.Reference20Ideal.Read.val_main_cst, Cert.Reference20Ideal.Read.val_main_v1, Cert.Reference20Ideal.Read.val_main_v2, Cert.Reference20Ideal.Read.val_main_cst_0, Cert.Reference20Ideal.Read.val_main_v3, Cert.Reference20Ideal.Read.val_main_v4, Cert.Reference20Ideal.Read.val_main_cst_1, Cert.Reference20Ideal.Read.val_main_v5, Cert.Reference20Ideal.Read.val_main_v6, Cert.Reference20Ideal.Read.val_main_v7, Cert.Reference20Ideal.Read.val_main_v8, Cert.Reference20Ideal.Read.val_main_cst_2, Cert.Reference20Ideal.Read.val_main_v9, Cert.Reference20Ideal.Read.val_main_v10, Cert.Reference20Ideal.Read.val_main_v11, Cert.Reference20Ideal.Read.val_main_v12, Cert.Reference20Ideal.Read.val_main_v13, Cert.Reference20Ideal.Read.val_main_v14, Cert.Reference20Ideal.Read.val_main_v15, Cert.Reference20Ideal.Read.val_main_v16, Cert.Reference20Ideal.Read.val_main_cst_3, Cert.Reference20Ideal.Read.val_main_v17, Cert.Reference20Ideal.Read.val_main_v18, Cert.Reference20Ideal.Read.val_main_cst_4, Cert.Reference20Ideal.Read.val_main_v19, Cert.Reference20Ideal.Read.val_main_cst_5, Cert.Reference20Ideal.Read.val_main_v20, Cert.Reference20Ideal.Read.val_main_v21, Cert.Reference20Ideal.Read.val_main_cst_6, Cert.Reference20Ideal.Read.val_main_v22, Cert.Reference20Ideal.Read.val_main_cst_7, Cert.Reference20Ideal.Read.val_main_v23, Cert.Reference20Ideal.Read.val_main_cst_8, Cert.Reference20Ideal.Read.val_main_cst_9, Cert.Reference20Ideal.Read.val_main_v24, Cert.Reference20Ideal.Read.val_main_v25, Cert.Reference20Ideal.Read.val_main_cst_10, Cert.Reference20Ideal.Read.val_main_v26, Cert.Reference20Ideal.Read.val_main_v27, Cert.Reference20Ideal.Read.val_main_v28, Cert.Reference20Ideal.Read.val_main_v29, Cert.Reference20Ideal.Read.val_main_v30, Cert.Reference20Ideal.Read.val_main_cst_11, Cert.Reference20Ideal.Read.val_main_v31, Cert.Reference20Ideal.Read.val_main_v32, Cert.Reference20Ideal.Read.val_main_v33, Cert.Reference20Ideal.Read.val_main_v34, Cert.Reference20Ideal.Read.val_main_v35, Cert.Reference20Ideal.Read.val_main_cst_12, Cert.Reference20Ideal.Read.val_main_v36, Cert.Reference20Ideal.Read.val_main_v37, Cert.Reference20Ideal.Read.val_main_v38, Cert.Reference20Ideal.Read.val_main_v39, Cert.Reference20Ideal.Read.val_main_v40, Cert.Reference20Ideal.Read.val_main_cst_13, Cert.Reference20Ideal.Read.val_main_v41, Cert.Reference20Ideal.Read.val_main_v42, Cert.Reference20Ideal.Read.val_main_cst_14, Cert.Reference20Ideal.Read.val_main_v43, Cert.Reference20Ideal.Read.val_main_v44, Cert.Reference20Ideal.Read.val_main_v45, Cert.Reference20Ideal.Read.val_main_v46, Cert.Reference20Ideal.Read.val_main_v47, Cert.Reference20Ideal.Read.val_main_v48, Cert.Reference20Ideal.Read.val_main_v49, Cert.Reference20Ideal.Read.val_main_v50, Cert.Reference20Ideal.Read.val_main_v51]
  exact Finset.sum_congr rfl fun k _ => mul_comm _ _

/-- What point `t` stores. -/
theorem stored (c : Dev nD) (t : Fin cfg0.N) : (outsAt0 m c t.val t.isLt).1 = k0_pay11 (F := Ideal) (iblk m c 0 t) (iblk m c 1 t) (iblk m c 2 t) ∧ (outsAt0 m c t.val t.isLt).2.1 = k0_pay1 (F := Ideal) (k0_pay11 (iblk m c 0 t) (iblk m c 1 t) (iblk m c 2 t)) := by
  by_cases h : t.val % 32 = 0
  · rw [outsAt0_A m c t h]
    constructor <;> frame_out
  · rw [outsAt0_B m c t h]
    constructor <;> frame_out

/-- After the last step the accumulator holds the sum over all rows. -/
theorem total (c : Dev nD) (t : Fin cfg0.N) (h : t.val % 32 = 31) (j : S1x1024.Idx) : (outsAt0 m c t.val t.isLt).2.2.2 j = gains (m ((c : Thread nD τ).loc main_arg0)) (m ((c : Thread nD τ).loc main_arg2)) (m ((c : Thread nD τ).loc main_arg1)) (j 1) := by
  unfold gains
  rw [Pipeline.eq_sum_fin_of_reset_step_apply_of_flush (fun n h => (outsAt0 m c n h).2.2.2) 32 (fun _ => 0) _
    (fun t h j => by rw [outsAt0_A m c t h]; frame_out; rw [part, fill])
    (fun t h j => by rw [outsAt0_B m c t h]; frame_out; rw [part])
    t h _, zero_add]
  have hN : t.val < 32 := t.isLt
  refine Fin.sum_mul_add_congr fun s k hl => ?_
  refine congrFun (congr (congrArg₂ gain (funext fun n => ?_) (funext fun n => ?_)) (funext fun n => ?_)) _
  · blk_ext [iblk, V, place t, place ⟨_, Pipeline.run_point_lt_of_flush t h s⟩]
  · blk_ext [iblk, V, place t, place ⟨_, Pipeline.run_point_lt_of_flush t h s⟩]
  · blk_ext [iblk, V, place t, place ⟨_, Pipeline.run_point_lt_of_flush t h s⟩]

theorem totalLoss (c : Dev nD) (t : Fin cfg0.N) (h : t.val % 32 = 31) (j : S1x128.Idx) : (outsAt0 m c t.val t.isLt).2.2.1 j = losses (m ((c : Thread nD τ).loc main_arg0)) (m ((c : Thread nD τ).loc main_arg2)) (m ((c : Thread nD τ).loc main_arg1)) := by
  unfold losses
  rw [Pipeline.eq_sum_fin_of_reset_step_apply_of_flush (fun n h => (outsAt0 m c n h).2.2.1) 32 (fun _ => 0) _
    (fun t h j => by rw [outsAt0_A m c t h]; frame_out; rw [partLoss, fillLoss])
    (fun t h j => by rw [outsAt0_B m c t h]; frame_out; rw [partLoss])
    t h _, zero_add]
  have hN : t.val < 32 := t.isLt
  refine Fin.sum_mul_add_congr fun s k hl => ?_
  refine congr (congrArg₂ loss (funext fun n => ?_) (funext fun n => ?_)) (funext fun n => ?_)
  · blk_ext [iblk, V, place t, place ⟨_, Pipeline.run_point_lt_of_flush t h s⟩]
  · blk_ext [iblk, V, place t, place ⟨_, Pipeline.run_point_lt_of_flush t h s⟩]
  · blk_ext [iblk, V, place t, place ⟨_, Pipeline.run_point_lt_of_flush t h s⟩]

theorem final1 (c : Dev nD) : (dats m 0 c).arrAt 3 cfg0.N = Cert.Reference20Ideal.Read.val_main_v48 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, (stored m c t).1, pay11, ref1]
  refine congr (congr (congrArg₂ full (funext fun k => ?_) (funext fun k => ?_)) (funext fun k => ?_)) (Fin.ext ?_)
  · blk_ext [iblk, V, place t]
  · blk_ext [iblk, V, place t]
  · blk_ext [iblk, V, place t]
  · blk_simp
    simp only [place t, Matrix.cons_val_one, Matrix.cons_val_zero]
    try omega

theorem final2 (c : Dev nD) : (dats m 0 c).arrAt 4 cfg0.N = Cert.Reference20Ideal.Read.val_main_v51 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, (stored m c t).2, pay1, ref2]
  refine congr (congr (congrArg₂ full (funext fun k => ?_) (funext fun k => ?_)) (funext fun k => ?_)) (Fin.ext ?_)
  · blk_ext [iblk, V, place t]
  · blk_ext [iblk, V, place t]
  · blk_ext [iblk, V, place t]
  · blk_simp
    simp only [place t, Matrix.cons_val_one, Matrix.cons_val_zero]
    try omega

theorem final0 (c : Dev nD) : (dats m 0 c).arrAt 5 cfg0.N = Cert.Reference20Ideal.Read.val_main_v50 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have h := (flush0_5 t).mp hf
  blk_simp
  rw [after0_5, totalLoss m c t (by omega), ref0]

theorem final3 (c : Dev nD) : (dats m 0 c).arrAt 6 cfg0.N = Cert.Reference20Ideal.Read.val_main_v32 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have h := (flush0_6 t).mp hf
  blk_simp
  rw [after0_6, total m c t (by omega), ref3]
  refine congrArg (gains _ _ _) (Fin.ext ?_)
  blk_simp
  simp only [place t, Matrix.cons_val_one, Matrix.cons_val_zero]
  try omega

end Cert.FinalLoss

end
-- ==== Proof.MixNorm.lean ====
module
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Claim

@[expose] public section

set_option maxRecDepth 16384
set_option maxHeartbeats 1000000

/-! The norm of the gated attention and of the recurrence, side by side: the kernel takes 256 rows at a time,
the reference all of them. -/

noncomputable section

namespace Cert.MixNorm

open Idealize.ShloMosaic Idealize.ShloMosaic.TcCoe Idealize.SL.Sem
open Cert.Kernel21Ideal Cert.Kernel21Ideal.Gen
open Idealize.ShloMosaic.Pipeline (Dat)

variable (m : (ℓ : Loc nD τ sig) → Buf (Elt Ideal) ℓ)

/-- One element of a row over its root mean square, times its gain. -/
def scaled (x : Fin 1024 → EReal) (g : EReal) (j : Fin 1024) : EReal :=
  x j * Ideal.rsqrt (Ideal.div (∑ k : Fin 1024, x k * x k) (Ideal.ofBits FTy.f32 1149239296#32) + Ideal.ofBits FTy.f32 925353388#32) * g

/-- `z` times its logistic. -/
def gate (z : EReal) : EReal := z * Ideal.logistic z

/-- One element of the two norms side by side. -/
def joined (a z y : Fin 1024 → EReal) (ga gy : Fin 1024 → EReal) (n : Fin 2048) : EReal :=
  if h : n.val < 1024 then scaled (fun k => a k * gate (z k)) (ga ⟨n.val, h⟩) ⟨n.val, h⟩
  else scaled y (gy ⟨n.val - 1024, by omega⟩) ⟨n.val - 1024, by omega⟩

theorem pay (x0 x1 x2 : Vec Ideal S256x1024 .f32) (x3 x4 : Vec Ideal S1x1024 .f32) (j : S256x2048.Idx) :
    k0_pay1 (F := Ideal) x0 x1 x2 x3 x4 j = joined (fun k => x0 (ix2 (j 0) k)) (fun k => x1 (ix2 (j 0) k)) (fun k => x2 (ix2 (j 0) k)) (fun k => x3 (ix2 0 k)) (fun k => x4 (ix2 0 k)) (j 1) := by
  unfold joined scaled gate Ideal.logistic
  pointwise [k0_pay1]
  simp only [zero_sub]

/-- The blocks of grid point `t`. -/
theorem place : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] :=
  (by decide +kernel : ∀ t : Fin grid0.N, _)

theorem ref0 (x0 : Vec Ideal S8192x1024 .f32) (x1 : Vec Ideal S8192x6144 .f32) (x2 : Vec Ideal S8192x1024 .f32) (x3 x4 : Vec Ideal S1x1024 .f32) (i : S8192x2048.Idx) :
    Cert.Reference21Ideal.Read.val_main_v28 (F := Ideal) x0 x1 x2 x3 x4 i = joined (fun k => x0 (ix2 (i 0) k)) (fun k => x1 (ix2 (i 0) ⟨k.val, by omega⟩)) (fun k => x2 (ix2 (i 0) k)) (fun k => x3 (ix2 0 k)) (fun k => x4 (ix2 0 k)) (i 1) := by
  unfold joined scaled gate Ideal.logistic
  pointwise [Cert.Reference21Ideal.Read.val_main_v0, Cert.Reference21Ideal.Read.val_main_call0_v0, Cert.Reference21Ideal.Read.val_main_call0_v1, Cert.Reference21Ideal.Read.val_main_call0_cst, Cert.Reference21Ideal.Read.val_main_call0_v2, Cert.Reference21Ideal.Read.val_main_call0_v3, Cert.Reference21Ideal.Read.val_main_call0_cst_0, Cert.Reference21Ideal.Read.val_main_call0_v4, Cert.Reference21Ideal.Read.val_main_call0_v5, Cert.Reference21Ideal.Read.val_main_v1, Cert.Reference21Ideal.Read.val_main_v2, Cert.Reference21Ideal.Read.val_main_v3, Cert.Reference21Ideal.Read.val_main_cst, Cert.Reference21Ideal.Read.val_main_v4, Cert.Reference21Ideal.Read.val_main_v5, Cert.Reference21Ideal.Read.val_main_cst_0, Cert.Reference21Ideal.Read.val_main_v6, Cert.Reference21Ideal.Read.val_main_v7, Cert.Reference21Ideal.Read.val_main_cst_1, Cert.Reference21Ideal.Read.val_main_v8, Cert.Reference21Ideal.Read.val_main_v9, Cert.Reference21Ideal.Read.val_main_v10, Cert.Reference21Ideal.Read.val_main_v11, Cert.Reference21Ideal.Read.val_main_v12, Cert.Reference21Ideal.Read.val_main_v13, Cert.Reference21Ideal.Read.val_main_v14, Cert.Reference21Ideal.Read.val_main_v15, Cert.Reference21Ideal.Read.val_main_cst_2, Cert.Reference21Ideal.Read.val_main_v16, Cert.Reference21Ideal.Read.val_main_v17, Cert.Reference21Ideal.Read.val_main_cst_3, Cert.Reference21Ideal.Read.val_main_v18, Cert.Reference21Ideal.Read.val_main_v19, Cert.Reference21Ideal.Read.val_main_cst_4, Cert.Reference21Ideal.Read.val_main_v20, Cert.Reference21Ideal.Read.val_main_v21, Cert.Reference21Ideal.Read.val_main_v22, Cert.Reference21Ideal.Read.val_main_v23, Cert.Reference21Ideal.Read.val_main_v24, Cert.Reference21Ideal.Read.val_main_v25, Cert.Reference21Ideal.Read.val_main_v26, Cert.Reference21Ideal.Read.val_main_v27, Cert.Reference21Ideal.Read.val_main_v28]

theorem final0 (c : Dev nD) : (dats m 0 c).arrAt 5 cfg0.N = Cert.Reference21Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  rw [pay, ref0]
  refine congr (congr (congr (congr (congrArg₂ joined (funext fun k => ?_) (funext fun k => ?_)) (funext fun k => ?_)) (funext fun k => ?_)) (funext fun k => ?_)) (Fin.ext ?_)
  · blk_ext [iblk, V, place t]
  · blk_ext [iblk, V, place t]
  · blk_ext [iblk, V, place t]
  · blk_ext [iblk, V, place t]
  · blk_ext [iblk, V, place t]
  · blk_simp
    simp only [place t, Matrix.cons_val_one, Matrix.cons_val_zero]
    try omega

end Cert.MixNorm

end
-- ==== Proof.GradMixNorm.lean ====
module
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Claim
public import proofs.«01_k».proof.Proof.NormBack
public import proofs.«01_k».proof.Proof.Finite
public import proofs.«01_k».proof.Pre_finite_gate

@[expose] public section

set_option maxRecDepth 16384
set_option maxHeartbeats 1000000

/-! The gradient of the two norms side by side and of the gate before the first: the kernel takes 256 rows at
a time and adds up the gains' gradients over them, the reference takes all of them. -/

noncomputable section

namespace Cert.GradMixNorm

open Idealize.ShloMosaic Idealize.ShloMosaic.TcCoe Idealize.SL.Sem
open Cert.Kernel22Ideal Cert.Kernel22Ideal.Gen
open Idealize.ShloMosaic.Pipeline (Dat)

variable (m : (ℓ : Loc nD τ sig) → Buf (Elt Ideal) ℓ)

open Cert.NormBack (ms back side back_eq)

/-- The logistic as the kernel and the reference write it. -/
def sg (z : EReal) : EReal := Ideal.div 1 (1 + Ideal.exp (-z))

/-- A row after the gate. -/
def gated (y z : Fin 1024 → EReal) (k : Fin 1024) : EReal := y k * (z k * sg (z k))

/-- The gradient of the gated row. -/
def inner (y z d g : Fin 1024 → EReal) (j : Fin 1024) : EReal := back (gated y z) (fun k => d k * g k) j

/-- The gradient of the row before the gate. -/
def gy (y z d g : Fin 1024 → EReal) (j : Fin 1024) : EReal := inner y z d g j * (z j * sg (z j))

/-- The gradient of the gate. -/
def gz (y z d g : Fin 1024 → EReal) (j : Fin 1024) : EReal := inner y z d g j * y j * (sg (z j) * (1 + z j * (1 - sg (z j))))

/-- The gradient of the other row. -/
def go (a d g : Fin 1024 → EReal) (j : Fin 1024) : EReal := back a (fun k => d k * g k) j

/-- One row's part of a gain's gradient. -/
def gain (x : Fin 1024 → EReal) (d : EReal) (j : Fin 1024) : EReal := d * (x j * Ideal.rsqrt (ms x))

/-- The gradient of the first gain. -/
def gains (x0 : Vec Ideal S8192x1024 .f32) (x1 : Vec Ideal S8192x6144 .f32) (x5 : Vec Ideal S8192x2048 .f32) (j : Fin 1024) : EReal :=
  ∑ k : Fin 8192, gain (gated (fun n => x0 (ix2 k n)) (fun n => x1 (ix2 k ⟨n.val, by omega⟩))) (x5 (ix2 k ⟨j.val, by omega⟩)) j

/-- The gradient of the second gain. -/
def others (x2 : Vec Ideal S8192x1024 .f32) (x5 : Vec Ideal S8192x2048 .f32) (j : Fin 1024) : EReal :=
  ∑ k : Fin 8192, gain (fun n => x2 (ix2 k n)) (x5 (ix2 k ⟨1024 + j.val, by omega⟩)) j

/-- The left half of a block. -/
def lo (x : Vec Ideal S256x2048 .f32) : Vec Ideal S256x1024 .f32 := fun j => x (ix2 (j 0) ⟨(j 1).val, by have h : (j 1).val < 1024 := (j 1).isLt; omega⟩)

/-- The right half of a block. -/
def hi (x : Vec Ideal S256x2048 .f32) : Vec Ideal S256x1024 .f32 := fun j => x (ix2 (j 0) ⟨1024 + (j 1).val, by have h : (j 1).val < 1024 := (j 1).isLt; omega⟩)

theorem lo_eq (x : Vec Ideal S256x2048 .f32) : View.ld (Val := Elt Ideal) (e' := .f32) x (Rect.unit (s := S256x2048) ![0, 0] ![256, 1024] inb_S256x2048_S256x1024_0_0) = lo x := by
  funext j
  refine congrArg x (funext fun k => Fin.ext ?_)
  fin_cases k
  · show 0 + 1 * (j 0).val = (j 0).val
    omega
  · show 0 + 1 * (j 1).val = (j 1).val
    omega

theorem hi_eq (x : Vec Ideal S256x2048 .f32) : View.ld (Val := Elt Ideal) (e' := .f32) x (Rect.unit (s := S256x2048) ![0, 1024] ![256, 1024] inb_S256x2048_S256x1024_0_1024) = hi x := by
  funext j
  refine congrArg x (funext fun k => Fin.ext ?_)
  fin_cases k
  · show 0 + 1 * (j 0).val = (j 0).val
    omega
  · show 1024 + 1 * (j 1).val = 1024 + (j 1).val
    omega

theorem pay10 (y z d : Vec Ideal S256x1024 .f32) (g : Vec Ideal S1x1024 .f32) (j : S256x1024.Idx) : k0_pay10 (F := Ideal) y z d g j = inner (fun k => y (ix2 (j 0) k)) (fun k => z (ix2 (j 0) k)) (fun k => d (ix2 (j 0) k)) (fun k => g (ix2 0 k)) (j 1) := by
  unfold inner back ms gated sg
  pointwise [k0_pay10, k0_pay9, k0_pay8, k0_pay7, k0_pay6, k0_pay5]
  simp only [zero_sub]

theorem pay13 (y z d : Vec Ideal S256x1024 .f32) (g : Vec Ideal S1x1024 .f32) (j : S256x1024.Idx) : k0_pay13 (F := Ideal) (k0_pay6 z) (k0_pay10 y z d g) j = gy (fun k => y (ix2 (j 0) k)) (fun k => z (ix2 (j 0) k)) (fun k => d (ix2 (j 0) k)) (fun k => g (ix2 0 k)) (j 1) := by
  unfold gy
  refine Eq.trans ?_ (congrArg (fun a : EReal => a * _) (pay10 y z d g j))
  unfold sg
  pointwise [k0_pay13, k0_pay6, k0_pay5]
  simp only [zero_sub]

theorem pay14 (y z d : Vec Ideal S256x1024 .f32) (g : Vec Ideal S1x1024 .f32) (j : S256x1024.Idx) : k0_pay14 (F := Ideal) y z (k0_pay5 z) (k0_pay10 y z d g) j = gz (fun k => y (ix2 (j 0) k)) (fun k => z (ix2 (j 0) k)) (fun k => d (ix2 (j 0) k)) (fun k => g (ix2 0 k)) (j 1) := by
  unfold gz
  refine Eq.trans ?_ (congrArg (fun a : EReal => a * _ * _) (pay10 y z d g j))
  unfold sg
  pointwise [k0_pay14, k0_pay5]
  simp only [zero_sub]

theorem pay17 (y d : Vec Ideal S256x1024 .f32) (g : Vec Ideal S1x1024 .f32) (j : S256x1024.Idx) : k0_pay17 (F := Ideal) y d g j = go (fun k => y (ix2 (j 0) k)) (fun k => d (ix2 (j 0) k)) (fun k => g (ix2 0 k)) (j 1) := by
  unfold go back ms
  pointwise [k0_pay17, k0_pay16, k0_pay15]

theorem part3 (y z d : Vec Ideal S256x1024 .f32) (a : Vec Ideal S1x1024 .f32) (j : S1x1024.Idx) : k0_pay3 (F := Ideal) (k0_pay12 (k0_pay11 y z d)) a j = a j + ∑ k : Fin 256, gain (gated (fun n => y (ix2 k n)) (fun n => z (ix2 k n))) (d (ix2 k (j 1))) (j 1) := by
  unfold gain ms gated sg
  pointwise [k0_pay3, k0_pay12, k0_pay11, k0_pay9, k0_pay8, k0_pay7, k0_pay6, k0_pay5]
  simp only [zero_sub]

theorem part4 (y d : Vec Ideal S256x1024 .f32) (a : Vec Ideal S1x1024 .f32) (j : S1x1024.Idx) : k0_pay4 (F := Ideal) (k0_pay18 y d) a j = a j + ∑ k : Fin 256, gain (fun n => y (ix2 k n)) (d (ix2 k (j 1))) (j 1) := by
  unfold gain ms
  pointwise [k0_pay4, k0_pay18, k0_pay16, k0_pay15]

theorem fill3 (j) : k0_pay1 (F := Ideal) j = 0 := by pointwise [k0_pay1]

theorem fill4 (j) : k0_pay2 (F := Ideal) j = 0 := by pointwise [k0_pay2]

/-- The blocks of grid point `t`. -/
theorem place : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![t.val, 0] ∧ win0_9.index t = ![0, 0] ∧ win0_10.index t = ![0, 0] :=
  (by decide +kernel : ∀ t : Fin grid0.N, _)

/-- A value that is a real number. -/
def real (a : EReal) : Prop := ∃ r : ℝ, a = (r : EReal)

theorem real_mul {a b : EReal} (ha : real a) (hb : real b) : real (a * b) := by
  obtain ⟨r, rfl⟩ := ha
  obtain ⟨s, rfl⟩ := hb
  exact ⟨r * s, (EReal.coe_mul r s).symm⟩

theorem real_add {a b : EReal} (ha : real a) (hb : real b) : real (a + b) := by
  obtain ⟨r, rfl⟩ := ha
  obtain ⟨s, rfl⟩ := hb
  exact ⟨r + s, (EReal.coe_add r s).symm⟩

theorem real_sub {a b : EReal} (ha : real a) (hb : real b) : real (a - b) := by
  obtain ⟨r, rfl⟩ := ha
  obtain ⟨s, rfl⟩ := hb
  exact ⟨r - s, (EReal.coe_sub r s).symm⟩

theorem real_sum {n : ℕ} (f : Fin n → EReal) (h : ∀ k, real (f k)) : real (∑ k, f k) := by
  classical
  have key : ∀ s : Finset (Fin n), real (∑ k ∈ s, f k) := by
    intro s
    induction s using Finset.induction_on with
    | empty => exact ⟨0, by simp⟩
    | insert a s ha ih =>
      rw [Finset.sum_insert ha]
      exact real_add (h a) ih
  exact key _

theorem real_mean {a : EReal} (h : real a) : real (Ideal.div a (Ideal.ofBits FTy.f32 1149239296#32)) := by
  rw [NormBack.width, NormBack.over _ _ (by norm_num)]
  exact real_mul h ⟨_, rfl⟩

theorem sg_pos (r : ℝ) : ∃ s : ℝ, 0 < s ∧ sg (r : EReal) = (s : EReal) := by
  refine ⟨1 * (1 + Real.exp (-r))⁻¹, by positivity, ?_⟩
  unfold sg
  rw [← EReal.coe_neg, Ideal.exp_coe, ← EReal.coe_one, ← EReal.coe_add, NormBack.over _ _ (by positivity), ← EReal.coe_mul]

theorem sg_bot : sg ⊥ = 0 := by
  unfold sg
  have e : Ideal.exp (-⊥) = ⊤ := by rw [EReal.neg_bot]; rfl
  have t : (1 : EReal) + ⊤ = ⊤ := rfl
  rw [e, t]
  unfold Ideal.div
  simp

theorem sg_top : sg ⊤ = 1 := by
  unfold sg
  have e : Ideal.exp (-⊤) = 0 := by rw [EReal.neg_top]; rfl
  rw [e, add_zero]
  unfold Ideal.div
  simp

theorem real_root {x : Fin 1024 → EReal} (h : ∀ k, real (x k)) : real (Ideal.rsqrt (ms x)) := by
  rcases NormBack.ms_pos x with e | ⟨s, hs, e⟩
  · exfalso
    have hm : real (ms x) := by
      obtain ⟨e, _, he⟩ := NormBack.small
      unfold ms
      exact real_add (real_mean (real_sum _ fun k => real_mul (h k) (h k))) ⟨e, he⟩
    obtain ⟨r, hr⟩ := hm
    exact EReal.coe_ne_top r (hr.symm.trans e)
  · rw [e, NormBack.root s hs]
    exact ⟨_, rfl⟩

theorem real_back {x u : Fin 1024 → EReal} (hx : ∀ k, real (x k)) (hu : ∀ k, real (u k)) (j : Fin 1024) : real (back x u j) := by
  have hr := real_root hx
  unfold back
  exact real_mul hr (real_sub (hu j) (real_mul (real_mul (hx j) hr) (real_mean (real_sum _ fun k => real_mul (hu k) (real_mul (hx k) hr)))))

theorem not_real {a : EReal} (h : a = ⊤ ∨ a = ⊥) : ¬ real a := by
  rintro ⟨r, hr⟩
  rcases h with h | h
  · exact EReal.coe_ne_top r (hr.symm.trans h)
  · exact EReal.coe_ne_bot r (hr.symm.trans h)

/-- A row whose mean square is a real number consists of real numbers. -/
theorem real_row {x : Fin 1024 → EReal} {s : ℝ} (h : ms x = (s : EReal)) (k : Fin 1024) : real (x k) := by
  by_contra hn
  have hk : x k * x k = ⊤ := by
    generalize x k = a at hn
    induction a with
    | bot => rfl
    | top => rfl
    | coe r => exact absurd ⟨r, rfl⟩ hn
  have ht : ∑ k : Fin 1024, x k * x k = ⊤ := by
    refine top_le_iff.mp ?_
    rw [← hk]
    exact Finset.single_le_sum (f := fun k => x k * x k) (fun k _ => NormBack.sq_nonneg (x k)) (Finset.mem_univ k)
  obtain ⟨e, _, he⟩ := NormBack.small
  unfold ms at h
  rw [ht, he, NormBack.width, NormBack.over _ _ (by norm_num), EReal.top_mul_coe_of_pos (by norm_num), EReal.top_add_coe] at h
  exact EReal.coe_ne_top s h.symm

/-- A factor of a real number whose other factor is a real number that is not zero. -/
theorem real_left {y : EReal} {c : ℝ} (hc : c ≠ 0) (h : real (y * (c : EReal))) : real y := by
  induction y with
  | coe r => exact ⟨r, rfl⟩
  | top =>
    exfalso
    rcases lt_or_gt_of_ne hc with h' | h'
    · exact not_real (Or.inr (EReal.top_mul_coe_of_neg h')) h
    · exact not_real (Or.inl (EReal.top_mul_coe_of_pos h')) h
  | bot =>
    exfalso
    rcases lt_or_gt_of_ne hc with h' | h'
    · exact not_real (Or.inl (EReal.bot_mul_coe_of_neg h')) h
    · exact not_real (Or.inr (EReal.bot_mul_coe_of_pos h')) h

theorem zero_of {y : EReal} (h : real (y * ⊤)) : y = 0 := by
  induction y with
  | top => exact absurd h (not_real (Or.inl rfl))
  | bot => exact absurd h (not_real (Or.inr rfl))
  | coe r =>
    by_contra hn
    have hr : r ≠ 0 := fun e => hn (by rw [e]; rfl)
    rcases lt_or_gt_of_ne hr with h' | h'
    · exact not_real (Or.inr (EReal.coe_mul_top_of_neg h')) h
    · exact not_real (Or.inl (EReal.coe_mul_top_of_pos h')) h

/-- The kernel's product is the derivative's sum, if what arrives is real. -/
theorem split {x u : Fin 1024 → EReal} {B y z : EReal} {j : Fin 1024} (hx : x j = y * (z * sg z)) (hu : ∀ k, real (u k)) (e : back x u j = B) :
    back x u j * y * (sg z * (1 + z * (1 - sg z))) = y * B * sg z + z * (y * B) * (sg z * (1 - sg z)) := by
  subst e
  rcases NormBack.ms_pos x with h | ⟨s, hs, h⟩
  · have e : back x u j = 0 := by
      unfold back
      rw [h, show Ideal.rsqrt ⊤ = 0 from rfl, zero_mul]
    rw [e]
    simp
  · have hr := real_row h
    obtain ⟨a, ha⟩ := real_back hr hu j
    rw [ha]
    have hj := hr j
    rw [hx] at hj
    induction z with
    | bot =>
      rw [sg_bot]
      simp
    | top =>
      rw [sg_top, mul_one] at hj
      rw [zero_of hj]
      simp
    | coe c =>
      obtain ⟨s, hs, h⟩ := sg_pos c
      rw [h] at hj ⊢
      by_cases hc : c = 0
      · subst hc
        simp [mul_comm]
      · rw [← EReal.coe_mul] at hj
        obtain ⟨b, rfl⟩ := real_left (mul_ne_zero hc hs.ne') hj
        norm_cast
        ring

theorem ref0 (x0 : Vec Ideal S8192x1024 .f32) (x1 : Vec Ideal S8192x6144 .f32) (x3 : Vec Ideal S1x1024 .f32) (x5 : Vec Ideal S8192x2048 .f32) (i : S8192x1024.Idx) :
    Cert.Reference22Ideal.Read.val_main_v75 (F := Ideal) x0 x1 x3 x5 i = gy (fun k => x0 (ix2 (i 0) k)) (fun k => x1 (ix2 (i 0) ⟨k.val, by omega⟩)) (fun k => x5 (ix2 (i 0) ⟨k.val, by omega⟩)) (fun k => x3 (ix2 0 k)) (i 1) := by
  unfold gy inner
  refine Eq.trans ?_ (congrArg (fun a : EReal => a * _) (back_eq _ _ _).symm)
  unfold side ms gated sg
  pointwise [Cert.Reference22Ideal.Read.val_main_v0, Cert.Reference22Ideal.Read.val_main_call0_v0, Cert.Reference22Ideal.Read.val_main_call0_v1, Cert.Reference22Ideal.Read.val_main_call0_cst, Cert.Reference22Ideal.Read.val_main_call0_v2, Cert.Reference22Ideal.Read.val_main_call0_v3, Cert.Reference22Ideal.Read.val_main_call0_cst_0, Cert.Reference22Ideal.Read.val_main_call0_v4, Cert.Reference22Ideal.Read.val_main_v1_2, Cert.Reference22Ideal.Read.val_main_call0_cst_1, Cert.Reference22Ideal.Read.val_main_call0_v6, Cert.Reference22Ideal.Read.val_main_call0_v7, Cert.Reference22Ideal.Read.val_main_v1_1, Cert.Reference22Ideal.Read.val_main_v1_0, Cert.Reference22Ideal.Read.val_main_v2, Cert.Reference22Ideal.Read.val_main_v3, Cert.Reference22Ideal.Read.val_main_cst, Cert.Reference22Ideal.Read.val_main_v4, Cert.Reference22Ideal.Read.val_main_v5, Cert.Reference22Ideal.Read.val_main_cst_0, Cert.Reference22Ideal.Read.val_main_v6, Cert.Reference22Ideal.Read.val_main_v7, Cert.Reference22Ideal.Read.val_main_cst_1, Cert.Reference22Ideal.Read.val_main_v8, Cert.Reference22Ideal.Read.val_main_v9, Cert.Reference22Ideal.Read.val_main_v10, Cert.Reference22Ideal.Read.val_main_v11, Cert.Reference22Ideal.Read.val_main_cst_2, Cert.Reference22Ideal.Read.val_main_v12, Cert.Reference22Ideal.Read.val_main_v13, Cert.Reference22Ideal.Read.val_main_v14, Cert.Reference22Ideal.Read.val_main_v15, Cert.Reference22Ideal.Read.val_main_v16, Cert.Reference22Ideal.Read.val_main_v17, Cert.Reference22Ideal.Read.val_main_v18, Cert.Reference22Ideal.Read.val_main_cst_3, Cert.Reference22Ideal.Read.val_main_v19, Cert.Reference22Ideal.Read.val_main_v20, Cert.Reference22Ideal.Read.val_main_cst_4, Cert.Reference22Ideal.Read.val_main_v21, Cert.Reference22Ideal.Read.val_main_v22, Cert.Reference22Ideal.Read.val_main_cst_5, Cert.Reference22Ideal.Read.val_main_v23, Cert.Reference22Ideal.Read.val_main_v24, Cert.Reference22Ideal.Read.val_main_v25, Cert.Reference22Ideal.Read.val_main_v26, Cert.Reference22Ideal.Read.val_main_cst_6, Cert.Reference22Ideal.Read.val_main_v27, Cert.Reference22Ideal.Read.val_main_v28, Cert.Reference22Ideal.Read.val_main_v29, Cert.Reference22Ideal.Read.val_main_v30, Cert.Reference22Ideal.Read.val_main_v31, Cert.Reference22Ideal.Read.val_main_v32, Cert.Reference22Ideal.Read.val_main_v33, Cert.Reference22Ideal.Read.val_main_v34, Cert.Reference22Ideal.Read.val_main_v35, Cert.Reference22Ideal.Read.val_main_v36, Cert.Reference22Ideal.Read.val_main_cst_7, Cert.Reference22Ideal.Read.val_main_v37, Cert.Reference22Ideal.Read.val_main_v38, Cert.Reference22Ideal.Read.val_main_v39, Cert.Reference22Ideal.Read.val_main_v40, Cert.Reference22Ideal.Read.val_main_v41, Cert.Reference22Ideal.Read.val_main_cst_8, Cert.Reference22Ideal.Read.val_main_v42, Cert.Reference22Ideal.Read.val_main_v43, Cert.Reference22Ideal.Read.val_main_v44, Cert.Reference22Ideal.Read.val_main_v45, Cert.Reference22Ideal.Read.val_main_v46, Cert.Reference22Ideal.Read.val_main_cst_9, Cert.Reference22Ideal.Read.val_main_v47, Cert.Reference22Ideal.Read.val_main_v48, Cert.Reference22Ideal.Read.val_main_cst_10, Cert.Reference22Ideal.Read.val_main_v49, Cert.Reference22Ideal.Read.val_main_v50, Cert.Reference22Ideal.Read.val_main_v51, Cert.Reference22Ideal.Read.val_main_v52, Cert.Reference22Ideal.Read.val_main_v53, Cert.Reference22Ideal.Read.val_main_v54, Cert.Reference22Ideal.Read.val_main_v55, Cert.Reference22Ideal.Read.val_main_cst_11, Cert.Reference22Ideal.Read.val_main_v56, Cert.Reference22Ideal.Read.val_main_v57, Cert.Reference22Ideal.Read.val_main_v58, Cert.Reference22Ideal.Read.val_main_v59, Cert.Reference22Ideal.Read.val_main_v60, Cert.Reference22Ideal.Read.val_main_cst_12, Cert.Reference22Ideal.Read.val_main_v61, Cert.Reference22Ideal.Read.val_main_v62, Cert.Reference22Ideal.Read.val_main_v63, Cert.Reference22Ideal.Read.val_main_v64, Cert.Reference22Ideal.Read.val_main_v65, Cert.Reference22Ideal.Read.val_main_cst_13, Cert.Reference22Ideal.Read.val_main_v66, Cert.Reference22Ideal.Read.val_main_v67, Cert.Reference22Ideal.Read.val_main_cst_14, Cert.Reference22Ideal.Read.val_main_v68, Cert.Reference22Ideal.Read.val_main_v69, Cert.Reference22Ideal.Read.val_main_v70, Cert.Reference22Ideal.Read.val_main_v71, Cert.Reference22Ideal.Read.val_main_v72, Cert.Reference22Ideal.Read.val_main_v73, Cert.Reference22Ideal.Read.val_main_v74, Cert.Reference22Ideal.Read.val_main_v75, Cert.Reference22Ideal.Read.val_main_call1_v0, Cert.Reference22Ideal.Read.val_main_call1_v1, Cert.Reference22Ideal.Read.val_main_call1_v2, Cert.Reference22Ideal.Read.val_main_v76, Cert.Reference22Ideal.Read.val_main_v77]
  simp only [Finset.univ_unique, Finset.sum_singleton]

theorem ref1 (x0 : Vec Ideal S8192x1024 .f32) (x1 : Vec Ideal S8192x6144 .f32) (x3 : Vec Ideal S1x1024 .f32) (x5 : Vec Ideal S8192x2048 .f32)
    (h3 : ∀ i, real (x3 i)) (h5 : ∀ i : Fin 8192, ∀ j : Fin 1024, real (x5 (ix2 i ⟨j.val, by omega⟩))) (i : S8192x1024.Idx) :
    Cert.Reference22Ideal.Read.val_main_v77 (F := Ideal) x0 x1 x3 x5 i = gz (fun k => x0 (ix2 (i 0) k)) (fun k => x1 (ix2 (i 0) ⟨k.val, by omega⟩)) (fun k => x5 (ix2 (i 0) ⟨k.val, by omega⟩)) (fun k => x3 (ix2 0 k)) (i 1) := by
  unfold gz
  refine Eq.trans ?_ (split (x := gated (fun k => x0 (ix2 (i 0) k)) (fun k => x1 (ix2 (i 0) ⟨k.val, by omega⟩))) rfl (fun k => real_mul (h5 (i 0) k) (h3 _)) (back_eq _ _ _)).symm
  unfold side ms gated sg
  pointwise [Cert.Reference22Ideal.Read.val_main_v0, Cert.Reference22Ideal.Read.val_main_call0_v0, Cert.Reference22Ideal.Read.val_main_call0_v1, Cert.Reference22Ideal.Read.val_main_call0_cst, Cert.Reference22Ideal.Read.val_main_call0_v2, Cert.Reference22Ideal.Read.val_main_call0_v3, Cert.Reference22Ideal.Read.val_main_call0_cst_0, Cert.Reference22Ideal.Read.val_main_call0_v4, Cert.Reference22Ideal.Read.val_main_v1_2, Cert.Reference22Ideal.Read.val_main_call0_cst_1, Cert.Reference22Ideal.Read.val_main_call0_v6, Cert.Reference22Ideal.Read.val_main_call0_v7, Cert.Reference22Ideal.Read.val_main_v1_1, Cert.Reference22Ideal.Read.val_main_v1_0, Cert.Reference22Ideal.Read.val_main_v2, Cert.Reference22Ideal.Read.val_main_v3, Cert.Reference22Ideal.Read.val_main_cst, Cert.Reference22Ideal.Read.val_main_v4, Cert.Reference22Ideal.Read.val_main_v5, Cert.Reference22Ideal.Read.val_main_cst_0, Cert.Reference22Ideal.Read.val_main_v6, Cert.Reference22Ideal.Read.val_main_v7, Cert.Reference22Ideal.Read.val_main_cst_1, Cert.Reference22Ideal.Read.val_main_v8, Cert.Reference22Ideal.Read.val_main_v9, Cert.Reference22Ideal.Read.val_main_v10, Cert.Reference22Ideal.Read.val_main_v11, Cert.Reference22Ideal.Read.val_main_cst_2, Cert.Reference22Ideal.Read.val_main_v12, Cert.Reference22Ideal.Read.val_main_v13, Cert.Reference22Ideal.Read.val_main_v14, Cert.Reference22Ideal.Read.val_main_v15, Cert.Reference22Ideal.Read.val_main_v16, Cert.Reference22Ideal.Read.val_main_v17, Cert.Reference22Ideal.Read.val_main_v18, Cert.Reference22Ideal.Read.val_main_cst_3, Cert.Reference22Ideal.Read.val_main_v19, Cert.Reference22Ideal.Read.val_main_v20, Cert.Reference22Ideal.Read.val_main_cst_4, Cert.Reference22Ideal.Read.val_main_v21, Cert.Reference22Ideal.Read.val_main_v22, Cert.Reference22Ideal.Read.val_main_cst_5, Cert.Reference22Ideal.Read.val_main_v23, Cert.Reference22Ideal.Read.val_main_v24, Cert.Reference22Ideal.Read.val_main_v25, Cert.Reference22Ideal.Read.val_main_v26, Cert.Reference22Ideal.Read.val_main_cst_6, Cert.Reference22Ideal.Read.val_main_v27, Cert.Reference22Ideal.Read.val_main_v28, Cert.Reference22Ideal.Read.val_main_v29, Cert.Reference22Ideal.Read.val_main_v30, Cert.Reference22Ideal.Read.val_main_v31, Cert.Reference22Ideal.Read.val_main_v32, Cert.Reference22Ideal.Read.val_main_v33, Cert.Reference22Ideal.Read.val_main_v34, Cert.Reference22Ideal.Read.val_main_v35, Cert.Reference22Ideal.Read.val_main_v36, Cert.Reference22Ideal.Read.val_main_cst_7, Cert.Reference22Ideal.Read.val_main_v37, Cert.Reference22Ideal.Read.val_main_v38, Cert.Reference22Ideal.Read.val_main_v39, Cert.Reference22Ideal.Read.val_main_v40, Cert.Reference22Ideal.Read.val_main_v41, Cert.Reference22Ideal.Read.val_main_cst_8, Cert.Reference22Ideal.Read.val_main_v42, Cert.Reference22Ideal.Read.val_main_v43, Cert.Reference22Ideal.Read.val_main_v44, Cert.Reference22Ideal.Read.val_main_v45, Cert.Reference22Ideal.Read.val_main_v46, Cert.Reference22Ideal.Read.val_main_cst_9, Cert.Reference22Ideal.Read.val_main_v47, Cert.Reference22Ideal.Read.val_main_v48, Cert.Reference22Ideal.Read.val_main_cst_10, Cert.Reference22Ideal.Read.val_main_v49, Cert.Reference22Ideal.Read.val_main_v50, Cert.Reference22Ideal.Read.val_main_v51, Cert.Reference22Ideal.Read.val_main_v52, Cert.Reference22Ideal.Read.val_main_v53, Cert.Reference22Ideal.Read.val_main_v54, Cert.Reference22Ideal.Read.val_main_v55, Cert.Reference22Ideal.Read.val_main_cst_11, Cert.Reference22Ideal.Read.val_main_v56, Cert.Reference22Ideal.Read.val_main_v57, Cert.Reference22Ideal.Read.val_main_v58, Cert.Reference22Ideal.Read.val_main_v59, Cert.Reference22Ideal.Read.val_main_v60, Cert.Reference22Ideal.Read.val_main_cst_12, Cert.Reference22Ideal.Read.val_main_v61, Cert.Reference22Ideal.Read.val_main_v62, Cert.Reference22Ideal.Read.val_main_v63, Cert.Reference22Ideal.Read.val_main_v64, Cert.Reference22Ideal.Read.val_main_v65, Cert.Reference22Ideal.Read.val_main_cst_13, Cert.Reference22Ideal.Read.val_main_v66, Cert.Reference22Ideal.Read.val_main_v67, Cert.Reference22Ideal.Read.val_main_cst_14, Cert.Reference22Ideal.Read.val_main_v68, Cert.Reference22Ideal.Read.val_main_v69, Cert.Reference22Ideal.Read.val_main_v70, Cert.Reference22Ideal.Read.val_main_v71, Cert.Reference22Ideal.Read.val_main_v72, Cert.Reference22Ideal.Read.val_main_v73, Cert.Reference22Ideal.Read.val_main_v74, Cert.Reference22Ideal.Read.val_main_v75, Cert.Reference22Ideal.Read.val_main_call1_v0, Cert.Reference22Ideal.Read.val_main_call1_v1, Cert.Reference22Ideal.Read.val_main_call1_v2, Cert.Reference22Ideal.Read.val_main_v76, Cert.Reference22Ideal.Read.val_main_v77]
  simp only [Finset.univ_unique, Finset.sum_singleton]

theorem ref2 (x2 : Vec Ideal S8192x1024 .f32) (x4 : Vec Ideal S1x1024 .f32) (x5 : Vec Ideal S8192x2048 .f32) (i : S8192x1024.Idx) :
    Cert.Reference22Ideal.Read.val_main_v54 (F := Ideal) x2 x4 x5 i = go (fun k => x2 (ix2 (i 0) k)) (fun k => x5 (ix2 (i 0) ⟨1024 + k.val, by omega⟩)) (fun k => x4 (ix2 0 k)) (i 1) := by
  unfold go
  refine Eq.trans ?_ (back_eq _ _ _).symm
  unfold side ms
  pointwise [Cert.Reference22Ideal.Read.val_main_v0, Cert.Reference22Ideal.Read.val_main_call0_v0, Cert.Reference22Ideal.Read.val_main_call0_v1, Cert.Reference22Ideal.Read.val_main_call0_cst, Cert.Reference22Ideal.Read.val_main_call0_v2, Cert.Reference22Ideal.Read.val_main_call0_v3, Cert.Reference22Ideal.Read.val_main_call0_cst_0, Cert.Reference22Ideal.Read.val_main_call0_v4, Cert.Reference22Ideal.Read.val_main_v1_2, Cert.Reference22Ideal.Read.val_main_call0_cst_1, Cert.Reference22Ideal.Read.val_main_call0_v6, Cert.Reference22Ideal.Read.val_main_call0_v7, Cert.Reference22Ideal.Read.val_main_v1_1, Cert.Reference22Ideal.Read.val_main_v1_0, Cert.Reference22Ideal.Read.val_main_v2, Cert.Reference22Ideal.Read.val_main_v3, Cert.Reference22Ideal.Read.val_main_cst, Cert.Reference22Ideal.Read.val_main_v4, Cert.Reference22Ideal.Read.val_main_v5, Cert.Reference22Ideal.Read.val_main_cst_0, Cert.Reference22Ideal.Read.val_main_v6, Cert.Reference22Ideal.Read.val_main_v7, Cert.Reference22Ideal.Read.val_main_cst_1, Cert.Reference22Ideal.Read.val_main_v8, Cert.Reference22Ideal.Read.val_main_v9, Cert.Reference22Ideal.Read.val_main_v10, Cert.Reference22Ideal.Read.val_main_v11, Cert.Reference22Ideal.Read.val_main_cst_2, Cert.Reference22Ideal.Read.val_main_v12, Cert.Reference22Ideal.Read.val_main_v13, Cert.Reference22Ideal.Read.val_main_v14, Cert.Reference22Ideal.Read.val_main_v15, Cert.Reference22Ideal.Read.val_main_v16, Cert.Reference22Ideal.Read.val_main_v17, Cert.Reference22Ideal.Read.val_main_v18, Cert.Reference22Ideal.Read.val_main_cst_3, Cert.Reference22Ideal.Read.val_main_v19, Cert.Reference22Ideal.Read.val_main_v20, Cert.Reference22Ideal.Read.val_main_cst_4, Cert.Reference22Ideal.Read.val_main_v21, Cert.Reference22Ideal.Read.val_main_v22, Cert.Reference22Ideal.Read.val_main_cst_5, Cert.Reference22Ideal.Read.val_main_v23, Cert.Reference22Ideal.Read.val_main_v24, Cert.Reference22Ideal.Read.val_main_v25, Cert.Reference22Ideal.Read.val_main_v26, Cert.Reference22Ideal.Read.val_main_cst_6, Cert.Reference22Ideal.Read.val_main_v27, Cert.Reference22Ideal.Read.val_main_v28, Cert.Reference22Ideal.Read.val_main_v29, Cert.Reference22Ideal.Read.val_main_v30, Cert.Reference22Ideal.Read.val_main_v31, Cert.Reference22Ideal.Read.val_main_v32, Cert.Reference22Ideal.Read.val_main_v33, Cert.Reference22Ideal.Read.val_main_v34, Cert.Reference22Ideal.Read.val_main_v35, Cert.Reference22Ideal.Read.val_main_v36, Cert.Reference22Ideal.Read.val_main_cst_7, Cert.Reference22Ideal.Read.val_main_v37, Cert.Reference22Ideal.Read.val_main_v38, Cert.Reference22Ideal.Read.val_main_v39, Cert.Reference22Ideal.Read.val_main_v40, Cert.Reference22Ideal.Read.val_main_v41, Cert.Reference22Ideal.Read.val_main_cst_8, Cert.Reference22Ideal.Read.val_main_v42, Cert.Reference22Ideal.Read.val_main_v43, Cert.Reference22Ideal.Read.val_main_v44, Cert.Reference22Ideal.Read.val_main_v45, Cert.Reference22Ideal.Read.val_main_v46, Cert.Reference22Ideal.Read.val_main_cst_9, Cert.Reference22Ideal.Read.val_main_v47, Cert.Reference22Ideal.Read.val_main_v48, Cert.Reference22Ideal.Read.val_main_cst_10, Cert.Reference22Ideal.Read.val_main_v49, Cert.Reference22Ideal.Read.val_main_v50, Cert.Reference22Ideal.Read.val_main_v51, Cert.Reference22Ideal.Read.val_main_v52, Cert.Reference22Ideal.Read.val_main_v53, Cert.Reference22Ideal.Read.val_main_v54, Cert.Reference22Ideal.Read.val_main_v55, Cert.Reference22Ideal.Read.val_main_cst_11, Cert.Reference22Ideal.Read.val_main_v56, Cert.Reference22Ideal.Read.val_main_v57, Cert.Reference22Ideal.Read.val_main_v58, Cert.Reference22Ideal.Read.val_main_v59, Cert.Reference22Ideal.Read.val_main_v60, Cert.Reference22Ideal.Read.val_main_cst_12, Cert.Reference22Ideal.Read.val_main_v61, Cert.Reference22Ideal.Read.val_main_v62, Cert.Reference22Ideal.Read.val_main_v63, Cert.Reference22Ideal.Read.val_main_v64, Cert.Reference22Ideal.Read.val_main_v65, Cert.Reference22Ideal.Read.val_main_cst_13, Cert.Reference22Ideal.Read.val_main_v66, Cert.Reference22Ideal.Read.val_main_v67, Cert.Reference22Ideal.Read.val_main_cst_14, Cert.Reference22Ideal.Read.val_main_v68, Cert.Reference22Ideal.Read.val_main_v69, Cert.Reference22Ideal.Read.val_main_v70, Cert.Reference22Ideal.Read.val_main_v71, Cert.Reference22Ideal.Read.val_main_v72, Cert.Reference22Ideal.Read.val_main_v73, Cert.Reference22Ideal.Read.val_main_v74, Cert.Reference22Ideal.Read.val_main_v75, Cert.Reference22Ideal.Read.val_main_call1_v0, Cert.Reference22Ideal.Read.val_main_call1_v1, Cert.Reference22Ideal.Read.val_main_call1_v2, Cert.Reference22Ideal.Read.val_main_v76, Cert.Reference22Ideal.Read.val_main_v77]
  simp only [Finset.univ_unique, Finset.sum_singleton]

theorem ref3 (x0 : Vec Ideal S8192x1024 .f32) (x1 : Vec Ideal S8192x6144 .f32) (x5 : Vec Ideal S8192x2048 .f32) (i : S1x1024.Idx) :
    Cert.Reference22Ideal.Read.val_main_v57 (F := Ideal) x0 x1 x5 i = gains x0 x1 x5 (i 1) := by
  unfold gains gain ms gated sg
  pointwise [Cert.Reference22Ideal.Read.val_main_v0, Cert.Reference22Ideal.Read.val_main_call0_v0, Cert.Reference22Ideal.Read.val_main_call0_v1, Cert.Reference22Ideal.Read.val_main_call0_cst, Cert.Reference22Ideal.Read.val_main_call0_v2, Cert.Reference22Ideal.Read.val_main_call0_v3, Cert.Reference22Ideal.Read.val_main_call0_cst_0, Cert.Reference22Ideal.Read.val_main_call0_v4, Cert.Reference22Ideal.Read.val_main_v1_2, Cert.Reference22Ideal.Read.val_main_call0_cst_1, Cert.Reference22Ideal.Read.val_main_call0_v6, Cert.Reference22Ideal.Read.val_main_call0_v7, Cert.Reference22Ideal.Read.val_main_v1_1, Cert.Reference22Ideal.Read.val_main_v1_0, Cert.Reference22Ideal.Read.val_main_v2, Cert.Reference22Ideal.Read.val_main_v3, Cert.Reference22Ideal.Read.val_main_cst, Cert.Reference22Ideal.Read.val_main_v4, Cert.Reference22Ideal.Read.val_main_v5, Cert.Reference22Ideal.Read.val_main_cst_0, Cert.Reference22Ideal.Read.val_main_v6, Cert.Reference22Ideal.Read.val_main_v7, Cert.Reference22Ideal.Read.val_main_cst_1, Cert.Reference22Ideal.Read.val_main_v8, Cert.Reference22Ideal.Read.val_main_v9, Cert.Reference22Ideal.Read.val_main_v10, Cert.Reference22Ideal.Read.val_main_v11, Cert.Reference22Ideal.Read.val_main_cst_2, Cert.Reference22Ideal.Read.val_main_v12, Cert.Reference22Ideal.Read.val_main_v13, Cert.Reference22Ideal.Read.val_main_v14, Cert.Reference22Ideal.Read.val_main_v15, Cert.Reference22Ideal.Read.val_main_v16, Cert.Reference22Ideal.Read.val_main_v17, Cert.Reference22Ideal.Read.val_main_v18, Cert.Reference22Ideal.Read.val_main_cst_3, Cert.Reference22Ideal.Read.val_main_v19, Cert.Reference22Ideal.Read.val_main_v20, Cert.Reference22Ideal.Read.val_main_cst_4, Cert.Reference22Ideal.Read.val_main_v21, Cert.Reference22Ideal.Read.val_main_v22, Cert.Reference22Ideal.Read.val_main_cst_5, Cert.Reference22Ideal.Read.val_main_v23, Cert.Reference22Ideal.Read.val_main_v24, Cert.Reference22Ideal.Read.val_main_v25, Cert.Reference22Ideal.Read.val_main_v26, Cert.Reference22Ideal.Read.val_main_cst_6, Cert.Reference22Ideal.Read.val_main_v27, Cert.Reference22Ideal.Read.val_main_v28, Cert.Reference22Ideal.Read.val_main_v29, Cert.Reference22Ideal.Read.val_main_v30, Cert.Reference22Ideal.Read.val_main_v31, Cert.Reference22Ideal.Read.val_main_v32, Cert.Reference22Ideal.Read.val_main_v33, Cert.Reference22Ideal.Read.val_main_v34, Cert.Reference22Ideal.Read.val_main_v35, Cert.Reference22Ideal.Read.val_main_v36, Cert.Reference22Ideal.Read.val_main_cst_7, Cert.Reference22Ideal.Read.val_main_v37, Cert.Reference22Ideal.Read.val_main_v38, Cert.Reference22Ideal.Read.val_main_v39, Cert.Reference22Ideal.Read.val_main_v40, Cert.Reference22Ideal.Read.val_main_v41, Cert.Reference22Ideal.Read.val_main_cst_8, Cert.Reference22Ideal.Read.val_main_v42, Cert.Reference22Ideal.Read.val_main_v43, Cert.Reference22Ideal.Read.val_main_v44, Cert.Reference22Ideal.Read.val_main_v45, Cert.Reference22Ideal.Read.val_main_v46, Cert.Reference22Ideal.Read.val_main_cst_9, Cert.Reference22Ideal.Read.val_main_v47, Cert.Reference22Ideal.Read.val_main_v48, Cert.Reference22Ideal.Read.val_main_cst_10, Cert.Reference22Ideal.Read.val_main_v49, Cert.Reference22Ideal.Read.val_main_v50, Cert.Reference22Ideal.Read.val_main_v51, Cert.Reference22Ideal.Read.val_main_v52, Cert.Reference22Ideal.Read.val_main_v53, Cert.Reference22Ideal.Read.val_main_v54, Cert.Reference22Ideal.Read.val_main_v55, Cert.Reference22Ideal.Read.val_main_cst_11, Cert.Reference22Ideal.Read.val_main_v56, Cert.Reference22Ideal.Read.val_main_v57, Cert.Reference22Ideal.Read.val_main_v58, Cert.Reference22Ideal.Read.val_main_v59, Cert.Reference22Ideal.Read.val_main_v60, Cert.Reference22Ideal.Read.val_main_cst_12, Cert.Reference22Ideal.Read.val_main_v61, Cert.Reference22Ideal.Read.val_main_v62, Cert.Reference22Ideal.Read.val_main_v63, Cert.Reference22Ideal.Read.val_main_v64, Cert.Reference22Ideal.Read.val_main_v65, Cert.Reference22Ideal.Read.val_main_cst_13, Cert.Reference22Ideal.Read.val_main_v66, Cert.Reference22Ideal.Read.val_main_v67, Cert.Reference22Ideal.Read.val_main_cst_14, Cert.Reference22Ideal.Read.val_main_v68, Cert.Reference22Ideal.Read.val_main_v69, Cert.Reference22Ideal.Read.val_main_v70, Cert.Reference22Ideal.Read.val_main_v71, Cert.Reference22Ideal.Read.val_main_v72, Cert.Reference22Ideal.Read.val_main_v73, Cert.Reference22Ideal.Read.val_main_v74, Cert.Reference22Ideal.Read.val_main_v75, Cert.Reference22Ideal.Read.val_main_call1_v0, Cert.Reference22Ideal.Read.val_main_call1_v1, Cert.Reference22Ideal.Read.val_main_call1_v2, Cert.Reference22Ideal.Read.val_main_v76, Cert.Reference22Ideal.Read.val_main_v77]
  exact Finset.sum_congr rfl fun k _ => mul_comm _ _

theorem ref4 (x2 : Vec Ideal S8192x1024 .f32) (x5 : Vec Ideal S8192x2048 .f32) (i : S1x1024.Idx) :
    Cert.Reference22Ideal.Read.val_main_v38 (F := Ideal) x2 x5 i = others x2 x5 (i 1) := by
  unfold others gain ms
  pointwise [Cert.Reference22Ideal.Read.val_main_v0, Cert.Reference22Ideal.Read.val_main_call0_v0, Cert.Reference22Ideal.Read.val_main_call0_v1, Cert.Reference22Ideal.Read.val_main_call0_cst, Cert.Reference22Ideal.Read.val_main_call0_v2, Cert.Reference22Ideal.Read.val_main_call0_v3, Cert.Reference22Ideal.Read.val_main_call0_cst_0, Cert.Reference22Ideal.Read.val_main_call0_v4, Cert.Reference22Ideal.Read.val_main_v1_2, Cert.Reference22Ideal.Read.val_main_call0_cst_1, Cert.Reference22Ideal.Read.val_main_call0_v6, Cert.Reference22Ideal.Read.val_main_call0_v7, Cert.Reference22Ideal.Read.val_main_v1_1, Cert.Reference22Ideal.Read.val_main_v1_0, Cert.Reference22Ideal.Read.val_main_v2, Cert.Reference22Ideal.Read.val_main_v3, Cert.Reference22Ideal.Read.val_main_cst, Cert.Reference22Ideal.Read.val_main_v4, Cert.Reference22Ideal.Read.val_main_v5, Cert.Reference22Ideal.Read.val_main_cst_0, Cert.Reference22Ideal.Read.val_main_v6, Cert.Reference22Ideal.Read.val_main_v7, Cert.Reference22Ideal.Read.val_main_cst_1, Cert.Reference22Ideal.Read.val_main_v8, Cert.Reference22Ideal.Read.val_main_v9, Cert.Reference22Ideal.Read.val_main_v10, Cert.Reference22Ideal.Read.val_main_v11, Cert.Reference22Ideal.Read.val_main_cst_2, Cert.Reference22Ideal.Read.val_main_v12, Cert.Reference22Ideal.Read.val_main_v13, Cert.Reference22Ideal.Read.val_main_v14, Cert.Reference22Ideal.Read.val_main_v15, Cert.Reference22Ideal.Read.val_main_v16, Cert.Reference22Ideal.Read.val_main_v17, Cert.Reference22Ideal.Read.val_main_v18, Cert.Reference22Ideal.Read.val_main_cst_3, Cert.Reference22Ideal.Read.val_main_v19, Cert.Reference22Ideal.Read.val_main_v20, Cert.Reference22Ideal.Read.val_main_cst_4, Cert.Reference22Ideal.Read.val_main_v21, Cert.Reference22Ideal.Read.val_main_v22, Cert.Reference22Ideal.Read.val_main_cst_5, Cert.Reference22Ideal.Read.val_main_v23, Cert.Reference22Ideal.Read.val_main_v24, Cert.Reference22Ideal.Read.val_main_v25, Cert.Reference22Ideal.Read.val_main_v26, Cert.Reference22Ideal.Read.val_main_cst_6, Cert.Reference22Ideal.Read.val_main_v27, Cert.Reference22Ideal.Read.val_main_v28, Cert.Reference22Ideal.Read.val_main_v29, Cert.Reference22Ideal.Read.val_main_v30, Cert.Reference22Ideal.Read.val_main_v31, Cert.Reference22Ideal.Read.val_main_v32, Cert.Reference22Ideal.Read.val_main_v33, Cert.Reference22Ideal.Read.val_main_v34, Cert.Reference22Ideal.Read.val_main_v35, Cert.Reference22Ideal.Read.val_main_v36, Cert.Reference22Ideal.Read.val_main_cst_7, Cert.Reference22Ideal.Read.val_main_v37, Cert.Reference22Ideal.Read.val_main_v38, Cert.Reference22Ideal.Read.val_main_v39, Cert.Reference22Ideal.Read.val_main_v40, Cert.Reference22Ideal.Read.val_main_v41, Cert.Reference22Ideal.Read.val_main_cst_8, Cert.Reference22Ideal.Read.val_main_v42, Cert.Reference22Ideal.Read.val_main_v43, Cert.Reference22Ideal.Read.val_main_v44, Cert.Reference22Ideal.Read.val_main_v45, Cert.Reference22Ideal.Read.val_main_v46, Cert.Reference22Ideal.Read.val_main_cst_9, Cert.Reference22Ideal.Read.val_main_v47, Cert.Reference22Ideal.Read.val_main_v48, Cert.Reference22Ideal.Read.val_main_cst_10, Cert.Reference22Ideal.Read.val_main_v49, Cert.Reference22Ideal.Read.val_main_v50, Cert.Reference22Ideal.Read.val_main_v51, Cert.Reference22Ideal.Read.val_main_v52, Cert.Reference22Ideal.Read.val_main_v53, Cert.Reference22Ideal.Read.val_main_v54, Cert.Reference22Ideal.Read.val_main_v55, Cert.Reference22Ideal.Read.val_main_cst_11, Cert.Reference22Ideal.Read.val_main_v56, Cert.Reference22Ideal.Read.val_main_v57, Cert.Reference22Ideal.Read.val_main_v58, Cert.Reference22Ideal.Read.val_main_v59, Cert.Reference22Ideal.Read.val_main_v60, Cert.Reference22Ideal.Read.val_main_cst_12, Cert.Reference22Ideal.Read.val_main_v61, Cert.Reference22Ideal.Read.val_main_v62, Cert.Reference22Ideal.Read.val_main_v63, Cert.Reference22Ideal.Read.val_main_v64, Cert.Reference22Ideal.Read.val_main_v65, Cert.Reference22Ideal.Read.val_main_cst_13, Cert.Reference22Ideal.Read.val_main_v66, Cert.Reference22Ideal.Read.val_main_v67, Cert.Reference22Ideal.Read.val_main_cst_14, Cert.Reference22Ideal.Read.val_main_v68, Cert.Reference22Ideal.Read.val_main_v69, Cert.Reference22Ideal.Read.val_main_v70, Cert.Reference22Ideal.Read.val_main_v71, Cert.Reference22Ideal.Read.val_main_v72, Cert.Reference22Ideal.Read.val_main_v73, Cert.Reference22Ideal.Read.val_main_v74, Cert.Reference22Ideal.Read.val_main_v75, Cert.Reference22Ideal.Read.val_main_call1_v0, Cert.Reference22Ideal.Read.val_main_call1_v1, Cert.Reference22Ideal.Read.val_main_call1_v2, Cert.Reference22Ideal.Read.val_main_v76, Cert.Reference22Ideal.Read.val_main_v77]
  exact Finset.sum_congr rfl fun k _ => mul_comm _ _

/-- What point `t` stores. -/
theorem stored (c : Dev nD) (t : Fin cfg0.N) : (outsAt0 m c t.val t.isLt).1 = k0_pay13 (F := Ideal) (k0_pay6 (iblk m c 1 t)) (k0_pay10 (iblk m c 0 t) (iblk m c 1 t) (lo (iblk m c 3 t)) (iblk m c 4 t))
    ∧ (outsAt0 m c t.val t.isLt).2.1 = k0_pay14 (F := Ideal) (iblk m c 0 t) (iblk m c 1 t) (k0_pay5 (iblk m c 1 t)) (k0_pay10 (iblk m c 0 t) (iblk m c 1 t) (lo (iblk m c 3 t)) (iblk m c 4 t))
    ∧ (outsAt0 m c t.val t.isLt).2.2.1 = k0_pay17 (F := Ideal) (iblk m c 2 t) (hi (iblk m c 3 t)) (iblk m c 5 t) := by
  rw [← lo_eq, ← hi_eq]
  by_cases h : t.val % 32 = 0
  · rw [outsAt0_A m c t h]
    refine ⟨?_, ?_, ?_⟩ <;> frame_out
  · rw [outsAt0_B m c t h]
    refine ⟨?_, ?_, ?_⟩ <;> frame_out

/-- After the last step the first accumulator holds the sum over all rows. -/
theorem total3 (c : Dev nD) (t : Fin cfg0.N) (h : t.val % 32 = 31) (j : S1x1024.Idx) :
    (outsAt0 m c t.val t.isLt).2.2.2.1 j = gains (m ((c : Thread nD τ).loc main_arg0)) (m ((c : Thread nD τ).loc main_arg1)) (m ((c : Thread nD τ).loc main_arg5)) (j 1) := by
  unfold gains
  rw [Pipeline.eq_sum_fin_of_reset_step_apply_of_flush (fun n h => (outsAt0 m c n h).2.2.2.1) 32 (fun _ => 0) _
    (fun t h j => by rw [outsAt0_A m c t h]; frame_out; rw [part3, fill3])
    (fun t h j => by rw [outsAt0_B m c t h]; frame_out; rw [part3])
    t h _, zero_add]
  have hN : t.val < 32 := t.isLt
  refine Fin.sum_mul_add_congr fun s k hl => ?_
  rw [lo_eq]
  refine congrArg₂ (fun f d => gain f d (j 1)) (congrArg₂ gated (funext fun n => ?_) (funext fun n => ?_)) ?_
  · blk_ext [iblk, V, place t, place ⟨_, Pipeline.run_point_lt_of_flush t h s⟩]
  · blk_ext [iblk, V, place t, place ⟨_, Pipeline.run_point_lt_of_flush t h s⟩]
  · unfold lo
    blk_ext [iblk, V, place t, place ⟨_, Pipeline.run_point_lt_of_flush t h s⟩]

/-- After the last step the second accumulator holds the sum over all rows. -/
theorem total4 (c : Dev nD) (t : Fin cfg0.N) (h : t.val % 32 = 31) (j : S1x1024.Idx) :
    (outsAt0 m c t.val t.isLt).2.2.2.2 j = others (m ((c : Thread nD τ).loc main_arg2)) (m ((c : Thread nD τ).loc main_arg5)) (j 1) := by
  unfold others
  rw [Pipeline.eq_sum_fin_of_reset_step_apply_of_flush (fun n h => (outsAt0 m c n h).2.2.2.2) 32 (fun _ => 0) _
    (fun t h j => by rw [outsAt0_A m c t h]; frame_out; rw [part4, fill4])
    (fun t h j => by rw [outsAt0_B m c t h]; frame_out; rw [part4])
    t h _, zero_add]
  have hN : t.val < 32 := t.isLt
  refine Fin.sum_mul_add_congr fun s k hl => ?_
  rw [hi_eq]
  refine congrArg₂ (fun f d => gain f d (j 1)) (funext fun n => ?_) ?_
  · blk_ext [iblk, V, place t, place ⟨_, Pipeline.run_point_lt_of_flush t h s⟩]
  · unfold hi
    blk_ext [iblk, V, place t, place ⟨_, Pipeline.run_point_lt_of_flush t h s⟩]

theorem final0 (c : Dev nD) : (dats m 0 c).arrAt 6 cfg0.N = Cert.Reference22Ideal.Read.val_main_v75 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 6 _ (by decide +kernel) fun t hf y => ?_
  blk_simp
  rw [after0_6, (stored m c t).1, pay13, ref0]
  refine congr (congr (congr (congrArg₂ gy (funext fun k => ?_) (funext fun k => ?_)) (funext fun k => ?_)) (funext fun k => ?_)) (Fin.ext ?_)
  · blk_ext [iblk, V, place t]
  · blk_ext [iblk, V, place t]
  · unfold lo
    blk_ext [iblk, V, place t]
  · blk_ext [iblk, V, place t]
  · blk_simp
    simp only [place t, Matrix.cons_val_one, Matrix.cons_val_zero]
    try omega

theorem final1 (c : Dev nD) (h3 : ∀ i, real (m ((c : Thread nD τ).loc main_arg3) i)) (h5 : ∀ i : Fin 8192, ∀ j : Fin 1024, real (m ((c : Thread nD τ).loc main_arg5) (ix2 i ⟨j.val, by omega⟩))) : (dats m 0 c).arrAt 7 cfg0.N = Cert.Reference22Ideal.Read.val_main_v77 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 7 _ (by decide +kernel) fun t hf y => ?_
  blk_simp
  rw [after0_7, (stored m c t).2.1, pay14, ref1 _ _ _ _ h3 h5]
  refine congr (congr (congr (congrArg₂ gz (funext fun k => ?_) (funext fun k => ?_)) (funext fun k => ?_)) (funext fun k => ?_)) (Fin.ext ?_)
  · blk_ext [iblk, V, place t]
  · blk_ext [iblk, V, place t]
  · unfold lo
    blk_ext [iblk, V, place t]
  · blk_ext [iblk, V, place t]
  · blk_simp
    simp only [place t, Matrix.cons_val_one, Matrix.cons_val_zero]
    try omega

theorem final2 (c : Dev nD) : (dats m 0 c).arrAt 8 cfg0.N = Cert.Reference22Ideal.Read.val_main_v54 (F := Ideal) (m ((c : Thread nD τ).loc main_arg2)) (m ((c : Thread nD τ).loc main_arg4)) (m ((c : Thread nD τ).loc main_arg5)) := by
  refine (dats m 0 c).arrAt_eq_of_covers 8 _ (by decide +kernel) fun t hf y => ?_
  blk_simp
  rw [after0_8, (stored m c t).2.2, pay17, ref2]
  refine congr (congr (congrArg₂ go (funext fun k => ?_) (funext fun k => ?_)) (funext fun k => ?_)) (Fin.ext ?_)
  · blk_ext [iblk, V, place t]
  · unfold hi
    blk_ext [iblk, V, place t]
  · blk_ext [iblk, V, place t]
  · blk_simp
    simp only [place t, Matrix.cons_val_one, Matrix.cons_val_zero]
    try omega

theorem final3 (c : Dev nD) : (dats m 0 c).arrAt 9 cfg0.N = Cert.Reference22Ideal.Read.val_main_v57 (F := Ideal) (m ((c : Thread nD τ).loc main_arg0)) (m ((c : Thread nD τ).loc main_arg1)) (m ((c : Thread nD τ).loc main_arg5)) := by
  refine (dats m 0 c).arrAt_eq_of_covers 9 _ (by decide +kernel) fun t hf y => ?_
  have h := (flush0_9 t).mp hf
  blk_simp
  rw [after0_9, total3 m c t (by omega), ref3]
  refine congrArg (gains _ _ _) (Fin.ext ?_)
  blk_simp
  simp only [place t, Matrix.cons_val_one, Matrix.cons_val_zero]
  try omega

theorem final4 (c : Dev nD) : (dats m 0 c).arrAt 10 cfg0.N = Cert.Reference22Ideal.Read.val_main_v38 (F := Ideal) (m ((c : Thread nD τ).loc main_arg2)) (m ((c : Thread nD τ).loc main_arg5)) := by
  refine (dats m 0 c).arrAt_eq_of_covers 10 _ (by decide +kernel) fun t hf y => ?_
  have h := (flush0_10 t).mp hf
  blk_simp
  rw [after0_10, total4 m c t (by omega), ref4]
  refine congrArg (others _ _) (Fin.ext ?_)
  blk_simp
  simp only [place t, Matrix.cons_val_one, Matrix.cons_val_zero]
  try omega

theorem pre_facts : Cert.Pre_finite_gate.Facts where
  slices_S8192x2048_S8192x1024_0_0 := by decide
  bcast_S_S1x1024 := by decide
  reducesTo_S1x1024_S_d0_1 := by decide
  h_S_ := by decide
  bcast_S_S8192x1024 := by decide
  reducesTo_S8192x1024_S_d0_1 := by decide

theorem real_of (x : EReal) (h : Ideal.cmp .olt (max x (-x)) (Ideal.ofBits .f32 0x7F800000#32) = 1#1) : real x :=
  ⟨x.toReal, (EReal.coe_toReal (AttBwd.bounded x h).1 (AttBwd.bounded x h).2).symm⟩

/-- The arguments that the precondition names are real numbers. -/
theorem real_args [Cert.Pre_finite_gate.Facts] (x0 : FVec Ideal Cert.Pre_finite_gate.S8192x1024 .f32) (x1 : FVec Ideal Cert.Pre_finite_gate.S8192x6144 .f32) (x2 : FVec Ideal Cert.Pre_finite_gate.S8192x1024 .f32)
    (x3 x4 : FVec Ideal Cert.Pre_finite_gate.S1x1024 .f32) (x5 : FVec Ideal Cert.Pre_finite_gate.S8192x2048 .f32) (h : Cert.Pre_finite_gate.fn (F := Ideal) x0 x1 x2 x3 x4 x5 = fun _ => 1#1) :
    (∀ i, real (x3 i)) ∧ ∀ i : Fin 8192, ∀ j : Fin 1024, real (x5 (ix2 i ⟨j.val, by omega⟩)) := by
  obtain ⟨h3, h5⟩ := IntOp.andi_eq_one.mp (congrFun h (Shape.Idx.first Cert.Pre_finite_gate.Facts.h_S_))
  haveI : Subsingleton Cert.Pre_finite_gate.S_.Idx := ⟨fun a b => funext fun k => k.elim0⟩
  refine ⟨fun i => real_of _ (Host.reduce_andi_all _ _ _ _ _ h3 i), fun i j => ?_⟩
  have h := real_of _ (Host.reduce_andi_all _ _ _ _ _ h5 (ix2 i j))
  refine Eq.mp (congrArg (fun k => real (x5 k)) (funext fun k => Fin.ext ?_)) h
  fin_cases k
  · show 0 + i.val = i.val
    omega
  · show 0 + j.val = j.val
    omega

end Cert.GradMixNorm

end
-- ==== Proof.ConvFwd.lean ====
module
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Claim

@[expose] public section

set_option maxRecDepth 16384
set_option maxHeartbeats 1000000

/-! The causal convolution over time and its silu: the kernel rotates a sequence and masks what wrapped around,
the reference puts zeros before it. -/

noncomputable section

namespace Cert.ConvFwd

open Idealize.ShloMosaic Idealize.ShloMosaic.TcCoe Idealize.SL.Sem
open Cert.Kernel23Ideal Cert.Kernel23Ideal.Gen
open Idealize.ShloMosaic.Pipeline (Dat)

variable (m : (ℓ : Loc nD τ sig) → Buf (Elt Ideal) ℓ)

/-- The element `s` steps before `n`, zero before the start. -/
def tap (x : Fin 2048 → EReal) (n : Fin 2048) (s : Nat) : EReal := if n.val < s then 0 else x ⟨n.val - s, by omega⟩

/-- The convolution at one element. -/
def conv (x : Fin 2048 → EReal) (w : Fin 4 → EReal) (b : EReal) (n : Fin 2048) : EReal :=
  w 0 * tap x n 3 + w 1 * tap x n 2 + w 2 * tap x n 1 + w 3 * x n + b

/-- `z` times its logistic. -/
def gate (z : EReal) : EReal := z * Ideal.logistic z

theorem masked (x : Fin 2048 → EReal) (w : EReal) (n : Fin 2048) (s : Nat) (hs : s < 4) :
    Scalar.select (IntOp.cmpi CmpIPredicate.sge (BitVec.ofNat 32 n.val) (BitVec.ofNat 32 s)) (w * x ⟨(n.val + 2048 - s) % 2048, Nat.mod_lt _ (by decide)⟩) 0 = w * tap x n s := by
  have hn := n.isLt
  unfold tap
  rw [WordCmp.cmpi_sge_ofNat (by omega) (by omega)]
  by_cases h : n.val < s
  · rw [if_pos h, mul_zero, decide_eq_false (by omega)]
    rfl
  · rw [if_neg h, decide_eq_true (by omega)]
    refine congrArg (fun k => w * x k) (Fin.ext ?_)
    show (n.val + 2048 - s) % 2048 = n.val - s
    omega

theorem tap_of_shift (x : Fin 2048 → EReal) (n : Fin 2048) (s r : Nat) (hr : r + s = 3) (Y : ¬(r + n.val < 3) → EReal) (hY : ∀ h, Y h = x ⟨n.val - s, by omega⟩) :
    (if h : r + n.val < 3 then (0 : EReal) else Y h) = tap x n s := by
  unfold tap
  by_cases h : n.val < s
  · rw [if_pos h, dif_pos (by omega)]
  · rw [if_neg h, dif_neg (by omega)]
    exact hY _

theorem pay (x : Vec Ideal S2048x512 .f32) (w : Vec Ideal S4x512 .f32) (b : Vec Ideal S1x512 .f32) (j : S2048x512.Idx) :
    k0_pay2 (F := Ideal) x w b j = conv (fun k => x (ix2 k (j 1))) (fun k => w (ix2 k (j 1))) (b (ix2 0 (j 1))) (j 0) := by
  pointwise [k0_pay2]
  have e : x j = x (ix2 (j 0) (j 1)) := congrArg x (by blk_ext)
  refine (congrArg₂ (fun a b : EReal => a + b) (congrArg₂ (fun a b : EReal => a + b) (congrArg₂ (fun a b : EReal => a + b) (congrArg (fun a : EReal => _ + a)
    (masked (fun k => x (ix2 k (j 1))) (w (ix2 0 (j 1))) (j 0) 3 (by decide)))
    (masked (fun k => x (ix2 k (j 1))) (w (ix2 1 (j 1))) (j 0) 2 (by decide)))
    (masked (fun k => x (ix2 k (j 1))) (w (ix2 2 (j 1))) (j 0) 1 (by decide)))
    (congrArg (fun a : EReal => w (ix2 3 (j 1)) * a) e)).trans ?_
  unfold conv
  simp only [add_assoc]
  rw [add_comm]
  simp only [add_assoc]

theorem stored (x : Vec Ideal S2048x512 .f32) (w : Vec Ideal S4x512 .f32) (b : Vec Ideal S1x512 .f32) (j : S2048x512.Idx) :
    k0_pay1 (F := Ideal) (k0_pay2 x w b) (k0_pay3 x w b) (Scalar.ofBits .f32 0x3F800000#32) j = gate (conv (fun k => x (ix2 k (j 1))) (fun k => w (ix2 k (j 1))) (b (ix2 0 (j 1))) (j 0)) := by
  rw [← pay]
  generalize hq : k0_pay2 (F := Ideal) x w b = q
  unfold gate Ideal.logistic
  pointwise [k0_pay1, k0_pay3, hq]
  try simp only [zero_sub]

/-- The blocks of grid point `t`. -/
theorem place : ∀ t : Fin cfg0.N, win0_0.index t = ![t.val / 4, 2 + t.val % 4] ∧ win0_1.index t = ![0, t.val % 4] ∧ win0_2.index t = ![0, t.val % 4] ∧ win0_3.index t = ![t.val / 4, t.val % 4] :=
  (by decide +kernel : ∀ t : Fin grid0.N, _)

theorem ref0 (x0 : Vec Ideal S8192x6144 .f32) (x1 : Vec Ideal S4x2048 .f32) (x2 : Vec Ideal S1x2048 .f32) (i : S8192x2048.Idx) :
    Cert.Reference23Ideal.Read.val_main_v37 (F := Ideal) x0 x1 x2 i = gate (conv (fun k => x0 (ix2 ⟨(i 0).val / 2048 * 2048 + k.val, by have h : (i 0).val < 8192 := (i 0).isLt; omega⟩ ⟨1024 + (i 1).val, by have h : (i 1).val < 2048 := (i 1).isLt; omega⟩)) (fun k => x1 (ix2 k (i 1))) (x2 (ix2 0 (i 1))) ⟨(i 0).val % 2048, by omega⟩) := by
  unfold gate Ideal.logistic
  pointwise [Cert.Reference23Ideal.Read.val_main_v0, Cert.Reference23Ideal.Read.val_main_v1, Cert.Reference23Ideal.Read.val_main_cst, Cert.Reference23Ideal.Read.val_main_v2, Cert.Reference23Ideal.Read.val_main_v3, Cert.Reference23Ideal.Read.val_main_v4, Cert.Reference23Ideal.Read.val_main_v5, Cert.Reference23Ideal.Read.val_main_v6, Cert.Reference23Ideal.Read.val_main_v7, Cert.Reference23Ideal.Read.val_main_v8, Cert.Reference23Ideal.Read.val_main_v9, Cert.Reference23Ideal.Read.val_main_cst_0, Cert.Reference23Ideal.Read.val_main_v10, Cert.Reference23Ideal.Read.val_main_v11, Cert.Reference23Ideal.Read.val_main_v12, Cert.Reference23Ideal.Read.val_main_v13, Cert.Reference23Ideal.Read.val_main_v14, Cert.Reference23Ideal.Read.val_main_v15, Cert.Reference23Ideal.Read.val_main_v16, Cert.Reference23Ideal.Read.val_main_v17, Cert.Reference23Ideal.Read.val_main_v18, Cert.Reference23Ideal.Read.val_main_v19, Cert.Reference23Ideal.Read.val_main_v20, Cert.Reference23Ideal.Read.val_main_v21, Cert.Reference23Ideal.Read.val_main_v22, Cert.Reference23Ideal.Read.val_main_v23, Cert.Reference23Ideal.Read.val_main_v24, Cert.Reference23Ideal.Read.val_main_v25, Cert.Reference23Ideal.Read.val_main_v26, Cert.Reference23Ideal.Read.val_main_v27, Cert.Reference23Ideal.Read.val_main_v28, Cert.Reference23Ideal.Read.val_main_v29, Cert.Reference23Ideal.Read.val_main_v30, Cert.Reference23Ideal.Read.val_main_v31, Cert.Reference23Ideal.Read.val_main_v32, Cert.Reference23Ideal.Read.val_main_v33, Cert.Reference23Ideal.Read.val_main_v34, Cert.Reference23Ideal.Read.val_main_v35, Cert.Reference23Ideal.Read.val_main_call0_v0, Cert.Reference23Ideal.Read.val_main_call0_v1, Cert.Reference23Ideal.Read.val_main_call0_cst, Cert.Reference23Ideal.Read.val_main_call0_v2, Cert.Reference23Ideal.Read.val_main_call0_v3, Cert.Reference23Ideal.Read.val_main_call0_cst_0, Cert.Reference23Ideal.Read.val_main_call0_v4, Cert.Reference23Ideal.Read.val_main_call0_v5, Cert.Reference23Ideal.Read.val_main_v36, Cert.Reference23Ideal.Read.val_main_v37]
  refine congrArg (fun z : EReal => z * Ideal.div 1 (1 + Ideal.exp (-z))) ?_
  unfold conv
  refine congrArg (fun z : EReal => z + _) (congrArg₂ (fun a b : EReal => a + b) (congrArg₂ (fun a b : EReal => a + b) (congrArg₂ (fun a b : EReal => a + b) ?_ ?_) ?_) ?_)
  · refine congrArg (fun z : EReal => _ * z) ?_
    unfold tap
    split_ifs <;> first | rfl | omega | (refine congrArg x0 ?_; blk_ext; try omega)
  · refine congrArg (fun z : EReal => _ * z) ?_
    refine tap_of_shift (fun k => x0 (ix2 ⟨(i 0).val / 2048 * 2048 + k.val, by have h : (i 0).val < 8192 := (i 0).isLt; omega⟩ ⟨1024 + (i 1).val, by have h : (i 1).val < 2048 := (i 1).isLt; omega⟩)) ⟨(i 0).val % 2048, by omega⟩ 2 1 rfl _ ?_
    intro h
    refine congrArg x0 ?_
    blk_ext
    all_goals try omega
  · refine congrArg (fun z : EReal => _ * z) ?_
    refine tap_of_shift (fun k => x0 (ix2 ⟨(i 0).val / 2048 * 2048 + k.val, by have h : (i 0).val < 8192 := (i 0).isLt; omega⟩ ⟨1024 + (i 1).val, by have h : (i 1).val < 2048 := (i 1).isLt; omega⟩)) ⟨(i 0).val % 2048, by omega⟩ 1 2 rfl _ ?_
    intro h
    refine congrArg x0 ?_
    blk_ext
    all_goals try omega
  · refine congrArg (fun z : EReal => _ * z) (congrArg x0 ?_)
    blk_ext
    try omega

theorem final0 (c : Dev nD) : (dats m 0 c).arrAt 3 cfg0.N = Cert.Reference23Ideal.Read.val_main_v37 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have b0 : (y 0).val < 2048 := (y 0).isLt
  have b1 : (y 1).val < 512 := (y 1).isLt
  blk_simp
  rw [after0_3]
  frame_out
  rw [ref0]
  refine (stored _ _ _ _).trans (congrArg gate (congr (congr (congrArg₂ conv (funext fun k => ?_) (funext fun k => ?_)) ?_) (Fin.ext ?_)))
  · blk_ext [iblk, V, place t]
    all_goals try omega
  · blk_ext [iblk, V, place t]
  · blk_ext [iblk, V, place t]
  · blk_simp
    simp only [place t, Matrix.cons_val_one, Matrix.cons_val_zero]
    try omega

end Cert.ConvFwd

end
-- ==== Proof.UpdateWIn.lean ====
module
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.ValueKit
public import Idealize.ShloMosaic.Lib.Claim

@[expose] public section

set_option maxRecDepth 16384
set_option maxHeartbeats 1000000

/-! The update of the weights of the input projection: the kernel takes 256 rows at a time, the reference all of them. -/

noncomputable section

namespace Cert.UpdateWIn

open Idealize.ShloMosaic Idealize.ShloMosaic.TcCoe Idealize.SL.Sem
open Cert.Kernel25Ideal Cert.Kernel25Ideal.Gen
open Idealize.ShloMosaic.Pipeline (Dat)

variable (m : (ℓ : Loc nD τ sig) → Buf (Elt Ideal) ℓ)

/-- The new first moment of one element. -/
def first (g u : EReal) : EReal := Ideal.ofBits FTy.f32 1063675494#32 * u + Ideal.ofBits FTy.f32 1036831949#32 * g

/-- The new second moment of one element. -/
def second (g v : EReal) : EReal := Ideal.ofBits FTy.f32 1065336439#32 * v + Ideal.ofBits FTy.f32 981668463#32 * (g * g)

/-- The change of one element. -/
def change (w g u v : EReal) : EReal :=
  Ideal.ofBits FTy.f32 3129152111#32 * (Ideal.div (Ideal.div (first g u) (Ideal.ofBits FTy.f32 1059503362#32)) (Ideal.sqrt (Ideal.div (second g v) (Ideal.ofBits FTy.f32 1008933580#32)) + Ideal.ofBits FTy.f32 841731191#32) + Ideal.ofBits FTy.f32 1008981770#32 * w)

theorem pay1 (g u : Vec Ideal S256x1540 .f32) (j : S256x1540.Idx) : k0_pay1 (F := Ideal) g u j = first (g j) (u j) := by
  unfold first
  pointwise [k0_pay1]

theorem pay2 (g v : Vec Ideal S256x1540 .f32) (j : S256x1540.Idx) : k0_pay2 (F := Ideal) g v j = second (g j) (v j) := by
  unfold second
  pointwise [k0_pay2]

theorem pay3 (w g u v : Vec Ideal S256x1540 .f32) (j : S256x1540.Idx) : k0_pay3 (F := Ideal) w g u v j = change (w j) (g j) (u j) (v j) := by
  unfold change first second
  pointwise [k0_pay1, k0_pay2, k0_pay3]

/-- The blocks of grid point `t`. -/
theorem place : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ref0 (x0 : Vec Ideal S4096x1540 .f32) (x1 : Vec Ideal S4096x1540 .f32) (x2 : Vec Ideal S4096x1540 .f32) (x3 : Vec Ideal S4096x1540 .f32) (i : S4096x1540.Idx) : Cert.Reference25Ideal.Read.val_main_v23 (F := Ideal) x0 x1 x2 x3 i = change (x0 i) (x1 i) (x2 i) (x3 i) := by
  unfold change first second
  pointwise [Cert.Reference25Ideal.Read.val_main_cst, Cert.Reference25Ideal.Read.val_main_v0, Cert.Reference25Ideal.Read.val_main_v1, Cert.Reference25Ideal.Read.val_main_cst_0, Cert.Reference25Ideal.Read.val_main_v2, Cert.Reference25Ideal.Read.val_main_v3, Cert.Reference25Ideal.Read.val_main_v4, Cert.Reference25Ideal.Read.val_main_cst_1, Cert.Reference25Ideal.Read.val_main_v5, Cert.Reference25Ideal.Read.val_main_v6, Cert.Reference25Ideal.Read.val_main_v7, Cert.Reference25Ideal.Read.val_main_cst_2, Cert.Reference25Ideal.Read.val_main_v8, Cert.Reference25Ideal.Read.val_main_v9, Cert.Reference25Ideal.Read.val_main_v10, Cert.Reference25Ideal.Read.val_main_cst_3, Cert.Reference25Ideal.Read.val_main_v11, Cert.Reference25Ideal.Read.val_main_v12, Cert.Reference25Ideal.Read.val_main_cst_4, Cert.Reference25Ideal.Read.val_main_v13, Cert.Reference25Ideal.Read.val_main_v14, Cert.Reference25Ideal.Read.val_main_v15, Cert.Reference25Ideal.Read.val_main_cst_5, Cert.Reference25Ideal.Read.val_main_v16, Cert.Reference25Ideal.Read.val_main_v17, Cert.Reference25Ideal.Read.val_main_v18, Cert.Reference25Ideal.Read.val_main_cst_6, Cert.Reference25Ideal.Read.val_main_v19, Cert.Reference25Ideal.Read.val_main_v20, Cert.Reference25Ideal.Read.val_main_v21, Cert.Reference25Ideal.Read.val_main_cst_7, Cert.Reference25Ideal.Read.val_main_v22, Cert.Reference25Ideal.Read.val_main_v23]

theorem final0 (c : Dev nD) : (dats m 0 c).arrAt 4 cfg0.N = Cert.Reference25Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay3, ref0]
  refine congr (congr (congrArg₂ change ?_ ?_) ?_) ?_
  · blk_ext [iblk, V, place t]
  · blk_ext [iblk, V, place t]
  · blk_ext [iblk, V, place t]
  · blk_ext [iblk, V, place t]

theorem ref1 (x1 : Vec Ideal S4096x1540 .f32) (x2 : Vec Ideal S4096x1540 .f32) (i : S4096x1540.Idx) : Cert.Reference25Ideal.Read.val_main_v4 (F := Ideal) x1 x2 i = first (x1 i) (x2 i) := by
  unfold first
  pointwise [Cert.Reference25Ideal.Read.val_main_cst, Cert.Reference25Ideal.Read.val_main_v0, Cert.Reference25Ideal.Read.val_main_v1, Cert.Reference25Ideal.Read.val_main_cst_0, Cert.Reference25Ideal.Read.val_main_v2, Cert.Reference25Ideal.Read.val_main_v3, Cert.Reference25Ideal.Read.val_main_v4, Cert.Reference25Ideal.Read.val_main_cst_1, Cert.Reference25Ideal.Read.val_main_v5, Cert.Reference25Ideal.Read.val_main_v6, Cert.Reference25Ideal.Read.val_main_v7, Cert.Reference25Ideal.Read.val_main_cst_2, Cert.Reference25Ideal.Read.val_main_v8, Cert.Reference25Ideal.Read.val_main_v9, Cert.Reference25Ideal.Read.val_main_v10, Cert.Reference25Ideal.Read.val_main_cst_3, Cert.Reference25Ideal.Read.val_main_v11, Cert.Reference25Ideal.Read.val_main_v12, Cert.Reference25Ideal.Read.val_main_cst_4, Cert.Reference25Ideal.Read.val_main_v13, Cert.Reference25Ideal.Read.val_main_v14, Cert.Reference25Ideal.Read.val_main_v15, Cert.Reference25Ideal.Read.val_main_cst_5, Cert.Reference25Ideal.Read.val_main_v16, Cert.Reference25Ideal.Read.val_main_v17, Cert.Reference25Ideal.Read.val_main_v18, Cert.Reference25Ideal.Read.val_main_cst_6, Cert.Reference25Ideal.Read.val_main_v19, Cert.Reference25Ideal.Read.val_main_v20, Cert.Reference25Ideal.Read.val_main_v21, Cert.Reference25Ideal.Read.val_main_cst_7, Cert.Reference25Ideal.Read.val_main_v22, Cert.Reference25Ideal.Read.val_main_v23]

theorem final1 (c : Dev nD) : (dats m 0 c).arrAt 5 cfg0.N = Cert.Reference25Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay1, ref1]
  refine congrArg₂ (fun a b : EReal => first a b) ?_ ?_
  · blk_ext [iblk, V, place t]
  · blk_ext [iblk, V, place t]

theorem ref2 (x1 : Vec Ideal S4096x1540 .f32) (x3 : Vec Ideal S4096x1540 .f32) (i : S4096x1540.Idx) : Cert.Reference25Ideal.Read.val_main_v10 (F := Ideal) x1 x3 i = second (x1 i) (x3 i) := by
  unfold second
  pointwise [Cert.Reference25Ideal.Read.val_main_cst, Cert.Reference25Ideal.Read.val_main_v0, Cert.Reference25Ideal.Read.val_main_v1, Cert.Reference25Ideal.Read.val_main_cst_0, Cert.Reference25Ideal.Read.val_main_v2, Cert.Reference25Ideal.Read.val_main_v3, Cert.Reference25Ideal.Read.val_main_v4, Cert.Reference25Ideal.Read.val_main_cst_1, Cert.Reference25Ideal.Read.val_main_v5, Cert.Reference25Ideal.Read.val_main_v6, Cert.Reference25Ideal.Read.val_main_v7, Cert.Reference25Ideal.Read.val_main_cst_2, Cert.Reference25Ideal.Read.val_main_v8, Cert.Reference25Ideal.Read.val_main_v9, Cert.Reference25Ideal.Read.val_main_v10, Cert.Reference25Ideal.Read.val_main_cst_3, Cert.Reference25Ideal.Read.val_main_v11, Cert.Reference25Ideal.Read.val_main_v12, Cert.Reference25Ideal.Read.val_main_cst_4, Cert.Reference25Ideal.Read.val_main_v13, Cert.Reference25Ideal.Read.val_main_v14, Cert.Reference25Ideal.Read.val_main_v15, Cert.Reference25Ideal.Read.val_main_cst_5, Cert.Reference25Ideal.Read.val_main_v16, Cert.Reference25Ideal.Read.val_main_v17, Cert.Reference25Ideal.Read.val_main_v18, Cert.Reference25Ideal.Read.val_main_cst_6, Cert.Reference25Ideal.Read.val_main_v19, Cert.Reference25Ideal.Read.val_main_v20, Cert.Reference25Ideal.Read.val_main_v21, Cert.Reference25Ideal.Read.val_main_cst_7, Cert.Reference25Ideal.Read.val_main_v22, Cert.Reference25Ideal.Read.val_main_v23]

theorem final2 (c : Dev nD) : (dats m 0 c).arrAt 6 cfg0.N = Cert.Reference25Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [pay2, ref2]
  refine congrArg₂ (fun a b : EReal => second a b) ?_ ?_
  · blk_ext [iblk, V, place t]
  · blk_ext [iblk, V, place t]

end Cert.UpdateWIn

end
-- ==== Proof.UpdateWOut.lean ====
module
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit
public import Idealize.ShloMosaic.Lib.Claim

@[expose] public section

set_option maxRecDepth 16384
set_option maxHeartbeats 1000000

/-! The update of the weights of the output projection: the kernel takes 256 rows at a time, the reference all of them. -/

noncomputable section

namespace Cert.UpdateWOut

open Idealize.ShloMosaic Idealize.ShloMosaic.TcCoe Idealize.SL.Sem
open Cert.Kernel26Ideal Cert.Kernel26Ideal.Gen
open Idealize.ShloMosaic.Pipeline (Dat)

variable (m : (ℓ : Loc nD τ sig) → Buf (Elt Ideal) ℓ)

/-- The new first moment of one element. -/
def first (g u : EReal) : EReal := Ideal.ofBits FTy.f32 1063675494#32 * u + Ideal.ofBits FTy.f32 1036831949#32 * g

/-- The new second moment of one element. -/
def second (g v : EReal) : EReal := Ideal.ofBits FTy.f32 1065336439#32 * v + Ideal.ofBits FTy.f32 981668463#32 * (g * g)

/-- The change of one element. -/
def change (w g u v : EReal) : EReal :=
  Ideal.ofBits FTy.f32 3129152111#32 * (Ideal.div (Ideal.div (first g u) (Ideal.ofBits FTy.f32 1059503362#32)) (Ideal.sqrt (Ideal.div (second g v) (Ideal.ofBits FTy.f32 1008933580#32)) + Ideal.ofBits FTy.f32 841731191#32) + Ideal.ofBits FTy.f32 1008981770#32 * w)

theorem pay1 (g u : Vec Ideal S256x1024 .f32) (j : S256x1024.Idx) : k0_pay1 (F := Ideal) g u j = first (g j) (u j) := by
  unfold first
  pointwise [k0_pay1]

theorem pay2 (g v : Vec Ideal S256x1024 .f32) (j : S256x1024.Idx) : k0_pay2 (F := Ideal) g v j = second (g j) (v j) := by
  unfold second
  pointwise [k0_pay2]

theorem pay3 (w g u v : Vec Ideal S256x1024 .f32) (j : S256x1024.Idx) : k0_pay3 (F := Ideal) w g u v j = change (w j) (g j) (u j) (v j) := by
  unfold change first second
  pointwise [k0_pay1, k0_pay2, k0_pay3]

/-- The blocks of grid point `t`. -/
theorem place : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ref0 (x0 : Vec Ideal S2048x1024 .f32) (x1 : Vec Ideal S2048x1024 .f32) (x2 : Vec Ideal S2048x1024 .f32) (x3 : Vec Ideal S2048x1024 .f32) (i : S2048x1024.Idx) : Cert.Reference26Ideal.Read.val_main_v23 (F := Ideal) x0 x1 x2 x3 i = change (x0 i) (x1 i) (x2 i) (x3 i) := by
  unfold change first second
  pointwise [Cert.Reference26Ideal.Read.val_main_cst, Cert.Reference26Ideal.Read.val_main_v0, Cert.Reference26Ideal.Read.val_main_v1, Cert.Reference26Ideal.Read.val_main_cst_0, Cert.Reference26Ideal.Read.val_main_v2, Cert.Reference26Ideal.Read.val_main_v3, Cert.Reference26Ideal.Read.val_main_v4, Cert.Reference26Ideal.Read.val_main_cst_1, Cert.Reference26Ideal.Read.val_main_v5, Cert.Reference26Ideal.Read.val_main_v6, Cert.Reference26Ideal.Read.val_main_v7, Cert.Reference26Ideal.Read.val_main_cst_2, Cert.Reference26Ideal.Read.val_main_v8, Cert.Reference26Ideal.Read.val_main_v9, Cert.Reference26Ideal.Read.val_main_v10, Cert.Reference26Ideal.Read.val_main_cst_3, Cert.Reference26Ideal.Read.val_main_v11, Cert.Reference26Ideal.Read.val_main_v12, Cert.Reference26Ideal.Read.val_main_cst_4, Cert.Reference26Ideal.Read.val_main_v13, Cert.Reference26Ideal.Read.val_main_v14, Cert.Reference26Ideal.Read.val_main_v15, Cert.Reference26Ideal.Read.val_main_cst_5, Cert.Reference26Ideal.Read.val_main_v16, Cert.Reference26Ideal.Read.val_main_v17, Cert.Reference26Ideal.Read.val_main_v18, Cert.Reference26Ideal.Read.val_main_cst_6, Cert.Reference26Ideal.Read.val_main_v19, Cert.Reference26Ideal.Read.val_main_v20, Cert.Reference26Ideal.Read.val_main_v21, Cert.Reference26Ideal.Read.val_main_cst_7, Cert.Reference26Ideal.Read.val_main_v22, Cert.Reference26Ideal.Read.val_main_v23]

theorem final0 (c : Dev nD) : (dats m 0 c).arrAt 4 cfg0.N = Cert.Reference26Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay3, ref0]
  refine congr (congr (congrArg₂ change ?_ ?_) ?_) ?_
  · blk_ext [iblk, V, place t]
  · blk_ext [iblk, V, place t]
  · blk_ext [iblk, V, place t]
  · blk_ext [iblk, V, place t]

theorem ref1 (x1 : Vec Ideal S2048x1024 .f32) (x2 : Vec Ideal S2048x1024 .f32) (i : S2048x1024.Idx) : Cert.Reference26Ideal.Read.val_main_v4 (F := Ideal) x1 x2 i = first (x1 i) (x2 i) := by
  unfold first
  pointwise [Cert.Reference26Ideal.Read.val_main_cst, Cert.Reference26Ideal.Read.val_main_v0, Cert.Reference26Ideal.Read.val_main_v1, Cert.Reference26Ideal.Read.val_main_cst_0, Cert.Reference26Ideal.Read.val_main_v2, Cert.Reference26Ideal.Read.val_main_v3, Cert.Reference26Ideal.Read.val_main_v4, Cert.Reference26Ideal.Read.val_main_cst_1, Cert.Reference26Ideal.Read.val_main_v5, Cert.Reference26Ideal.Read.val_main_v6, Cert.Reference26Ideal.Read.val_main_v7, Cert.Reference26Ideal.Read.val_main_cst_2, Cert.Reference26Ideal.Read.val_main_v8, Cert.Reference26Ideal.Read.val_main_v9, Cert.Reference26Ideal.Read.val_main_v10, Cert.Reference26Ideal.Read.val_main_cst_3, Cert.Reference26Ideal.Read.val_main_v11, Cert.Reference26Ideal.Read.val_main_v12, Cert.Reference26Ideal.Read.val_main_cst_4, Cert.Reference26Ideal.Read.val_main_v13, Cert.Reference26Ideal.Read.val_main_v14, Cert.Reference26Ideal.Read.val_main_v15, Cert.Reference26Ideal.Read.val_main_cst_5, Cert.Reference26Ideal.Read.val_main_v16, Cert.Reference26Ideal.Read.val_main_v17, Cert.Reference26Ideal.Read.val_main_v18, Cert.Reference26Ideal.Read.val_main_cst_6, Cert.Reference26Ideal.Read.val_main_v19, Cert.Reference26Ideal.Read.val_main_v20, Cert.Reference26Ideal.Read.val_main_v21, Cert.Reference26Ideal.Read.val_main_cst_7, Cert.Reference26Ideal.Read.val_main_v22, Cert.Reference26Ideal.Read.val_main_v23]

theorem final1 (c : Dev nD) : (dats m 0 c).arrAt 5 cfg0.N = Cert.Reference26Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay1, ref1]
  refine congrArg₂ (fun a b : EReal => first a b) ?_ ?_
  · blk_ext [iblk, V, place t]
  · blk_ext [iblk, V, place t]

theorem ref2 (x1 : Vec Ideal S2048x1024 .f32) (x3 : Vec Ideal S2048x1024 .f32) (i : S2048x1024.Idx) : Cert.Reference26Ideal.Read.val_main_v10 (F := Ideal) x1 x3 i = second (x1 i) (x3 i) := by
  unfold second
  pointwise [Cert.Reference26Ideal.Read.val_main_cst, Cert.Reference26Ideal.Read.val_main_v0, Cert.Reference26Ideal.Read.val_main_v1, Cert.Reference26Ideal.Read.val_main_cst_0, Cert.Reference26Ideal.Read.val_main_v2, Cert.Reference26Ideal.Read.val_main_v3, Cert.Reference26Ideal.Read.val_main_v4, Cert.Reference26Ideal.Read.val_main_cst_1, Cert.Reference26Ideal.Read.val_main_v5, Cert.Reference26Ideal.Read.val_main_v6, Cert.Reference26Ideal.Read.val_main_v7, Cert.Reference26Ideal.Read.val_main_cst_2, Cert.Reference26Ideal.Read.val_main_v8, Cert.Reference26Ideal.Read.val_main_v9, Cert.Reference26Ideal.Read.val_main_v10, Cert.Reference26Ideal.Read.val_main_cst_3, Cert.Reference26Ideal.Read.val_main_v11, Cert.Reference26Ideal.Read.val_main_v12, Cert.Reference26Ideal.Read.val_main_cst_4, Cert.Reference26Ideal.Read.val_main_v13, Cert.Reference26Ideal.Read.val_main_v14, Cert.Reference26Ideal.Read.val_main_v15, Cert.Reference26Ideal.Read.val_main_cst_5, Cert.Reference26Ideal.Read.val_main_v16, Cert.Reference26Ideal.Read.val_main_v17, Cert.Reference26Ideal.Read.val_main_v18, Cert.Reference26Ideal.Read.val_main_cst_6, Cert.Reference26Ideal.Read.val_main_v19, Cert.Reference26Ideal.Read.val_main_v20, Cert.Reference26Ideal.Read.val_main_v21, Cert.Reference26Ideal.Read.val_main_cst_7, Cert.Reference26Ideal.Read.val_main_v22, Cert.Reference26Ideal.Read.val_main_v23]

theorem final2 (c : Dev nD) : (dats m 0 c).arrAt 6 cfg0.N = Cert.Reference26Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [pay2, ref2]
  refine congrArg₂ (fun a b : EReal => second a b) ?_ ?_
  · blk_ext [iblk, V, place t]
  · blk_ext [iblk, V, place t]

end Cert.UpdateWOut

end
-- ==== Proof.UpdateWUp.lean ====
module
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pipeline.ValueKit
public import Idealize.ShloMosaic.Lib.Claim

@[expose] public section

set_option maxRecDepth 16384
set_option maxHeartbeats 1000000

/-! The update of the weights of the squared ReLU layer: the kernel takes 256 rows at a time, the reference all of them. -/

noncomputable section

namespace Cert.UpdateWUp

open Idealize.ShloMosaic Idealize.ShloMosaic.TcCoe Idealize.SL.Sem
open Cert.Kernel27Ideal Cert.Kernel27Ideal.Gen
open Idealize.ShloMosaic.Pipeline (Dat)

variable (m : (ℓ : Loc nD τ sig) → Buf (Elt Ideal) ℓ)

/-- The new first moment of one element. -/
def first (g u : EReal) : EReal := Ideal.ofBits FTy.f32 1063675494#32 * u + Ideal.ofBits FTy.f32 1036831949#32 * g

/-- The new second moment of one element. -/
def second (g v : EReal) : EReal := Ideal.ofBits FTy.f32 1065336439#32 * v + Ideal.ofBits FTy.f32 981668463#32 * (g * g)

/-- The change of one element. -/
def change (w g u v : EReal) : EReal :=
  Ideal.ofBits FTy.f32 3129152111#32 * (Ideal.div (Ideal.div (first g u) (Ideal.ofBits FTy.f32 1059503362#32)) (Ideal.sqrt (Ideal.div (second g v) (Ideal.ofBits FTy.f32 1008933580#32)) + Ideal.ofBits FTy.f32 841731191#32) + Ideal.ofBits FTy.f32 1008981770#32 * w)

theorem pay1 (g u : Vec Ideal S256x1024 .f32) (j : S256x1024.Idx) : k0_pay1 (F := Ideal) g u j = first (g j) (u j) := by
  unfold first
  pointwise [k0_pay1]

theorem pay2 (g v : Vec Ideal S256x1024 .f32) (j : S256x1024.Idx) : k0_pay2 (F := Ideal) g v j = second (g j) (v j) := by
  unfold second
  pointwise [k0_pay2]

theorem pay3 (w g u v : Vec Ideal S256x1024 .f32) (j : S256x1024.Idx) : k0_pay3 (F := Ideal) w g u v j = change (w j) (g j) (u j) (v j) := by
  unfold change first second
  pointwise [k0_pay1, k0_pay2, k0_pay3]

/-- The blocks of grid point `t`. -/
theorem place : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ref0 (x0 : Vec Ideal S4096x1024 .f32) (x1 : Vec Ideal S4096x1024 .f32) (x2 : Vec Ideal S4096x1024 .f32) (x3 : Vec Ideal S4096x1024 .f32) (i : S4096x1024.Idx) : Cert.Reference27Ideal.Read.val_main_v23 (F := Ideal) x0 x1 x2 x3 i = change (x0 i) (x1 i) (x2 i) (x3 i) := by
  unfold change first second
  pointwise [Cert.Reference27Ideal.Read.val_main_cst, Cert.Reference27Ideal.Read.val_main_v0, Cert.Reference27Ideal.Read.val_main_v1, Cert.Reference27Ideal.Read.val_main_cst_0, Cert.Reference27Ideal.Read.val_main_v2, Cert.Reference27Ideal.Read.val_main_v3, Cert.Reference27Ideal.Read.val_main_v4, Cert.Reference27Ideal.Read.val_main_cst_1, Cert.Reference27Ideal.Read.val_main_v5, Cert.Reference27Ideal.Read.val_main_v6, Cert.Reference27Ideal.Read.val_main_v7, Cert.Reference27Ideal.Read.val_main_cst_2, Cert.Reference27Ideal.Read.val_main_v8, Cert.Reference27Ideal.Read.val_main_v9, Cert.Reference27Ideal.Read.val_main_v10, Cert.Reference27Ideal.Read.val_main_cst_3, Cert.Reference27Ideal.Read.val_main_v11, Cert.Reference27Ideal.Read.val_main_v12, Cert.Reference27Ideal.Read.val_main_cst_4, Cert.Reference27Ideal.Read.val_main_v13, Cert.Reference27Ideal.Read.val_main_v14, Cert.Reference27Ideal.Read.val_main_v15, Cert.Reference27Ideal.Read.val_main_cst_5, Cert.Reference27Ideal.Read.val_main_v16, Cert.Reference27Ideal.Read.val_main_v17, Cert.Reference27Ideal.Read.val_main_v18, Cert.Reference27Ideal.Read.val_main_cst_6, Cert.Reference27Ideal.Read.val_main_v19, Cert.Reference27Ideal.Read.val_main_v20, Cert.Reference27Ideal.Read.val_main_v21, Cert.Reference27Ideal.Read.val_main_cst_7, Cert.Reference27Ideal.Read.val_main_v22, Cert.Reference27Ideal.Read.val_main_v23]

theorem final0 (c : Dev nD) : (dats m 0 c).arrAt 4 cfg0.N = Cert.Reference27Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay3, ref0]
  refine congr (congr (congrArg₂ change ?_ ?_) ?_) ?_
  · blk_ext [iblk, V, place t]
  · blk_ext [iblk, V, place t]
  · blk_ext [iblk, V, place t]
  · blk_ext [iblk, V, place t]

theorem ref1 (x1 : Vec Ideal S4096x1024 .f32) (x2 : Vec Ideal S4096x1024 .f32) (i : S4096x1024.Idx) : Cert.Reference27Ideal.Read.val_main_v4 (F := Ideal) x1 x2 i = first (x1 i) (x2 i) := by
  unfold first
  pointwise [Cert.Reference27Ideal.Read.val_main_cst, Cert.Reference27Ideal.Read.val_main_v0, Cert.Reference27Ideal.Read.val_main_v1, Cert.Reference27Ideal.Read.val_main_cst_0, Cert.Reference27Ideal.Read.val_main_v2, Cert.Reference27Ideal.Read.val_main_v3, Cert.Reference27Ideal.Read.val_main_v4, Cert.Reference27Ideal.Read.val_main_cst_1, Cert.Reference27Ideal.Read.val_main_v5, Cert.Reference27Ideal.Read.val_main_v6, Cert.Reference27Ideal.Read.val_main_v7, Cert.Reference27Ideal.Read.val_main_cst_2, Cert.Reference27Ideal.Read.val_main_v8, Cert.Reference27Ideal.Read.val_main_v9, Cert.Reference27Ideal.Read.val_main_v10, Cert.Reference27Ideal.Read.val_main_cst_3, Cert.Reference27Ideal.Read.val_main_v11, Cert.Reference27Ideal.Read.val_main_v12, Cert.Reference27Ideal.Read.val_main_cst_4, Cert.Reference27Ideal.Read.val_main_v13, Cert.Reference27Ideal.Read.val_main_v14, Cert.Reference27Ideal.Read.val_main_v15, Cert.Reference27Ideal.Read.val_main_cst_5, Cert.Reference27Ideal.Read.val_main_v16, Cert.Reference27Ideal.Read.val_main_v17, Cert.Reference27Ideal.Read.val_main_v18, Cert.Reference27Ideal.Read.val_main_cst_6, Cert.Reference27Ideal.Read.val_main_v19, Cert.Reference27Ideal.Read.val_main_v20, Cert.Reference27Ideal.Read.val_main_v21, Cert.Reference27Ideal.Read.val_main_cst_7, Cert.Reference27Ideal.Read.val_main_v22, Cert.Reference27Ideal.Read.val_main_v23]

theorem final1 (c : Dev nD) : (dats m 0 c).arrAt 5 cfg0.N = Cert.Reference27Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay1, ref1]
  refine congrArg₂ (fun a b : EReal => first a b) ?_ ?_
  · blk_ext [iblk, V, place t]
  · blk_ext [iblk, V, place t]

theorem ref2 (x1 : Vec Ideal S4096x1024 .f32) (x3 : Vec Ideal S4096x1024 .f32) (i : S4096x1024.Idx) : Cert.Reference27Ideal.Read.val_main_v10 (F := Ideal) x1 x3 i = second (x1 i) (x3 i) := by
  unfold second
  pointwise [Cert.Reference27Ideal.Read.val_main_cst, Cert.Reference27Ideal.Read.val_main_v0, Cert.Reference27Ideal.Read.val_main_v1, Cert.Reference27Ideal.Read.val_main_cst_0, Cert.Reference27Ideal.Read.val_main_v2, Cert.Reference27Ideal.Read.val_main_v3, Cert.Reference27Ideal.Read.val_main_v4, Cert.Reference27Ideal.Read.val_main_cst_1, Cert.Reference27Ideal.Read.val_main_v5, Cert.Reference27Ideal.Read.val_main_v6, Cert.Reference27Ideal.Read.val_main_v7, Cert.Reference27Ideal.Read.val_main_cst_2, Cert.Reference27Ideal.Read.val_main_v8, Cert.Reference27Ideal.Read.val_main_v9, Cert.Reference27Ideal.Read.val_main_v10, Cert.Reference27Ideal.Read.val_main_cst_3, Cert.Reference27Ideal.Read.val_main_v11, Cert.Reference27Ideal.Read.val_main_v12, Cert.Reference27Ideal.Read.val_main_cst_4, Cert.Reference27Ideal.Read.val_main_v13, Cert.Reference27Ideal.Read.val_main_v14, Cert.Reference27Ideal.Read.val_main_v15, Cert.Reference27Ideal.Read.val_main_cst_5, Cert.Reference27Ideal.Read.val_main_v16, Cert.Reference27Ideal.Read.val_main_v17, Cert.Reference27Ideal.Read.val_main_v18, Cert.Reference27Ideal.Read.val_main_cst_6, Cert.Reference27Ideal.Read.val_main_v19, Cert.Reference27Ideal.Read.val_main_v20, Cert.Reference27Ideal.Read.val_main_v21, Cert.Reference27Ideal.Read.val_main_cst_7, Cert.Reference27Ideal.Read.val_main_v22, Cert.Reference27Ideal.Read.val_main_v23]

theorem final2 (c : Dev nD) : (dats m 0 c).arrAt 6 cfg0.N = Cert.Reference27Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [pay2, ref2]
  refine congrArg₂ (fun a b : EReal => second a b) ?_ ?_
  · blk_ext [iblk, V, place t]
  · blk_ext [iblk, V, place t]

end Cert.UpdateWUp

end
-- ==== Proof.UpdateSmall.lean ====
module
public import proofs.«01_k».proof.Proof.Gen.Kernel29Ideal.Value
public import proofs.«01_k».proof.Proof.Gen.Reference29Ideal.Run
public import proofs.«01_k».proof.Proof.Gen.Reference29Ideal.Read
public import Idealize.ShloMosaic.Lib.Pipeline.ValueKit
public import Idealize.ShloMosaic.Lib.Claim

@[expose] public section

set_option maxRecDepth 16384
set_option maxHeartbeats 1000000

/-! The update of the small parameters, packed into rows of 128: the kernel takes 16 rows at a time, the reference all of them. -/

noncomputable section

namespace Cert.UpdateSmall

open Idealize.ShloMosaic Idealize.ShloMosaic.TcCoe Idealize.SL.Sem
open Cert.Kernel29Ideal Cert.Kernel29Ideal.Gen
open Idealize.ShloMosaic.Pipeline (Dat)

variable (m : (ℓ : Loc nD τ sig) → Buf (Elt Ideal) ℓ)

/-- The new first moment of one element. -/
def first (g u : EReal) : EReal := Ideal.ofBits FTy.f32 1063675494#32 * u + Ideal.ofBits FTy.f32 1036831949#32 * g

/-- The new second moment of one element. -/
def second (g v : EReal) : EReal := Ideal.ofBits FTy.f32 1065336439#32 * v + Ideal.ofBits FTy.f32 981668463#32 * (g * g)

/-- The change of one element. -/
def change (w g u v : EReal) : EReal :=
  Ideal.ofBits FTy.f32 3129152111#32 * (Ideal.div (Ideal.div (first g u) (Ideal.ofBits FTy.f32 1059503362#32)) (Ideal.sqrt (Ideal.div (second g v) (Ideal.ofBits FTy.f32 1008933580#32)) + Ideal.ofBits FTy.f32 841731191#32) + Ideal.ofBits FTy.f32 1008981770#32 * w)

theorem pay1 (g u : Vec Ideal S16x128 .f32) (j : S16x128.Idx) : k0_pay1 (F := Ideal) g u j = first (g j) (u j) := by
  unfold first
  pointwise [k0_pay1]

theorem pay2 (g v : Vec Ideal S16x128 .f32) (j : S16x128.Idx) : k0_pay2 (F := Ideal) g v j = second (g j) (v j) := by
  unfold second
  pointwise [k0_pay2]

theorem pay3 (w g u v : Vec Ideal S16x128 .f32) (j : S16x128.Idx) : k0_pay3 (F := Ideal) w g u v j = change (w j) (g j) (u j) (v j) := by
  unfold change first second
  pointwise [k0_pay1, k0_pay2, k0_pay3]

/-- The blocks of grid point `t`. -/
theorem place : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ref0 (x0 : Vec Ideal S272x128 .f32) (x1 : Vec Ideal S272x128 .f32) (x2 : Vec Ideal S272x128 .f32) (x3 : Vec Ideal S272x128 .f32) (i : S272x128.Idx) : Cert.Reference29Ideal.Read.val_main_v23 (F := Ideal) x0 x1 x2 x3 i = change (x0 i) (x1 i) (x2 i) (x3 i) := by
  unfold change first second
  pointwise [Cert.Reference29Ideal.Read.val_main_cst, Cert.Reference29Ideal.Read.val_main_v0, Cert.Reference29Ideal.Read.val_main_v1, Cert.Reference29Ideal.Read.val_main_cst_0, Cert.Reference29Ideal.Read.val_main_v2, Cert.Reference29Ideal.Read.val_main_v3, Cert.Reference29Ideal.Read.val_main_v4, Cert.Reference29Ideal.Read.val_main_cst_1, Cert.Reference29Ideal.Read.val_main_v5, Cert.Reference29Ideal.Read.val_main_v6, Cert.Reference29Ideal.Read.val_main_v7, Cert.Reference29Ideal.Read.val_main_cst_2, Cert.Reference29Ideal.Read.val_main_v8, Cert.Reference29Ideal.Read.val_main_v9, Cert.Reference29Ideal.Read.val_main_v10, Cert.Reference29Ideal.Read.val_main_cst_3, Cert.Reference29Ideal.Read.val_main_v11, Cert.Reference29Ideal.Read.val_main_v12, Cert.Reference29Ideal.Read.val_main_cst_4, Cert.Reference29Ideal.Read.val_main_v13, Cert.Reference29Ideal.Read.val_main_v14, Cert.Reference29Ideal.Read.val_main_v15, Cert.Reference29Ideal.Read.val_main_cst_5, Cert.Reference29Ideal.Read.val_main_v16, Cert.Reference29Ideal.Read.val_main_v17, Cert.Reference29Ideal.Read.val_main_v18, Cert.Reference29Ideal.Read.val_main_cst_6, Cert.Reference29Ideal.Read.val_main_v19, Cert.Reference29Ideal.Read.val_main_v20, Cert.Reference29Ideal.Read.val_main_v21, Cert.Reference29Ideal.Read.val_main_cst_7, Cert.Reference29Ideal.Read.val_main_v22, Cert.Reference29Ideal.Read.val_main_v23]

theorem final0 (c : Dev nD) : (dats m 0 c).arrAt 4 cfg0.N = Cert.Reference29Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay3, ref0]
  refine congr (congr (congrArg₂ change ?_ ?_) ?_) ?_
  · blk_ext [iblk, V, place t]
  · blk_ext [iblk, V, place t]
  · blk_ext [iblk, V, place t]
  · blk_ext [iblk, V, place t]

theorem ref1 (x1 : Vec Ideal S272x128 .f32) (x2 : Vec Ideal S272x128 .f32) (i : S272x128.Idx) : Cert.Reference29Ideal.Read.val_main_v4 (F := Ideal) x1 x2 i = first (x1 i) (x2 i) := by
  unfold first
  pointwise [Cert.Reference29Ideal.Read.val_main_cst, Cert.Reference29Ideal.Read.val_main_v0, Cert.Reference29Ideal.Read.val_main_v1, Cert.Reference29Ideal.Read.val_main_cst_0, Cert.Reference29Ideal.Read.val_main_v2, Cert.Reference29Ideal.Read.val_main_v3, Cert.Reference29Ideal.Read.val_main_v4, Cert.Reference29Ideal.Read.val_main_cst_1, Cert.Reference29Ideal.Read.val_main_v5, Cert.Reference29Ideal.Read.val_main_v6, Cert.Reference29Ideal.Read.val_main_v7, Cert.Reference29Ideal.Read.val_main_cst_2, Cert.Reference29Ideal.Read.val_main_v8, Cert.Reference29Ideal.Read.val_main_v9, Cert.Reference29Ideal.Read.val_main_v10, Cert.Reference29Ideal.Read.val_main_cst_3, Cert.Reference29Ideal.Read.val_main_v11, Cert.Reference29Ideal.Read.val_main_v12, Cert.Reference29Ideal.Read.val_main_cst_4, Cert.Reference29Ideal.Read.val_main_v13, Cert.Reference29Ideal.Read.val_main_v14, Cert.Reference29Ideal.Read.val_main_v15, Cert.Reference29Ideal.Read.val_main_cst_5, Cert.Reference29Ideal.Read.val_main_v16, Cert.Reference29Ideal.Read.val_main_v17, Cert.Reference29Ideal.Read.val_main_v18, Cert.Reference29Ideal.Read.val_main_cst_6, Cert.Reference29Ideal.Read.val_main_v19, Cert.Reference29Ideal.Read.val_main_v20, Cert.Reference29Ideal.Read.val_main_v21, Cert.Reference29Ideal.Read.val_main_cst_7, Cert.Reference29Ideal.Read.val_main_v22, Cert.Reference29Ideal.Read.val_main_v23]

theorem final1 (c : Dev nD) : (dats m 0 c).arrAt 5 cfg0.N = Cert.Reference29Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay1, ref1]
  refine congrArg₂ (fun a b : EReal => first a b) ?_ ?_
  · blk_ext [iblk, V, place t]
  · blk_ext [iblk, V, place t]

theorem ref2 (x1 : Vec Ideal S272x128 .f32) (x3 : Vec Ideal S272x128 .f32) (i : S272x128.Idx) : Cert.Reference29Ideal.Read.val_main_v10 (F := Ideal) x1 x3 i = second (x1 i) (x3 i) := by
  unfold second
  pointwise [Cert.Reference29Ideal.Read.val_main_cst, Cert.Reference29Ideal.Read.val_main_v0, Cert.Reference29Ideal.Read.val_main_v1, Cert.Reference29Ideal.Read.val_main_cst_0, Cert.Reference29Ideal.Read.val_main_v2, Cert.Reference29Ideal.Read.val_main_v3, Cert.Reference29Ideal.Read.val_main_v4, Cert.Reference29Ideal.Read.val_main_cst_1, Cert.Reference29Ideal.Read.val_main_v5, Cert.Reference29Ideal.Read.val_main_v6, Cert.Reference29Ideal.Read.val_main_v7, Cert.Reference29Ideal.Read.val_main_cst_2, Cert.Reference29Ideal.Read.val_main_v8, Cert.Reference29Ideal.Read.val_main_v9, Cert.Reference29Ideal.Read.val_main_v10, Cert.Reference29Ideal.Read.val_main_cst_3, Cert.Reference29Ideal.Read.val_main_v11, Cert.Reference29Ideal.Read.val_main_v12, Cert.Reference29Ideal.Read.val_main_cst_4, Cert.Reference29Ideal.Read.val_main_v13, Cert.Reference29Ideal.Read.val_main_v14, Cert.Reference29Ideal.Read.val_main_v15, Cert.Reference29Ideal.Read.val_main_cst_5, Cert.Reference29Ideal.Read.val_main_v16, Cert.Reference29Ideal.Read.val_main_v17, Cert.Reference29Ideal.Read.val_main_v18, Cert.Reference29Ideal.Read.val_main_cst_6, Cert.Reference29Ideal.Read.val_main_v19, Cert.Reference29Ideal.Read.val_main_v20, Cert.Reference29Ideal.Read.val_main_v21, Cert.Reference29Ideal.Read.val_main_cst_7, Cert.Reference29Ideal.Read.val_main_v22, Cert.Reference29Ideal.Read.val_main_v23]

theorem final2 (c : Dev nD) : (dats m 0 c).arrAt 6 cfg0.N = Cert.Reference29Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [pay2, ref2]
  refine congrArg₂ (fun a b : EReal => second a b) ?_ ?_
  · blk_ext [iblk, V, place t]
  · blk_ext [iblk, V, place t]

end Cert.UpdateSmall

end
-- ==== Proof.GradWDownFirst.lean ====
module
public import proofs.«01_k».proof.Proof.Gen.Kernel30Ideal.Value
public import proofs.«01_k».proof.Proof.Gen.Reference30Ideal.Run
public import proofs.«01_k».proof.Proof.Gen.Reference30Ideal.Read
public import Idealize.ShloMosaic.Lib.Pipeline.ValueKit
public import Idealize.ShloMosaic.Lib.Claim

@[expose] public section

set_option maxRecDepth 16384
set_option maxHeartbeats 1000000

/-! The gradient of the second weights of the squared ReLU layer, first layer: the kernel sums its tiles' products and writes them into its layer's rows
of every chip's shard, the reference multiplies once. -/

noncomputable section

namespace Cert.GradWDownFirst

open Idealize.ShloMosaic Idealize.ShloMosaic.TcCoe Idealize.SL.Sem
open Cert.Kernel30Ideal Cert.Kernel30Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 k (j 0)) * y (ix2 k (j 1)) := by pointwise [k0_pay2]

/-- The whole product. -/
def prod (X : Vec Ideal S8192x4096 .bf16) (Y : Vec Ideal S8192x1024 .bf16) (i : Cert.Reference30Ideal.S4096x1024.Idx) : EReal := ∑ k : Fin 8192, X (ix2 k (i 0)) * Y (ix2 k (i 1))

/-- The blocks of grid point `t`. -/
theorem place : ∀ t : Fin cfg0.N, win0_0.index t = ![t.val % 8, t.val / 8] ∧ win0_1.index t = ![t.val % 8, 0] ∧ win0_2.index t = ![t.val / 8, 0, 0] :=
  (by decide +kernel : ∀ t : Fin grid0.N, _)

theorem kept (X : Vec Ideal S1024x1024 .f32) (h : scM0_0.IsWhole) : View.read (Elt Ideal) (View.whole cc0_scratch0) (h.unread X) = X := h.read_unread X

/-- What the accumulator holds after point `t`. -/
def acc (c : Dev nD) (t : Fin cfg0.N) : Vec Ideal S1024x1024 .f32 := (outsAt0 m c t.val t.isLt).2

/-- After the last step of a run the accumulator holds a tile of the whole product. -/
theorem total (c : Dev nD) (t : Fin cfg0.N) (h : t.val % 8 = 7) (j : S1024x1024.Idx) (i : Cert.Reference30Ideal.S4096x1024.Idx) (h0 : (i 0).val = (t.val / 8) * 1024 + (j 0).val) (h1 : (i 1).val = (0) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 8 (fun _ => 0) _
    (fun t h j => by rw [outsAt0_A m c t h (by omega)]; frame_out; rw [part, fill])
    (fun t h j => by
      by_cases h1 : t.val % 8 = 7
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores. -/
theorem stored (c : Dev nD) (t : Fin cfg0.N) (h : t.val % 8 = 7) (j : S1x1024x1024.Idx) : (outsAt0 m c t.val t.isLt).1 j = acc m c t (ix2 (j 1) (j 2)) := by
  unfold acc
  rw [outsAt0_C m c t (by omega) h]
  frame_out
  pointwise [k0_pay3]

theorem entry (c : Dev nD) : V m c main_v0 = m ((c : Thread nD τ).loc main_arg2) := by
  unfold V
  after_results
  try rfl

/-- The reference inside the layer's rows. -/
theorem inside (x0 : Vec Ideal S8192x4096 .bf16) (x1 : Vec Ideal S8192x1024 .bf16) (x2 : Vec Ideal S4x4096x1024 .f32) (i : S4x4096x1024.Idx) (r : Cert.Reference30Ideal.S4096x1024.Idx) (h : 0 ≤ (i 1).val ∧ (i 1).val < 1024)
    (h0 : (r 0).val = (i 0).val * 1024 + ((i 1).val - 0)) (h1 : (r 1).val = (i 2).val) : Cert.Reference30Ideal.Read.val_main_v9 (F := Ideal) x0 x1 x2 i = prod x0 x1 r := by
  unfold prod
  pointwise [Cert.Reference30Ideal.Read.val_main_cst, Cert.Reference30Ideal.Read.val_main_v0, Cert.Reference30Ideal.Read.val_main_v1, Cert.Reference30Ideal.Read.val_main_v2, Cert.Reference30Ideal.Read.val_main_v3, Cert.Reference30Ideal.Read.val_main_v4, Cert.Reference30Ideal.Read.val_main_v5, Cert.Reference30Ideal.Read.val_main_v6, Cert.Reference30Ideal.Read.val_main_v7, Cert.Reference30Ideal.Read.val_main_v8, Cert.Reference30Ideal.Read.val_main_v9]
  rw [dif_neg (by omega), dif_pos (by omega)]
  refine Finset.sum_congr rfl fun k _ => (mul_comm _ _).trans ?_
  refine congrArg₂ (fun a b : EReal => a * b) (congrArg x0 ?_) (congrArg x1 ?_) <;> (blk_ext; try omega)

/-- The reference outside of the layer's rows. -/
theorem outside (x0 : Vec Ideal S8192x4096 .bf16) (x1 : Vec Ideal S8192x1024 .bf16) (x2 : Vec Ideal S4x4096x1024 .f32) (i : S4x4096x1024.Idx) (h : ¬(0 ≤ (i 1).val ∧ (i 1).val < 1024)) : Cert.Reference30Ideal.Read.val_main_v9 (F := Ideal) x0 x1 x2 i = x2 i := by
  pointwise [Cert.Reference30Ideal.Read.val_main_cst, Cert.Reference30Ideal.Read.val_main_v0, Cert.Reference30Ideal.Read.val_main_v1, Cert.Reference30Ideal.Read.val_main_v2, Cert.Reference30Ideal.Read.val_main_v3, Cert.Reference30Ideal.Read.val_main_v4, Cert.Reference30Ideal.Read.val_main_v5, Cert.Reference30Ideal.Read.val_main_v6, Cert.Reference30Ideal.Read.val_main_v7, Cert.Reference30Ideal.Read.val_main_v8, Cert.Reference30Ideal.Read.val_main_v9]
  split_ifs <;> first | rfl | omega | (refine congrArg x2 ?_; blk_ext; try omega)

theorem final0 (c : Dev nD) : (dats m 0 c).arrAt 2 cfg0.N = Cert.Reference30Ideal.Read.val_main_v9 (F := Ideal) (m ((c : Thread nD τ).loc main_arg0)) (m ((c : Thread nD τ).loc main_arg1)) (m ((c : Thread nD τ).loc main_arg2)) := by
  refine (dats m 0 c).arrAt_eq_of_coversWhere_of_agree 2 _ (fun β => β 1 = 0) (by decide +kernel) (fun t hf y => ?_) (fun j hj => ?_)
  · have h := (flush0_2 t).mp hf
    have hN : t.val < 32 := t.isLt
    have b1 : (y 1).val < 1024 := (y 1).isLt
    have b2 : (y 2).val < 1024 := (y 2).isLt
    blk_simp
    rw [after0_2, stored m c t h]
    refine (total m c t h _ (ix2 ⟨(t.val / 8) * 1024 + (y 1).val, by omega⟩ ⟨(y 2).val, by omega⟩) ?_ ?_).trans (inside _ _ _ _ _ ?_ ?_ ?_).symm
    all_goals ((try blk_simp); (try simp only [place t, Matrix.cons_val_zero, Matrix.cons_val_one, Matrix.cons_val_two, Matrix.tail_cons, Matrix.head_cons, Matrix.cons_val]); (try simp only [ix2_zero, ix2_one]); try omega)
  · blk_simp [Pipeline.Window.cell_apply] at hj
    refine (congrFun (entry m c) _).trans (outside _ _ _ _ ?_).symm
    blk_simp
    omega

end Cert.GradWDownFirst

end
-- ==== Proof.GradWDownThird.lean ====
module
public import proofs.«01_k».proof.Proof.Gen.Kernel31Ideal.Value
public import proofs.«01_k».proof.Proof.Gen.Reference31Ideal.Run
public import proofs.«01_k».proof.Proof.Gen.Reference31Ideal.Read
public import Idealize.ShloMosaic.Lib.Pipeline.ValueKit
public import Idealize.ShloMosaic.Lib.Claim

@[expose] public section

set_option maxRecDepth 16384
set_option maxHeartbeats 1000000

/-! The gradient of the second weights of the squared ReLU layer, third layer: the kernel sums its tiles' products and writes them into its layer's rows
of every chip's shard, the reference multiplies once. -/

noncomputable section

namespace Cert.GradWDownThird

open Idealize.ShloMosaic Idealize.ShloMosaic.TcCoe Idealize.SL.Sem
open Cert.Kernel31Ideal Cert.Kernel31Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 k (j 0)) * y (ix2 k (j 1)) := by pointwise [k0_pay2]

/-- The whole product. -/
def prod (X : Vec Ideal S8192x4096 .bf16) (Y : Vec Ideal S8192x1024 .bf16) (i : Cert.Reference31Ideal.S4096x1024.Idx) : EReal := ∑ k : Fin 8192, X (ix2 k (i 0)) * Y (ix2 k (i 1))

/-- The blocks of grid point `t`. -/
theorem place : ∀ t : Fin cfg0.N, win0_0.index t = ![t.val % 8, t.val / 8] ∧ win0_1.index t = ![t.val % 8, 0] ∧ win0_2.index t = ![t.val / 8, 2, 0] :=
  (by decide +kernel : ∀ t : Fin grid0.N, _)

theorem kept (X : Vec Ideal S1024x1024 .f32) (h : scM0_0.IsWhole) : View.read (Elt Ideal) (View.whole cc0_scratch0) (h.unread X) = X := h.read_unread X

/-- What the accumulator holds after point `t`. -/
def acc (c : Dev nD) (t : Fin cfg0.N) : Vec Ideal S1024x1024 .f32 := (outsAt0 m c t.val t.isLt).2

/-- After the last step of a run the accumulator holds a tile of the whole product. -/
theorem total (c : Dev nD) (t : Fin cfg0.N) (h : t.val % 8 = 7) (j : S1024x1024.Idx) (i : Cert.Reference31Ideal.S4096x1024.Idx) (h0 : (i 0).val = (t.val / 8) * 1024 + (j 0).val) (h1 : (i 1).val = (0) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 8 (fun _ => 0) _
    (fun t h j => by rw [outsAt0_A m c t h (by omega)]; frame_out; rw [part, fill])
    (fun t h j => by
      by_cases h1 : t.val % 8 = 7
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores. -/
theorem stored (c : Dev nD) (t : Fin cfg0.N) (h : t.val % 8 = 7) (j : S1x1024x1024.Idx) : (outsAt0 m c t.val t.isLt).1 j = acc m c t (ix2 (j 1) (j 2)) := by
  unfold acc
  rw [outsAt0_C m c t (by omega) h]
  frame_out
  pointwise [k0_pay3]

theorem entry (c : Dev nD) : V m c main_v0 = m ((c : Thread nD τ).loc main_arg2) := by
  unfold V
  after_results
  try rfl

/-- The reference inside the layer's rows. -/
theorem inside (x0 : Vec Ideal S8192x4096 .bf16) (x1 : Vec Ideal S8192x1024 .bf16) (x2 : Vec Ideal S4x4096x1024 .f32) (i : S4x4096x1024.Idx) (r : Cert.Reference31Ideal.S4096x1024.Idx) (h : 2048 ≤ (i 1).val ∧ (i 1).val < 3072)
    (h0 : (r 0).val = (i 0).val * 1024 + ((i 1).val - 2048)) (h1 : (r 1).val = (i 2).val) : Cert.Reference31Ideal.Read.val_main_v9 (F := Ideal) x0 x1 x2 i = prod x0 x1 r := by
  unfold prod
  pointwise [Cert.Reference31Ideal.Read.val_main_cst, Cert.Reference31Ideal.Read.val_main_v0, Cert.Reference31Ideal.Read.val_main_v1, Cert.Reference31Ideal.Read.val_main_v2, Cert.Reference31Ideal.Read.val_main_v3, Cert.Reference31Ideal.Read.val_main_v4, Cert.Reference31Ideal.Read.val_main_v5, Cert.Reference31Ideal.Read.val_main_v6, Cert.Reference31Ideal.Read.val_main_v7, Cert.Reference31Ideal.Read.val_main_v8, Cert.Reference31Ideal.Read.val_main_v9]
  rw [dif_neg (by omega), dif_pos (by omega)]
  refine Finset.sum_congr rfl fun k _ => (mul_comm _ _).trans ?_
  refine congrArg₂ (fun a b : EReal => a * b) (congrArg x0 ?_) (congrArg x1 ?_) <;> (blk_ext; try omega)

/-- The reference outside of the layer's rows. -/
theorem outside (x0 : Vec Ideal S8192x4096 .bf16) (x1 : Vec Ideal S8192x1024 .bf16) (x2 : Vec Ideal S4x4096x1024 .f32) (i : S4x4096x1024.Idx) (h : ¬(2048 ≤ (i 1).val ∧ (i 1).val < 3072)) : Cert.Reference31Ideal.Read.val_main_v9 (F := Ideal) x0 x1 x2 i = x2 i := by
  pointwise [Cert.Reference31Ideal.Read.val_main_cst, Cert.Reference31Ideal.Read.val_main_v0, Cert.Reference31Ideal.Read.val_main_v1, Cert.Reference31Ideal.Read.val_main_v2, Cert.Reference31Ideal.Read.val_main_v3, Cert.Reference31Ideal.Read.val_main_v4, Cert.Reference31Ideal.Read.val_main_v5, Cert.Reference31Ideal.Read.val_main_v6, Cert.Reference31Ideal.Read.val_main_v7, Cert.Reference31Ideal.Read.val_main_v8, Cert.Reference31Ideal.Read.val_main_v9]
  split_ifs <;> first | rfl | omega | (refine congrArg x2 ?_; blk_ext; try omega)

theorem final0 (c : Dev nD) : (dats m 0 c).arrAt 2 cfg0.N = Cert.Reference31Ideal.Read.val_main_v9 (F := Ideal) (m ((c : Thread nD τ).loc main_arg0)) (m ((c : Thread nD τ).loc main_arg1)) (m ((c : Thread nD τ).loc main_arg2)) := by
  refine (dats m 0 c).arrAt_eq_of_coversWhere_of_agree 2 _ (fun β => β 1 = 2) (by decide +kernel) (fun t hf y => ?_) (fun j hj => ?_)
  · have h := (flush0_2 t).mp hf
    have hN : t.val < 32 := t.isLt
    have b1 : (y 1).val < 1024 := (y 1).isLt
    have b2 : (y 2).val < 1024 := (y 2).isLt
    blk_simp
    rw [after0_2, stored m c t h]
    refine (total m c t h _ (ix2 ⟨(t.val / 8) * 1024 + (y 1).val, by omega⟩ ⟨(y 2).val, by omega⟩) ?_ ?_).trans (inside _ _ _ _ _ ?_ ?_ ?_).symm
    all_goals ((try blk_simp); (try simp only [place t, Matrix.cons_val_zero, Matrix.cons_val_one, Matrix.cons_val_two, Matrix.tail_cons, Matrix.head_cons, Matrix.cons_val]); (try simp only [ix2_zero, ix2_one]); try omega)
  · blk_simp [Pipeline.Window.cell_apply] at hj
    refine (congrFun (entry m c) _).trans (outside _ _ _ _ ?_).symm
    blk_simp
    omega

end Cert.GradWDownThird

end
-- ==== Proof.GradWUpFirst.lean ====
module
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pipeline.ValueKit
public import Idealize.ShloMosaic.Lib.Claim

@[expose] public section

set_option maxRecDepth 16384
set_option maxHeartbeats 1000000

/-! The gradient of the first weights of the squared ReLU layer, first layer: the kernel sums its tiles' products and writes them into its layer's rows
of every chip's shard, the reference multiplies once. -/

noncomputable section

namespace Cert.GradWUpFirst

open Idealize.ShloMosaic Idealize.ShloMosaic.TcCoe Idealize.SL.Sem
open Cert.Kernel32Ideal Cert.Kernel32Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 k (j 0)) * y (ix2 k (j 1)) := by pointwise [k0_pay2]

/-- The whole product. -/
def prod (X : Vec Ideal S8192x1024 .bf16) (Y : Vec Ideal S8192x4096 .bf16) (i : Cert.Reference32Ideal.S1024x4096.Idx) : EReal := ∑ k : Fin 8192, X (ix2 k (i 0)) * Y (ix2 k (i 1))

/-- The blocks of grid point `t`. -/
theorem place : ∀ t : Fin cfg0.N, win0_0.index t = ![t.val % 8, t.val / 32] ∧ win0_1.index t = ![t.val % 8, t.val / 8 % 4] ∧ win0_2.index t = ![t.val / 8, 0, 0] :=
  (by decide +kernel : ∀ t : Fin grid0.N, _)

theorem kept (X : Vec Ideal S1024x1024 .f32) (h : scM0_0.IsWhole) : View.read (Elt Ideal) (View.whole cc0_scratch0) (h.unread X) = X := h.read_unread X

/-- What the accumulator holds after point `t`. -/
def acc (c : Dev nD) (t : Fin cfg0.N) : Vec Ideal S1024x1024 .f32 := (outsAt0 m c t.val t.isLt).2

/-- After the last step of a run the accumulator holds a tile of the whole product. -/
theorem total (c : Dev nD) (t : Fin cfg0.N) (h : t.val % 8 = 7) (j : S1024x1024.Idx) (i : Cert.Reference32Ideal.S1024x4096.Idx) (h0 : (i 0).val = (t.val / 32) * 1024 + (j 0).val) (h1 : (i 1).val = (t.val / 8 % 4) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 8 (fun _ => 0) _
    (fun t h j => by rw [outsAt0_A m c t h (by omega)]; frame_out; rw [part, fill])
    (fun t h j => by
      by_cases h1 : t.val % 8 = 7
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores. -/
theorem stored (c : Dev nD) (t : Fin cfg0.N) (h : t.val % 8 = 7) (j : S1x1024x1024.Idx) : (outsAt0 m c t.val t.isLt).1 j = acc m c t (ix2 (j 1) (j 2)) := by
  unfold acc
  rw [outsAt0_C m c t (by omega) h]
  frame_out
  pointwise [k0_pay3]

theorem entry (c : Dev nD) : V m c main_v0 = m ((c : Thread nD τ).loc main_arg2) := by
  unfold V
  after_results
  try rfl

/-- The reference inside the layer's rows. -/
theorem inside (x0 : Vec Ideal S8192x1024 .bf16) (x1 : Vec Ideal S8192x4096 .bf16) (x2 : Vec Ideal S4x4096x1024 .f32) (i : S4x4096x1024.Idx) (r : Cert.Reference32Ideal.S1024x4096.Idx) (h : 0 ≤ (i 1).val ∧ (i 1).val < 1024)
    (h0 : (r 0).val = (i 1).val - 0) (h1 : (r 1).val = (i 0).val * 1024 + (i 2).val) : Cert.Reference32Ideal.Read.val_main_v10 (F := Ideal) x0 x1 x2 i = prod x0 x1 r := by
  unfold prod
  pointwise [Cert.Reference32Ideal.Read.val_main_cst, Cert.Reference32Ideal.Read.val_main_v0, Cert.Reference32Ideal.Read.val_main_v1, Cert.Reference32Ideal.Read.val_main_v2, Cert.Reference32Ideal.Read.val_main_v3, Cert.Reference32Ideal.Read.val_main_v4, Cert.Reference32Ideal.Read.val_main_v5, Cert.Reference32Ideal.Read.val_main_v6, Cert.Reference32Ideal.Read.val_main_v7, Cert.Reference32Ideal.Read.val_main_v8, Cert.Reference32Ideal.Read.val_main_v9, Cert.Reference32Ideal.Read.val_main_v10]
  rw [dif_neg (by omega), dif_pos (by omega)]
  refine Finset.sum_congr rfl fun k _ => (mul_comm _ _).trans ?_
  refine congrArg₂ (fun a b : EReal => a * b) (congrArg x0 ?_) (congrArg x1 ?_) <;> (blk_ext; try omega)

/-- The reference outside of the layer's rows. -/
theorem outside (x0 : Vec Ideal S8192x1024 .bf16) (x1 : Vec Ideal S8192x4096 .bf16) (x2 : Vec Ideal S4x4096x1024 .f32) (i : S4x4096x1024.Idx) (h : ¬(0 ≤ (i 1).val ∧ (i 1).val < 1024)) : Cert.Reference32Ideal.Read.val_main_v10 (F := Ideal) x0 x1 x2 i = x2 i := by
  pointwise [Cert.Reference32Ideal.Read.val_main_cst, Cert.Reference32Ideal.Read.val_main_v0, Cert.Reference32Ideal.Read.val_main_v1, Cert.Reference32Ideal.Read.val_main_v2, Cert.Reference32Ideal.Read.val_main_v3, Cert.Reference32Ideal.Read.val_main_v4, Cert.Reference32Ideal.Read.val_main_v5, Cert.Reference32Ideal.Read.val_main_v6, Cert.Reference32Ideal.Read.val_main_v7, Cert.Reference32Ideal.Read.val_main_v8, Cert.Reference32Ideal.Read.val_main_v9, Cert.Reference32Ideal.Read.val_main_v10]
  split_ifs <;> first | rfl | omega | (refine congrArg x2 ?_; blk_ext; try omega)

theorem final0 (c : Dev nD) : (dats m 0 c).arrAt 2 cfg0.N = Cert.Reference32Ideal.Read.val_main_v10 (F := Ideal) (m ((c : Thread nD τ).loc main_arg0)) (m ((c : Thread nD τ).loc main_arg1)) (m ((c : Thread nD τ).loc main_arg2)) := by
  refine (dats m 0 c).arrAt_eq_of_coversWhere_of_agree 2 _ (fun β => β 1 = 0) (by decide +kernel) (fun t hf y => ?_) (fun j hj => ?_)
  · have h := (flush0_2 t).mp hf
    have hN : t.val < 32 := t.isLt
    have b1 : (y 1).val < 1024 := (y 1).isLt
    have b2 : (y 2).val < 1024 := (y 2).isLt
    blk_simp
    rw [after0_2, stored m c t h]
    refine (total m c t h _ (ix2 ⟨(y 1).val, by omega⟩ ⟨(t.val / 8) * 1024 + (y 2).val, by omega⟩) ?_ ?_).trans (inside _ _ _ _ _ ?_ ?_ ?_).symm
    all_goals ((try blk_simp); (try simp only [place t, Matrix.cons_val_zero, Matrix.cons_val_one, Matrix.cons_val_two, Matrix.tail_cons, Matrix.head_cons, Matrix.cons_val]); (try simp only [ix2_zero, ix2_one]); try omega)
  · blk_simp [Pipeline.Window.cell_apply] at hj
    refine (congrFun (entry m c) _).trans (outside _ _ _ _ ?_).symm
    blk_simp
    omega

end Cert.GradWUpFirst

end
-- ==== Proof.GradWUpThird.lean ====
module
public import proofs.«01_k».proof.Proof.Gen.Kernel33Ideal.Value
public import proofs.«01_k».proof.Proof.Gen.Reference33Ideal.Run
public import proofs.«01_k».proof.Proof.Gen.Reference33Ideal.Read
public import Idealize.ShloMosaic.Lib.Pipeline.ValueKit
public import Idealize.ShloMosaic.Lib.Claim

@[expose] public section

set_option maxRecDepth 16384
set_option maxHeartbeats 1000000

/-! The gradient of the first weights of the squared ReLU layer, third layer: the kernel sums its tiles' products and writes them into its layer's rows
of every chip's shard, the reference multiplies once. -/

noncomputable section

namespace Cert.GradWUpThird

open Idealize.ShloMosaic Idealize.ShloMosaic.TcCoe Idealize.SL.Sem
open Cert.Kernel33Ideal Cert.Kernel33Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S1024x1024.Idx) : k0_pay2 (F := Ideal) acc x y j = acc j + ∑ k : Fin 1024, x (ix2 k (j 0)) * y (ix2 k (j 1)) := by pointwise [k0_pay2]

/-- The whole product. -/
def prod (X : Vec Ideal S8192x1024 .bf16) (Y : Vec Ideal S8192x4096 .bf16) (i : Cert.Reference33Ideal.S1024x4096.Idx) : EReal := ∑ k : Fin 8192, X (ix2 k (i 0)) * Y (ix2 k (i 1))

/-- The blocks of grid point `t`. -/
theorem place : ∀ t : Fin cfg0.N, win0_0.index t = ![t.val % 8, t.val / 32] ∧ win0_1.index t = ![t.val % 8, t.val / 8 % 4] ∧ win0_2.index t = ![t.val / 8, 2, 0] :=
  (by decide +kernel : ∀ t : Fin grid0.N, _)

theorem kept (X : Vec Ideal S1024x1024 .f32) (h : scM0_0.IsWhole) : View.read (Elt Ideal) (View.whole cc0_scratch0) (h.unread X) = X := h.read_unread X

/-- What the accumulator holds after point `t`. -/
def acc (c : Dev nD) (t : Fin cfg0.N) : Vec Ideal S1024x1024 .f32 := (outsAt0 m c t.val t.isLt).2

/-- After the last step of a run the accumulator holds a tile of the whole product. -/
theorem total (c : Dev nD) (t : Fin cfg0.N) (h : t.val % 8 = 7) (j : S1024x1024.Idx) (i : Cert.Reference33Ideal.S1024x4096.Idx) (h0 : (i 0).val = (t.val / 32) * 1024 + (j 0).val) (h1 : (i 1).val = (t.val / 8 % 4) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 8 (fun _ => 0) _
    (fun t h j => by rw [outsAt0_A m c t h (by omega)]; frame_out; rw [part, fill])
    (fun t h j => by
      by_cases h1 : t.val % 8 = 7
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores. -/
theorem stored (c : Dev nD) (t : Fin cfg0.N) (h : t.val % 8 = 7) (j : S1x1024x1024.Idx) : (outsAt0 m c t.val t.isLt).1 j = acc m c t (ix2 (j 1) (j 2)) := by
  unfold acc
  rw [outsAt0_C m c t (by omega) h]
  frame_out
  pointwise [k0_pay3]

theorem entry (c : Dev nD) : V m c main_v0 = m ((c : Thread nD τ).loc main_arg2) := by
  unfold V
  after_results
  try rfl

/-- The reference inside the layer's rows. -/
theorem inside (x0 : Vec Ideal S8192x1024 .bf16) (x1 : Vec Ideal S8192x4096 .bf16) (x2 : Vec Ideal S4x4096x1024 .f32) (i : S4x4096x1024.Idx) (r : Cert.Reference33Ideal.S1024x4096.Idx) (h : 2048 ≤ (i 1).val ∧ (i 1).val < 3072)
    (h0 : (r 0).val = (i 1).val - 2048) (h1 : (r 1).val = (i 0).val * 1024 + (i 2).val) : Cert.Reference33Ideal.Read.val_main_v10 (F := Ideal) x0 x1 x2 i = prod x0 x1 r := by
  unfold prod
  pointwise [Cert.Reference33Ideal.Read.val_main_cst, Cert.Reference33Ideal.Read.val_main_v0, Cert.Reference33Ideal.Read.val_main_v1, Cert.Reference33Ideal.Read.val_main_v2, Cert.Reference33Ideal.Read.val_main_v3, Cert.Reference33Ideal.Read.val_main_v4, Cert.Reference33Ideal.Read.val_main_v5, Cert.Reference33Ideal.Read.val_main_v6, Cert.Reference33Ideal.Read.val_main_v7, Cert.Reference33Ideal.Read.val_main_v8, Cert.Reference33Ideal.Read.val_main_v9, Cert.Reference33Ideal.Read.val_main_v10]
  rw [dif_neg (by omega), dif_pos (by omega)]
  refine Finset.sum_congr rfl fun k _ => (mul_comm _ _).trans ?_
  refine congrArg₂ (fun a b : EReal => a * b) (congrArg x0 ?_) (congrArg x1 ?_) <;> (blk_ext; try omega)

/-- The reference outside of the layer's rows. -/
theorem outside (x0 : Vec Ideal S8192x1024 .bf16) (x1 : Vec Ideal S8192x4096 .bf16) (x2 : Vec Ideal S4x4096x1024 .f32) (i : S4x4096x1024.Idx) (h : ¬(2048 ≤ (i 1).val ∧ (i 1).val < 3072)) : Cert.Reference33Ideal.Read.val_main_v10 (F := Ideal) x0 x1 x2 i = x2 i := by
  pointwise [Cert.Reference33Ideal.Read.val_main_cst, Cert.Reference33Ideal.Read.val_main_v0, Cert.Reference33Ideal.Read.val_main_v1, Cert.Reference33Ideal.Read.val_main_v2, Cert.Reference33Ideal.Read.val_main_v3, Cert.Reference33Ideal.Read.val_main_v4, Cert.Reference33Ideal.Read.val_main_v5, Cert.Reference33Ideal.Read.val_main_v6, Cert.Reference33Ideal.Read.val_main_v7, Cert.Reference33Ideal.Read.val_main_v8, Cert.Reference33Ideal.Read.val_main_v9, Cert.Reference33Ideal.Read.val_main_v10]
  split_ifs <;> first | rfl | omega | (refine congrArg x2 ?_; blk_ext; try omega)

theorem final0 (c : Dev nD) : (dats m 0 c).arrAt 2 cfg0.N = Cert.Reference33Ideal.Read.val_main_v10 (F := Ideal) (m ((c : Thread nD τ).loc main_arg0)) (m ((c : Thread nD τ).loc main_arg1)) (m ((c : Thread nD τ).loc main_arg2)) := by
  refine (dats m 0 c).arrAt_eq_of_coversWhere_of_agree 2 _ (fun β => β 1 = 2) (by decide +kernel) (fun t hf y => ?_) (fun j hj => ?_)
  · have h := (flush0_2 t).mp hf
    have hN : t.val < 32 := t.isLt
    have b1 : (y 1).val < 1024 := (y 1).isLt
    have b2 : (y 2).val < 1024 := (y 2).isLt
    blk_simp
    rw [after0_2, stored m c t h]
    refine (total m c t h _ (ix2 ⟨(y 1).val, by omega⟩ ⟨(t.val / 8) * 1024 + (y 2).val, by omega⟩) ?_ ?_).trans (inside _ _ _ _ _ ?_ ?_ ?_).symm
    all_goals ((try blk_simp); (try simp only [place t, Matrix.cons_val_zero, Matrix.cons_val_one, Matrix.cons_val_two, Matrix.tail_cons, Matrix.head_cons, Matrix.cons_val]); (try simp only [ix2_zero, ix2_one]); try omega)
  · blk_simp [Pipeline.Window.cell_apply] at hj
    refine (congrFun (entry m c) _).trans (outside _ _ _ _ ?_).symm
    blk_simp
    omega

end Cert.GradWUpThird

end
-- ==== Proof.GradWOutFirst.lean ====
module
public import proofs.«01_k».proof.Proof.Gen.Kernel34Ideal.Value
public import proofs.«01_k».proof.Proof.Gen.Reference34Ideal.Run
public import proofs.«01_k».proof.Proof.Gen.Reference34Ideal.Read
public import Idealize.ShloMosaic.Lib.Pipeline.ValueKit
public import Idealize.ShloMosaic.Lib.Claim

@[expose] public section

set_option maxRecDepth 16384
set_option maxHeartbeats 1000000

/-! The gradient of the output projection's weights, first layer: the kernel sums its tiles' products and writes them into its layer's rows
of every chip's shard, the reference multiplies once. -/

noncomputable section

namespace Cert.GradWOutFirst

open Idealize.ShloMosaic Idealize.ShloMosaic.TcCoe Idealize.SL.Sem
open Cert.Kernel34Ideal Cert.Kernel34Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S512x1024.Idx) : k0_pay2 (F := Ideal) acc x y j = acc j + ∑ k : Fin 1024, x (ix2 k (j 0)) * y (ix2 k (j 1)) := by pointwise [k0_pay2]

/-- The whole product. -/
def prod (X : Vec Ideal S8192x2048 .bf16) (Y : Vec Ideal S8192x1024 .bf16) (i : Cert.Reference34Ideal.S2048x1024.Idx) : EReal := ∑ k : Fin 8192, X (ix2 k (i 0)) * Y (ix2 k (i 1))

/-- The blocks of grid point `t`. -/
theorem place : ∀ t : Fin cfg0.N, win0_0.index t = ![t.val % 8, t.val / 8] ∧ win0_1.index t = ![t.val % 8, 0] ∧ win0_2.index t = ![t.val / 8, 0, 0] :=
  (by decide +kernel : ∀ t : Fin grid0.N, _)

theorem kept (X : Vec Ideal S512x1024 .f32) (h : scM0_0.IsWhole) : View.read (Elt Ideal) (View.whole cc0_scratch0) (h.unread X) = X := h.read_unread X

/-- What the accumulator holds after point `t`. -/
def acc (c : Dev nD) (t : Fin cfg0.N) : Vec Ideal S512x1024 .f32 := (outsAt0 m c t.val t.isLt).2

/-- After the last step of a run the accumulator holds a tile of the whole product. -/
theorem total (c : Dev nD) (t : Fin cfg0.N) (h : t.val % 8 = 7) (j : S512x1024.Idx) (i : Cert.Reference34Ideal.S2048x1024.Idx) (h0 : (i 0).val = (t.val / 8) * 512 + (j 0).val) (h1 : (i 1).val = (0) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 8 (fun _ => 0) _
    (fun t h j => by rw [outsAt0_A m c t h (by omega)]; frame_out; rw [part, fill])
    (fun t h j => by
      by_cases h1 : t.val % 8 = 7
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores. -/
theorem stored (c : Dev nD) (t : Fin cfg0.N) (h : t.val % 8 = 7) (j : S1x512x1024.Idx) : (outsAt0 m c t.val t.isLt).1 j = acc m c t (ix2 (j 1) (j 2)) := by
  unfold acc
  rw [outsAt0_C m c t (by omega) h]
  frame_out
  pointwise [k0_pay3]

theorem entry (c : Dev nD) : V m c main_v0 = m ((c : Thread nD τ).loc main_arg2) := by
  unfold V
  after_results
  try rfl

/-- The reference inside the layer's rows. -/
theorem inside (x0 : Vec Ideal S8192x2048 .bf16) (x1 : Vec Ideal S8192x1024 .bf16) (x2 : Vec Ideal S4x2048x1024 .f32) (i : S4x2048x1024.Idx) (r : Cert.Reference34Ideal.S2048x1024.Idx) (h : 0 ≤ (i 1).val ∧ (i 1).val < 512)
    (h0 : (r 0).val = (i 0).val * 512 + ((i 1).val - 0)) (h1 : (r 1).val = (i 2).val) : Cert.Reference34Ideal.Read.val_main_v9 (F := Ideal) x0 x1 x2 i = prod x0 x1 r := by
  unfold prod
  pointwise [Cert.Reference34Ideal.Read.val_main_cst, Cert.Reference34Ideal.Read.val_main_v0, Cert.Reference34Ideal.Read.val_main_v1, Cert.Reference34Ideal.Read.val_main_v2, Cert.Reference34Ideal.Read.val_main_v3, Cert.Reference34Ideal.Read.val_main_v4, Cert.Reference34Ideal.Read.val_main_v5, Cert.Reference34Ideal.Read.val_main_v6, Cert.Reference34Ideal.Read.val_main_v7, Cert.Reference34Ideal.Read.val_main_v8, Cert.Reference34Ideal.Read.val_main_v9]
  rw [dif_neg (by omega), dif_pos (by omega)]
  refine Finset.sum_congr rfl fun k _ => (mul_comm _ _).trans ?_
  refine congrArg₂ (fun a b : EReal => a * b) (congrArg x0 ?_) (congrArg x1 ?_) <;> (blk_ext; try omega)

/-- The reference outside of the layer's rows. -/
theorem outside (x0 : Vec Ideal S8192x2048 .bf16) (x1 : Vec Ideal S8192x1024 .bf16) (x2 : Vec Ideal S4x2048x1024 .f32) (i : S4x2048x1024.Idx) (h : ¬(0 ≤ (i 1).val ∧ (i 1).val < 512)) : Cert.Reference34Ideal.Read.val_main_v9 (F := Ideal) x0 x1 x2 i = x2 i := by
  pointwise [Cert.Reference34Ideal.Read.val_main_cst, Cert.Reference34Ideal.Read.val_main_v0, Cert.Reference34Ideal.Read.val_main_v1, Cert.Reference34Ideal.Read.val_main_v2, Cert.Reference34Ideal.Read.val_main_v3, Cert.Reference34Ideal.Read.val_main_v4, Cert.Reference34Ideal.Read.val_main_v5, Cert.Reference34Ideal.Read.val_main_v6, Cert.Reference34Ideal.Read.val_main_v7, Cert.Reference34Ideal.Read.val_main_v8, Cert.Reference34Ideal.Read.val_main_v9]
  split_ifs <;> first | rfl | omega | (refine congrArg x2 ?_; blk_ext; try omega)

theorem final0 (c : Dev nD) : (dats m 0 c).arrAt 2 cfg0.N = Cert.Reference34Ideal.Read.val_main_v9 (F := Ideal) (m ((c : Thread nD τ).loc main_arg0)) (m ((c : Thread nD τ).loc main_arg1)) (m ((c : Thread nD τ).loc main_arg2)) := by
  refine (dats m 0 c).arrAt_eq_of_coversWhere_of_agree 2 _ (fun β => β 1 = 0) (by decide +kernel) (fun t hf y => ?_) (fun j hj => ?_)
  · have h := (flush0_2 t).mp hf
    have hN : t.val < 32 := t.isLt
    have b1 : (y 1).val < 512 := (y 1).isLt
    have b2 : (y 2).val < 1024 := (y 2).isLt
    blk_simp
    rw [after0_2, stored m c t h]
    refine (total m c t h _ (ix2 ⟨(t.val / 8) * 512 + (y 1).val, by omega⟩ ⟨(y 2).val, by omega⟩) ?_ ?_).trans (inside _ _ _ _ _ ?_ ?_ ?_).symm
    all_goals ((try blk_simp); (try simp only [place t, Matrix.cons_val_zero, Matrix.cons_val_one, Matrix.cons_val_two, Matrix.tail_cons, Matrix.head_cons, Matrix.cons_val]); (try simp only [ix2_zero, ix2_one]); try omega)
  · blk_simp [Pipeline.Window.cell_apply] at hj
    refine (congrFun (entry m c) _).trans (outside _ _ _ _ ?_).symm
    blk_simp
    omega

end Cert.GradWOutFirst

end
-- ==== Proof.GradWOutThird.lean ====
module
public import proofs.«01_k».proof.Proof.Gen.Kernel35Ideal.Value
public import proofs.«01_k».proof.Proof.Gen.Reference35Ideal.Run
public import proofs.«01_k».proof.Proof.Gen.Reference35Ideal.Read
public import Idealize.ShloMosaic.Lib.Pipeline.ValueKit
public import Idealize.ShloMosaic.Lib.Claim

@[expose] public section

set_option maxRecDepth 16384
set_option maxHeartbeats 1000000

/-! The gradient of the output projection's weights, third layer: the kernel sums its tiles' products and writes them into its layer's rows
of every chip's shard, the reference multiplies once. -/

noncomputable section

namespace Cert.GradWOutThird

open Idealize.ShloMosaic Idealize.ShloMosaic.TcCoe Idealize.SL.Sem
open Cert.Kernel35Ideal Cert.Kernel35Ideal.Gen
open Idealize.ShloMosaic.Pipeline (Dat)

variable (m : (ℓ : Loc nD τ sig) → Buf (Elt Ideal) ℓ)

/-- The accumulator starts at zero. -/
theorem fill (j) : k0_pay1 (F := Ideal) j = 0 := by pointwise [k0_pay1]

/-- One step adds one tile's product. -/
theorem part (acc x y) (j : S512x1024.Idx) : k0_pay2 (F := Ideal) acc x y j = acc j + ∑ k : Fin 1024, x (ix2 k (j 0)) * y (ix2 k (j 1)) := by pointwise [k0_pay2]

/-- The whole product. -/
def prod (X : Vec Ideal S8192x2048 .bf16) (Y : Vec Ideal S8192x1024 .bf16) (i : Cert.Reference35Ideal.S2048x1024.Idx) : EReal := ∑ k : Fin 8192, X (ix2 k (i 0)) * Y (ix2 k (i 1))

/-- The blocks of grid point `t`. -/
theorem place : ∀ t : Fin cfg0.N, win0_0.index t = ![t.val % 8, t.val / 8] ∧ win0_1.index t = ![t.val % 8, 0] ∧ win0_2.index t = ![t.val / 8, 2, 0] :=
  (by decide +kernel : ∀ t : Fin grid0.N, _)

theorem kept (X : Vec Ideal S512x1024 .f32) (h : scM0_0.IsWhole) : View.read (Elt Ideal) (View.whole cc0_scratch0) (h.unread X) = X := h.read_unread X

/-- What the accumulator holds after point `t`. -/
def acc (c : Dev nD) (t : Fin cfg0.N) : Vec Ideal S512x1024 .f32 := (outsAt0 m c t.val t.isLt).2

/-- After the last step of a run the accumulator holds a tile of the whole product. -/
theorem total (c : Dev nD) (t : Fin cfg0.N) (h : t.val % 8 = 7) (j : S512x1024.Idx) (i : Cert.Reference35Ideal.S2048x1024.Idx) (h0 : (i 0).val = (t.val / 8) * 512 + (j 0).val) (h1 : (i 1).val = (0) * 1024 + (j 1).val) :
    acc m c t j = prod (m ((c : Thread nD τ).loc main_arg0)) (m ((c : Thread nD τ).loc main_arg1)) i := by
  unfold acc prod
  rw [Pipeline.eq_sum_fin_of_reset_step_apply_of_flush (fun n h => (outsAt0 m c n h).2) 8 (fun _ => 0) _
    (fun t h j => by rw [outsAt0_A m c t h (by omega)]; frame_out; rw [part, fill])
    (fun t h j => by
      by_cases h1 : t.val % 8 = 7
      · rw [outsAt0_C m c t h h1]; frame_out; rw [part]; exact congrArg (· + _) (congrFun (kept _ _) j)
      · rw [outsAt0_B m c t h h1]; frame_out; rw [part]; exact congrArg (· + _) (congrFun (kept _ _) j))
    t h _, zero_add]
  refine Fin.sum_mul_add_congr fun s k hl => ?_
  refine congrArg₂ (fun a b : EReal => a * b) ?_ ?_
  · blk_ext [iblk, V, place t, place ⟨_, Pipeline.run_point_lt_of_flush t h s⟩]
  · blk_ext [iblk, V, place t, place ⟨_, Pipeline.run_point_lt_of_flush t h s⟩]

/-- What point `t` stores. -/
theorem stored (c : Dev nD) (t : Fin cfg0.N) (h : t.val % 8 = 7) (j : S1x512x1024.Idx) : (outsAt0 m c t.val t.isLt).1 j = acc m c t (ix2 (j 1) (j 2)) := by
  unfold acc
  rw [outsAt0_C m c t (by omega) h]
  frame_out
  pointwise [k0_pay3]

theorem entry (c : Dev nD) : V m c main_v0 = m ((c : Thread nD τ).loc main_arg2) := by
  unfold V
  after_results
  try rfl

/-- The reference inside the layer's rows. -/
theorem inside (x0 : Vec Ideal S8192x2048 .bf16) (x1 : Vec Ideal S8192x1024 .bf16) (x2 : Vec Ideal S4x2048x1024 .f32) (i : S4x2048x1024.Idx) (r : Cert.Reference35Ideal.S2048x1024.Idx) (h : 1024 ≤ (i 1).val ∧ (i 1).val < 1536)
    (h0 : (r 0).val = (i 0).val * 512 + ((i 1).val - 1024)) (h1 : (r 1).val = (i 2).val) : Cert.Reference35Ideal.Read.val_main_v9 (F := Ideal) x0 x1 x2 i = prod x0 x1 r := by
  unfold prod
  pointwise [Cert.Reference35Ideal.Read.val_main_cst, Cert.Reference35Ideal.Read.val_main_v0, Cert.Reference35Ideal.Read.val_main_v1, Cert.Reference35Ideal.Read.val_main_v2, Cert.Reference35Ideal.Read.val_main_v3, Cert.Reference35Ideal.Read.val_main_v4, Cert.Reference35Ideal.Read.val_main_v5, Cert.Reference35Ideal.Read.val_main_v6, Cert.Reference35Ideal.Read.val_main_v7, Cert.Reference35Ideal.Read.val_main_v8, Cert.Reference35Ideal.Read.val_main_v9]
  rw [dif_neg (by omega), dif_pos (by omega)]
  refine Finset.sum_congr rfl fun k _ => (mul_comm _ _).trans ?_
  refine congrArg₂ (fun a b : EReal => a * b) (congrArg x0 ?_) (congrArg x1 ?_) <;> (blk_ext; try omega)

/-- The reference outside of the layer's rows. -/
theorem outside (x0 : Vec Ideal S8192x2048 .bf16) (x1 : Vec Ideal S8192x1024 .bf16) (x2 : Vec Ideal S4x2048x1024 .f32) (i : S4x2048x1024.Idx) (h : ¬(1024 ≤ (i 1).val ∧ (i 1).val < 1536)) : Cert.Reference35Ideal.Read.val_main_v9 (F := Ideal) x0 x1 x2 i = x2 i := by
  pointwise [Cert.Reference35Ideal.Read.val_main_cst, Cert.Reference35Ideal.Read.val_main_v0, Cert.Reference35Ideal.Read.val_main_v1, Cert.Reference35Ideal.Read.val_main_v2, Cert.Reference35Ideal.Read.val_main_v3, Cert.Reference35Ideal.Read.val_main_v4, Cert.Reference35Ideal.Read.val_main_v5, Cert.Reference35Ideal.Read.val_main_v6, Cert.Reference35Ideal.Read.val_main_v7, Cert.Reference35Ideal.Read.val_main_v8, Cert.Reference35Ideal.Read.val_main_v9]
  split_ifs <;> first | rfl | omega | (refine congrArg x2 ?_; blk_ext; try omega)

theorem final0 (c : Dev nD) : (dats m 0 c).arrAt 2 cfg0.N = Cert.Reference35Ideal.Read.val_main_v9 (F := Ideal) (m ((c : Thread nD τ).loc main_arg0)) (m ((c : Thread nD τ).loc main_arg1)) (m ((c : Thread nD τ).loc main_arg2)) := by
  refine (dats m 0 c).arrAt_eq_of_coversWhere_of_agree 2 _ (fun β => β 1 = 2) (by decide +kernel) (fun t hf y => ?_) (fun j hj => ?_)
  · have h := (flush0_2 t).mp hf
    have hN : t.val < 32 := t.isLt
    have b1 : (y 1).val < 512 := (y 1).isLt
    have b2 : (y 2).val < 1024 := (y 2).isLt
    blk_simp
    rw [after0_2, stored m c t h]
    refine (total m c t h _ (ix2 ⟨(t.val / 8) * 512 + (y 1).val, by omega⟩ ⟨(y 2).val, by omega⟩) ?_ ?_).trans (inside _ _ _ _ _ ?_ ?_ ?_).symm
    all_goals ((try blk_simp); (try simp only [place t, Matrix.cons_val_zero, Matrix.cons_val_one, Matrix.cons_val_two, Matrix.tail_cons, Matrix.head_cons, Matrix.cons_val]); (try simp only [ix2_zero, ix2_one]); try omega)
  · blk_simp [Pipeline.Window.cell_apply] at hj
    refine (congrFun (entry m c) _).trans (outside _ _ _ _ ?_).symm
    blk_simp
    omega

end Cert.GradWOutThird

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.Host
public import proofs.«01_k».proof.Proof.Finite
public import Idealize.ShloMosaic.Lib.Claim
public import Idealize.ShloMosaic.Adequacy
public import Idealize.ShloMosaic.Init
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.GradH
public import proofs.«01_k».proof.Proof.GradWIn
public import proofs.«01_k».proof.Proof.InProj
public import proofs.«01_k».proof.Proof.UpProj
public import proofs.«01_k».proof.Proof.DownProj
public import proofs.«01_k».proof.Proof.GradAct
public import proofs.«01_k».proof.Proof.GradH2
public import proofs.«01_k».proof.Proof.OutProj
public import proofs.«01_k».proof.Proof.GradYcat
public import proofs.«01_k».proof.Proof.GradWDown
public import proofs.«01_k».proof.Proof.GradWUp
public import proofs.«01_k».proof.Proof.GradWOut
public import proofs.«01_k».proof.Proof.DownLast
public import proofs.«01_k».proof.Proof.DtProj
public import proofs.«01_k».proof.Proof.GradWDt
public import proofs.«01_k».proof.Proof.GradHDt
public import proofs.«01_k».proof.Proof.Norm
public import proofs.«01_k».proof.Proof.RmsBwd
public import proofs.«01_k».proof.Proof.FinalLoss
public import proofs.«01_k».proof.Proof.MixNorm
public import proofs.«01_k».proof.Proof.GradMixNorm
public import proofs.«01_k».proof.Proof.ConvFwd
public import proofs.«01_k».proof.Proof.UpdateWIn
public import proofs.«01_k».proof.Proof.UpdateWOut
public import proofs.«01_k».proof.Proof.UpdateWUp
public import proofs.«01_k».proof.Proof.UpdateSmall
public import proofs.«01_k».proof.Proof.GradWDownFirst
public import proofs.«01_k».proof.Proof.GradWDownThird
public import proofs.«01_k».proof.Proof.GradWUpFirst
public import proofs.«01_k».proof.Proof.GradWUpThird
public import proofs.«01_k».proof.Proof.GradWOutFirst
public import proofs.«01_k».proof.Proof.GradWOutThird

@[expose] public section

noncomputable section

namespace Cert.Proof

open Idealize.ShloMosaic Idealize.SL.Sem Cert.Kernel

theorem frame_reference : Cert.quiescent_ReferenceIdeal (hReferenceIdeal := Cert.ReferenceIdeal.Gen.facts) := fun m g _ =>
  (θ_run _ _ _).mono (fun r h => ⟨fun c => ⟨(h c).2.2.2.1, (h c).2.2.2.2⟩, funext fun x => by
    obtain ⟨_, s⟩ := x
    rcases s with s | s <;> exact s.elim0⟩) (Cert.ReferenceIdeal.Value.run m g)

/-- On finite arguments the kernel and the reference leave the same three gradients. -/
theorem algebraic : Cert.algebraic_KernelIdeal_ReferenceIdeal_pre_finite (hKernelIdeal := Cert.KernelIdeal.Gen.facts)
    (hReferenceIdeal := Cert.ReferenceIdeal.Gen.facts) (hPre_finite := Cert.AttBwd.pre_facts) := by
  intro m g m' g' hpre hargs
  have hX := fun c => (@Cert.AttBwd.finite_args Cert.AttBwd.pre_facts _ _ (hpre c)).1
  have hY := fun c => (@Cert.AttBwd.finite_args Cert.AttBwd.pre_facts _ _ (hpre c)).2
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  refine (θ_run _ _ _).mono (fun r h c => ?_) (Cert.ReferenceIdeal.Value.run m' g')
  have hR := Cert.AttBwd.host_up m c _ (hX c)
  obtain ⟨h0, h1, h2, h3, h4⟩ := h c
  refine ⟨h0.trans ?_, h1.trans ?_, h2.trans ?_, h3, h4⟩
  · exact ((Cert.ReferenceIdeal.Read.val_main_v48_eq m' c).trans (congrArg₂ _ ((hargs c).1.trans (hX c)) ((hargs c).2.trans (hY c)))).trans
      ((Cert.AttBwd.rv48 _ _).trans (Cert.AttBwd.final_q m c _ _ _ (hX c) (hY c) hR).symm)
  · exact ((Cert.ReferenceIdeal.Read.val_main_v50_eq m' c).trans (congrArg₂ _ ((hargs c).1.trans (hX c)) ((hargs c).2.trans (hY c)))).trans
      ((Cert.AttBwd.rv50 _ _).trans (Cert.AttBwd.final_k m c _ _ _ (hX c) (hY c) hR).symm)
  · exact ((Cert.ReferenceIdeal.Read.val_main_v52_eq m' c).trans (congrArg₂ _ ((hargs c).1.trans (hX c)) ((hargs c).2.trans (hY c)))).trans
      ((Cert.AttBwd.rv52 _ _).trans (Cert.AttBwd.final_v m c _ _ _ (hX c) (hY c) hR).symm)

theorem frame_reference2 : Cert.quiescent_Reference2Ideal (hReference2Ideal := Cert.Reference2Ideal.Gen.facts) := fun m g _ =>
  (θ_run _ _ _).mono (fun r h => ⟨fun c => (h c).2, funext fun x => by
    obtain ⟨_, s⟩ := x
    rcases s with s | s <;> exact s.elim0⟩) (Cert.Reference2Ideal.Value.run m g)

theorem algebraic2 : Cert.algebraic_Kernel2Ideal_Reference2Ideal (hKernel2Ideal := Cert.Kernel2Ideal.Gen.facts) (hReference2Ideal := Cert.Reference2Ideal.Gen.facts) := by
  intro m g m' g' _ hargs
  refine ⟨fun c => (Cert.Kernel2Ideal.Gen.dats m 0 c).arrAt 3 Cert.Kernel2Ideal.cfg0.N, Cert.Kernel2Ideal.Value.run_blocks m g, ?_⟩
  refine (θ_run _ _ _).mono (fun r h c => ?_) (Cert.Reference2Ideal.Value.run m' g')
  obtain ⟨a0, a1, a2⟩ := hargs c
  obtain ⟨h0, k⟩ := h c
  exact ⟨h0.trans ((Cert.Reference2Ideal.Read.val_main_v5_eq _ _ _).trans (by rw [a0, a1, a2]; exact (Cert.GradH.final0 m c).symm)), k⟩

theorem frame_reference3 : Cert.quiescent_Reference3Ideal (hReference3Ideal := Cert.Reference3Ideal.Gen.facts) := fun m g _ =>
  (θ_run _ _ _).mono (fun r h => ⟨fun c => (h c).2, funext fun x => by
    obtain ⟨_, s⟩ := x
    rcases s with s | s <;> exact s.elim0⟩) (Cert.Reference3Ideal.Value.run m g)

theorem algebraic3 : Cert.algebraic_Kernel3Ideal_Reference3Ideal (hKernel3Ideal := Cert.Kernel3Ideal.Gen.facts) (hReference3Ideal := Cert.Reference3Ideal.Gen.facts) := by
  intro m g m' g' _ hargs
  refine ⟨fun c => (Cert.Kernel3Ideal.Gen.dats m 0 c).arrAt 2 Cert.Kernel3Ideal.cfg0.N, Cert.Kernel3Ideal.Value.run_blocks m g, ?_⟩
  refine (θ_run _ _ _).mono (fun r h c => ?_) (Cert.Reference3Ideal.Value.run m' g')
  obtain ⟨a0, a1⟩ := hargs c
  obtain ⟨h0, k⟩ := h c
  exact ⟨h0.trans ((Cert.Reference3Ideal.Read.val_main_v5_eq _ _).trans (by rw [a0, a1]; exact (Cert.GradWIn.final0 m c).symm)), k⟩

theorem frame_reference4 : Cert.quiescent_Reference4Ideal (hReference4Ideal := Cert.Reference4Ideal.Gen.facts) := fun m g _ =>
  (θ_run _ _ _).mono (fun r h => ⟨fun c => (h c).2, funext fun x => by
    obtain ⟨_, s⟩ := x
    rcases s with s | s <;> exact s.elim0⟩) (Cert.Reference4Ideal.Value.run m g)

theorem algebraic4 : Cert.algebraic_Kernel4Ideal_Reference4Ideal (hKernel4Ideal := Cert.Kernel4Ideal.Gen.facts) (hReference4Ideal := Cert.Reference4Ideal.Gen.facts) := by
  intro m g m' g' _ hargs
  refine ⟨fun c => (Cert.Kernel4Ideal.Gen.dats m 0 c).arrAt 2 Cert.Kernel4Ideal.cfg0.N, Cert.Kernel4Ideal.Value.run_blocks m g, ?_⟩
  refine (θ_run _ _ _).mono (fun r h c => ?_) (Cert.Reference4Ideal.Value.run m' g')
  obtain ⟨a0, a1⟩ := hargs c
  obtain ⟨h0, k⟩ := h c
  exact ⟨h0.trans ((Cert.Reference4Ideal.Read.val_main_v2_eq _ _).trans (by rw [a0, a1]; exact (Cert.InProj.final0 m c).symm)), k⟩

theorem frame_reference5 : Cert.quiescent_Reference5Ideal (hReference5Ideal := Cert.Reference5Ideal.Gen.facts) := fun m g _ =>
  (θ_run _ _ _).mono (fun r h => ⟨fun c => (h c).2.2, funext fun x => by
    obtain ⟨_, s⟩ := x
    rcases s with s | s <;> exact s.elim0⟩) (Cert.Reference5Ideal.Value.run m g)

theorem algebraic5 : Cert.algebraic_Kernel5Ideal_Reference5Ideal (hKernel5Ideal := Cert.Kernel5Ideal.Gen.facts) (hReference5Ideal := Cert.Reference5Ideal.Gen.facts) := by
  intro m g m' g' _ hargs
  refine ⟨fun c => (Cert.Kernel5Ideal.Gen.dats m 0 c).arrAt 2 Cert.Kernel5Ideal.cfg0.N, fun c => (Cert.Kernel5Ideal.Gen.dats m 0 c).arrAt 3 Cert.Kernel5Ideal.cfg0.N, Cert.Kernel5Ideal.Value.run_blocks m g, ?_⟩
  refine (θ_run _ _ _).mono (fun r h c => ?_) (Cert.Reference5Ideal.Value.run m' g')
  obtain ⟨a0, a1⟩ := hargs c
  obtain ⟨h0, h1, k⟩ := h c
  exact ⟨h0.trans ((Cert.Reference5Ideal.Read.val_main_v2_eq _ _).trans (by rw [a0, a1]; exact (Cert.UpProj.final0 m c).symm)), h1.trans ((Cert.Reference5Ideal.Read.val_main_v5_eq _ _).trans (by rw [a0, a1]; exact (Cert.UpProj.final1 m c).symm)), k⟩

theorem frame_reference6 : Cert.quiescent_Reference6Ideal (hReference6Ideal := Cert.Reference6Ideal.Gen.facts) := fun m g _ =>
  (θ_run _ _ _).mono (fun r h => ⟨fun c => (h c).2.2, funext fun x => by
    obtain ⟨_, s⟩ := x
    rcases s with s | s <;> exact s.elim0⟩) (Cert.Reference6Ideal.Value.run m g)

theorem algebraic6 : Cert.algebraic_Kernel6Ideal_Reference6Ideal (hKernel6Ideal := Cert.Kernel6Ideal.Gen.facts) (hReference6Ideal := Cert.Reference6Ideal.Gen.facts) := by
  intro m g m' g' _ hargs
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N, Cert.Kernel6Ideal.Value.run_blocks m g, ?_⟩
  refine (θ_run _ _ _).mono (fun r h c => ?_) (Cert.Reference6Ideal.Value.run m' g')
  obtain ⟨a0, a1, a2, a3⟩ := hargs c
  obtain ⟨h0, h1, k⟩ := h c
  exact ⟨h0.trans ((Cert.Reference6Ideal.Read.val_main_v3_eq _ _ _).trans (by rw [a0, a1, a2]; exact (Cert.DownProj.final0 m c).symm)), h1.trans ((Cert.Reference6Ideal.Read.val_main_v16_eq _ _ _ _).trans (by rw [a0, a1, a2, a3]; exact (Cert.DownProj.final1 m c).symm)), k⟩

theorem frame_reference7 : Cert.quiescent_Reference7Ideal (hReference7Ideal := Cert.Reference7Ideal.Gen.facts) := fun m g _ =>
  (θ_run _ _ _).mono (fun r h => ⟨fun c => (h c).2, funext fun x => by
    obtain ⟨_, s⟩ := x
    rcases s with s | s <;> exact s.elim0⟩) (Cert.Reference7Ideal.Value.run m g)

theorem algebraic7 : Cert.algebraic_Kernel7Ideal_Reference7Ideal (hKernel7Ideal := Cert.Kernel7Ideal.Gen.facts) (hReference7Ideal := Cert.Reference7Ideal.Gen.facts) := by
  intro m g m' g' _ hargs
  refine ⟨fun c => (Cert.Kernel7Ideal.Gen.dats m 0 c).arrAt 3 Cert.Kernel7Ideal.cfg0.N, Cert.Kernel7Ideal.Value.run_blocks m g, ?_⟩
  refine (θ_run _ _ _).mono (fun r h c => ?_) (Cert.Reference7Ideal.Value.run m' g')
  obtain ⟨a0, a1, a2⟩ := hargs c
  obtain ⟨h0, k⟩ := h c
  exact ⟨h0.trans ((Cert.Reference7Ideal.Read.val_main_v14_eq _ _ _).trans (by rw [a0, a1, a2]; exact (Cert.GradAct.final0 m c).symm)), k⟩

theorem frame_reference8 : Cert.quiescent_Reference8Ideal (hReference8Ideal := Cert.Reference8Ideal.Gen.facts) := fun m g _ =>
  (θ_run _ _ _).mono (fun r h => ⟨fun c => (h c).2, funext fun x => by
    obtain ⟨_, s⟩ := x
    rcases s with s | s <;> exact s.elim0⟩) (Cert.Reference8Ideal.Value.run m g)

theorem algebraic8 : Cert.algebraic_Kernel8Ideal_Reference8Ideal (hKernel8Ideal := Cert.Kernel8Ideal.Gen.facts) (hReference8Ideal := Cert.Reference8Ideal.Gen.facts) := by
  intro m g m' g' _ hargs
  refine ⟨fun c => (Cert.Kernel8Ideal.Gen.dats m 0 c).arrAt 2 Cert.Kernel8Ideal.cfg0.N, Cert.Kernel8Ideal.Value.run_blocks m g, ?_⟩
  refine (θ_run _ _ _).mono (fun r h c => ?_) (Cert.Reference8Ideal.Value.run m' g')
  obtain ⟨a0, a1⟩ := hargs c
  obtain ⟨h0, k⟩ := h c
  exact ⟨h0.trans ((Cert.Reference8Ideal.Read.val_main_v4_eq _ _).trans (by rw [a0, a1]; exact (Cert.GradH2.final0 m c).symm)), k⟩

theorem frame_reference9 : Cert.quiescent_Reference9Ideal (hReference9Ideal := Cert.Reference9Ideal.Gen.facts) := fun m g _ =>
  (θ_run _ _ _).mono (fun r h => ⟨fun c => (h c).2.2, funext fun x => by
    obtain ⟨_, s⟩ := x
    rcases s with s | s <;> exact s.elim0⟩) (Cert.Reference9Ideal.Value.run m g)

theorem algebraic9 : Cert.algebraic_Kernel9Ideal_Reference9Ideal (hKernel9Ideal := Cert.Kernel9Ideal.Gen.facts) (hReference9Ideal := Cert.Reference9Ideal.Gen.facts) := by
  intro m g m' g' _ hargs
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N, Cert.Kernel9Ideal.Value.run_blocks m g, ?_⟩
  refine (θ_run _ _ _).mono (fun r h c => ?_) (Cert.Reference9Ideal.Value.run m' g')
  obtain ⟨a0, a1, a2, a3⟩ := hargs c
  obtain ⟨h0, h1, k⟩ := h c
  exact ⟨h0.trans ((Cert.Reference9Ideal.Read.val_main_v3_eq _ _ _).trans (by rw [a0, a1, a2]; exact (Cert.OutProj.final0 m c).symm)), h1.trans ((Cert.Reference9Ideal.Read.val_main_v16_eq _ _ _ _).trans (by rw [a0, a1, a2, a3]; exact (Cert.OutProj.final1 m c).symm)), k⟩

theorem frame_reference10 : Cert.quiescent_Reference10Ideal (hReference10Ideal := Cert.Reference10Ideal.Gen.facts) := fun m g _ =>
  (θ_run _ _ _).mono (fun r h => ⟨fun c => (h c).2, funext fun x => by
    obtain ⟨_, s⟩ := x
    rcases s with s | s <;> exact s.elim0⟩) (Cert.Reference10Ideal.Value.run m g)

theorem algebraic10 : Cert.algebraic_Kernel10Ideal_Reference10Ideal (hKernel10Ideal := Cert.Kernel10Ideal.Gen.facts) (hReference10Ideal := Cert.Reference10Ideal.Gen.facts) := by
  intro m g m' g' _ hargs
  refine ⟨fun c => (Cert.Kernel10Ideal.Gen.dats m 0 c).arrAt 2 Cert.Kernel10Ideal.cfg0.N, Cert.Kernel10Ideal.Value.run_blocks m g, ?_⟩
  refine (θ_run _ _ _).mono (fun r h c => ?_) (Cert.Reference10Ideal.Value.run m' g')
  obtain ⟨a0, a1⟩ := hargs c
  obtain ⟨h0, k⟩ := h c
  exact ⟨h0.trans ((Cert.Reference10Ideal.Read.val_main_v4_eq _ _).trans (by rw [a0, a1]; exact (Cert.GradYcat.final0 m c).symm)), k⟩

theorem frame_reference11 : Cert.quiescent_Reference11Ideal (hReference11Ideal := Cert.Reference11Ideal.Gen.facts) := fun m g _ =>
  (θ_run _ _ _).mono (fun r h => ⟨fun c => (h c).2, funext fun x => by
    obtain ⟨_, s⟩ := x
    rcases s with s | s <;> exact s.elim0⟩) (Cert.Reference11Ideal.Value.run m g)

theorem algebraic11 : Cert.algebraic_Kernel11Ideal_Reference11Ideal (hKernel11Ideal := Cert.Kernel11Ideal.Gen.facts) (hReference11Ideal := Cert.Reference11Ideal.Gen.facts) := by
  intro m g m' g' _ hargs
  refine ⟨fun c => (Cert.Kernel11Ideal.Gen.dats m 0 c).arrAt 2 Cert.Kernel11Ideal.cfg0.N, Cert.Kernel11Ideal.Value.run_blocks m g, ?_⟩
  refine (θ_run _ _ _).mono (fun r h c => ?_) (Cert.Reference11Ideal.Value.run m' g')
  obtain ⟨a0, a1, a2⟩ := hargs c
  obtain ⟨h0, k⟩ := h c
  exact ⟨h0.trans ((Cert.Reference11Ideal.Read.val_main_v9_eq _ _ _).trans (by rw [a0, a1, a2]; exact (Cert.GradWDown.final0 m c).symm)), k⟩

theorem frame_reference12 : Cert.quiescent_Reference12Ideal (hReference12Ideal := Cert.Reference12Ideal.Gen.facts) := fun m g _ =>
  (θ_run _ _ _).mono (fun r h => ⟨fun c => (h c).2, funext fun x => by
    obtain ⟨_, s⟩ := x
    rcases s with s | s <;> exact s.elim0⟩) (Cert.Reference12Ideal.Value.run m g)

theorem algebraic12 : Cert.algebraic_Kernel12Ideal_Reference12Ideal (hKernel12Ideal := Cert.Kernel12Ideal.Gen.facts) (hReference12Ideal := Cert.Reference12Ideal.Gen.facts) := by
  intro m g m' g' _ hargs
  refine ⟨fun c => (Cert.Kernel12Ideal.Gen.dats m 0 c).arrAt 2 Cert.Kernel12Ideal.cfg0.N, Cert.Kernel12Ideal.Value.run_blocks m g, ?_⟩
  refine (θ_run _ _ _).mono (fun r h c => ?_) (Cert.Reference12Ideal.Value.run m' g')
  obtain ⟨a0, a1, a2⟩ := hargs c
  obtain ⟨h0, k⟩ := h c
  exact ⟨h0.trans ((Cert.Reference12Ideal.Read.val_main_v10_eq _ _ _).trans (by rw [a0, a1, a2]; exact (Cert.GradWUp.final0 m c).symm)), k⟩

theorem frame_reference13 : Cert.quiescent_Reference13Ideal (hReference13Ideal := Cert.Reference13Ideal.Gen.facts) := fun m g _ =>
  (θ_run _ _ _).mono (fun r h => ⟨fun c => (h c).2, funext fun x => by
    obtain ⟨_, s⟩ := x
    rcases s with s | s <;> exact s.elim0⟩) (Cert.Reference13Ideal.Value.run m g)

theorem algebraic13 : Cert.algebraic_Kernel13Ideal_Reference13Ideal (hKernel13Ideal := Cert.Kernel13Ideal.Gen.facts) (hReference13Ideal := Cert.Reference13Ideal.Gen.facts) := by
  intro m g m' g' _ hargs
  refine ⟨fun c => (Cert.Kernel13Ideal.Gen.dats m 0 c).arrAt 2 Cert.Kernel13Ideal.cfg0.N, Cert.Kernel13Ideal.Value.run_blocks m g, ?_⟩
  refine (θ_run _ _ _).mono (fun r h c => ?_) (Cert.Reference13Ideal.Value.run m' g')
  obtain ⟨a0, a1, a2⟩ := hargs c
  obtain ⟨h0, k⟩ := h c
  exact ⟨h0.trans ((Cert.Reference13Ideal.Read.val_main_v9_eq _ _ _).trans (by rw [a0, a1, a2]; exact (Cert.GradWOut.final0 m c).symm)), k⟩

theorem frame_reference14 : Cert.quiescent_Reference14Ideal (hReference14Ideal := Cert.Reference14Ideal.Gen.facts) := fun m g _ =>
  (θ_run _ _ _).mono (fun r h => ⟨fun c => (h c).2, funext fun x => by
    obtain ⟨_, s⟩ := x
    rcases s with s | s <;> exact s.elim0⟩) (Cert.Reference14Ideal.Value.run m g)

theorem algebraic14 : Cert.algebraic_Kernel14Ideal_Reference14Ideal (hKernel14Ideal := Cert.Kernel14Ideal.Gen.facts) (hReference14Ideal := Cert.Reference14Ideal.Gen.facts) := by
  intro m g m' g' _ hargs
  refine ⟨fun c => (Cert.Kernel14Ideal.Gen.dats m 0 c).arrAt 3 Cert.Kernel14Ideal.cfg0.N, Cert.Kernel14Ideal.Value.run_blocks m g, ?_⟩
  refine (θ_run _ _ _).mono (fun r h c => ?_) (Cert.Reference14Ideal.Value.run m' g')
  obtain ⟨a0, a1, a2⟩ := hargs c
  obtain ⟨h0, k⟩ := h c
  exact ⟨h0.trans ((Cert.Reference14Ideal.Read.val_main_v3_eq _ _ _).trans (by rw [a0, a1, a2]; exact (Cert.DownLast.final0 m c).symm)), k⟩

theorem frame_reference15 : Cert.quiescent_Reference15Ideal (hReference15Ideal := Cert.Reference15Ideal.Gen.facts) := fun m g _ =>
  (θ_run _ _ _).mono (fun r h => ⟨fun c => (h c).2, funext fun x => by
    obtain ⟨_, s⟩ := x
    rcases s with s | s <;> exact s.elim0⟩) (Cert.Reference15Ideal.Value.run m g)

theorem algebraic15 : Cert.algebraic_Kernel15Ideal_Reference15Ideal (hKernel15Ideal := Cert.Kernel15Ideal.Gen.facts) (hReference15Ideal := Cert.Reference15Ideal.Gen.facts) := by
  intro m g m' g' _ hargs
  refine ⟨fun c => (Cert.Kernel15Ideal.Gen.dats m 0 c).arrAt 2 Cert.Kernel15Ideal.cfg0.N, Cert.Kernel15Ideal.Value.run_blocks m g, ?_⟩
  refine (θ_run _ _ _).mono (fun r h c => ?_) (Cert.Reference15Ideal.Value.run m' g')
  obtain ⟨a0, a1⟩ := hargs c
  obtain ⟨h0, k⟩ := h c
  exact ⟨h0.trans ((Cert.Reference15Ideal.Read.val_main_v2_eq _ _).trans (by rw [a0, a1]; exact (Cert.DtProj.final0 m c).symm)), k⟩

theorem frame_reference16 : Cert.quiescent_Reference16Ideal (hReference16Ideal := Cert.Reference16Ideal.Gen.facts) := fun m g _ =>
  (θ_run _ _ _).mono (fun r h => ⟨fun c => (h c).2, funext fun x => by
    obtain ⟨_, s⟩ := x
    rcases s with s | s <;> exact s.elim0⟩) (Cert.Reference16Ideal.Value.run m g)

theorem algebraic16 : Cert.algebraic_Kernel16Ideal_Reference16Ideal (hKernel16Ideal := Cert.Kernel16Ideal.Gen.facts) (hReference16Ideal := Cert.Reference16Ideal.Gen.facts) := by
  intro m g m' g' _ hargs
  refine ⟨fun c => (Cert.Kernel16Ideal.Gen.dats m 0 c).arrAt 2 Cert.Kernel16Ideal.cfg0.N, Cert.Kernel16Ideal.Value.run_blocks m g, ?_⟩
  refine (θ_run _ _ _).mono (fun r h c => ?_) (Cert.Reference16Ideal.Value.run m' g')
  obtain ⟨a0, a1⟩ := hargs c
  obtain ⟨h0, k⟩ := h c
  exact ⟨h0.trans ((Cert.Reference16Ideal.Read.val_main_v5_eq _ _).trans (by rw [a0, a1]; exact (Cert.GradWDt.final0 m c).symm)), k⟩

theorem frame_reference17 : Cert.quiescent_Reference17Ideal (hReference17Ideal := Cert.Reference17Ideal.Gen.facts) := fun m g _ =>
  (θ_run _ _ _).mono (fun r h => ⟨fun c => (h c).2, funext fun x => by
    obtain ⟨_, s⟩ := x
    rcases s with s | s <;> exact s.elim0⟩) (Cert.Reference17Ideal.Value.run m g)

theorem algebraic17 : Cert.algebraic_Kernel17Ideal_Reference17Ideal (hKernel17Ideal := Cert.Kernel17Ideal.Gen.facts) (hReference17Ideal := Cert.Reference17Ideal.Gen.facts) := by
  intro m g m' g' _ hargs
  refine ⟨fun c => (Cert.Kernel17Ideal.Gen.dats m 0 c).arrAt 2 Cert.Kernel17Ideal.cfg0.N, Cert.Kernel17Ideal.Value.run_blocks m g, ?_⟩
  refine (θ_run _ _ _).mono (fun r h c => ?_) (Cert.Reference17Ideal.Value.run m' g')
  obtain ⟨a0, a1⟩ := hargs c
  obtain ⟨h0, k⟩ := h c
  exact ⟨h0.trans ((Cert.Reference17Ideal.Read.val_main_v4_eq _ _).trans (by rw [a0, a1]; exact (Cert.GradHDt.final0 m c).symm)), k⟩

theorem frame_reference18 : Cert.quiescent_Reference18Ideal (hReference18Ideal := Cert.Reference18Ideal.Gen.facts) := fun m g _ =>
  (θ_run _ _ _).mono (fun r h => ⟨fun c => (h c).2, funext fun x => by
    obtain ⟨_, s⟩ := x
    rcases s with s | s <;> exact s.elim0⟩) (Cert.Reference18Ideal.Value.run m g)

theorem algebraic18 : Cert.algebraic_Kernel18Ideal_Reference18Ideal (hKernel18Ideal := Cert.Kernel18Ideal.Gen.facts) (hReference18Ideal := Cert.Reference18Ideal.Gen.facts) := by
  intro m g m' g' _ hargs
  refine ⟨fun c => (Cert.Kernel18Ideal.Gen.dats m 0 c).arrAt 2 Cert.Kernel18Ideal.cfg0.N, Cert.Kernel18Ideal.Value.run_blocks m g, ?_⟩
  refine (θ_run _ _ _).mono (fun r h c => ?_) (Cert.Reference18Ideal.Value.run m' g')
  obtain ⟨a0, a1⟩ := hargs c
  obtain ⟨h0, k⟩ := h c
  exact ⟨h0.trans ((Cert.Reference18Ideal.Read.val_main_v12_eq _ _).trans (by rw [a0, a1]; exact (Cert.Norm.final0 m c).symm)), k⟩

theorem frame_reference19 : Cert.quiescent_Reference19Ideal (hReference19Ideal := Cert.Reference19Ideal.Gen.facts) := fun m g _ =>
  (θ_run _ _ _).mono (fun r h => ⟨fun c => (h c).2.2.2, funext fun x => by
    obtain ⟨_, s⟩ := x
    rcases s with s | s <;> exact s.elim0⟩) (Cert.Reference19Ideal.Value.run m g)

theorem algebraic19 : Cert.algebraic_Kernel19Ideal_Reference19Ideal (hKernel19Ideal := Cert.Kernel19Ideal.Gen.facts) (hReference19Ideal := Cert.Reference19Ideal.Gen.facts) := by
  intro m g m' g' _ hargs
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, fun c => (Cert.Kernel19Ideal.Gen.dats m 0 c).arrAt 6 Cert.Kernel19Ideal.cfg0.N, Cert.Kernel19Ideal.Value.run_blocks m g, ?_⟩
  refine (θ_run _ _ _).mono (fun r h c => ?_) (Cert.Reference19Ideal.Value.run m' g')
  obtain ⟨a0, a1, a2, a3⟩ := hargs c
  obtain ⟨h0, h1, h2, k⟩ := h c
  exact ⟨h0.trans ((Cert.Reference19Ideal.Read.val_main_v34_eq _ _ _ _).trans (by rw [a0, a1, a2, a3]; exact (Cert.RmsBwd.final0 m c).symm)), h1.trans ((Cert.Reference19Ideal.Read.val_main_v36_eq _ _ _ _).trans (by rw [a0, a1, a2, a3]; exact (Cert.RmsBwd.final1 m c).symm)), h2.trans ((Cert.Reference19Ideal.Read.val_main_v17_eq _ _).trans (by rw [a0, a2]; exact (Cert.RmsBwd.final2 m c).symm)), k⟩

theorem frame_reference20 : Cert.quiescent_Reference20Ideal (hReference20Ideal := Cert.Reference20Ideal.Gen.facts) := fun m g _ =>
  (θ_run _ _ _).mono (fun r h => ⟨fun c => (h c).2.2.2.2, funext fun x => by
    obtain ⟨_, s⟩ := x
    rcases s with s | s <;> exact s.elim0⟩) (Cert.Reference20Ideal.Value.run m g)

theorem algebraic20 : Cert.algebraic_Kernel20Ideal_Reference20Ideal (hKernel20Ideal := Cert.Kernel20Ideal.Gen.facts) (hReference20Ideal := Cert.Reference20Ideal.Gen.facts) := by
  intro m g m' g' _ hargs
  refine ⟨fun c => (Cert.Kernel20Ideal.Gen.dats m 0 c).arrAt 5 Cert.Kernel20Ideal.cfg0.N, fun c => (Cert.Kernel20Ideal.Gen.dats m 0 c).arrAt 3 Cert.Kernel20Ideal.cfg0.N, fun c => (Cert.Kernel20Ideal.Gen.dats m 0 c).arrAt 4 Cert.Kernel20Ideal.cfg0.N, fun c => (Cert.Kernel20Ideal.Gen.dats m 0 c).arrAt 6 Cert.Kernel20Ideal.cfg0.N, (θ_run _ _ _).mono (fun r h c => ⟨(h c).2.2.1, (h c).1, (h c).2.1, (h c).2.2.2.1, (h c).2.2.2.2⟩) (Cert.Kernel20Ideal.Value.run_blocks m g), ?_⟩
  refine (θ_run _ _ _).mono (fun r h c => ?_) (Cert.Reference20Ideal.Value.run m' g')
  obtain ⟨a0, a1, a2⟩ := hargs c
  obtain ⟨h0, h1, h2, h3, k⟩ := h c
  exact ⟨h0.trans ((Cert.Reference20Ideal.Read.val_main_v50_eq _ _ _).trans (by rw [a0, a1, a2]; exact (Cert.FinalLoss.final0 m c).symm)), h1.trans ((Cert.Reference20Ideal.Read.val_main_v48_eq _ _).trans (by rw [a0, a1, a2]; exact (Cert.FinalLoss.final1 m c).symm)), h2.trans ((Cert.Reference20Ideal.Read.val_main_v51_eq _ _).trans (by rw [a0, a1, a2]; exact (Cert.FinalLoss.final2 m c).symm)), h3.trans ((Cert.Reference20Ideal.Read.val_main_v32_eq _ _ _).trans (by rw [a0, a1, a2]; exact (Cert.FinalLoss.final3 m c).symm)), k⟩

theorem frame_reference21 : Cert.quiescent_Reference21Ideal (hReference21Ideal := Cert.Reference21Ideal.Gen.facts) := fun m g _ =>
  (θ_run _ _ _).mono (fun r h => ⟨fun c => (h c).2, funext fun x => by
    obtain ⟨_, s⟩ := x
    rcases s with s | s <;> exact s.elim0⟩) (Cert.Reference21Ideal.Value.run m g)

theorem algebraic21 : Cert.algebraic_Kernel21Ideal_Reference21Ideal (hKernel21Ideal := Cert.Kernel21Ideal.Gen.facts) (hReference21Ideal := Cert.Reference21Ideal.Gen.facts) := by
  intro m g m' g' _ hargs
  refine ⟨fun c => (Cert.Kernel21Ideal.Gen.dats m 0 c).arrAt 5 Cert.Kernel21Ideal.cfg0.N, Cert.Kernel21Ideal.Value.run_blocks m g, ?_⟩
  refine (θ_run _ _ _).mono (fun r h c => ?_) (Cert.Reference21Ideal.Value.run m' g')
  obtain ⟨a0, a1, a2, a3, a4⟩ := hargs c
  obtain ⟨h0, k⟩ := h c
  exact ⟨h0.trans ((Cert.Reference21Ideal.Read.val_main_v28_eq _ _ _ _ _).trans (by rw [a0, a1, a2, a3, a4]; exact (Cert.MixNorm.final0 m c).symm)), k⟩

theorem frame_reference22 : Cert.quiescent_Reference22Ideal (hReference22Ideal := Cert.Reference22Ideal.Gen.facts) := fun m g _ =>
  (θ_run _ _ _).mono (fun r h => ⟨fun c => (h c).2.2.2.2.2, funext fun x => by
    obtain ⟨_, s⟩ := x
    rcases s with s | s <;> exact s.elim0⟩) (Cert.Reference22Ideal.Value.run m g)

theorem algebraic22 : Cert.algebraic_Kernel22Ideal_Reference22Ideal_pre_finite_gate (hKernel22Ideal := Cert.Kernel22Ideal.Gen.facts) (hReference22Ideal := Cert.Reference22Ideal.Gen.facts) (hPre_finite_gate := Cert.GradMixNorm.pre_facts) := by
  intro m g m' g' hpre hargs
  refine ⟨fun c => (Cert.Kernel22Ideal.Gen.dats m 0 c).arrAt 6 Cert.Kernel22Ideal.cfg0.N, fun c => (Cert.Kernel22Ideal.Gen.dats m 0 c).arrAt 7 Cert.Kernel22Ideal.cfg0.N, fun c => (Cert.Kernel22Ideal.Gen.dats m 0 c).arrAt 8 Cert.Kernel22Ideal.cfg0.N, fun c => (Cert.Kernel22Ideal.Gen.dats m 0 c).arrAt 9 Cert.Kernel22Ideal.cfg0.N, fun c => (Cert.Kernel22Ideal.Gen.dats m 0 c).arrAt 10 Cert.Kernel22Ideal.cfg0.N, Cert.Kernel22Ideal.Value.run_blocks m g, ?_⟩
  refine (θ_run _ _ _).mono (fun r h c => ?_) (Cert.Reference22Ideal.Value.run m' g')
  obtain ⟨a0, a1, a2, a3, a4, a5⟩ := hargs c
  obtain ⟨h0, h1, h2, h3, h4, k⟩ := h c
  obtain ⟨p3, p5⟩ := @Cert.GradMixNorm.real_args Cert.GradMixNorm.pre_facts _ _ _ _ _ _ (hpre c)
  exact ⟨h0.trans ((Cert.Reference22Ideal.Read.val_main_v75_eq _ _).trans (by rw [a0, a1, a3, a5]; exact (Cert.GradMixNorm.final0 m c).symm)), h1.trans ((Cert.Reference22Ideal.Read.val_main_v77_eq _ _).trans (by rw [a0, a1, a3, a5]; exact (Cert.GradMixNorm.final1 m c p3 p5).symm)), h2.trans ((Cert.Reference22Ideal.Read.val_main_v54_eq _ _ _).trans (by rw [a2, a4, a5]; exact (Cert.GradMixNorm.final2 m c).symm)), h3.trans ((Cert.Reference22Ideal.Read.val_main_v57_eq _ _ _).trans (by rw [a0, a1, a5]; exact (Cert.GradMixNorm.final3 m c).symm)), h4.trans ((Cert.Reference22Ideal.Read.val_main_v38_eq _ _).trans (by rw [a2, a5]; exact (Cert.GradMixNorm.final4 m c).symm)), k⟩

theorem frame_reference23 : Cert.quiescent_Reference23Ideal (hReference23Ideal := Cert.Reference23Ideal.Gen.facts) := fun m g _ =>
  (θ_run _ _ _).mono (fun r h => ⟨fun c => (h c).2, funext fun x => by
    obtain ⟨_, s⟩ := x
    rcases s with s | s <;> exact s.elim0⟩) (Cert.Reference23Ideal.Value.run m g)

theorem algebraic23 : Cert.algebraic_Kernel23Ideal_Reference23Ideal (hKernel23Ideal := Cert.Kernel23Ideal.Gen.facts) (hReference23Ideal := Cert.Reference23Ideal.Gen.facts) := by
  intro m g m' g' _ hargs
  refine ⟨fun c => (Cert.Kernel23Ideal.Gen.dats m 0 c).arrAt 3 Cert.Kernel23Ideal.cfg0.N, Cert.Kernel23Ideal.Value.run_blocks m g, ?_⟩
  refine (θ_run _ _ _).mono (fun r h c => ?_) (Cert.Reference23Ideal.Value.run m' g')
  obtain ⟨a0, a1, a2⟩ := hargs c
  obtain ⟨h0, k⟩ := h c
  exact ⟨h0.trans ((Cert.Reference23Ideal.Read.val_main_v37_eq _ _).trans (by rw [a0, a1, a2]; exact (Cert.ConvFwd.final0 m c).symm)), k⟩

theorem frame_reference25 : Cert.quiescent_Reference25Ideal (hReference25Ideal := Cert.Reference25Ideal.Gen.facts) := fun m g _ =>
  (θ_run _ _ _).mono (fun r h => ⟨fun c => (h c).2.2.2, funext fun x => by
    obtain ⟨_, s⟩ := x
    rcases s with s | s <;> exact s.elim0⟩) (Cert.Reference25Ideal.Value.run m g)

theorem algebraic25 : Cert.algebraic_Kernel25Ideal_Reference25Ideal (hKernel25Ideal := Cert.Kernel25Ideal.Gen.facts) (hReference25Ideal := Cert.Reference25Ideal.Gen.facts) := by
  intro m g m' g' _ hargs
  refine ⟨fun c => (Cert.Kernel25Ideal.Gen.dats m 0 c).arrAt 4 Cert.Kernel25Ideal.cfg0.N, fun c => (Cert.Kernel25Ideal.Gen.dats m 0 c).arrAt 5 Cert.Kernel25Ideal.cfg0.N, fun c => (Cert.Kernel25Ideal.Gen.dats m 0 c).arrAt 6 Cert.Kernel25Ideal.cfg0.N, Cert.Kernel25Ideal.Value.run_blocks m g, ?_⟩
  refine (θ_run _ _ _).mono (fun r h c => ?_) (Cert.Reference25Ideal.Value.run m' g')
  obtain ⟨a0, a1, a2, a3⟩ := hargs c
  obtain ⟨h0, h1, h2, k⟩ := h c
  exact ⟨h0.trans ((Cert.Reference25Ideal.Read.val_main_v23_eq _ _ _ _).trans (by rw [a0, a1, a2, a3]; exact (Cert.UpdateWIn.final0 m c).symm)), h1.trans ((Cert.Reference25Ideal.Read.val_main_v4_eq _ _).trans (by rw [a1, a2]; exact (Cert.UpdateWIn.final1 m c).symm)), h2.trans ((Cert.Reference25Ideal.Read.val_main_v10_eq _ _).trans (by rw [a1, a3]; exact (Cert.UpdateWIn.final2 m c).symm)), k⟩

theorem frame_reference26 : Cert.quiescent_Reference26Ideal (hReference26Ideal := Cert.Reference26Ideal.Gen.facts) := fun m g _ =>
  (θ_run _ _ _).mono (fun r h => ⟨fun c => (h c).2.2.2, funext fun x => by
    obtain ⟨_, s⟩ := x
    rcases s with s | s <;> exact s.elim0⟩) (Cert.Reference26Ideal.Value.run m g)

theorem algebraic26 : Cert.algebraic_Kernel26Ideal_Reference26Ideal (hKernel26Ideal := Cert.Kernel26Ideal.Gen.facts) (hReference26Ideal := Cert.Reference26Ideal.Gen.facts) := by
  intro m g m' g' _ hargs
  refine ⟨fun c => (Cert.Kernel26Ideal.Gen.dats m 0 c).arrAt 4 Cert.Kernel26Ideal.cfg0.N, fun c => (Cert.Kernel26Ideal.Gen.dats m 0 c).arrAt 5 Cert.Kernel26Ideal.cfg0.N, fun c => (Cert.Kernel26Ideal.Gen.dats m 0 c).arrAt 6 Cert.Kernel26Ideal.cfg0.N, Cert.Kernel26Ideal.Value.run_blocks m g, ?_⟩
  refine (θ_run _ _ _).mono (fun r h c => ?_) (Cert.Reference26Ideal.Value.run m' g')
  obtain ⟨a0, a1, a2, a3⟩ := hargs c
  obtain ⟨h0, h1, h2, k⟩ := h c
  exact ⟨h0.trans ((Cert.Reference26Ideal.Read.val_main_v23_eq _ _ _ _).trans (by rw [a0, a1, a2, a3]; exact (Cert.UpdateWOut.final0 m c).symm)), h1.trans ((Cert.Reference26Ideal.Read.val_main_v4_eq _ _).trans (by rw [a1, a2]; exact (Cert.UpdateWOut.final1 m c).symm)), h2.trans ((Cert.Reference26Ideal.Read.val_main_v10_eq _ _).trans (by rw [a1, a3]; exact (Cert.UpdateWOut.final2 m c).symm)), k⟩

theorem frame_reference27 : Cert.quiescent_Reference27Ideal (hReference27Ideal := Cert.Reference27Ideal.Gen.facts) := fun m g _ =>
  (θ_run _ _ _).mono (fun r h => ⟨fun c => (h c).2.2.2, funext fun x => by
    obtain ⟨_, s⟩ := x
    rcases s with s | s <;> exact s.elim0⟩) (Cert.Reference27Ideal.Value.run m g)

theorem algebraic27 : Cert.algebraic_Kernel27Ideal_Reference27Ideal (hKernel27Ideal := Cert.Kernel27Ideal.Gen.facts) (hReference27Ideal := Cert.Reference27Ideal.Gen.facts) := by
  intro m g m' g' _ hargs
  refine ⟨fun c => (Cert.Kernel27Ideal.Gen.dats m 0 c).arrAt 4 Cert.Kernel27Ideal.cfg0.N, fun c => (Cert.Kernel27Ideal.Gen.dats m 0 c).arrAt 5 Cert.Kernel27Ideal.cfg0.N, fun c => (Cert.Kernel27Ideal.Gen.dats m 0 c).arrAt 6 Cert.Kernel27Ideal.cfg0.N, Cert.Kernel27Ideal.Value.run_blocks m g, ?_⟩
  refine (θ_run _ _ _).mono (fun r h c => ?_) (Cert.Reference27Ideal.Value.run m' g')
  obtain ⟨a0, a1, a2, a3⟩ := hargs c
  obtain ⟨h0, h1, h2, k⟩ := h c
  exact ⟨h0.trans ((Cert.Reference27Ideal.Read.val_main_v23_eq _ _ _ _).trans (by rw [a0, a1, a2, a3]; exact (Cert.UpdateWUp.final0 m c).symm)), h1.trans ((Cert.Reference27Ideal.Read.val_main_v4_eq _ _).trans (by rw [a1, a2]; exact (Cert.UpdateWUp.final1 m c).symm)), h2.trans ((Cert.Reference27Ideal.Read.val_main_v10_eq _ _).trans (by rw [a1, a3]; exact (Cert.UpdateWUp.final2 m c).symm)), k⟩

theorem frame_reference29 : Cert.quiescent_Reference29Ideal (hReference29Ideal := Cert.Reference29Ideal.Gen.facts) := fun m g _ =>
  (θ_run _ _ _).mono (fun r h => ⟨fun c => (h c).2.2.2, funext fun x => by
    obtain ⟨_, s⟩ := x
    rcases s with s | s <;> exact s.elim0⟩) (Cert.Reference29Ideal.Value.run m g)

theorem algebraic29 : Cert.algebraic_Kernel29Ideal_Reference29Ideal (hKernel29Ideal := Cert.Kernel29Ideal.Gen.facts) (hReference29Ideal := Cert.Reference29Ideal.Gen.facts) := by
  intro m g m' g' _ hargs
  refine ⟨fun c => (Cert.Kernel29Ideal.Gen.dats m 0 c).arrAt 4 Cert.Kernel29Ideal.cfg0.N, fun c => (Cert.Kernel29Ideal.Gen.dats m 0 c).arrAt 5 Cert.Kernel29Ideal.cfg0.N, fun c => (Cert.Kernel29Ideal.Gen.dats m 0 c).arrAt 6 Cert.Kernel29Ideal.cfg0.N, Cert.Kernel29Ideal.Value.run_blocks m g, ?_⟩
  refine (θ_run _ _ _).mono (fun r h c => ?_) (Cert.Reference29Ideal.Value.run m' g')
  obtain ⟨a0, a1, a2, a3⟩ := hargs c
  obtain ⟨h0, h1, h2, k⟩ := h c
  exact ⟨h0.trans ((Cert.Reference29Ideal.Read.val_main_v23_eq _ _ _ _).trans (by rw [a0, a1, a2, a3]; exact (Cert.UpdateSmall.final0 m c).symm)), h1.trans ((Cert.Reference29Ideal.Read.val_main_v4_eq _ _).trans (by rw [a1, a2]; exact (Cert.UpdateSmall.final1 m c).symm)), h2.trans ((Cert.Reference29Ideal.Read.val_main_v10_eq _ _).trans (by rw [a1, a3]; exact (Cert.UpdateSmall.final2 m c).symm)), k⟩

theorem frame_reference30 : Cert.quiescent_Reference30Ideal (hReference30Ideal := Cert.Reference30Ideal.Gen.facts) := fun m g _ =>
  (θ_run _ _ _).mono (fun r h => ⟨fun c => (h c).2, funext fun x => by
    obtain ⟨_, s⟩ := x
    rcases s with s | s <;> exact s.elim0⟩) (Cert.Reference30Ideal.Value.run m g)

theorem algebraic30 : Cert.algebraic_Kernel30Ideal_Reference30Ideal (hKernel30Ideal := Cert.Kernel30Ideal.Gen.facts) (hReference30Ideal := Cert.Reference30Ideal.Gen.facts) := by
  intro m g m' g' _ hargs
  refine ⟨fun c => (Cert.Kernel30Ideal.Gen.dats m 0 c).arrAt 2 Cert.Kernel30Ideal.cfg0.N, Cert.Kernel30Ideal.Value.run_blocks m g, ?_⟩
  refine (θ_run _ _ _).mono (fun r h c => ?_) (Cert.Reference30Ideal.Value.run m' g')
  obtain ⟨a0, a1, a2⟩ := hargs c
  obtain ⟨h0, k⟩ := h c
  exact ⟨h0.trans ((Cert.Reference30Ideal.Read.val_main_v9_eq _ _ _).trans (by rw [a0, a1, a2]; exact (Cert.GradWDownFirst.final0 m c).symm)), k⟩

theorem frame_reference31 : Cert.quiescent_Reference31Ideal (hReference31Ideal := Cert.Reference31Ideal.Gen.facts) := fun m g _ =>
  (θ_run _ _ _).mono (fun r h => ⟨fun c => (h c).2, funext fun x => by
    obtain ⟨_, s⟩ := x
    rcases s with s | s <;> exact s.elim0⟩) (Cert.Reference31Ideal.Value.run m g)

theorem algebraic31 : Cert.algebraic_Kernel31Ideal_Reference31Ideal (hKernel31Ideal := Cert.Kernel31Ideal.Gen.facts) (hReference31Ideal := Cert.Reference31Ideal.Gen.facts) := by
  intro m g m' g' _ hargs
  refine ⟨fun c => (Cert.Kernel31Ideal.Gen.dats m 0 c).arrAt 2 Cert.Kernel31Ideal.cfg0.N, Cert.Kernel31Ideal.Value.run_blocks m g, ?_⟩
  refine (θ_run _ _ _).mono (fun r h c => ?_) (Cert.Reference31Ideal.Value.run m' g')
  obtain ⟨a0, a1, a2⟩ := hargs c
  obtain ⟨h0, k⟩ := h c
  exact ⟨h0.trans ((Cert.Reference31Ideal.Read.val_main_v9_eq _ _ _).trans (by rw [a0, a1, a2]; exact (Cert.GradWDownThird.final0 m c).symm)), k⟩

theorem frame_reference32 : Cert.quiescent_Reference32Ideal (hReference32Ideal := Cert.Reference32Ideal.Gen.facts) := fun m g _ =>
  (θ_run _ _ _).mono (fun r h => ⟨fun c => (h c).2, funext fun x => by
    obtain ⟨_, s⟩ := x
    rcases s with s | s <;> exact s.elim0⟩) (Cert.Reference32Ideal.Value.run m g)

theorem algebraic32 : Cert.algebraic_Kernel32Ideal_Reference32Ideal (hKernel32Ideal := Cert.Kernel32Ideal.Gen.facts) (hReference32Ideal := Cert.Reference32Ideal.Gen.facts) := by
  intro m g m' g' _ hargs
  refine ⟨fun c => (Cert.Kernel32Ideal.Gen.dats m 0 c).arrAt 2 Cert.Kernel32Ideal.cfg0.N, Cert.Kernel32Ideal.Value.run_blocks m g, ?_⟩
  refine (θ_run _ _ _).mono (fun r h c => ?_) (Cert.Reference32Ideal.Value.run m' g')
  obtain ⟨a0, a1, a2⟩ := hargs c
  obtain ⟨h0, k⟩ := h c
  exact ⟨h0.trans ((Cert.Reference32Ideal.Read.val_main_v10_eq _ _ _).trans (by rw [a0, a1, a2]; exact (Cert.GradWUpFirst.final0 m c).symm)), k⟩

theorem frame_reference33 : Cert.quiescent_Reference33Ideal (hReference33Ideal := Cert.Reference33Ideal.Gen.facts) := fun m g _ =>
  (θ_run _ _ _).mono (fun r h => ⟨fun c => (h c).2, funext fun x => by
    obtain ⟨_, s⟩ := x
    rcases s with s | s <;> exact s.elim0⟩) (Cert.Reference33Ideal.Value.run m g)

theorem algebraic33 : Cert.algebraic_Kernel33Ideal_Reference33Ideal (hKernel33Ideal := Cert.Kernel33Ideal.Gen.facts) (hReference33Ideal := Cert.Reference33Ideal.Gen.facts) := by
  intro m g m' g' _ hargs
  refine ⟨fun c => (Cert.Kernel33Ideal.Gen.dats m 0 c).arrAt 2 Cert.Kernel33Ideal.cfg0.N, Cert.Kernel33Ideal.Value.run_blocks m g, ?_⟩
  refine (θ_run _ _ _).mono (fun r h c => ?_) (Cert.Reference33Ideal.Value.run m' g')
  obtain ⟨a0, a1, a2⟩ := hargs c
  obtain ⟨h0, k⟩ := h c
  exact ⟨h0.trans ((Cert.Reference33Ideal.Read.val_main_v10_eq _ _ _).trans (by rw [a0, a1, a2]; exact (Cert.GradWUpThird.final0 m c).symm)), k⟩

theorem frame_reference34 : Cert.quiescent_Reference34Ideal (hReference34Ideal := Cert.Reference34Ideal.Gen.facts) := fun m g _ =>
  (θ_run _ _ _).mono (fun r h => ⟨fun c => (h c).2, funext fun x => by
    obtain ⟨_, s⟩ := x
    rcases s with s | s <;> exact s.elim0⟩) (Cert.Reference34Ideal.Value.run m g)

theorem algebraic34 : Cert.algebraic_Kernel34Ideal_Reference34Ideal (hKernel34Ideal := Cert.Kernel34Ideal.Gen.facts) (hReference34Ideal := Cert.Reference34Ideal.Gen.facts) := by
  intro m g m' g' _ hargs
  refine ⟨fun c => (Cert.Kernel34Ideal.Gen.dats m 0 c).arrAt 2 Cert.Kernel34Ideal.cfg0.N, Cert.Kernel34Ideal.Value.run_blocks m g, ?_⟩
  refine (θ_run _ _ _).mono (fun r h c => ?_) (Cert.Reference34Ideal.Value.run m' g')
  obtain ⟨a0, a1, a2⟩ := hargs c
  obtain ⟨h0, k⟩ := h c
  exact ⟨h0.trans ((Cert.Reference34Ideal.Read.val_main_v9_eq _ _ _).trans (by rw [a0, a1, a2]; exact (Cert.GradWOutFirst.final0 m c).symm)), k⟩

theorem frame_reference35 : Cert.quiescent_Reference35Ideal (hReference35Ideal := Cert.Reference35Ideal.Gen.facts) := fun m g _ =>
  (θ_run _ _ _).mono (fun r h => ⟨fun c => (h c).2, funext fun x => by
    obtain ⟨_, s⟩ := x
    rcases s with s | s <;> exact s.elim0⟩) (Cert.Reference35Ideal.Value.run m g)

theorem algebraic35 : Cert.algebraic_Kernel35Ideal_Reference35Ideal (hKernel35Ideal := Cert.Kernel35Ideal.Gen.facts) (hReference35Ideal := Cert.Reference35Ideal.Gen.facts) := by
  intro m g m' g' _ hargs
  refine ⟨fun c => (Cert.Kernel35Ideal.Gen.dats m 0 c).arrAt 2 Cert.Kernel35Ideal.cfg0.N, Cert.Kernel35Ideal.Value.run_blocks m g, ?_⟩
  refine (θ_run _ _ _).mono (fun r h c => ?_) (Cert.Reference35Ideal.Value.run m' g')
  obtain ⟨a0, a1, a2⟩ := hargs c
  obtain ⟨h0, k⟩ := h c
  exact ⟨h0.trans ((Cert.Reference35Ideal.Read.val_main_v9_eq _ _ _).trans (by rw [a0, a1, a2]; exact (Cert.GradWOutThird.final0 m c).symm)), k⟩

theorem claim : Cert.Claim := ⟨
  Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.AttBwd.pre_facts, Cert.GradMixNorm.pre_facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  fun m g _ => Cert.Kernel9.Gen.frame m g, fun m g _ => Cert.Kernel9Ideal.Gen.frame m g, frame_reference9,
  fun m g _ => Cert.Kernel10.Gen.frame m g, fun m g _ => Cert.Kernel10Ideal.Gen.frame m g, frame_reference10,
  fun m g _ => Cert.Kernel11.Gen.frame m g, fun m g _ => Cert.Kernel11Ideal.Gen.frame m g, frame_reference11,
  fun m g _ => Cert.Kernel12.Gen.frame m g, fun m g _ => Cert.Kernel12Ideal.Gen.frame m g, frame_reference12,
  fun m g _ => Cert.Kernel13.Gen.frame m g, fun m g _ => Cert.Kernel13Ideal.Gen.frame m g, frame_reference13,
  fun m g _ => Cert.Kernel14.Gen.frame m g, fun m g _ => Cert.Kernel14Ideal.Gen.frame m g, frame_reference14,
  fun m g _ => Cert.Kernel15.Gen.frame m g, fun m g _ => Cert.Kernel15Ideal.Gen.frame m g, frame_reference15,
  fun m g _ => Cert.Kernel16.Gen.frame m g, fun m g _ => Cert.Kernel16Ideal.Gen.frame m g, frame_reference16,
  fun m g _ => Cert.Kernel17.Gen.frame m g, fun m g _ => Cert.Kernel17Ideal.Gen.frame m g, frame_reference17,
  fun m g _ => Cert.Kernel18.Gen.frame m g, fun m g _ => Cert.Kernel18Ideal.Gen.frame m g, frame_reference18,
  fun m g _ => Cert.Kernel19.Gen.frame m g, fun m g _ => Cert.Kernel19Ideal.Gen.frame m g, frame_reference19,
  fun m g _ => Cert.Kernel20.Gen.frame m g, fun m g _ => Cert.Kernel20Ideal.Gen.frame m g, frame_reference20,
  fun m g _ => Cert.Kernel21.Gen.frame m g, fun m g _ => Cert.Kernel21Ideal.Gen.frame m g, frame_reference21,
  fun m g _ => Cert.Kernel22.Gen.frame m g, fun m g _ => Cert.Kernel22Ideal.Gen.frame m g, fun m g _ => Cert.Kernel22Ideal.Gen.frame m g,
  frame_reference22, fun m g _ => frame_reference22 m g trivial,
  fun m g _ => Cert.Kernel23.Gen.frame m g, fun m g _ => Cert.Kernel23Ideal.Gen.frame m g, frame_reference23,
  fun m g _ => Cert.Kernel25.Gen.frame m g, fun m g _ => Cert.Kernel25Ideal.Gen.frame m g, frame_reference25,
  fun m g _ => Cert.Kernel26.Gen.frame m g, fun m g _ => Cert.Kernel26Ideal.Gen.frame m g, frame_reference26,
  fun m g _ => Cert.Kernel27.Gen.frame m g, fun m g _ => Cert.Kernel27Ideal.Gen.frame m g, frame_reference27,
  fun m g _ => Cert.Kernel29.Gen.frame m g, fun m g _ => Cert.Kernel29Ideal.Gen.frame m g, frame_reference29,
  fun m g _ => Cert.Kernel30.Gen.frame m g, fun m g _ => Cert.Kernel30Ideal.Gen.frame m g, frame_reference30,
  fun m g _ => Cert.Kernel31.Gen.frame m g, fun m g _ => Cert.Kernel31Ideal.Gen.frame m g, frame_reference31,
  fun m g _ => Cert.Kernel32.Gen.frame m g, fun m g _ => Cert.Kernel32Ideal.Gen.frame m g, frame_reference32,
  fun m g _ => Cert.Kernel33.Gen.frame m g, fun m g _ => Cert.Kernel33Ideal.Gen.frame m g, frame_reference33,
  fun m g _ => Cert.Kernel34.Gen.frame m g, fun m g _ => Cert.Kernel34Ideal.Gen.frame m g, frame_reference34,
  fun m g _ => Cert.Kernel35.Gen.frame m g, fun m g _ => Cert.Kernel35Ideal.Gen.frame m g, frame_reference35,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic25, trivial, algebraic26, trivial, algebraic27, trivial, algebraic29, trivial, algebraic30, trivial, algebraic31, trivial, algebraic32, trivial, algebraic33, trivial, algebraic34, trivial, algebraic35⟩

end Cert.Proof

end
